-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_slots_named_rows_finite [hPre_slots_named_rows_finite : Cert.Pre_slots_named_rows_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_slots_named_rows_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_slots_named_rows_finite [hPre_slots_named_rows_finite : Cert.Pre_slots_named_rows_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_slots_named_rows_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_slots_named_rows_finite [hKernel9Ideal : Cert.Kernel9Ideal.Facts] [hPre_slots_named_rows_finite : Cert.Pre_slots_named_rows_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_slots_named_rows_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_slots_named_rows_finite [hReference9Ideal : Cert.Reference9Ideal.Facts] [hPre_slots_named_rows_finite : Cert.Pre_slots_named_rows_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_slots_named_rows_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v41) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_slots_named_rows_finite [hKernel9Ideal : Cert.Kernel9Ideal.Facts] [hReference9Ideal : Cert.Reference9Ideal.Facts] [hPre_slots_named_rows_finite : Cert.Pre_slots_named_rows_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_slots_named_rows_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v111)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v111) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v171) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v20)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v20) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v249) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_slots_named_rows_finite : Cert.Pre_slots_named_rows_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_slots_named_rows_finite (hKernel9Ideal := hKernel9Ideal) (hPre_slots_named_rows_finite := hPre_slots_named_rows_finite)
    ∧ quiescent_Reference9Ideal (hReference9Ideal := hReference9Ideal)
    ∧ quiescent_Reference9Ideal_pre_slots_named_rows_finite (hReference9Ideal := hReference9Ideal) (hPre_slots_named_rows_finite := hPre_slots_named_rows_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_slots_named_rows_finite (hKernel9Ideal := hKernel9Ideal) (hReference9Ideal := hReference9Ideal) (hPre_slots_named_rows_finite := hPre_slots_named_rows_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_slots_named_rows_finite.lean ====
abbrev S8192x4096 : Shape := ⟨2, ![8192, 4096]⟩
abbrev S8x4096 : Shape := ⟨2, ![8, 4096]⟩
abbrev S16x16x32x4096 : Shape := ⟨4, ![16, 16, 32, 4096]⟩
abbrev S16x16x32 : Shape := ⟨3, ![16, 16, 32]⟩
abbrev S_ : Shape := ⟨0, ![]⟩

class Facts : Prop where
  bcast_S_S16x16x32 : S_.BroadcastsInDim S16x16x32 (![] : Fin 0 → Fin S16x16x32.rank)
  reducesTo_S16x16x32_S_d0_1_2 : S16x16x32.ReducesTo [0, 1, 2] S_
  h_S_ : 0 < S_.numel
  bcast_S_S16x16x32x4096 : S_.BroadcastsInDim S16x16x32x4096 (![] : Fin 0 → Fin S16x16x32x4096.rank)
  reducesTo_S16x16x32x4096_S_d0_1_2_3 : S16x16x32x4096.ReducesTo [0, 1, 2, 3] S_

variable [Facts]

def fn {F : FTy → Type} [FloatOps F] (main_arg0 : FVec F S8192x4096 .f32) (main_arg1 : FVec F S8x4096 .f32) (main_arg2 : FVec F S16x16x32x4096 .f32) (main_arg3 : IVec S16x16x32 32) : IVec S_ 1 :=
  let main_c : IVec S_ 32 := constantI S_ 32 0#32
  let main_v0 : IVec S16x16x32 32 := broadcastInDim S16x16x32 ![] bcast_S_S16x16x32 main_c
  let main_v1 : IVec S16x16x32 1 := cmpi .sge main_arg3 main_v0
  let main_c_0 : IVec S_ 1 := constantI S_ 1 1#1
  let main_v2 : IVec S_ 1 := (fun x v => Host.reduce IntOp.andi x v reducesTo_S16x16x32_S_d0_1_2 h_S_) main_v1 main_c_0
  let main_v3 : FVec F S16x16x32x4096 .f32 := Host.absf main_arg2
  let main_cst : FVec F S_ .f32 := constant S_ .f32 0x7F800000#32
  let main_v4 : FVec F S16x16x32x4096 .f32 := broadcastInDim S16x16x32x4096 ![] bcast_S_S16x16x32x4096 main_cst
  let main_v5 : IVec S16x16x32x4096 1 := cmpf .olt main_v3 main_v4
  let main_c_1 : IVec S_ 1 := constantI S_ 1 1#1
  let main_v6 : IVec S_ 1 := (fun x v => Host.reduce IntOp.andi x v reducesTo_S16x16x32x4096_S_d0_1_2_3 h_S_) main_v5 main_c_1
  let main_v7 : IVec S_ 1 := andi main_v2 main_v6
  main_v7
-- ==== Kernel.lean ====
abbrev S8192x4096 : Shape := ⟨2, ![8192, 4096]⟩
abbrev S8192x16 : Shape := ⟨2, ![8192, 16]⟩
abbrev S4x16x4096x1536 : Shape := ⟨4, ![4, 16, 4096, 1536]⟩
abbrev S4x16x1536x4096 : Shape := ⟨4, ![4, 16, 1536, 4096]⟩
abbrev S_ : Shape := ⟨0, ![]⟩
abbrev S8192 : Shape := ⟨1, ![8192]⟩
abbrev S8192x1 : Shape := ⟨2, ![8192, 1]⟩
abbrev S4096x16 : Shape := ⟨2, ![4096, 16]⟩
abbrev S16x256x16 : Shape := ⟨3, ![16, 256, 16]⟩
abbrev S16x16x256 : Shape := ⟨3, ![16, 16, 256]⟩
abbrev S16x16x32 : Shape := ⟨3, ![16, 16, 32]⟩
abbrev S16 : Shape := ⟨1, ![16]⟩
abbrev S16x1x1 : Shape := ⟨3, ![16, 1, 1]⟩
abbrev S16x512 : Shape := ⟨2, ![16, 512]⟩
abbrev S4x1024x16 : Shape := ⟨3, ![4, 1024, 16]⟩
abbrev S4x16x1024 : Shape := ⟨3, ![4, 16, 1024]⟩
abbrev S4x16x128 : Shape := ⟨3, ![4, 16, 128]⟩
abbrev S4 : Shape := ⟨1, ![4]⟩
abbrev S4x1x1 : Shape := ⟨3, ![4, 1, 1]⟩
abbrev S16x4x128 : Shape := ⟨3, ![16, 4, 128]⟩
abbrev S16x1024 : Shape := ⟨2, ![16, 1024]⟩
abbrev S16x1024x1 : Shape := ⟨3, ![16, 1024, 1]⟩
abbrev S16x1024x4096 : Shape := ⟨3, ![16, 1024, 4096]⟩
abbrev S16x1024x1536 : Shape := ⟨3, ![16, 1024, 1536]⟩
abbrev S1x1024x4096 : Shape := ⟨3, ![1, 1024, 4096]⟩
abbrev S1x1x4096x256 : Shape := ⟨4, ![1, 1, 4096, 256]⟩
abbrev S1x1024x256 : Shape := ⟨3, ![1, 1024, 256]⟩
abbrev S1024x4096 : Shape := ⟨2, ![1024, 4096]⟩
abbrev S4096x256 : Shape := ⟨2, ![4096, 256]⟩
abbrev S1024x256 : Shape := ⟨2, ![1024, 256]⟩
abbrev S16x16x32x4096 : Shape := ⟨4, ![16, 16, 32, 4096]⟩
abbrev S4x16x128x4096 : Shape := ⟨4, ![4, 16, 128, 4096]⟩
abbrev S1x1024x1536 : Shape := ⟨3, ![1, 1024, 1536]⟩
abbrev S1x1x1536x512 : Shape := ⟨4, ![1, 1, 1536, 512]⟩
abbrev S1x1024x1 : Shape := ⟨3, ![1, 1024, 1]⟩
abbrev S16x1x32x512 : Shape := ⟨4, ![16, 1, 32, 512]⟩
abbrev S4x1x128x512 : Shape := ⟨4, ![4, 1, 128, 512]⟩
abbrev S1024x1536 : Shape := ⟨2, ![1024, 1536]⟩
abbrev S1536x512 : Shape := ⟨2, ![1536, 512]⟩
abbrev S1024x512 : Shape := ⟨2, ![1024, 512]⟩
abbrev S1024x1 : Shape := ⟨2, ![1024, 1]⟩
abbrev S512x512 : Shape := ⟨2, ![512, 512]⟩
abbrev S16x32x512 : Shape := ⟨3, ![16, 32, 512]⟩
abbrev S4x128x512 : Shape := ⟨3, ![4, 128, 512]⟩

abbrev nBuf : Space → Nat
  | .hbm => 73
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192x16, .f32⟩
  | .hbm, ⟨2, _⟩ => ⟨S4x16x4096x1536, .f32⟩
  | .hbm, ⟨3, _⟩ => ⟨S4x16x4096x1536, .f32⟩
  | .hbm, ⟨4, _⟩ => ⟨S4x16x1536x4096, .f32⟩
  | .hbm, ⟨5, _⟩ => ⟨S8192x4096, .bf16⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x16, .f32⟩
  | .hbm, ⟨19, _⟩ => ⟨S8192x16, .f32⟩
  | .hbm, ⟨20, _⟩ => ⟨S4096x16, .f32⟩
  | .hbm, ⟨21, _⟩ => ⟨S16x256x16, .f32⟩
  | .hbm, ⟨22, _⟩ => ⟨S16x16x256, .f32⟩
  | .hbm, ⟨23, _⟩ => ⟨S16x16x32, .f32⟩
  | .hbm, ⟨24, _⟩ => ⟨S16x16x32, .i32⟩
  | .hbm, ⟨25, _⟩ => ⟨S_, .i32⟩
  | .hbm, ⟨26, _⟩ => ⟨S16x16x32, .i32⟩
  | .hbm, ⟨27, _⟩ => ⟨S16x16x32, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16x1x1, .i32⟩
  | .hbm, ⟨33, _⟩ => ⟨S16x16x32, .i32⟩
  | .hbm, ⟨34, _⟩ => ⟨S16x16x32, .i32⟩
  | .hbm, ⟨35, _⟩ => ⟨S16x16x32, .i32⟩
  | .hbm, ⟨36, _⟩ => ⟨S16x512, .i32⟩
  | .hbm, ⟨37, _⟩ => ⟨S16x16x32, .f32⟩
  | .hbm, ⟨38, _⟩ => ⟨S16x512, .f32⟩
  | .hbm, ⟨39, _⟩ => ⟨S4096x16, .f32⟩
  | .hbm, ⟨40, _⟩ => ⟨S4x1024x16, .f32⟩
  | .hbm, ⟨41, _⟩ => ⟨S4x16x1024, .f32⟩
  | .hbm, ⟨42, _⟩ => ⟨S4x16x128, .f32⟩
  | .hbm, ⟨43, _⟩ => ⟨S4x16x128, .i32⟩
  | .hbm, ⟨44, _⟩ => ⟨S_, .i32⟩
  | .hbm, ⟨45, _⟩ => ⟨S4x16x128, .i32⟩
  | .hbm, ⟨46, _⟩ => ⟨S4x16x128, .i32⟩
  | .hbm, ⟨47, _⟩ => ⟨S4, .i32⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S4x1x1, .i32⟩
  | .hbm, ⟨52, _⟩ => ⟨S4x16x128, .i32⟩
  | .hbm, ⟨53, _⟩ => ⟨S4x16x128, .i32⟩
  | .hbm, ⟨54, _⟩ => ⟨S16x4x128, .i32⟩
  | .hbm, ⟨55, _⟩ => ⟨S16x512, .i32⟩
  | .hbm, ⟨56, _⟩ => ⟨S16x4x128, .f32⟩
  | .hbm, ⟨57, _⟩ => ⟨S16x512, .f32⟩
  | .hbm, ⟨58, _⟩ => ⟨S16x1024, .i32⟩
  | .hbm, ⟨59, _⟩ => ⟨S16x1024, .f32⟩
  | .hbm, ⟨60, _⟩ => ⟨S_, .i32⟩
  | .hbm, ⟨61, _⟩ => ⟨S16x1024, .i32⟩
  | .hbm, ⟨62, _⟩ => ⟨S16x1024, .i1⟩
  | .hbm, ⟨63, _⟩ => ⟨S_, .i32⟩
  | .hbm, ⟨64, _⟩ => ⟨S16x1024, .i32⟩
  | .hbm, ⟨65, _⟩ => ⟨S16x1024, .i32⟩
  | .hbm, ⟨66, _⟩ => ⟨S16x1024, .i32⟩
  | .hbm, ⟨67, _⟩ => ⟨S16x1024x1, .i32⟩
  | .hbm, ⟨68, _⟩ => ⟨S16x1024x4096, .bf16⟩
  | .hbm, ⟨69, _⟩ => ⟨S16x1024x1, .f32⟩
  | .hbm, ⟨70, _⟩ => ⟨S16x1024x1536, .bf16⟩
  | .hbm, ⟨71, _⟩ => ⟨S16x16x32x4096, .f32⟩
  | .hbm, ⟨72, _⟩ => ⟨S4x16x128x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x1536, .bf16⟩
  | .local _ .vmem, ⟨9, _⟩ => ⟨S1x1024x1536, .bf16⟩
  | .local _ .vmem, ⟨10, _⟩ => ⟨S1x1x1536x512, .f32⟩
  | .local _ .vmem, ⟨11, _⟩ => ⟨S1x1x1536x512, .f32⟩
  | .local _ .vmem, ⟨12, _⟩ => ⟨S1x1024x1, .f32⟩
  | .local _ .vmem, ⟨13, _⟩ => ⟨S1x1024x1, .f32⟩
  | .local _ .vmem, ⟨14, _⟩ => ⟨S16x1x32x512, .f32⟩
  | .local _ .vmem, ⟨15, _⟩ => ⟨S16x1x32x512, .f32⟩
  | .local _ .vmem, ⟨16, _⟩ => ⟨S4x1x128x512, .f32⟩
  | .local _ .vmem, ⟨17, _⟩ => ⟨S4x1x128x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_values_3 : Ref sig .tc := ⟨.hbm, 42, rfl⟩
abbrev main_indices_4 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 2 → Memref sig .tc .vmem S1x1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1536x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x1x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x1x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8192x4096 : Shape := ⟨2, ![8192, 4096]⟩
abbrev S8192x16 : Shape := ⟨2, ![8192, 16]⟩
abbrev S4x16x4096x1536 : Shape := ⟨4, ![4, 16, 4096, 1536]⟩
abbrev S4x16x1536x4096 : Shape := ⟨4, ![4, 16, 1536, 4096]⟩
abbrev S4096x4096 : Shape := ⟨2, ![4096, 4096]⟩
abbrev S16x256x4096 : Shape := ⟨3, ![16, 256, 4096]⟩
abbrev S4096x16 : Shape := ⟨2, ![4096, 16]⟩
abbrev S16x256x16 : Shape := ⟨3, ![16, 256, 16]⟩
abbrev S_ : Shape := ⟨0, ![]⟩
abbrev S16x256 : Shape := ⟨2, ![16, 256]⟩
abbrev S16x256x1 : Shape := ⟨3, ![16, 256, 1]⟩
abbrev S16x16x256 : Shape := ⟨3, ![16, 16, 256]⟩
abbrev S16x16x32 : Shape := ⟨3, ![16, 16, 32]⟩
abbrev S16x16x32x1 : Shape := ⟨4, ![16, 16, 32, 1]⟩
abbrev S16x16x32x4096 : Shape := ⟨4, ![16, 16, 32, 4096]⟩
abbrev S1x16x4096x1536 : Shape := ⟨4, ![1, 16, 4096, 1536]⟩
abbrev S16x4096x1536 : Shape := ⟨3, ![16, 4096, 1536]⟩
abbrev S16x1536x16x32 : Shape := ⟨4, ![16, 1536, 16, 32]⟩
abbrev S16x16x32x1536 : Shape := ⟨4, ![16, 16, 32, 1536]⟩
abbrev S1x16x1536x4096 : Shape := ⟨4, ![1, 16, 1536, 4096]⟩
abbrev S16x1536x4096 : Shape := ⟨3, ![16, 1536, 4096]⟩
abbrev S16x4096x16x32 : Shape := ⟨4, ![16, 4096, 16, 32]⟩
abbrev S4x1024x4096 : Shape := ⟨3, ![4, 1024, 4096]⟩
abbrev S4x1024x16 : Shape := ⟨3, ![4, 1024, 16]⟩
abbrev S4x1024 : Shape := ⟨2, ![4, 1024]⟩
abbrev S4x1024x1 : Shape := ⟨3, ![4, 1024, 1]⟩
abbrev S4x16x1024 : Shape := ⟨3, ![4, 16, 1024]⟩
abbrev S4x16x128 : Shape := ⟨3, ![4, 16, 128]⟩
abbrev S4x16x128x1 : Shape := ⟨4, ![4, 16, 128, 1]⟩
abbrev S4x16x128x4096 : Shape := ⟨4, ![4, 16, 128, 4096]⟩
abbrev S16x1536x4x128 : Shape := ⟨4, ![16, 1536, 4, 128]⟩
abbrev S4x16x128x1536 : Shape := ⟨4, ![4, 16, 128, 1536]⟩
abbrev S16x4096x4x128 : Shape := ⟨4, ![16, 4096, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x16, .f32⟩
  | .hbm, ⟨2, _⟩ => ⟨S4x16x4096x1536, .f32⟩
  | .hbm, ⟨3, _⟩ => ⟨S4x16x4096x1536, .f32⟩
  | .hbm, ⟨4, _⟩ => ⟨S4x16x1536x4096, .f32⟩
  | .hbm, ⟨5, _⟩ => ⟨S4096x4096, .f32⟩
  | .hbm, ⟨6, _⟩ => ⟨S16x256x4096, .f32⟩
  | .hbm, ⟨7, _⟩ => ⟨S4096x16, .f32⟩
  | .hbm, ⟨8, _⟩ => ⟨S16x256x16, .f32⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256x1, .f32⟩
  | .hbm, ⟨15, _⟩ => ⟨S16x256x16, .f32⟩
  | .hbm, ⟨16, _⟩ => ⟨S16x256x16, .f32⟩
  | .hbm, ⟨17, _⟩ => ⟨S16x256x16, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S16x256x16, .f32⟩
  | .hbm, ⟨22, _⟩ => ⟨S16x256x16, .f32⟩
  | .hbm, ⟨23, _⟩ => ⟨S16x16x256, .f32⟩
  | .hbm, ⟨24, _⟩ => ⟨S16x16x32, .f32⟩
  | .hbm, ⟨25, _⟩ => ⟨S16x16x32, .i32⟩
  | .hbm, ⟨26, _⟩ => ⟨S_, .i32⟩
  | .hbm, ⟨27, _⟩ => ⟨S16x16x32, .i32⟩
  | .hbm, ⟨28, _⟩ => ⟨S16x16x32, .i1⟩
  | .hbm, ⟨29, _⟩ => ⟨S_, .i32⟩
  | .hbm, ⟨30, _⟩ => ⟨S16x16x32, .i32⟩
  | .hbm, ⟨31, _⟩ => ⟨S16x16x32, .i32⟩
  | .hbm, ⟨32, _⟩ => ⟨S16x16x32, .i32⟩
  | .hbm, ⟨33, _⟩ => ⟨S16x16x32x1, .i32⟩
  | .hbm, ⟨34, _⟩ => ⟨S16x16x32x4096, .f32⟩
  | .hbm, ⟨35, _⟩ => ⟨S1x16x4096x1536, .f32⟩
  | .hbm, ⟨36, _⟩ => ⟨S16x4096x1536, .f32⟩
  | .hbm, ⟨37, _⟩ => ⟨S16x1536x16x32, .f32⟩
  | .hbm, ⟨38, _⟩ => ⟨S16x16x32x1536, .f32⟩
  | .hbm, ⟨39, _⟩ => ⟨S16x16x32x1536, .f32⟩
  | .hbm, ⟨40, _⟩ => ⟨S16x16x32x1536, .f32⟩
  | .hbm, ⟨41, _⟩ => ⟨S_, .f32⟩
  | .hbm, ⟨42, _⟩ => ⟨S16x16x32x1536, .f32⟩
  | .hbm, ⟨43, _⟩ => ⟨S16x16x32x1536, .f32⟩
  | .hbm, ⟨44, _⟩ => ⟨S_, .f32⟩
  | .hbm, ⟨45, _⟩ => ⟨S16x16x32x1536, .f32⟩
  | .hbm, ⟨46, _⟩ => ⟨S16x16x32x1536, .f32⟩
  | .hbm, ⟨47, _⟩ => ⟨S16x16x32x1536, .f32⟩
  | .hbm, ⟨48, _⟩ => ⟨S1x16x4096x1536, .f32⟩
  | .hbm, ⟨49, _⟩ => ⟨S16x4096x1536, .f32⟩
  | .hbm, ⟨50, _⟩ => ⟨S16x1536x16x32, .f32⟩
  | .hbm, ⟨51, _⟩ => ⟨S16x16x32x1536, .f32⟩
  | .hbm, ⟨52, _⟩ => ⟨S16x16x32x1536, .f32⟩
  | .hbm, ⟨53, _⟩ => ⟨S1x16x1536x4096, .f32⟩
  | .hbm, ⟨54, _⟩ => ⟨S16x1536x4096, .f32⟩
  | .hbm, ⟨55, _⟩ => ⟨S16x4096x16x32, .f32⟩
  | .hbm, ⟨56, _⟩ => ⟨S16x16x32x4096, .f32⟩
  | .hbm, ⟨57, _⟩ => ⟨S16x16x32x1, .f32⟩
  | .hbm, ⟨58, _⟩ => ⟨S16x16x32x4096, .f32⟩
  | .hbm, ⟨59, _⟩ => ⟨S16x16x32x4096, .f32⟩
  | .hbm, ⟨60, _⟩ => ⟨S4096x4096, .f32⟩
  | .hbm, ⟨61, _⟩ => ⟨S4x1024x4096, .f32⟩
  | .hbm, ⟨62, _⟩ => ⟨S4096x16, .f32⟩
  | .hbm, ⟨63, _⟩ => ⟨S4x1024x16, .f32⟩
  | .hbm, ⟨64, _⟩ => ⟨S_, .f32⟩
  | .hbm, ⟨65, _⟩ => ⟨S4x1024, .f32⟩
  | .hbm, ⟨66, _⟩ => ⟨S_, .f32⟩
  | .hbm, ⟨67, _⟩ => ⟨S4x1024, .f32⟩
  | .hbm, ⟨68, _⟩ => ⟨S4x1024, .f32⟩
  | .hbm, ⟨69, _⟩ => ⟨S4x1024x1, .f32⟩
  | .hbm, ⟨70, _⟩ => ⟨S4x1024x16, .f32⟩
  | .hbm, ⟨71, _⟩ => ⟨S4x1024x16, .f32⟩
  | .hbm, ⟨72, _⟩ => ⟨S4x1024x16, .f32⟩
  | .hbm, ⟨73, _⟩ => ⟨S_, .f32⟩
  | .hbm, ⟨74, _⟩ => ⟨S4x1024, .f32⟩
  | .hbm, ⟨75, _⟩ => ⟨S4x1024x1, .f32⟩
  | .hbm, ⟨76, _⟩ => ⟨S4x1024x16, .f32⟩
  | .hbm, ⟨77, _⟩ => ⟨S4x1024x16, .f32⟩
  | .hbm, ⟨78, _⟩ => ⟨S4x16x1024, .f32⟩
  | .hbm, ⟨79, _⟩ => ⟨S4x16x128, .f32⟩
  | .hbm, ⟨80, _⟩ => ⟨S4x16x128, .i32⟩
  | .hbm, ⟨81, _⟩ => ⟨S_, .i32⟩
  | .hbm, ⟨82, _⟩ => ⟨S4x16x128, .i32⟩
  | .hbm, ⟨83, _⟩ => ⟨S4x16x128, .i1⟩
  | .hbm, ⟨84, _⟩ => ⟨S_, .i32⟩
  | .hbm, ⟨85, _⟩ => ⟨S4x16x128, .i32⟩
  | .hbm, ⟨86, _⟩ => ⟨S4x16x128, .i32⟩
  | .hbm, ⟨87, _⟩ => ⟨S4x16x128, .i32⟩
  | .hbm, ⟨88, _⟩ => ⟨S4x16x128x1, .i32⟩
  | .hbm, ⟨89, _⟩ => ⟨S4x16x128x4096, .f32⟩
  | .hbm, ⟨90, _⟩ => ⟨S1x16x4096x1536, .f32⟩
  | .hbm, ⟨91, _⟩ => ⟨S16x4096x1536, .f32⟩
  | .hbm, ⟨92, _⟩ => ⟨S16x1536x4x128, .f32⟩
  | .hbm, ⟨93, _⟩ => ⟨S4x16x128x1536, .f32⟩
  | .hbm, ⟨94, _⟩ => ⟨S4x16x128x1536, .f32⟩
  | .hbm, ⟨95, _⟩ => ⟨S4x16x128x1536, .f32⟩
  | .hbm, ⟨96, _⟩ => ⟨S_, .f32⟩
  | .hbm, ⟨97, _⟩ => ⟨S4x16x128x1536, .f32⟩
  | .hbm, ⟨98, _⟩ => ⟨S4x16x128x1536, .f32⟩
  | .hbm, ⟨99, _⟩ => ⟨S_, .f32⟩
  | .hbm, ⟨100, _⟩ => ⟨S4x16x128x1536, .f32⟩
  | .hbm, ⟨101, _⟩ => ⟨S4x16x128x1536, .f32⟩
  | .hbm, ⟨102, _⟩ => ⟨S4x16x128x1536, .f32⟩
  | .hbm, ⟨103, _⟩ => ⟨S1x16x4096x1536, .f32⟩
  | .hbm, ⟨104, _⟩ => ⟨S16x4096x1536, .f32⟩
  | .hbm, ⟨105, _⟩ => ⟨S16x1536x4x128, .f32⟩
  | .hbm, ⟨106, _⟩ => ⟨S4x16x128x1536, .f32⟩
  | .hbm, ⟨107, _⟩ => ⟨S4x16x128x1536, .f32⟩
  | .hbm, ⟨108, _⟩ => ⟨S1x16x1536x4096, .f32⟩
  | .hbm, ⟨109, _⟩ => ⟨S16x1536x4096, .f32⟩
  | .hbm, ⟨110, _⟩ => ⟨S16x4096x4x128, .f32⟩
  | .hbm, ⟨111, _⟩ => ⟨S4x16x128x4096, .f32⟩
  | .hbm, ⟨112, _⟩ => ⟨S4x16x128x1, .f32⟩
  | .hbm, ⟨113, _⟩ => ⟨S4x16x128x4096, .f32⟩
  | .hbm, ⟨114, _⟩ => ⟨S4x16x128x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_values_6 : Ref sig .tc := ⟨.hbm, 79, rfl⟩
abbrev main_indices_7 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Kernel2.lean ====
abbrev S8192x4096 : Shape := ⟨2, ![8192, 4096]⟩
abbrev S4096x6912 : Shape := ⟨2, ![4096, 6912]⟩
abbrev S4096x4096 : Shape := ⟨2, ![4096, 4096]⟩
abbrev S16x256x4096 : Shape := ⟨3, ![16, 256, 4096]⟩
abbrev S256x16x4096 : Shape := ⟨3, ![256, 16, 4096]⟩
abbrev S4x1024x4096 : Shape := ⟨3, ![4, 1024, 4096]⟩
abbrev S1024x4x4096 : Shape := ⟨3, ![1024, 4, 4096]⟩
abbrev S8192x6912 : Shape := ⟨2, ![8192, 6912]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 13
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x6912, .f32⟩
  | .hbm, ⟨2, _⟩ => ⟨S8192x4096, .bf16⟩
  | .hbm, ⟨3, _⟩ => ⟨S4096x4096, .bf16⟩
  | .hbm, ⟨4, _⟩ => ⟨S16x256x4096, .bf16⟩
  | .hbm, ⟨5, _⟩ => ⟨S256x16x4096, .bf16⟩
  | .hbm, ⟨6, _⟩ => ⟨S4096x4096, .bf16⟩
  | .hbm, ⟨7, _⟩ => ⟨S4096x4096, .bf16⟩
  | .hbm, ⟨8, _⟩ => ⟨S4x1024x4096, .bf16⟩
  | .hbm, ⟨9, _⟩ => ⟨S1024x4x4096, .bf16⟩
  | .hbm, ⟨10, _⟩ => ⟨S4096x4096, .bf16⟩
  | .hbm, ⟨11, _⟩ => ⟨S8192x4096, .bf16⟩
  | .hbm, ⟨12, _⟩ => ⟨S8192x6912, .f32⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S2048x256, .f32⟩
  | .local _ .vmem, ⟨5, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x6912 : Shape := ⟨2, ![4096, 6912]⟩
abbrev S8192x6912 : Shape := ⟨2, ![8192, 6912]⟩
abbrev S16x256x6912 : Shape := ⟨3, ![16, 256, 6912]⟩
abbrev S256x16x6912 : Shape := ⟨3, ![256, 16, 6912]⟩
abbrev S4x1024x6912 : Shape := ⟨3, ![4, 1024, 6912]⟩
abbrev S1024x4x6912 : Shape := ⟨3, ![1024, 4, 6912]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x6912, .f32⟩
  | .hbm, ⟨2, _⟩ => ⟨S8192x6912, .f32⟩
  | .hbm, ⟨3, _⟩ => ⟨S4096x6912, .f32⟩
  | .hbm, ⟨4, _⟩ => ⟨S16x256x6912, .f32⟩
  | .hbm, ⟨5, _⟩ => ⟨S256x16x6912, .f32⟩
  | .hbm, ⟨6, _⟩ => ⟨S4096x6912, .f32⟩
  | .hbm, ⟨7, _⟩ => ⟨S4096x6912, .f32⟩
  | .hbm, ⟨8, _⟩ => ⟨S4x1024x6912, .f32⟩
  | .hbm, ⟨9, _⟩ => ⟨S1024x4x6912, .f32⟩
  | .hbm, ⟨10, _⟩ => ⟨S4096x6912, .f32⟩
  | .hbm, ⟨11, _⟩ => ⟨S8192x6912, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S8192x4096 : Shape := ⟨2, ![8192, 4096]⟩
abbrev S2x4096x11008 : Shape := ⟨3, ![2, 4096, 11008]⟩
abbrev S4096x4096 : Shape := ⟨2, ![4096, 4096]⟩
abbrev S16x256x4096 : Shape := ⟨3, ![16, 256, 4096]⟩
abbrev S256x16x4096 : Shape := ⟨3, ![256, 16, 4096]⟩
abbrev S4x1024x4096 : Shape := ⟨3, ![4, 1024, 4096]⟩
abbrev S1024x4x4096 : Shape := ⟨3, ![1024, 4, 4096]⟩
abbrev S8192x2048 : Shape := ⟨2, ![8192, 2048]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 13
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S8192x4096, .bf16⟩
  | .hbm, ⟨3, _⟩ => ⟨S4096x4096, .bf16⟩
  | .hbm, ⟨4, _⟩ => ⟨S16x256x4096, .bf16⟩
  | .hbm, ⟨5, _⟩ => ⟨S256x16x4096, .bf16⟩
  | .hbm, ⟨6, _⟩ => ⟨S4096x4096, .bf16⟩
  | .hbm, ⟨7, _⟩ => ⟨S4096x4096, .bf16⟩
  | .hbm, ⟨8, _⟩ => ⟨S4x1024x4096, .bf16⟩
  | .hbm, ⟨9, _⟩ => ⟨S1024x4x4096, .bf16⟩
  | .hbm, ⟨10, _⟩ => ⟨S4096x4096, .bf16⟩
  | .hbm, ⟨11, _⟩ => ⟨S8192x4096, .bf16⟩
  | .hbm, ⟨12, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .f32⟩
  | .local _ .vmem, ⟨7, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.addi c35_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S2x4096x11008 : Shape := ⟨3, ![2, 4096, 11008]⟩
abbrev S1x4096x2048 : Shape := ⟨3, ![1, 4096, 2048]⟩
abbrev S4096x2048 : Shape := ⟨2, ![4096, 2048]⟩
abbrev S8192x2048 : Shape := ⟨2, ![8192, 2048]⟩
abbrev S_ : Shape := ⟨0, ![]⟩
abbrev S16x256x2048 : Shape := ⟨3, ![16, 256, 2048]⟩
abbrev S256x16x2048 : Shape := ⟨3, ![256, 16, 2048]⟩
abbrev S4x1024x2048 : Shape := ⟨3, ![4, 1024, 2048]⟩
abbrev S1024x4x2048 : Shape := ⟨3, ![1024, 4, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S1x4096x2048, .f32⟩
  | .hbm, ⟨3, _⟩ => ⟨S4096x2048, .f32⟩
  | .hbm, ⟨4, _⟩ => ⟨S8192x2048, .f32⟩
  | .hbm, ⟨5, _⟩ => ⟨S1x4096x2048, .f32⟩
  | .hbm, ⟨6, _⟩ => ⟨S4096x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S4096x2048, .f32⟩
  | .hbm, ⟨18, _⟩ => ⟨S16x256x2048, .f32⟩
  | .hbm, ⟨19, _⟩ => ⟨S256x16x2048, .f32⟩
  | .hbm, ⟨20, _⟩ => ⟨S4096x2048, .f32⟩
  | .hbm, ⟨21, _⟩ => ⟨S4096x2048, .f32⟩
  | .hbm, ⟨22, _⟩ => ⟨S4x1024x2048, .f32⟩
  | .hbm, ⟨23, _⟩ => ⟨S1024x4x2048, .f32⟩
  | .hbm, ⟨24, _⟩ => ⟨S4096x2048, .f32⟩
  | .hbm, ⟨25, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel4.lean ====
abbrev S8192x4096 : Shape := ⟨2, ![8192, 4096]⟩
abbrev S2x4096x12288 : Shape := ⟨3, ![2, 4096, 12288]⟩
abbrev S8192x12288 : Shape := ⟨2, ![8192, 12288]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2x4096x12288, .f32⟩
  | .hbm, ⟨2, _⟩ => ⟨S8192x4096, .bf16⟩
  | .hbm, ⟨3, _⟩ => ⟨S8192x12288, .f32⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S2048x256, .f32⟩
  | .local _ .vmem, ⟨5, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x12288, .f32⟩
  | .hbm, ⟨2, _⟩ => ⟨S1x4096x12288, .f32⟩
  | .hbm, ⟨3, _⟩ => ⟨S4096x12288, .f32⟩
  | .hbm, ⟨4, _⟩ => ⟨S8192x12288, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x4096 : Shape := ⟨2, ![8192, 4096]⟩
abbrev S2x4096x4096 : Shape := ⟨3, ![2, 4096, 4096]⟩
abbrev S8x4096 : Shape := ⟨2, ![8, 4096]⟩
abbrev S8x1x4096 : Shape := ⟨3, ![8, 1, 4096]⟩
abbrev S1024x4096 : Shape := ⟨2, ![1024, 4096]⟩
abbrev S1x4096x256 : Shape := ⟨3, ![1, 4096, 256]⟩
abbrev S1024x256 : Shape := ⟨2, ![1024, 256]⟩
abbrev S1x1x256 : Shape := ⟨3, ![1, 1, 256]⟩
abbrev S4096x256 : Shape := ⟨2, ![4096, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S8192x4096, .f32⟩
  | .hbm, ⟨3, _⟩ => ⟨S8x4096, .f32⟩
  | .hbm, ⟨4, _⟩ => ⟨S8192x4096, .bf16⟩
  | .hbm, ⟨5, _⟩ => ⟨S8x1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c1_i32 : BitVec 32 := 1#32
  let v1 : BitVec 32 := Scalar.addi c1_i32 arg0
  let c4_i32_0 : BitVec 32 := 4#32
  let v2 : BitVec 32 := Scalar.subi v1 c4_i32_0
  let c0_i32 : BitVec 32 := 0#32
  let v3 : BitVec 32 := Scalar.select v0 c0_i32 v2
  let c0_i32_1 : BitVec 32 := 0#32
  let c0_i32_2 : BitVec 32 := 0#32
  ![v3.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x4096 : Shape := ⟨2, ![8192, 4096]⟩
abbrev S2x4096x4096 : Shape := ⟨3, ![2, 4096, 4096]⟩
abbrev S8x4096 : Shape := ⟨2, ![8, 4096]⟩
abbrev S4096x4096 : Shape := ⟨2, ![4096, 4096]⟩
abbrev S16x256x4096 : Shape := ⟨3, ![16, 256, 4096]⟩
abbrev S1x4096 : Shape := ⟨2, ![1, 4096]⟩
abbrev S1x1x4096 : Shape := ⟨3, ![1, 1, 4096]⟩
abbrev S1x4096x4096 : Shape := ⟨3, ![1, 4096, 4096]⟩
abbrev S4x1024x4096 : Shape := ⟨3, ![4, 1024, 4096]⟩
abbrev S4x4096 : Shape := ⟨2, ![4, 4096]⟩
abbrev S4x1x4096 : Shape := ⟨3, ![4, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S8192x4096, .f32⟩
  | .hbm, ⟨3, _⟩ => ⟨S8x4096, .f32⟩
  | .hbm, ⟨4, _⟩ => ⟨S4096x4096, .f32⟩
  | .hbm, ⟨5, _⟩ => ⟨S16x256x4096, .f32⟩
  | .hbm, ⟨6, _⟩ => ⟨S1x4096, .f32⟩
  | .hbm, ⟨7, _⟩ => ⟨S1x1x4096, .f32⟩
  | .hbm, ⟨8, _⟩ => ⟨S4096x4096, .f32⟩
  | .hbm, ⟨9, _⟩ => ⟨S16x256x4096, .f32⟩
  | .hbm, ⟨10, _⟩ => ⟨S1x4096x4096, .f32⟩
  | .hbm, ⟨11, _⟩ => ⟨S4096x4096, .f32⟩
  | .hbm, ⟨12, _⟩ => ⟨S16x256x4096, .f32⟩
  | .hbm, ⟨13, _⟩ => ⟨S16x256x4096, .f32⟩
  | .hbm, ⟨14, _⟩ => ⟨S16x256x4096, .f32⟩
  | .hbm, ⟨15, _⟩ => ⟨S16x256x4096, .f32⟩
  | .hbm, ⟨16, _⟩ => ⟨S4096x4096, .f32⟩
  | .hbm, ⟨17, _⟩ => ⟨S4x1024x4096, .f32⟩
  | .hbm, ⟨18, _⟩ => ⟨S4x4096, .f32⟩
  | .hbm, ⟨19, _⟩ => ⟨S4x1x4096, .f32⟩
  | .hbm, ⟨20, _⟩ => ⟨S4096x4096, .f32⟩
  | .hbm, ⟨21, _⟩ => ⟨S4x1024x4096, .f32⟩
  | .hbm, ⟨22, _⟩ => ⟨S1x4096x4096, .f32⟩
  | .hbm, ⟨23, _⟩ => ⟨S4096x4096, .f32⟩
  | .hbm, ⟨24, _⟩ => ⟨S4x1024x4096, .f32⟩
  | .hbm, ⟨25, _⟩ => ⟨S4x1024x4096, .f32⟩
  | .hbm, ⟨26, _⟩ => ⟨S4x1024x4096, .f32⟩
  | .hbm, ⟨27, _⟩ => ⟨S4x1024x4096, .f32⟩
  | .hbm, ⟨28, _⟩ => ⟨S4096x4096, .f32⟩
  | .hbm, ⟨29, _⟩ => ⟨S4096x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel6.lean ====
abbrev S8192x4096 : Shape := ⟨2, ![8192, 4096]⟩
abbrev S4096 : Shape := ⟨1, ![4096]⟩
abbrev S_ : Shape := ⟨0, ![]⟩
abbrev S8x4096 : Shape := ⟨2, ![8, 4096]⟩
abbrev S1x4096 : Shape := ⟨2, ![1, 4096]⟩
abbrev S8x1x4096 : Shape := ⟨3, ![8, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S8x4096, .f32⟩
  | .hbm, ⟨4, _⟩ => ⟨S1x4096, .f32⟩
  | .hbm, ⟨5, _⟩ => ⟨S8x1x4096, .f32⟩
  | .hbm, ⟨6, _⟩ => ⟨S8x1x4096, .f32⟩
  | .hbm, ⟨7, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S8x4096 : Shape := ⟨2, ![8, 4096]⟩
abbrev S4096x16 : Shape := ⟨2, ![4096, 16]⟩
abbrev S1x4096 : Shape := ⟨2, ![1, 4096]⟩
abbrev S8x1x4096 : Shape := ⟨3, ![8, 1, 4096]⟩
abbrev S8192x16 : Shape := ⟨2, ![8192, 16]⟩
abbrev S256x4096 : Shape := ⟨2, ![256, 4096]⟩
abbrev S1x1x4096 : Shape := ⟨3, ![1, 1, 4096]⟩
abbrev S256x16 : Shape := ⟨2, ![256, 16]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x4096, .f32⟩
  | .hbm, ⟨3, _⟩ => ⟨S8x4096, .f32⟩
  | .hbm, ⟨4, _⟩ => ⟨S4096x16, .f32⟩
  | .hbm, ⟨5, _⟩ => ⟨S1x4096, .f32⟩
  | .hbm, ⟨6, _⟩ => ⟨S8x1x4096, .f32⟩
  | .hbm, ⟨7, _⟩ => ⟨S8x1x4096, .f32⟩
  | .hbm, ⟨8, _⟩ => ⟨S8192x4096, .bf16⟩
  | .hbm, ⟨9, _⟩ => ⟨S8192x16, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x16, .f32⟩
  | .local _ .vmem, ⟨8, _⟩ => ⟨S256x4096, .bf16⟩
  | .local _ .vmem, ⟨9, _⟩ => ⟨S256x4096, .bf16⟩
  | .local _ .vmem, ⟨10, _⟩ => ⟨S256x16, .f32⟩
  | .local _ .vmem, ⟨11, _⟩ => ⟨S256x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x4096 : Shape := ⟨2, ![8192, 4096]⟩
abbrev S4096 : Shape := ⟨1, ![4096]⟩
abbrev S8x4096 : Shape := ⟨2, ![8, 4096]⟩
abbrev S4096x16 : Shape := ⟨2, ![4096, 16]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x4096 : Shape := ⟨2, ![4096, 4096]⟩
abbrev S16x256x4096 : Shape := ⟨3, ![16, 256, 4096]⟩
abbrev S1x1x4096 : Shape := ⟨3, ![1, 1, 4096]⟩
abbrev S4x1024x4096 : Shape := ⟨3, ![4, 1024, 4096]⟩
abbrev S4x4096 : Shape := ⟨2, ![4, 4096]⟩
abbrev S4x1x4096 : Shape := ⟨3, ![4, 1, 4096]⟩
abbrev S8192x16 : Shape := ⟨2, ![8192, 16]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x4096, .f32⟩
  | .hbm, ⟨3, _⟩ => ⟨S8x4096, .f32⟩
  | .hbm, ⟨4, _⟩ => ⟨S4096x16, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x4096, .f32⟩
  | .hbm, ⟨22, _⟩ => ⟨S16x256x4096, .f32⟩
  | .hbm, ⟨23, _⟩ => ⟨S1x4096, .f32⟩
  | .hbm, ⟨24, _⟩ => ⟨S1x1x4096, .f32⟩
  | .hbm, ⟨25, _⟩ => ⟨S_, .f32⟩
  | .hbm, ⟨26, _⟩ => ⟨S1x1x4096, .f32⟩
  | .hbm, ⟨27, _⟩ => ⟨S1x1x4096, .f32⟩
  | .hbm, ⟨28, _⟩ => ⟨S16x256x4096, .f32⟩
  | .hbm, ⟨29, _⟩ => ⟨S16x256x4096, .f32⟩
  | .hbm, ⟨30, _⟩ => ⟨S1x4096, .f32⟩
  | .hbm, ⟨31, _⟩ => ⟨S1x1x4096, .f32⟩
  | .hbm, ⟨32, _⟩ => ⟨S16x256x4096, .f32⟩
  | .hbm, ⟨33, _⟩ => ⟨S16x256x4096, .f32⟩
  | .hbm, ⟨34, _⟩ => ⟨S4096x4096, .f32⟩
  | .hbm, ⟨35, _⟩ => ⟨S4x1024x4096, .f32⟩
  | .hbm, ⟨36, _⟩ => ⟨S4x4096, .f32⟩
  | .hbm, ⟨37, _⟩ => ⟨S4x1x4096, .f32⟩
  | .hbm, ⟨38, _⟩ => ⟨S_, .f32⟩
  | .hbm, ⟨39, _⟩ => ⟨S4x1x4096, .f32⟩
  | .hbm, ⟨40, _⟩ => ⟨S4x1x4096, .f32⟩
  | .hbm, ⟨41, _⟩ => ⟨S4x1024x4096, .f32⟩
  | .hbm, ⟨42, _⟩ => ⟨S4x1024x4096, .f32⟩
  | .hbm, ⟨43, _⟩ => ⟨S4x4096, .f32⟩
  | .hbm, ⟨44, _⟩ => ⟨S4x1x4096, .f32⟩
  | .hbm, ⟨45, _⟩ => ⟨S4x1024x4096, .f32⟩
  | .hbm, ⟨46, _⟩ => ⟨S4x1024x4096, .f32⟩
  | .hbm, ⟨47, _⟩ => ⟨S4096x4096, .f32⟩
  | .hbm, ⟨48, _⟩ => ⟨S4096x4096, .f32⟩
  | .hbm, ⟨49, _⟩ => ⟨S8192x4096, .f32⟩
  | .hbm, ⟨50, _⟩ => ⟨S8192x4096, .bf16⟩
  | .hbm, ⟨51, _⟩ => ⟨S8192x16, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel8.lean ====
abbrev S4x4096 : Shape := ⟨2, ![4, 4096]⟩
abbrev S4096 : Shape := ⟨1, ![4096]⟩
abbrev S4x4096x24576 : Shape := ⟨3, ![4, 4096, 24576]⟩
abbrev S4x24576 : Shape := ⟨2, ![4, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S1x24576 : Shape := ⟨2, ![1, 24576]⟩
abbrev S24576 : Shape := ⟨1, ![24576]⟩
abbrev S8x24576 : Shape := ⟨2, ![8, 24576]⟩
abbrev S1x4096x512 : Shape := ⟨3, ![1, 4096, 512]⟩
abbrev S1x512 : Shape := ⟨2, ![1, 512]⟩
abbrev S8x512 : Shape := ⟨2, ![8, 512]⟩
abbrev S4096x512 : Shape := ⟨2, ![4096, 512]⟩

abbrev nBuf : Space → Nat
  | .hbm => 12
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x24576, .f32⟩
  | .hbm, ⟨3, _⟩ => ⟨S4x24576, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S1x24576, .f32⟩
  | .hbm, ⟨9, _⟩ => ⟨S24576, .f32⟩
  | .hbm, ⟨10, _⟩ => ⟨S1x24576, .f32⟩
  | .hbm, ⟨11, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4x4096 : Shape := ⟨2, ![4, 4096]⟩
abbrev S4096 : Shape := ⟨1, ![4096]⟩
abbrev S4x4096x24576 : Shape := ⟨3, ![4, 4096, 24576]⟩
abbrev S4x24576 : Shape := ⟨2, ![4, 24576]⟩
abbrev S1x4096 : Shape := ⟨2, ![1, 4096]⟩
abbrev S_ : Shape := ⟨0, ![]⟩
abbrev S1x4096x24576 : Shape := ⟨3, ![1, 4096, 24576]⟩
abbrev S4096x24576 : Shape := ⟨2, ![4096, 24576]⟩
abbrev S1x24576 : Shape := ⟨2, ![1, 24576]⟩
abbrev S24576 : Shape := ⟨1, ![24576]⟩
abbrev S3x24576 : Shape := ⟨2, ![3, 24576]⟩
abbrev S8x24576 : Shape := ⟨2, ![8, 24576]⟩

abbrev nBuf : Space → Nat
  | .hbm => 42
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x24576, .f32⟩
  | .hbm, ⟨3, _⟩ => ⟨S4x24576, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096x24576, .f32⟩
  | .hbm, ⟨15, _⟩ => ⟨S4096x24576, .f32⟩
  | .hbm, ⟨16, _⟩ => ⟨S1x24576, .f32⟩
  | .hbm, ⟨17, _⟩ => ⟨S1x24576, .f32⟩
  | .hbm, ⟨18, _⟩ => ⟨S24576, .f32⟩
  | .hbm, ⟨19, _⟩ => ⟨S1x24576, .f32⟩
  | .hbm, ⟨20, _⟩ => ⟨S1x24576, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096, .f32⟩
  | .hbm, ⟨30, _⟩ => ⟨S1x4096x24576, .f32⟩
  | .hbm, ⟨31, _⟩ => ⟨S4096x24576, .f32⟩
  | .hbm, ⟨32, _⟩ => ⟨S4x24576, .f32⟩
  | .hbm, ⟨33, _⟩ => ⟨S1x24576, .f32⟩
  | .hbm, ⟨34, _⟩ => ⟨S24576, .f32⟩
  | .hbm, ⟨35, _⟩ => ⟨S1x24576, .f32⟩
  | .hbm, ⟨36, _⟩ => ⟨S4x24576, .f32⟩
  | .hbm, ⟨37, _⟩ => ⟨S4x24576, .f32⟩
  | .hbm, ⟨38, _⟩ => ⟨S1x24576, .f32⟩
  | .hbm, ⟨39, _⟩ => ⟨S24576, .f32⟩
  | .hbm, ⟨40, _⟩ => ⟨S3x24576, .f32⟩
  | .hbm, ⟨41, _⟩ => ⟨S8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel9.lean ====
abbrev S8192x4096 : Shape := ⟨2, ![8192, 4096]⟩
abbrev S8x4096 : Shape := ⟨2, ![8, 4096]⟩
abbrev S16x16x32x4096 : Shape := ⟨4, ![16, 16, 32, 4096]⟩
abbrev S16x16x32 : Shape := ⟨3, ![16, 16, 32]⟩
abbrev S16x512x4096 : Shape := ⟨3, ![16, 512, 4096]⟩
abbrev S16x1x512 : Shape := ⟨3, ![16, 1, 512]⟩
abbrev S8x1x4096 : Shape := ⟨3, ![8, 1, 4096]⟩
abbrev S1x1x512 : Shape := ⟨3, ![1, 1, 512]⟩
abbrev S1x512x512 : Shape := ⟨3, ![1, 512, 512]⟩
abbrev S256x512 : Shape := ⟨2, ![256, 512]⟩
abbrev S1x512 : Shape := ⟨2, ![1, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8x4096, .f32⟩
  | .hbm, ⟨2, _⟩ => ⟨S16x16x32x4096, .f32⟩
  | .hbm, ⟨3, _⟩ => ⟨S16x16x32, .i32⟩
  | .hbm, ⟨4, _⟩ => ⟨S16x512x4096, .f32⟩
  | .hbm, ⟨5, _⟩ => ⟨S16x1x512, .i32⟩
  | .hbm, ⟨6, _⟩ => ⟨S8x1x4096, .f32⟩
  | .hbm, ⟨7, _⟩ => ⟨S8192x4096, .f32⟩
  | .local _ .vmem, ⟨0, _⟩ => ⟨S1x1x512, .i32⟩
  | .local _ .vmem, ⟨1, _⟩ => ⟨S1x1x512, .i32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x4096 : Shape := ⟨2, ![8192, 4096]⟩
abbrev S8x4096 : Shape := ⟨2, ![8, 4096]⟩
abbrev S16x16x32x4096 : Shape := ⟨4, ![16, 16, 32, 4096]⟩
abbrev S16x16x32 : Shape := ⟨3, ![16, 16, 32]⟩
abbrev S16 : Shape := ⟨1, ![16]⟩
abbrev S16x1 : Shape := ⟨2, ![16, 1]⟩
abbrev S_ : Shape := ⟨0, ![]⟩
abbrev S16x256x4096 : Shape := ⟨3, ![16, 256, 4096]⟩
abbrev S16x512 : Shape := ⟨2, ![16, 512]⟩
abbrev S16x512x4096 : Shape := ⟨3, ![16, 512, 4096]⟩
abbrev S16x512x1 : Shape := ⟨3, ![16, 512, 1]⟩
abbrev S16x512x2 : Shape := ⟨3, ![16, 512, 2]⟩
abbrev S4096x4096 : Shape := ⟨2, ![4096, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x4096, .f32⟩
  | .hbm, ⟨2, _⟩ => ⟨S16x16x32x4096, .f32⟩
  | .hbm, ⟨3, _⟩ => ⟨S16x16x32, .i32⟩
  | .hbm, ⟨4, _⟩ => ⟨S16, .i32⟩
  | .hbm, ⟨5, _⟩ => ⟨S16x1, .i32⟩
  | .hbm, ⟨6, _⟩ => ⟨S_, .f32⟩
  | .hbm, ⟨7, _⟩ => ⟨S16x256x4096, .f32⟩
  | .hbm, ⟨8, _⟩ => ⟨S16x512, .i32⟩
  | .hbm, ⟨9, _⟩ => ⟨S16x512x4096, .f32⟩
  | .hbm, ⟨10, _⟩ => ⟨S_, .i32⟩
  | .hbm, ⟨11, _⟩ => ⟨S16x1, .i32⟩
  | .hbm, ⟨12, _⟩ => ⟨S16x1, .i1⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S16x1, .i32⟩
  | .hbm, ⟨17, _⟩ => ⟨S_, .i32⟩
  | .hbm, ⟨18, _⟩ => ⟨S16x512, .i32⟩
  | .hbm, ⟨19, _⟩ => ⟨S16x512, .i1⟩
  | .hbm, ⟨20, _⟩ => ⟨S_, .i32⟩
  | .hbm, ⟨21, _⟩ => ⟨S16x512, .i32⟩
  | .hbm, ⟨22, _⟩ => ⟨S16x512, .i32⟩
  | .hbm, ⟨23, _⟩ => ⟨S16x512, .i32⟩
  | .hbm, ⟨24, _⟩ => ⟨S16x512, .i32⟩
  | .hbm, ⟨25, _⟩ => ⟨S16x512x1, .i32⟩
  | .hbm, ⟨26, _⟩ => ⟨S16x512x1, .i32⟩
  | .hbm, ⟨27, _⟩ => ⟨S16x512x2, .i32⟩
  | .hbm, ⟨28, _⟩ => ⟨S16x256x4096, .f32⟩
  | .hbm, ⟨29, _⟩ => ⟨S4096x4096, .f32⟩
  | .hbm, ⟨30, _⟩ => ⟨S16x256x4096, .f32⟩
  | .hbm, ⟨31, _⟩ => ⟨S1x4096, .f32⟩
  | .hbm, ⟨32, _⟩ => ⟨S4096, .f32⟩
  | .hbm, ⟨33, _⟩ => ⟨S1x1x4096, .f32⟩
  | .hbm, ⟨34, _⟩ => ⟨S16x256x4096, .f32⟩
  | .hbm, ⟨35, _⟩ => ⟨S16x256x4096, .f32⟩
  | .hbm, ⟨36, _⟩ => ⟨S16x256x4096, .f32⟩
  | .hbm, ⟨37, _⟩ => ⟨S4096x4096, .f32⟩
  | .hbm, ⟨38, _⟩ => ⟨S4096x4096, .f32⟩
  | .hbm, ⟨39, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel10.lean ====
abbrev S8192x4096 : Shape := ⟨2, ![8192, 4096]⟩
abbrev S4096 : Shape := ⟨1, ![4096]⟩
abbrev S8x4096 : Shape := ⟨2, ![8, 4096]⟩
abbrev S1x4096 : Shape := ⟨2, ![1, 4096]⟩
abbrev S8x1x4096 : Shape := ⟨3, ![8, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x4096, .f32⟩
  | .hbm, ⟨3, _⟩ => ⟨S8x4096, .f32⟩
  | .hbm, ⟨4, _⟩ => ⟨S1x4096, .f32⟩
  | .hbm, ⟨5, _⟩ => ⟨S8x1x4096, .f32⟩
  | .hbm, ⟨6, _⟩ => ⟨S8x1x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x4096 : Shape := ⟨2, ![8192, 4096]⟩
abbrev S4096 : Shape := ⟨1, ![4096]⟩
abbrev S8x4096 : Shape := ⟨2, ![8, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x4096 : Shape := ⟨2, ![4096, 4096]⟩
abbrev S16x256x4096 : Shape := ⟨3, ![16, 256, 4096]⟩
abbrev S1x1x4096 : Shape := ⟨3, ![1, 1, 4096]⟩
abbrev S4x1024x4096 : Shape := ⟨3, ![4, 1024, 4096]⟩
abbrev S4x4096 : Shape := ⟨2, ![4, 4096]⟩
abbrev S4x1x4096 : Shape := ⟨3, ![4, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x4096, .f32⟩
  | .hbm, ⟨3, _⟩ => ⟨S8x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x4096, .f32⟩
  | .hbm, ⟨21, _⟩ => ⟨S16x256x4096, .f32⟩
  | .hbm, ⟨22, _⟩ => ⟨S1x4096, .f32⟩
  | .hbm, ⟨23, _⟩ => ⟨S1x1x4096, .f32⟩
  | .hbm, ⟨24, _⟩ => ⟨S_, .f32⟩
  | .hbm, ⟨25, _⟩ => ⟨S1x1x4096, .f32⟩
  | .hbm, ⟨26, _⟩ => ⟨S1x1x4096, .f32⟩
  | .hbm, ⟨27, _⟩ => ⟨S16x256x4096, .f32⟩
  | .hbm, ⟨28, _⟩ => ⟨S16x256x4096, .f32⟩
  | .hbm, ⟨29, _⟩ => ⟨S1x4096, .f32⟩
  | .hbm, ⟨30, _⟩ => ⟨S1x1x4096, .f32⟩
  | .hbm, ⟨31, _⟩ => ⟨S16x256x4096, .f32⟩
  | .hbm, ⟨32, _⟩ => ⟨S16x256x4096, .f32⟩
  | .hbm, ⟨33, _⟩ => ⟨S4096x4096, .f32⟩
  | .hbm, ⟨34, _⟩ => ⟨S4x1024x4096, .f32⟩
  | .hbm, ⟨35, _⟩ => ⟨S4x4096, .f32⟩
  | .hbm, ⟨36, _⟩ => ⟨S4x1x4096, .f32⟩
  | .hbm, ⟨37, _⟩ => ⟨S_, .f32⟩
  | .hbm, ⟨38, _⟩ => ⟨S4x1x4096, .f32⟩
  | .hbm, ⟨39, _⟩ => ⟨S4x1x4096, .f32⟩
  | .hbm, ⟨40, _⟩ => ⟨S4x1024x4096, .f32⟩
  | .hbm, ⟨41, _⟩ => ⟨S4x1024x4096, .f32⟩
  | .hbm, ⟨42, _⟩ => ⟨S4x4096, .f32⟩
  | .hbm, ⟨43, _⟩ => ⟨S4x1x4096, .f32⟩
  | .hbm, ⟨44, _⟩ => ⟨S4x1024x4096, .f32⟩
  | .hbm, ⟨45, _⟩ => ⟨S4x1024x4096, .f32⟩
  | .hbm, ⟨46, _⟩ => ⟨S4096x4096, .f32⟩
  | .hbm, ⟨47, _⟩ => ⟨S4096x4096, .f32⟩
  | .hbm, ⟨48, _⟩ => ⟨S8192x4096, .f32⟩
  | .hbm, ⟨49, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel11.lean ====
abbrev S8192x12288 : Shape := ⟨2, ![8192, 12288]⟩
abbrev S3x12288 : Shape := ⟨2, ![3, 12288]⟩
abbrev S12288 : Shape := ⟨1, ![12288]⟩
abbrev S33x64 : Shape := ⟨2, ![33, 64]⟩
abbrev S64 : Shape := ⟨1, ![64]⟩
abbrev S64x64 : Shape := ⟨2, ![64, 64]⟩
abbrev S64x8192 : Shape := ⟨2, ![64, 8192]⟩
abbrev S4096 : Shape := ⟨1, ![4096]⟩
abbrev S_ : Shape := ⟨0, ![]⟩
abbrev S255 : Shape := ⟨1, ![255]⟩
abbrev S1 : Shape := ⟨1, ![1]⟩
abbrev S256 : Shape := ⟨1, ![256]⟩
abbrev S256x1 : Shape := ⟨2, ![256, 1]⟩
abbrev S15 : Shape := ⟨1, ![15]⟩
abbrev S16 : Shape := ⟨1, ![16]⟩
abbrev S1x16 : Shape := ⟨2, ![1, 16]⟩
abbrev S256x16 : Shape := ⟨2, ![256, 16]⟩
abbrev S256x33 : Shape := ⟨2, ![256, 33]⟩
abbrev S256x64 : Shape := ⟨2, ![256, 64]⟩
abbrev S1x64 : Shape := ⟨2, ![1, 64]⟩
abbrev S256x8192 : Shape := ⟨2, ![256, 8192]⟩
abbrev S256x2x4096 : Shape := ⟨3, ![256, 2, 4096]⟩
abbrev S4095 : Shape := ⟨1, ![4095]⟩
abbrev S1x4096 : Shape := ⟨2, ![1, 4096]⟩
abbrev S256x4096 : Shape := ⟨2, ![256, 4096]⟩
abbrev S256x1x4096 : Shape := ⟨3, ![256, 1, 4096]⟩
abbrev S1x1x4096 : Shape := ⟨3, ![1, 1, 4096]⟩
abbrev S512 : Shape := ⟨1, ![512]⟩
abbrev S1x512 : Shape := ⟨2, ![1, 512]⟩
abbrev S256x512 : Shape := ⟨2, ![256, 512]⟩
abbrev S512x512 : Shape := ⟨2, ![512, 512]⟩
abbrev S256x256 : Shape := ⟨2, ![256, 256]⟩
abbrev S255x4096 : Shape := ⟨2, ![255, 4096]⟩
abbrev S512x4096 : Shape := ⟨2, ![512, 4096]⟩
abbrev S512x1024 : Shape := ⟨2, ![512, 1024]⟩
abbrev S1x12288 : Shape := ⟨2, ![1, 12288]⟩
abbrev S512x256 : Shape := ⟨2, ![512, 256]⟩
abbrev S4096x4096 : Shape := ⟨2, ![4096, 4096]⟩
abbrev S256x1024 : Shape := ⟨2, ![256, 1024]⟩
abbrev S3x1024 : Shape := ⟨2, ![3, 1024]⟩
abbrev S1x1024 : Shape := ⟨2, ![1, 1024]⟩

abbrev nBuf : Space → Nat
  | .hbm => 250
  | .vmem => 31
  | .smem => 0
  | _ => 0

abbrev hbmTy0_0 (i : Nat) : BufTy := match i % 128 with
  | 0 => ⟨S8192x12288, .f32⟩
  | 1 => ⟨S3x12288, .f32⟩
  | 2 => ⟨S12288, .f32⟩
  | 3 => ⟨S33x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x8192, .f32⟩
  | 10 => ⟨S64, .f32⟩
  | 11 => ⟨S4096, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S255, .f32⟩
  | 20 => ⟨S_, .f32⟩
  | 21 => ⟨S255, .f32⟩
  | 22 => ⟨S255, .f32⟩
  | 23 => ⟨S1, .f32⟩
  | 24 => ⟨S_, .f32⟩
  | 25 => ⟨S255, .f32⟩
  | 26 => ⟨S255, .f32⟩
  | 27 => ⟨S255, .f32⟩
  | 28 => ⟨S255, .f32⟩
  | 29 => ⟨S1, .f32⟩
  | 30 => ⟨S255, .f32⟩
  | 31 => ⟨S255, .f32⟩
  | 32 => ⟨S255, .f32⟩
  | 33 => ⟨S1, .f32⟩
  | 34 => ⟨S256, .f32⟩
  | 35 => ⟨S256x1, .f32⟩
  | 36 => ⟨S256, .f32⟩
  | 37 => ⟨S256x1, .f32⟩
  | 38 => ⟨S_, .f32⟩
  | 39 => ⟨S256x1, .f32⟩
  | 40 => ⟨S256x1, .f32⟩
  | 41 => ⟨S_, .f32⟩
  | 42 => ⟨S_, .i32⟩
  | 43 => ⟨S_, .f32⟩
  | 44 => ⟨S_, .f32⟩
  | 45 => ⟨S_, .f32⟩
  | 46 => ⟨S_, .f32⟩
  | 47 => ⟨S_, .f32⟩
  | 48 => ⟨S15, .f32⟩
  | 49 => ⟨S_, .f32⟩
  | 50 => ⟨S15, .f32⟩
  | 51 => ⟨S15, .f32⟩
  | 52 => ⟨S1, .f32⟩
  | 53 => ⟨S_, .f32⟩
  | 54 => ⟨S15, .f32⟩
  | 55 => ⟨S15, .f32⟩
  | 56 => ⟨S15, .f32⟩
  | 57 => ⟨S15, .f32⟩
  | 58 => ⟨S1, .f32⟩
  | 59 => ⟨S15, .f32⟩
  | 60 => ⟨S15, .f32⟩
  | 61 => ⟨S15, .f32⟩
  | 62 => ⟨S1, .f32⟩
  | 63 => ⟨S16, .f32⟩
  | 64 => ⟨S1x16, .f32⟩
  | 65 => ⟨S256x16, .f32⟩
  | 66 => ⟨S256x16, .f32⟩
  | 67 => ⟨S256x16, .f32⟩
  | 68 => ⟨S256x16, .f32⟩
  | 69 => ⟨S256x16, .f32⟩
  | 70 => ⟨S256x16, .f32⟩
  | 71 => ⟨S256x33, .f32⟩
  | 72 => ⟨S256x64, .f32⟩
  | 73 => ⟨S1x64, .f32⟩
  | 74 => ⟨S256x64, .f32⟩
  | 75 => ⟨S256x64, .f32⟩
  | 76 => ⟨S1x64, .f32⟩
  | 77 => ⟨S256x64, .f32⟩
  | 78 => ⟨S256x64, .f32⟩
  | 79 => ⟨S256x64, .f32⟩
  | 80 => ⟨S256x64, .f32⟩
  | 81 => ⟨S1x64, .f32⟩
  | 82 => ⟨S256x64, .f32⟩
  | 83 => ⟨S256x64, .f32⟩
  | 84 => ⟨S1x64, .f32⟩
  | 85 => ⟨S256x64, .f32⟩
  | 86 => ⟨S256x64, .f32⟩
  | 87 => ⟨S256x64, .f32⟩
  | 88 => ⟨S256x64, .f32⟩
  | 89 => ⟨S1x64, .f32⟩
  | 90 => ⟨S256x64, .f32⟩
  | 91 => ⟨S256x64, .f32⟩
  | 92 => ⟨S1x64, .f32⟩
  | 93 => ⟨S256x64, .f32⟩
  | 94 => ⟨S256x64, .f32⟩
  | 95 => ⟨S256x64, .f32⟩
  | 96 => ⟨S256x8192, .f32⟩
  | 97 => ⟨S256x2x4096, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S4095, .f32⟩
  | 106 => ⟨S_, .f32⟩
  | 107 => ⟨S4095, .f32⟩
  | 108 => ⟨S4095, .f32⟩
  | 109 => ⟨S1, .f32⟩
  | 110 => ⟨S_, .f32⟩
  | 111 => ⟨S4095, .f32⟩
  | 112 => ⟨S4095, .f32⟩
  | 113 => ⟨S4095, .f32⟩
  | 114 => ⟨S4095, .f32⟩
  | 115 => ⟨S1, .f32⟩
  | 116 => ⟨S4095, .f32⟩
  | 117 => ⟨S4095, .f32⟩
  | 118 => ⟨S4095, .f32⟩
  | 119 => ⟨S1, .f32⟩
  | 120 => ⟨S4096, .f32⟩
  | 121 => ⟨S4096, .f32⟩
  | 122 => ⟨S256x1, .f32⟩
  | 123 => ⟨S1x4096, .f32⟩
  | 124 => ⟨S256x4096, .f32⟩
  | 125 => ⟨S256x4096, .f32⟩
  | 126 => ⟨S256x4096, .f32⟩
  | 127 => ⟨S256x4096, .f32⟩
  | _ => ⟨S8192x12288, .f32⟩

abbrev hbmTy0_1 (i : Nat) : BufTy := match i % 128 with
  | 0 => ⟨S256x1x4096, .f32⟩
  | 1 => ⟨S256x2x4096, .f32⟩
  | 2 => ⟨S256x2x4096, .f32⟩
  | 3 => ⟨S256x2x4096, .f32⟩
  | 4 => ⟨S_, .f32⟩
  | 5 => ⟨S4096, .f32⟩
  | 6 => ⟨S_, .f32⟩
  | 7 => ⟨S4096, .f32⟩
  | 8 => ⟨S4096, .f32⟩
  | 9 => ⟨S1x1x4096, .f32⟩
  | 10 => ⟨S256x2x4096, .f32⟩
  | 11 => ⟨S256x2x4096, .f32⟩
  | 12 => ⟨S256x1x4096, .f32⟩
  | 13 => ⟨S256x4096, .f32⟩
  | 14 => ⟨S256x1x4096, .f32⟩
  | 15 => ⟨S256x4096, .f32⟩
  | 16 => ⟨S256, .i32⟩
  | 17 => ⟨S256x1, .i32⟩
  | 18 => ⟨S512, .i32⟩
  | 19 => ⟨S1x512, .i32⟩
  | 20 => ⟨S256x512, .i32⟩
  | 21 => ⟨S256x512, .i32⟩
  | 22 => ⟨S256x512, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S256x512, .i32⟩
  | 30 => ⟨S256x512, .i32⟩
  | 31 => ⟨S_, .i32⟩
  | 32 => ⟨S256x512, .i32⟩
  | 33 => ⟨S256x512, .i1⟩
  | 34 => ⟨S_, .i32⟩
  | 35 => ⟨S256x512, .i32⟩
  | 36 => ⟨S256x512, .i1⟩
  | 37 => ⟨S_, .i32⟩
  | 38 => ⟨S_, .i1⟩
  | 39 => ⟨S256x512, .i1⟩
  | 40 => ⟨S256x512, .i1⟩
  | 41 => ⟨S256x512, .i1⟩
  | 42 => ⟨S256x512, .i32⟩
  | 43 => ⟨S256x512, .i32⟩
  | 44 => ⟨S256x512, .i32⟩
  | 45 => ⟨S256x512, .f32⟩
  | 46 => ⟨S_, .f32⟩
  | 47 => ⟨S256x512, .f32⟩
  | 48 => ⟨S256x512, .f32⟩
  | 49 => ⟨S256x512, .f32⟩
  | 50 => ⟨S_, .i32⟩
  | 51 => ⟨S256x1, .i32⟩
  | 52 => ⟨S256x1, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x512, .i32⟩
  | 60 => ⟨S1x512, .i32⟩
  | 61 => ⟨S_, .i32⟩
  | 62 => ⟨S1x512, .i32⟩
  | 63 => ⟨S1x512, .i1⟩
  | 64 => ⟨S_, .i32⟩
  | 65 => ⟨S1x512, .i32⟩
  | 66 => ⟨S1x512, .i1⟩
  | 67 => ⟨S_, .i32⟩
  | 68 => ⟨S_, .i1⟩
  | 69 => ⟨S1x512, .i1⟩
  | 70 => ⟨S1x512, .i1⟩
  | 71 => ⟨S1x512, .i1⟩
  | 72 => ⟨S1x512, .i32⟩
  | 73 => ⟨S1x512, .i32⟩
  | 74 => ⟨S1x512, .i32⟩
  | 75 => ⟨S_, .i32⟩
  | 76 => ⟨S1x512, .i32⟩
  | 77 => ⟨S1x512, .i1⟩
  | 78 => ⟨S_, .f32⟩
  | 79 => ⟨S_, .f32⟩
  | 80 => ⟨S1x512, .f32⟩
  | 81 => ⟨S1x512, .f32⟩
  | 82 => ⟨S1x512, .f32⟩
  | 83 => ⟨S1x512, .f32⟩
  | 84 => ⟨S256x512, .f32⟩
  | 85 => ⟨S256x512, .i1⟩
  | 86 => ⟨S256x512, .f32⟩
  | 87 => ⟨S256x512, .f32⟩
  | 88 => ⟨S512x512, .f32⟩
  | 89 => ⟨S_, .i32⟩
  | 90 => ⟨S256x1, .i32⟩
  | 91 => ⟨S256x1, .i1⟩
  | 92 => ⟨S_, .f32⟩
  | 93 => ⟨S_, .f32⟩
  | 94 => ⟨S256x1, .f32⟩
  | 95 => ⟨S256x1, .f32⟩
  | 96 => ⟨S256x1, .f32⟩
  | 97 => ⟨S256x1, .f32⟩
  | 98 => ⟨S256x512, .f32⟩
  | 99 => ⟨S256x512, .f32⟩
  | 100 => ⟨S256x256, .f32⟩
  | 101 => ⟨S256x256, .f32⟩
  | 102 => ⟨S256x1, .f32⟩
  | 103 => ⟨S256x512, .f32⟩
  | 104 => ⟨S256x512, .f32⟩
  | 105 => ⟨S256x256, .f32⟩
  | 106 => ⟨S256x256, .f32⟩
  | 107 => ⟨S256x512, .f32⟩
  | 108 => ⟨S_, .f32⟩
  | 109 => ⟨S1x4096, .f32⟩
  | 110 => ⟨S255x4096, .f32⟩
  | 111 => ⟨S255x4096, .f32⟩
  | 112 => ⟨S512x4096, .f32⟩
  | 113 => ⟨S512x4096, .f32⟩
  | 114 => ⟨S1x12288, .f32⟩
  | 115 => ⟨S1x12288, .f32⟩
  | 116 => ⟨S1x12288, .f32⟩
  | 117 => ⟨S1x4096, .f32⟩
  | 118 => ⟨S512x256, .f32⟩
  | 119 => ⟨S512x256, .bf16⟩
  | 120 => ⟨S256x512, .bf16⟩
  | 121 => ⟨S4096x4096, .bf16⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S3x1024, .f32⟩
  | .local _ .vmem, ⟨12, _⟩ => ⟨S3x1024, .f32⟩
  | .local _ .vmem, ⟨13, _⟩ => ⟨S3x1024, .f32⟩
  | .local _ .vmem, ⟨14, _⟩ => ⟨S3x1024, .f32⟩
  | .local _ .vmem, ⟨15, _⟩ => ⟨S3x1024, .f32⟩
  | .local _ .vmem, ⟨16, _⟩ => ⟨S3x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x256, .bf16⟩
  | .local _ .vmem, ⟨28, _⟩ => ⟨S256x512, .bf16⟩
  | .local _ .vmem, ⟨29, _⟩ => ⟨S256x1024, .bf16⟩
  | .local _ .vmem, ⟨30, _⟩ => ⟨S256x1024, .bf16⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_1 : Ref sig .tc := ⟨.hbm, 38, rfl⟩
abbrev main_v4 : Ref sig .tc := ⟨.hbm, 39, rfl⟩
abbrev main_v5 : Ref sig .tc := ⟨.hbm, 40, rfl⟩
abbrev main_cst_2 : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_cst : Ref sig .tc := ⟨.hbm, 46, rfl⟩
abbrev main_call1_v3 : Ref sig .tc := ⟨.hbm, 47, rfl⟩
abbrev main_call1_v4 : Ref sig .tc := ⟨.hbm, 48, rfl⟩
abbrev main_call1_cst_0 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_v15 : Ref sig .tc := ⟨.hbm, 61, rfl⟩
abbrev main_call1_v16 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_3 : Ref sig .tc := ⟨.hbm, 98, rfl⟩
abbrev main_cst_4 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_cst : Ref sig .tc := ⟨.hbm, 103, rfl⟩
abbrev main_call2_v3 : Ref sig .tc := ⟨.hbm, 104, rfl⟩
abbrev main_call2_v4 : Ref sig .tc := ⟨.hbm, 105, rfl⟩
abbrev main_call2_cst_0 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_v15 : Ref sig .tc := ⟨.hbm, 118, rfl⟩
abbrev main_call2_v16 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_cst_5 : Ref sig .tc := ⟨.hbm, 132, rfl⟩
abbrev main_v53 : Ref sig .tc := ⟨.hbm, 133, rfl⟩
abbrev main_cst_6 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_c_7 : Ref sig .tc := ⟨.hbm, 151, rfl⟩
abbrev main_call3_v0 : Ref sig .tc := ⟨.hbm, 152, rfl⟩
abbrev main_call3_c : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_v5 : Ref sig .tc := ⟨.hbm, 160, rfl⟩
abbrev main_call3_v6 : Ref sig .tc := ⟨.hbm, 161, rfl⟩
abbrev main_call3_c_2 : Ref sig .tc := ⟨.hbm, 162, rfl⟩
abbrev main_call3_v7 : Ref sig .tc := ⟨.hbm, 163, rfl⟩
abbrev main_call3_v8 : Ref sig .tc := ⟨.hbm, 164, rfl⟩
abbrev main_call3_c_3 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_v70 : Ref sig .tc := ⟨.hbm, 172, rfl⟩
abbrev main_v71 : Ref sig .tc := ⟨.hbm, 173, rfl⟩
abbrev main_cst_8 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_c_9 : Ref sig .tc := ⟨.hbm, 178, rfl⟩
abbrev main_v75 : Ref sig .tc := ⟨.hbm, 179, rfl⟩
abbrev main_v76 : Ref sig .tc := ⟨.hbm, 180, rfl⟩
abbrev main_c_10 : Ref sig .tc := ⟨.hbm, 181, rfl⟩
abbrev main_call4_v0 : Ref sig .tc := ⟨.hbm, 182, rfl⟩
abbrev main_call4_c : Ref sig .tc := ⟨.hbm, 183, rfl⟩
abbrev main_call4_v1 : Ref sig .tc := ⟨.hbm, 184, rfl⟩
abbrev main_call4_c_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_c_1 : Ref sig .tc := ⟨.hbm, 189, rfl⟩
abbrev main_call4_v5 : Ref sig .tc := ⟨.hbm, 190, rfl⟩
abbrev main_call4_v6 : Ref sig .tc := ⟨.hbm, 191, rfl⟩
abbrev main_call4_c_2 : Ref sig .tc := ⟨.hbm, 192, rfl⟩
abbrev main_call4_v7 : Ref sig .tc := ⟨.hbm, 193, rfl⟩
abbrev main_call4_v8 : Ref sig .tc := ⟨.hbm, 194, rfl⟩
abbrev main_call4_c_3 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_v12 : Ref sig .tc := ⟨.hbm, 199, rfl⟩
abbrev main_call4_v13 : Ref sig .tc := ⟨.hbm, 200, rfl⟩
abbrev main_call4_v14 : Ref sig .tc := ⟨.hbm, 201, rfl⟩
abbrev main_v77 : Ref sig .tc := ⟨.hbm, 202, rfl⟩
abbrev main_c_11 : Ref sig .tc := ⟨.hbm, 203, rfl⟩
abbrev main_v78 : Ref sig .tc := ⟨.hbm, 204, rfl⟩
abbrev main_v79 : Ref sig .tc := ⟨.hbm, 205, rfl⟩
abbrev main_cst_12 : Ref sig .tc := ⟨.hbm, 206, rfl⟩
abbrev main_cst_13 : Ref sig .tc := ⟨.hbm, 207, rfl⟩
abbrev main_call5_v0 : Ref sig .tc := ⟨.hbm, 208, rfl⟩
abbrev main_call5_v1 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_call6_v0 : Ref sig .tc := ⟨.hbm, 213, rfl⟩
abbrev main_call6_v1 : Ref sig .tc := ⟨.hbm, 214, rfl⟩
abbrev main_v83 : Ref sig .tc := ⟨.hbm, 215, rfl⟩
abbrev main_v84 : Ref sig .tc := ⟨.hbm, 216, rfl⟩
abbrev main_c_14 : Ref sig .tc := ⟨.hbm, 217, rfl⟩
abbrev main_v85 : Ref sig .tc := ⟨.hbm, 218, rfl⟩
abbrev main_v86 : Ref sig .tc := ⟨.hbm, 219, rfl⟩
abbrev main_cst_15 : Ref sig .tc := ⟨.hbm, 220, rfl⟩
abbrev main_cst_16 : Ref sig .tc := ⟨.hbm, 221, rfl⟩
abbrev main_call7_v0 : Ref sig .tc := ⟨.hbm, 222, rfl⟩
abbrev main_call7_v1 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_v94 : Ref sig .tc := ⟨.hbm, 231, rfl⟩
abbrev main_v95 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_cst_17 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_v111 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg13_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem12_0 : DmaSem sig := 28
abbrev cc1_sem13_0 : DmaSem sig := 29
abbrev cc1_sem13_1 : DmaSem sig := 30

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S3x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S3x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 1 → Memref sig .tc .vmem S512x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S256x512 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S256x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== Reference11Ideal.lean ====
abbrev S8192x12288 : Shape := ⟨2, ![8192, 12288]⟩
abbrev S3x12288 : Shape := ⟨2, ![3, 12288]⟩
abbrev S12288 : Shape := ⟨1, ![12288]⟩
abbrev S33x64 : Shape := ⟨2, ![33, 64]⟩
abbrev S64 : Shape := ⟨1, ![64]⟩
abbrev S64x64 : Shape := ⟨2, ![64, 64]⟩
abbrev S64x8192 : Shape := ⟨2, ![64, 8192]⟩
abbrev S4096 : Shape := ⟨1, ![4096]⟩
abbrev S4096x12288 : Shape := ⟨2, ![4096, 12288]⟩
abbrev S16x256x12288 : Shape := ⟨3, ![16, 256, 12288]⟩
abbrev S_ : Shape := ⟨0, ![]⟩
abbrev S16x1x12288 : Shape := ⟨3, ![16, 1, 12288]⟩
abbrev S16x255x12288 : Shape := ⟨3, ![16, 255, 12288]⟩
abbrev S1x12288 : Shape := ⟨2, ![1, 12288]⟩
abbrev S1x1x12288 : Shape := ⟨3, ![1, 1, 12288]⟩
abbrev S16x256x4096 : Shape := ⟨3, ![16, 256, 4096]⟩
abbrev S255 : Shape := ⟨1, ![255]⟩
abbrev S1 : Shape := ⟨1, ![1]⟩
abbrev S256 : Shape := ⟨1, ![256]⟩
abbrev S256x1 : Shape := ⟨2, ![256, 1]⟩
abbrev S15 : Shape := ⟨1, ![15]⟩
abbrev S16 : Shape := ⟨1, ![16]⟩
abbrev S1x16 : Shape := ⟨2, ![1, 16]⟩
abbrev S256x16 : Shape := ⟨2, ![256, 16]⟩
abbrev S256x33 : Shape := ⟨2, ![256, 33]⟩
abbrev S256x64 : Shape := ⟨2, ![256, 64]⟩
abbrev S1x64 : Shape := ⟨2, ![1, 64]⟩
abbrev S256x8192 : Shape := ⟨2, ![256, 8192]⟩
abbrev S256x2x4096 : Shape := ⟨3, ![256, 2, 4096]⟩
abbrev S4095 : Shape := ⟨1, ![4095]⟩
abbrev S1x4096 : Shape := ⟨2, ![1, 4096]⟩
abbrev S256x4096 : Shape := ⟨2, ![256, 4096]⟩
abbrev S256x1x4096 : Shape := ⟨3, ![256, 1, 4096]⟩
abbrev S1x1x4096 : Shape := ⟨3, ![1, 1, 4096]⟩
abbrev S255x1x4096 : Shape := ⟨3, ![255, 1, 4096]⟩
abbrev S255x4096 : Shape := ⟨2, ![255, 4096]⟩
abbrev S512x4096 : Shape := ⟨2, ![512, 4096]⟩
abbrev S257 : Shape := ⟨1, ![257]⟩
abbrev S257x1 : Shape := ⟨2, ![257, 1]⟩
abbrev S512 : Shape := ⟨1, ![512]⟩
abbrev S1x512 : Shape := ⟨2, ![1, 512]⟩
abbrev S257x512 : Shape := ⟨2, ![257, 512]⟩
abbrev S257x256 : Shape := ⟨2, ![257, 256]⟩
abbrev S16x4096x257 : Shape := ⟨3, ![16, 4096, 257]⟩
abbrev S16x257x4096 : Shape := ⟨3, ![16, 257, 4096]⟩
abbrev S257x4096 : Shape := ⟨2, ![257, 4096]⟩
abbrev S1x257x4096 : Shape := ⟨3, ![1, 257, 4096]⟩
abbrev S16x4096x256 : Shape := ⟨3, ![16, 4096, 256]⟩
abbrev S4096x4096 : Shape := ⟨2, ![4096, 4096]⟩

abbrev nBuf : Space → Nat
  | .hbm => 318
  | .vmem => 0
  | .smem => 0
  | _ => 0

abbrev hbmTy0_0 (i : Nat) : BufTy := match i % 128 with
  | 0 => ⟨S8192x12288, .f32⟩
  | 1 => ⟨S3x12288, .f32⟩
  | 2 => ⟨S12288, .f32⟩
  | 3 => ⟨S33x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x8192, .f32⟩
  | 10 => ⟨S64, .f32⟩
  | 11 => ⟨S4096, .f32⟩
  | 12 => ⟨S4096x12288, .f32⟩
  | 13 => ⟨S16x256x12288, .f32⟩
  | 14 => ⟨S_, .f32⟩
  | 15 => ⟨S16x1x12288, .f32⟩
  | 16 => ⟨S16x255x12288, .f32⟩
  | 17 => ⟨S16x256x12288, .f32⟩
  | 18 => ⟨S16x255x12288, .f32⟩
  | 19 => ⟨S16x256x12288, .f32⟩
  | 20 => ⟨S1x12288, .f32⟩
  | 21 => ⟨S12288, .f32⟩
  | 22 => ⟨S1x1x12288, .f32⟩
  | 23 => ⟨S16x256x12288, .f32⟩
  | 24 => ⟨S16x256x12288, .f32⟩
  | 25 => ⟨S1x12288, .f32⟩
  | 26 => ⟨S12288, .f32⟩
  | 27 => ⟨S1x1x12288, .f32⟩
  | 28 => ⟨S16x256x12288, .f32⟩
  | 29 => ⟨S16x256x12288, .f32⟩
  | 30 => ⟨S16x256x12288, .f32⟩
  | 31 => ⟨S1x12288, .f32⟩
  | 32 => ⟨S12288, .f32⟩
  | 33 => ⟨S1x1x12288, .f32⟩
  | 34 => ⟨S16x256x12288, .f32⟩
  | 35 => ⟨S16x256x12288, .f32⟩
  | 36 => ⟨S16x256x12288, .f32⟩
  | 37 => ⟨S1x1x12288, .f32⟩
  | 38 => ⟨S16x256x12288, .f32⟩
  | 39 => ⟨S16x256x12288, .f32⟩
  | 40 => ⟨S16x256x4096, .f32⟩
  | 41 => ⟨S16x256x4096, .f32⟩
  | 42 => ⟨S16x256x4096, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S255, .f32⟩
  | 51 => ⟨S_, .f32⟩
  | 52 => ⟨S255, .f32⟩
  | 53 => ⟨S255, .f32⟩
  | 54 => ⟨S1, .f32⟩
  | 55 => ⟨S_, .f32⟩
  | 56 => ⟨S255, .f32⟩
  | 57 => ⟨S255, .f32⟩
  | 58 => ⟨S255, .f32⟩
  | 59 => ⟨S255, .f32⟩
  | 60 => ⟨S1, .f32⟩
  | 61 => ⟨S255, .f32⟩
  | 62 => ⟨S255, .f32⟩
  | 63 => ⟨S255, .f32⟩
  | 64 => ⟨S1, .f32⟩
  | 65 => ⟨S256, .f32⟩
  | 66 => ⟨S256x1, .f32⟩
  | 67 => ⟨S256, .f32⟩
  | 68 => ⟨S256x1, .f32⟩
  | 69 => ⟨S_, .f32⟩
  | 70 => ⟨S256x1, .f32⟩
  | 71 => ⟨S256x1, .f32⟩
  | 72 => ⟨S_, .f32⟩
  | 73 => ⟨S_, .i32⟩
  | 74 => ⟨S_, .f32⟩
  | 75 => ⟨S_, .f32⟩
  | 76 => ⟨S_, .f32⟩
  | 77 => ⟨S_, .f32⟩
  | 78 => ⟨S_, .f32⟩
  | 79 => ⟨S15, .f32⟩
  | 80 => ⟨S_, .f32⟩
  | 81 => ⟨S15, .f32⟩
  | 82 => ⟨S15, .f32⟩
  | 83 => ⟨S1, .f32⟩
  | 84 => ⟨S_, .f32⟩
  | 85 => ⟨S15, .f32⟩
  | 86 => ⟨S15, .f32⟩
  | 87 => ⟨S15, .f32⟩
  | 88 => ⟨S15, .f32⟩
  | 89 => ⟨S1, .f32⟩
  | 90 => ⟨S15, .f32⟩
  | 91 => ⟨S15, .f32⟩
  | 92 => ⟨S15, .f32⟩
  | 93 => ⟨S1, .f32⟩
  | 94 => ⟨S16, .f32⟩
  | 95 => ⟨S1x16, .f32⟩
  | 96 => ⟨S256x16, .f32⟩
  | 97 => ⟨S256x16, .f32⟩
  | 98 => ⟨S256x16, .f32⟩
  | 99 => ⟨S256x16, .f32⟩
  | 100 => ⟨S256x16, .f32⟩
  | 101 => ⟨S256x16, .f32⟩
  | 102 => ⟨S256x33, .f32⟩
  | 103 => ⟨S256x64, .f32⟩
  | 104 => ⟨S1x64, .f32⟩
  | 105 => ⟨S256x64, .f32⟩
  | 106 => ⟨S256x64, .f32⟩
  | 107 => ⟨S1x64, .f32⟩
  | 108 => ⟨S256x64, .f32⟩
  | 109 => ⟨S256x64, .f32⟩
  | 110 => ⟨S256x64, .f32⟩
  | 111 => ⟨S256x64, .f32⟩
  | 112 => ⟨S1x64, .f32⟩
  | 113 => ⟨S256x64, .f32⟩
  | 114 => ⟨S256x64, .f32⟩
  | 115 => ⟨S1x64, .f32⟩
  | 116 => ⟨S256x64, .f32⟩
  | 117 => ⟨S256x64, .f32⟩
  | 118 => ⟨S256x64, .f32⟩
  | 119 => ⟨S256x64, .f32⟩
  | 120 => ⟨S1x64, .f32⟩
  | 121 => ⟨S256x64, .f32⟩
  | 122 => ⟨S256x64, .f32⟩
  | 123 => ⟨S1x64, .f32⟩
  | 124 => ⟨S256x64, .f32⟩
  | 125 => ⟨S256x64, .f32⟩
  | 126 => ⟨S256x64, .f32⟩
  | 127 => ⟨S256x8192, .f32⟩
  | _ => ⟨S8192x12288, .f32⟩

abbrev hbmTy0_1 (i : Nat) : BufTy := match i % 128 with
  | 0 => ⟨S256x2x4096, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S4095, .f32⟩
  | 9 => ⟨S_, .f32⟩
  | 10 => ⟨S4095, .f32⟩
  | 11 => ⟨S4095, .f32⟩
  | 12 => ⟨S1, .f32⟩
  | 13 => ⟨S_, .f32⟩
  | 14 => ⟨S4095, .f32⟩
  | 15 => ⟨S4095, .f32⟩
  | 16 => ⟨S4095, .f32⟩
  | 17 => ⟨S4095, .f32⟩
  | 18 => ⟨S1, .f32⟩
  | 19 => ⟨S4095, .f32⟩
  | 20 => ⟨S4095, .f32⟩
  | 21 => ⟨S4095, .f32⟩
  | 22 => ⟨S1, .f32⟩
  | 23 => ⟨S4096, .f32⟩
  | 24 => ⟨S4096, .f32⟩
  | 25 => ⟨S256x1, .f32⟩
  | 26 => ⟨S1x4096, .f32⟩
  | 27 => ⟨S256x4096, .f32⟩
  | 28 => ⟨S256x4096, .f32⟩
  | 29 => ⟨S256x4096, .f32⟩
  | 30 => ⟨S256x4096, .f32⟩
  | 31 => ⟨S256x1x4096, .f32⟩
  | 32 => ⟨S256x2x4096, .f32⟩
  | 33 => ⟨S256x2x4096, .f32⟩
  | 34 => ⟨S256x2x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S1x1x4096, .f32⟩
  | 41 => ⟨S256x2x4096, .f32⟩
  | 42 => ⟨S256x2x4096, .f32⟩
  | 43 => ⟨S256x1x4096, .f32⟩
  | 44 => ⟨S256x4096, .f32⟩
  | 45 => ⟨S_, .f32⟩
  | 46 => ⟨S1x4096, .f32⟩
  | 47 => ⟨S255x1x4096, .f32⟩
  | 48 => ⟨S255x4096, .f32⟩
  | 49 => ⟨S255x4096, .f32⟩
  | 50 => ⟨S512x4096, .f32⟩
  | 51 => ⟨S16x256x4096, .f32⟩
  | 52 => ⟨S257, .i32⟩
  | 53 => ⟨S257x1, .i32⟩
  | 54 => ⟨S512, .i32⟩
  | 55 => ⟨S1x512, .i32⟩
  | 56 => ⟨S257x512, .i32⟩
  | 57 => ⟨S257x512, .i32⟩
  | 58 => ⟨S257x512, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S257x512, .i32⟩
  | 66 => ⟨S257x512, .i32⟩
  | 67 => ⟨S_, .i32⟩
  | 68 => ⟨S257x512, .i32⟩
  | 69 => ⟨S257x512, .i1⟩
  | 70 => ⟨S_, .i32⟩
  | 71 => ⟨S257x512, .i32⟩
  | 72 => ⟨S257x512, .i1⟩
  | 73 => ⟨S_, .i32⟩
  | 74 => ⟨S_, .i1⟩
  | 75 => ⟨S257x512, .i1⟩
  | 76 => ⟨S257x512, .i1⟩
  | 77 => ⟨S257x512, .i1⟩
  | 78 => ⟨S257x512, .i32⟩
  | 79 => ⟨S257x512, .i32⟩
  | 80 => ⟨S257x512, .i32⟩
  | 81 => ⟨S257x512, .f32⟩
  | 82 => ⟨S_, .f32⟩
  | 83 => ⟨S257x512, .f32⟩
  | 84 => ⟨S257x512, .f32⟩
  | 85 => ⟨S_, .i32⟩
  | 86 => ⟨S257x1, .i32⟩
  | 87 => ⟨S257x1, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1x512, .i32⟩
  | 95 => ⟨S1x512, .i32⟩
  | 96 => ⟨S_, .i32⟩
  | 97 => ⟨S1x512, .i32⟩
  | 98 => ⟨S1x512, .i1⟩
  | 99 => ⟨S_, .i32⟩
  | 100 => ⟨S1x512, .i32⟩
  | 101 => ⟨S1x512, .i1⟩
  | 102 => ⟨S_, .i32⟩
  | 103 => ⟨S_, .i1⟩
  | 104 => ⟨S1x512, .i1⟩
  | 105 => ⟨S1x512, .i1⟩
  | 106 => ⟨S1x512, .i1⟩
  | 107 => ⟨S1x512, .i32⟩
  | 108 => ⟨S1x512, .i32⟩
  | 109 => ⟨S1x512, .i32⟩
  | 110 => ⟨S_, .i32⟩
  | 111 => ⟨S1x512, .i32⟩
  | 112 => ⟨S1x512, .i1⟩
  | 113 => ⟨S_, .f32⟩
  | 114 => ⟨S_, .f32⟩
  | 115 => ⟨S1x512, .f32⟩
  | 116 => ⟨S1x512, .f32⟩
  | 117 => ⟨S1x512, .f32⟩
  | 118 => ⟨S1x512, .f32⟩
  | 119 => ⟨S257x512, .f32⟩
  | 120 => ⟨S257x512, .i1⟩
  | 121 => ⟨S257x512, .f32⟩
  | 122 => ⟨S257x512, .f32⟩
  | 123 => ⟨S_, .i32⟩
  | 124 => ⟨S257x1, .i32⟩
  | 125 => ⟨S257x1, .i1⟩
  | 126 => ⟨S_, .i32⟩
  | 127 => ⟨S257x1, .i32⟩
  | _ => ⟨S8192x12288, .f32⟩

abbrev hbmTy0_2 (i : Nat) : BufTy := match i % 128 with
  | 0 => ⟨S257x1, .i1⟩
  | 1 => ⟨S257x1, .i1⟩
  | 2 => ⟨S257x512, .f32⟩
  | 3 => ⟨S_, .f32⟩
  | 4 => ⟨S_, .f32⟩
  | 5 => ⟨S257x512, .i1⟩
  | 6 => ⟨S257x512, .f32⟩
  | 7 => ⟨S257x512, .f32⟩
  | 8 => ⟨S257x256, .f32⟩
  | 9 => ⟨S16x4096x257, .f32⟩
  | 10 => ⟨S16x257x4096, .f32⟩
  | 11 => ⟨S257x256, .f32⟩
  | 12 => ⟨S16x4096x257, .f32⟩
  | 13 => ⟨S16x257x4096, .f32⟩
  | 14 => ⟨S257x4096, .f32⟩
  | 15 => ⟨S257x4096, .f32⟩
  | 16 => ⟨S1x257x4096, .f32⟩
  | 17 => ⟨S16x257x4096, .f32⟩
  | 18 => ⟨S16x257x4096, .f32⟩
  | 19 => ⟨S1x257x4096, .f32⟩
  | 20 => ⟨S16x257x4096, .f32⟩
  | 21 => ⟨S16x257x4096, .f32⟩
  | 22 => ⟨S16x257x4096, .f32⟩
  | 23 => ⟨S1x257x4096, .f32⟩
  | 24 => ⟨S16x257x4096, .f32⟩
  | 25 => ⟨S16x257x4096, .f32⟩
  | 26 => ⟨S1x257x4096, .f32⟩
  | 27 => ⟨S16x257x4096, .f32⟩
  | 28 => ⟨S16x257x4096, .f32⟩
  | 29 => ⟨S16x257x4096, .f32⟩
  | 30 => ⟨S_, .i32⟩
  | 31 => ⟨S257x1, .i32⟩
  | 32 => ⟨S257x1, .i1⟩
  | 33 => ⟨S_, .i32⟩
  | 34 => ⟨S257x1, .i32⟩
  | 35 => ⟨S257x1, .i1⟩
  | 36 => ⟨S257x1, .i1⟩
  | 37 => ⟨S_, .f32⟩
  | 38 => ⟨S_, .f32⟩
  | 39 => ⟨S257x1, .f32⟩
  | 40 => ⟨S257x1, .f32⟩
  | 41 => ⟨S257x1, .f32⟩
  | 42 => ⟨S257x1, .f32⟩
  | 43 => ⟨S257x512, .f32⟩
  | 44 => ⟨S257x512, .f32⟩
  | 45 => ⟨S257x256, .f32⟩
  | 46 => ⟨S16x4096x256, .f32⟩
  | 47 => ⟨S16x256x4096, .f32⟩
  | 48 => ⟨S257x1, .f32⟩
  | 49 => ⟨S257x512, .f32⟩
  | 50 => ⟨S257x512, .f32⟩
  | 51 => ⟨S257x256, .f32⟩
  | 52 => ⟨S16x4096x256, .f32⟩
  | 53 => ⟨S16x256x4096, .f32⟩
  | 54 => ⟨S16x256x4096, .f32⟩
  | 55 => ⟨S1x1x4096, .f32⟩
  | 56 => ⟨S16x256x4096, .f32⟩
  | 57 => ⟨S16x256x4096, .f32⟩
  | 58 => ⟨S16x256x4096, .f32⟩
  | 59 => ⟨S16x256x4096, .f32⟩
  | 60 => ⟨S4096x4096, .f32⟩
  | 61 => ⟨S4096x4096, .bf16⟩
  | _ => ⟨S8192x12288, .f32⟩

abbrev hbmTy (i : Nat) : BufTy := match i / 128 with
  | 0 => hbmTy0_0 i
  | 1 => hbmTy0_1 i
  | 2 => hbmTy0_2 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_cst : Ref sig .tc := ⟨.hbm, 48, rfl⟩
abbrev main_call0_v3 : Ref sig .tc := ⟨.hbm, 49, rfl⟩
abbrev main_call0_v4 : Ref sig .tc := ⟨.hbm, 50, rfl⟩
abbrev main_call0_cst_0 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_v15 : Ref sig .tc := ⟨.hbm, 63, rfl⟩
abbrev main_call0_v16 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_2 : Ref sig .tc := ⟨.hbm, 69, rfl⟩
abbrev main_v34 : Ref sig .tc := ⟨.hbm, 70, rfl⟩
abbrev main_v35 : Ref sig .tc := ⟨.hbm, 71, rfl⟩
abbrev main_cst_3 : Ref sig .tc := ⟨.hbm, 72, rfl⟩
abbrev main_c : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_cst : Ref sig .tc := ⟨.hbm, 77, rfl⟩
abbrev main_call1_v3 : Ref sig .tc := ⟨.hbm, 78, rfl⟩
abbrev main_call1_v4 : Ref sig .tc := ⟨.hbm, 79, rfl⟩
abbrev main_call1_cst_0 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_call1_v15 : Ref sig .tc := ⟨.hbm, 92, rfl⟩
abbrev main_call1_v16 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_4 : Ref sig .tc := ⟨.hbm, 129, rfl⟩
abbrev main_cst_5 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_cst : Ref sig .tc := ⟨.hbm, 134, rfl⟩
abbrev main_call2_v3 : Ref sig .tc := ⟨.hbm, 135, rfl⟩
abbrev main_call2_v4 : Ref sig .tc := ⟨.hbm, 136, rfl⟩
abbrev main_call2_cst_0 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_call2_v15 : Ref sig .tc := ⟨.hbm, 149, rfl⟩
abbrev main_call2_v16 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_cst_6 : Ref sig .tc := ⟨.hbm, 163, rfl⟩
abbrev main_v83 : Ref sig .tc := ⟨.hbm, 164, rfl⟩
abbrev main_cst_7 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_8 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_c_9 : Ref sig .tc := ⟨.hbm, 187, rfl⟩
abbrev main_call4_v0 : Ref sig .tc := ⟨.hbm, 188, rfl⟩
abbrev main_call4_c : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_c_1 : Ref sig .tc := ⟨.hbm, 195, rfl⟩
abbrev main_call4_v5 : Ref sig .tc := ⟨.hbm, 196, rfl⟩
abbrev main_call4_v6 : Ref sig .tc := ⟨.hbm, 197, rfl⟩
abbrev main_call4_c_2 : Ref sig .tc := ⟨.hbm, 198, rfl⟩
abbrev main_call4_v7 : Ref sig .tc := ⟨.hbm, 199, rfl⟩
abbrev main_call4_v8 : Ref sig .tc := ⟨.hbm, 200, rfl⟩
abbrev main_call4_c_3 : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_v104 : Ref sig .tc := ⟨.hbm, 208, rfl⟩
abbrev main_v105 : Ref sig .tc := ⟨.hbm, 209, rfl⟩
abbrev main_cst_10 : Ref sig .tc := ⟨.hbm, 210, rfl⟩
abbrev main_v106 : Ref sig .tc := ⟨.hbm, 211, rfl⟩
abbrev main_v107 : Ref sig .tc := ⟨.hbm, 212, rfl⟩
abbrev main_c_11 : Ref sig .tc := ⟨.hbm, 213, rfl⟩
abbrev main_v108 : Ref sig .tc := ⟨.hbm, 214, rfl⟩
abbrev main_v109 : Ref sig .tc := ⟨.hbm, 215, rfl⟩
abbrev main_c_12 : Ref sig .tc := ⟨.hbm, 216, rfl⟩
abbrev main_call5_v0 : Ref sig .tc := ⟨.hbm, 217, rfl⟩
abbrev main_call5_c : Ref sig .tc := ⟨.hbm, 218, rfl⟩
abbrev main_call5_v1 : Ref sig .tc := ⟨.hbm, 219, rfl⟩
abbrev main_call5_c_0 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_call5_c_1 : Ref sig .tc := ⟨.hbm, 224, rfl⟩
abbrev main_call5_v5 : Ref sig .tc := ⟨.hbm, 225, rfl⟩
abbrev main_call5_v6 : Ref sig .tc := ⟨.hbm, 226, rfl⟩
abbrev main_call5_c_2 : Ref sig .tc := ⟨.hbm, 227, rfl⟩
abbrev main_call5_v7 : Ref sig .tc := ⟨.hbm, 228, rfl⟩
abbrev main_call5_v8 : Ref sig .tc := ⟨.hbm, 229, rfl⟩
abbrev main_call5_c_3 : Ref sig .tc := ⟨.hbm, 230, rfl⟩
abbrev main_call5_v9 : Ref sig .tc := ⟨.hbm, 231, rfl⟩
abbrev main_call5_v10 : Ref sig .tc := ⟨.hbm, 232, rfl⟩
abbrev main_call5_v11 : Ref sig .tc := ⟨.hbm, 233, rfl⟩
abbrev main_call5_v12 : Ref sig .tc := ⟨.hbm, 234, rfl⟩
abbrev main_call5_v13 : Ref sig .tc := ⟨.hbm, 235, rfl⟩
abbrev main_call5_v14 : Ref sig .tc := ⟨.hbm, 236, rfl⟩
abbrev main_v110 : Ref sig .tc := ⟨.hbm, 237, rfl⟩
abbrev main_c_13 : Ref sig .tc := ⟨.hbm, 238, rfl⟩
abbrev main_v111 : Ref sig .tc := ⟨.hbm, 239, rfl⟩
abbrev main_v112 : Ref sig .tc := ⟨.hbm, 240, rfl⟩
abbrev main_cst_14 : Ref sig .tc := ⟨.hbm, 241, rfl⟩
abbrev main_cst_15 : Ref sig .tc := ⟨.hbm, 242, rfl⟩
abbrev main_call6_v0 : Ref sig .tc := ⟨.hbm, 243, rfl⟩
abbrev main_call6_v1 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_call7_v0 : Ref sig .tc := ⟨.hbm, 248, rfl⟩
abbrev main_call7_v1 : Ref sig .tc := ⟨.hbm, 249, rfl⟩
abbrev main_v116 : Ref sig .tc := ⟨.hbm, 250, rfl⟩
abbrev main_c_16 : Ref sig .tc := ⟨.hbm, 251, rfl⟩
abbrev main_v117 : Ref sig .tc := ⟨.hbm, 252, rfl⟩
abbrev main_v118 : Ref sig .tc := ⟨.hbm, 253, rfl⟩
abbrev main_c_17 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_cst_18 : Ref sig .tc := ⟨.hbm, 259, rfl⟩
abbrev main_call8_v0 : Ref sig .tc := ⟨.hbm, 260, rfl⟩
abbrev main_call8_v1 : Ref sig .tc := ⟨.hbm, 261, rfl⟩
abbrev main_call8_v2 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_c_19 : Ref sig .tc := ⟨.hbm, 286, rfl⟩
abbrev main_v146 : Ref sig .tc := ⟨.hbm, 287, rfl⟩
abbrev main_v147 : Ref sig .tc := ⟨.hbm, 288, rfl⟩
abbrev main_c_20 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_cst_21 : Ref sig .tc := ⟨.hbm, 293, rfl⟩
abbrev main_cst_22 : Ref sig .tc := ⟨.hbm, 294, rfl⟩
abbrev main_call9_v0 : Ref sig .tc := ⟨.hbm, 295, rfl⟩
abbrev main_call9_v1 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩

abbrev nD : Nat := 1
abbrev τ : Topo := Topo.v7x

variable {F : FTy → Type} [FloatOps F]
-- ==== Kernel12.lean ====
abbrev S4096x2048 : Shape := ⟨2, ![4096, 2048]⟩
abbrev S2048 : Shape := ⟨1, ![2048]⟩
abbrev S32x64 : Shape := ⟨2, ![32, 64]⟩
abbrev S64x32 : Shape := ⟨2, ![64, 32]⟩
abbrev S1x2048 : Shape := ⟨2, ![1, 2048]⟩
abbrev S256x2048 : Shape := ⟨2, ![256, 2048]⟩
abbrev S256x128 : Shape := ⟨2, ![256, 128]⟩

abbrev nBuf : Space → Nat
  | .hbm => 15
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S32x64, .f32⟩
  | .hbm, ⟨7, _⟩ => ⟨S64x32, .f32⟩
  | .hbm, ⟨8, _⟩ => ⟨S2048, .f32⟩
  | .hbm, ⟨9, _⟩ => ⟨S32x64, .f32⟩
  | .hbm, ⟨10, _⟩ => ⟨S64x32, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x2048 : Shape := ⟨2, ![4096, 2048]⟩
abbrev S2048 : Shape := ⟨1, ![2048]⟩
abbrev S4096x64x32 : Shape := ⟨3, ![4096, 64, 32]⟩
abbrev S4096x32x64 : Shape := ⟨3, ![4096, 32, 64]⟩
abbrev S_ : Shape := ⟨0, ![]⟩
abbrev S4096x32 : Shape := ⟨2, ![4096, 32]⟩
abbrev S4096x32x1 : Shape := ⟨3, ![4096, 32, 1]⟩
abbrev S32x64 : Shape := ⟨2, ![32, 64]⟩
abbrev S1x32x64 : Shape := ⟨3, ![1, 32, 64]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S4096x64x32, .f32⟩
  | .hbm, ⟨7, _⟩ => ⟨S4096x32x64, .f32⟩
  | .hbm, ⟨8, _⟩ => ⟨S4096x64x32, .f32⟩
  | .hbm, ⟨9, _⟩ => ⟨S4096x32x64, .f32⟩
  | .hbm, ⟨10, _⟩ => ⟨S4096x32x64, .f32⟩
  | .hbm, ⟨11, _⟩ => ⟨S_, .f32⟩
  | .hbm, ⟨12, _⟩ => ⟨S4096x32, .f32⟩
  | .hbm, ⟨13, _⟩ => ⟨S4096x32x1, .f32⟩
  | .hbm, ⟨14, _⟩ => ⟨S_, .f32⟩
  | .hbm, ⟨15, _⟩ => ⟨S4096x32x1, .f32⟩
  | .hbm, ⟨16, _⟩ => ⟨S4096x32x1, .f32⟩
  | .hbm, ⟨17, _⟩ => ⟨S4096x32x64, .f32⟩
  | .hbm, ⟨18, _⟩ => ⟨S4096x32x64, .f32⟩
  | .hbm, ⟨19, _⟩ => ⟨S4096x32x64, .f32⟩
  | .hbm, ⟨20, _⟩ => ⟨S_, .f32⟩
  | .hbm, ⟨21, _⟩ => ⟨S4096x32, .f32⟩
  | .hbm, ⟨22, _⟩ => ⟨S4096x32x1, .f32⟩
  | .hbm, ⟨23, _⟩ => ⟨S_, .f32⟩
  | .hbm, ⟨24, _⟩ => ⟨S4096x32x1, .f32⟩
  | .hbm, ⟨25, _⟩ => ⟨S4096x32x1, .f32⟩
  | .hbm, ⟨26, _⟩ => ⟨S4096x32x64, .f32⟩
  | .hbm, ⟨27, _⟩ => ⟨S4096x32x64, .f32⟩
  | .hbm, ⟨28, _⟩ => ⟨S_, .f32⟩
  | .hbm, ⟨29, _⟩ => ⟨S4096x32x1, .f32⟩
  | .hbm, ⟨30, _⟩ => ⟨S4096x32x1, .f32⟩
  | .hbm, ⟨31, _⟩ => ⟨S4096x32x1, .f32⟩
  | .hbm, ⟨32, _⟩ => ⟨S4096x32x64, .f32⟩
  | .hbm, ⟨33, _⟩ => ⟨S4096x32x64, .f32⟩
  | .hbm, ⟨34, _⟩ => ⟨S32x64, .f32⟩
  | .hbm, ⟨35, _⟩ => ⟨S1x32x64, .f32⟩
  | .hbm, ⟨36, _⟩ => ⟨S4096x32x64, .f32⟩
  | .hbm, ⟨37, _⟩ => ⟨S4096x32x64, .f32⟩
  | .hbm, ⟨38, _⟩ => ⟨S32x64, .f32⟩
  | .hbm, ⟨39, _⟩ => ⟨S1x32x64, .f32⟩
  | .hbm, ⟨40, _⟩ => ⟨S4096x32x64, .f32⟩
  | .hbm, ⟨41, _⟩ => ⟨S4096x32x64, .f32⟩
  | .hbm, ⟨42, _⟩ => ⟨S4096x64x32, .f32⟩
  | .hbm, ⟨43, _⟩ => ⟨S4096x32x64, .f32⟩
  | .hbm, ⟨44, _⟩ => ⟨S4096x32x64, .f32⟩
  | .hbm, ⟨45, _⟩ => ⟨S4096x64x32, .f32⟩
  | .hbm, ⟨46, _⟩ => ⟨S4096x32x64, .f32⟩
  | .hbm, ⟨47, _⟩ => ⟨S4096x32x64, .f32⟩
  | .hbm, ⟨48, _⟩ => ⟨S4096x64x32, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel13.lean ====
abbrev S8192x2048 : Shape := ⟨2, ![8192, 2048]⟩
abbrev S31x2048 : Shape := ⟨2, ![31, 2048]⟩
abbrev S2048 : Shape := ⟨1, ![2048]⟩
abbrev S4096x2048 : Shape := ⟨2, ![4096, 2048]⟩
abbrev S16x256x2048 : Shape := ⟨3, ![16, 256, 2048]⟩
abbrev S256x16x2048 : Shape := ⟨3, ![256, 16, 2048]⟩
abbrev S4x1024x2048 : Shape := ⟨3, ![4, 1024, 2048]⟩
abbrev S1024x4x2048 : Shape := ⟨3, ![1024, 4, 2048]⟩
abbrev S31x4x512 : Shape := ⟨3, ![31, 4, 512]⟩
abbrev S4x31x512 : Shape := ⟨3, ![4, 31, 512]⟩
abbrev S1x2048 : Shape := ⟨2, ![1, 2048]⟩
abbrev S1x4x512 : Shape := ⟨3, ![1, 4, 512]⟩
abbrev S4x1x512 : Shape := ⟨3, ![4, 1, 512]⟩
abbrev S256x2048 : Shape := ⟨2, ![256, 2048]⟩
abbrev S4x768x512 : Shape := ⟨3, ![4, 768, 512]⟩
abbrev S4x256x512 : Shape := ⟨3, ![4, 256, 512]⟩
abbrev S256x512 : Shape := ⟨2, ![256, 512]⟩
abbrev S1x256x512 : Shape := ⟨3, ![1, 256, 512]⟩
abbrev S256x1 : Shape := ⟨2, ![256, 1]⟩
abbrev S1x1x512 : Shape := ⟨3, ![1, 1, 512]⟩
abbrev S1x512 : Shape := ⟨2, ![1, 512]⟩
abbrev S256 : Shape := ⟨1, ![256]⟩

abbrev nBuf : Space → Nat
  | .hbm => 26
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S16x256x2048, .f32⟩
  | .hbm, ⟨7, _⟩ => ⟨S256x16x2048, .f32⟩
  | .hbm, ⟨8, _⟩ => ⟨S4096x2048, .f32⟩
  | .hbm, ⟨9, _⟩ => ⟨S4096x2048, .f32⟩
  | .hbm, ⟨10, _⟩ => ⟨S4x1024x2048, .f32⟩
  | .hbm, ⟨11, _⟩ => ⟨S1024x4x2048, .f32⟩
  | .hbm, ⟨12, _⟩ => ⟨S4096x2048, .f32⟩
  | .hbm, ⟨13, _⟩ => ⟨S8192x2048, .f32⟩
  | .hbm, ⟨14, _⟩ => ⟨S31x4x512, .f32⟩
  | .hbm, ⟨15, _⟩ => ⟨S4x31x512, .f32⟩
  | .hbm, ⟨16, _⟩ => ⟨S1x2048, .f32⟩
  | .hbm, ⟨17, _⟩ => ⟨S1x4x512, .f32⟩
  | .hbm, ⟨18, _⟩ => ⟨S4x1x512, .f32⟩
  | .hbm, ⟨19, _⟩ => ⟨S1x2048, .f32⟩
  | .hbm, ⟨20, _⟩ => ⟨S1x4x512, .f32⟩
  | .hbm, ⟨21, _⟩ => ⟨S4x1x512, .f32⟩
  | .hbm, ⟨22, _⟩ => ⟨S1x2048, .f32⟩
  | .hbm, ⟨23, _⟩ => ⟨S1x4x512, .f32⟩
  | .hbm, ⟨24, _⟩ => ⟨S4x1x512, .f32⟩
  | .hbm, ⟨25, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S4x31x512, .f32⟩
  | .local _ .vmem, ⟨7, _⟩ => ⟨S4x1x512, .f32⟩
  | .local _ .vmem, ⟨8, _⟩ => ⟨S4x1x512, .f32⟩
  | .local _ .vmem, ⟨9, _⟩ => ⟨S4x1x512, .f32⟩
  | .local _ .vmem, ⟨10, _⟩ => ⟨S256x2048, .bf16⟩
  | .local _ .vmem, ⟨11, _⟩ => ⟨S256x2048, .bf16⟩
  | .local _ .vmem, ⟨12, _⟩ => ⟨S4x768x512, .f32⟩
  | .local _ .vmem, ⟨13, _⟩ => ⟨S4x256x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_52 : BitVec 32 := 0#32
  let c4_i32 : BitVec 32 := 4#32
  let v83 : BitVec 32 := Scalar.addi c0_i32_52 c4_i32
  let c1_i32 : BitVec 32 := 1#32
  ⟨c0_i32_52, v83, c1_i32⟩
def k0_off1 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v221 : Index := Scalar.indexCast arg11
  let c16 : Index := 16#32
  let c0_130 : Index := 0#32
  ![v221.toNat, 16, 0]
def k0_off2 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v224 : Index := Scalar.indexCast arg11
  let c0_131 : Index := 0#32
  let c0_132 : Index := 0#32
  ![v224.toNat, 0, 0]
def k0_off3 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v229 : Index := Scalar.indexCast arg11
  let c32 : Index := 32#32
  let c0_133 : Index := 0#32
  ![v229.toNat, 32, 0]
def k0_off4 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v232 : Index := Scalar.indexCast arg11
  let c1_134 : Index := 1#32
  let c0_135 : Index := 0#32
  ![v232.toNat, 1, 0]
def k0_off5 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v238 : Index := Scalar.indexCast arg11
  let c48 : Index := 48#32
  let c0_136 : Index := 0#32
  ![v238.toNat, 48, 0]
def k0_off6 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v241 : Index := Scalar.indexCast arg11
  let c2_137 : Index := 2#32
  let c0_138 : Index := 0#32
  ![v241.toNat, 2, 0]
def k0_off7 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v247 : Index := Scalar.indexCast arg11
  let c64 : Index := 64#32
  let c0_139 : Index := 0#32
  ![v247.toNat, 64, 0]
def k0_off8 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v250 : Index := Scalar.indexCast arg11
  let c3_140 : Index := 3#32
  let c0_141 : Index := 0#32
  ![v250.toNat, 3, 0]
def k0_off9 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v256 : Index := Scalar.indexCast arg11
  let c80 : Index := 80#32
  let c0_142 : Index := 0#32
  ![v256.toNat, 80, 0]
def k0_off10 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v259 : Index := Scalar.indexCast arg11
  let c4 : Index := 4#32
  let c0_143 : Index := 0#32
  ![v259.toNat, 4, 0]
def k0_off11 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v265 : Index := Scalar.indexCast arg11
  let c96 : Index := 96#32
  let c0_144 : Index := 0#32
  ![v265.toNat, 96, 0]
def k0_off12 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v268 : Index := Scalar.indexCast arg11
  let c5 : Index := 5#32
  let c0_145 : Index := 0#32
  ![v268.toNat, 5, 0]
def k0_off13 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v274 : Index := Scalar.indexCast arg11
  let c112 : Index := 112#32
  let c0_146 : Index := 0#32
  ![v274.toNat, 112, 0]
def k0_off14 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v277 : Index := Scalar.indexCast arg11
  let c6 : Index := 6#32
  let c0_147 : Index := 0#32
  ![v277.toNat, 6, 0]
def k0_off15 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v283 : Index := Scalar.indexCast arg11
  let c128 : Index := 128#32
  let c0_148 : Index := 0#32
  ![v283.toNat, 128, 0]
def k0_off16 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v286 : Index := Scalar.indexCast arg11
  let c7 : Index := 7#32
  let c0_149 : Index := 0#32
  ![v286.toNat, 7, 0]
def k0_off17 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v292 : Index := Scalar.indexCast arg11
  let c144 : Index := 144#32
  let c0_150 : Index := 0#32
  ![v292.toNat, 144, 0]
def k0_off18 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v295 : Index := Scalar.indexCast arg11
  let c8 : Index := 8#32
  let c0_151 : Index := 0#32
  ![v295.toNat, 8, 0]
def k0_off19 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v301 : Index := Scalar.indexCast arg11
  let c160 : Index := 160#32
  let c0_152 : Index := 0#32
  ![v301.toNat, 160, 0]
def k0_off20 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v304 : Index := Scalar.indexCast arg11
  let c9 : Index := 9#32
  let c0_153 : Index := 0#32
  ![v304.toNat, 9, 0]
def k0_off21 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v310 : Index := Scalar.indexCast arg11
  let c176 : Index := 176#32
  let c0_154 : Index := 0#32
  ![v310.toNat, 176, 0]
def k0_off22 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v313 : Index := Scalar.indexCast arg11
  let c10 : Index := 10#32
  let c0_155 : Index := 0#32
  ![v313.toNat, 10, 0]
def k0_off23 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v319 : Index := Scalar.indexCast arg11
  let c192 : Index := 192#32
  let c0_156 : Index := 0#32
  ![v319.toNat, 192, 0]
def k0_off24 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v322 : Index := Scalar.indexCast arg11
  let c11 : Index := 11#32
  let c0_157 : Index := 0#32
  ![v322.toNat, 11, 0]
def k0_off25 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v328 : Index := Scalar.indexCast arg11
  let c208 : Index := 208#32
  let c0_158 : Index := 0#32
  ![v328.toNat, 208, 0]
def k0_off26 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v331 : Index := Scalar.indexCast arg11
  let c12 : Index := 12#32
  let c0_159 : Index := 0#32
  ![v331.toNat, 12, 0]
def k0_off27 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v337 : Index := Scalar.indexCast arg11
  let c224 : Index := 224#32
  let c0_160 : Index := 0#32
  ![v337.toNat, 224, 0]
def k0_off28 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v340 : Index := Scalar.indexCast arg11
  let c13 : Index := 13#32
  let c0_161 : Index := 0#32
  ![v340.toNat, 13, 0]
def k0_off29 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v346 : Index := Scalar.indexCast arg11
  let c240 : Index := 240#32
  let c0_162 : Index := 0#32
  ![v346.toNat, 240, 0]
def k0_off30 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v349 : Index := Scalar.indexCast arg11
  let c14 : Index := 14#32
  let c0_163 : Index := 0#32
  ![v349.toNat, 14, 0]
def k0_off31 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v355 : Index := Scalar.indexCast arg11
  let c256_164 : Index := 256#32
  let c0_165 : Index := 0#32
  ![v355.toNat, 256, 0]
def k0_off32 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v358 : Index := Scalar.indexCast arg11
  let c15 : Index := 15#32
  let c0_166 : Index := 0#32
  ![v358.toNat, 15, 0]
def k0_off33 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v364 : Index := Scalar.indexCast arg11
  let c272 : Index := 272#32
  let c0_167 : Index := 0#32
  ![v364.toNat, 272, 0]
def k0_off34 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v367 : Index := Scalar.indexCast arg11
  let c16_168 : Index := 16#32
  let c0_169 : Index := 0#32
  ![v367.toNat, 16, 0]
def k0_off35 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v373 : Index := Scalar.indexCast arg11
  let c288 : Index := 288#32
  let c0_170 : Index := 0#32
  ![v373.toNat, 288, 0]
def k0_off36 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v376 : Index := Scalar.indexCast arg11
  let c17 : Index := 17#32
  let c0_171 : Index := 0#32
  ![v376.toNat, 17, 0]
def k0_off37 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v382 : Index := Scalar.indexCast arg11
  let c304 : Index := 304#32
  let c0_172 : Index := 0#32
  ![v382.toNat, 304, 0]
def k0_off38 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v385 : Index := Scalar.indexCast arg11
  let c18 : Index := 18#32
  let c0_173 : Index := 0#32
  ![v385.toNat, 18, 0]
def k0_off39 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v391 : Index := Scalar.indexCast arg11
  let c320 : Index := 320#32
  let c0_174 : Index := 0#32
  ![v391.toNat, 320, 0]
def k0_off40 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v394 : Index := Scalar.indexCast arg11
  let c19 : Index := 19#32
  let c0_175 : Index := 0#32
  ![v394.toNat, 19, 0]
def k0_off41 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v400 : Index := Scalar.indexCast arg11
  let c336 : Index := 336#32
  let c0_176 : Index := 0#32
  ![v400.toNat, 336, 0]
def k0_off42 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v403 : Index := Scalar.indexCast arg11
  let c20 : Index := 20#32
  let c0_177 : Index := 0#32
  ![v403.toNat, 20, 0]
def k0_off43 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v409 : Index := Scalar.indexCast arg11
  let c352 : Index := 352#32
  let c0_178 : Index := 0#32
  ![v409.toNat, 352, 0]
def k0_off44 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v412 : Index := Scalar.indexCast arg11
  let c21 : Index := 21#32
  let c0_179 : Index := 0#32
  ![v412.toNat, 21, 0]
def k0_off45 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v418 : Index := Scalar.indexCast arg11
  let c368 : Index := 368#32
  let c0_180 : Index := 0#32
  ![v418.toNat, 368, 0]
def k0_off46 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v421 : Index := Scalar.indexCast arg11
  let c22 : Index := 22#32
  let c0_181 : Index := 0#32
  ![v421.toNat, 22, 0]
def k0_off47 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v427 : Index := Scalar.indexCast arg11
  let c384 : Index := 384#32
  let c0_182 : Index := 0#32
  ![v427.toNat, 384, 0]
def k0_off48 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v430 : Index := Scalar.indexCast arg11
  let c23 : Index := 23#32
  let c0_183 : Index := 0#32
  ![v430.toNat, 23, 0]
def k0_off49 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v436 : Index := Scalar.indexCast arg11
  let c400 : Index := 400#32
  let c0_184 : Index := 0#32
  ![v436.toNat, 400, 0]
def k0_off50 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v439 : Index := Scalar.indexCast arg11
  let c24 : Index := 24#32
  let c0_185 : Index := 0#32
  ![v439.toNat, 24, 0]
def k0_off51 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v445 : Index := Scalar.indexCast arg11
  let c416 : Index := 416#32
  let c0_186 : Index := 0#32
  ![v445.toNat, 416, 0]
def k0_off52 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v448 : Index := Scalar.indexCast arg11
  let c25 : Index := 25#32
  let c0_187 : Index := 0#32
  ![v448.toNat, 25, 0]
def k0_off53 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v454 : Index := Scalar.indexCast arg11
  let c432 : Index := 432#32
  let c0_188 : Index := 0#32
  ![v454.toNat, 432, 0]
def k0_off54 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v457 : Index := Scalar.indexCast arg11
  let c26 : Index := 26#32
  let c0_189 : Index := 0#32
  ![v457.toNat, 26, 0]
def k0_off55 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v463 : Index := Scalar.indexCast arg11
  let c448 : Index := 448#32
  let c0_190 : Index := 0#32
  ![v463.toNat, 448, 0]
def k0_off56 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v466 : Index := Scalar.indexCast arg11
  let c27 : Index := 27#32
  let c0_191 : Index := 0#32
  ![v466.toNat, 27, 0]
def k0_off57 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v472 : Index := Scalar.indexCast arg11
  let c464 : Index := 464#32
  let c0_192 : Index := 0#32
  ![v472.toNat, 464, 0]
def k0_off58 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v475 : Index := Scalar.indexCast arg11
  let c28 : Index := 28#32
  let c0_193 : Index := 0#32
  ![v475.toNat, 28, 0]
def k0_off59 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v481 : Index := Scalar.indexCast arg11
  let c480 : Index := 480#32
  let c0_194 : Index := 0#32
  ![v481.toNat, 480, 0]
def k0_off60 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v484 : Index := Scalar.indexCast arg11
  let c29 : Index := 29#32
  let c0_195 : Index := 0#32
  ![v484.toNat, 29, 0]
def k0_off61 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v490 : Index := Scalar.indexCast arg11
  let c496 : Index := 496#32
  let c0_196 : Index := 0#32
  ![v490.toNat, 496, 0]
def k0_off62 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v493 : Index := Scalar.indexCast arg11
  let c30 : Index := 30#32
  let c0_197 : Index := 0#32
  ![v493.toNat, 30, 0]
def k0_off63 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v499 : Index := Scalar.indexCast arg11
  let c0_198 : Index := 0#32
  let c0_199 : Index := 0#32
  ![v499.toNat, 0, 0]
def k0_off64 (k0_t1 : Fin k0_t1_loop.trips) : Fin 3 → Nat :=
  let c0_i32_52 : BitVec 32 := 0#32
  let c1_i32 : BitVec 32 := 1#32
  let arg11 : BitVec 32 := Scf.iv c0_i32_52 c1_i32 k0_t1
  let v504 : Index := Scalar.indexCast arg11
  let c0_200 : Index := 0#32
  let c0_201 : Index := 0#32
  ![v504.toNat, 0, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x2048 : Shape := ⟨2, ![8192, 2048]⟩
abbrev S31x2048 : Shape := ⟨2, ![31, 2048]⟩
abbrev S2048 : Shape := ⟨1, ![2048]⟩
abbrev S4096x2048 : Shape := ⟨2, ![4096, 2048]⟩
abbrev S16x256x2048 : Shape := ⟨3, ![16, 256, 2048]⟩
abbrev S_ : Shape := ⟨0, ![]⟩
abbrev S16x286x2048 : Shape := ⟨3, ![16, 286, 2048]⟩
abbrev S1x2048 : Shape := ⟨2, ![1, 2048]⟩
abbrev S1x1x2048 : Shape := ⟨3, ![1, 1, 2048]⟩
abbrev S16x256 : Shape := ⟨2, ![16, 256]⟩
abbrev S16x256x1 : Shape := ⟨3, ![16, 256, 1]⟩
abbrev S256x16x2048 : Shape := ⟨3, ![256, 16, 2048]⟩

abbrev nBuf : Space → Nat
  | .hbm => 270
  | .vmem => 0
  | .smem => 0
  | _ => 0

abbrev hbmTy0_0 (i : Nat) : BufTy := match i % 128 with
  | 0 => ⟨S8192x2048, .f32⟩
  | 1 => ⟨S31x2048, .f32⟩
  | 2 => ⟨S2048, .f32⟩
  | 3 => ⟨S2048, .f32⟩
  | 4 => ⟨S2048, .f32⟩
  | 5 => ⟨S4096x2048, .f32⟩
  | 6 => ⟨S16x256x2048, .f32⟩
  | 7 => ⟨S_, .i32⟩
  | 8 => ⟨S_, .f32⟩
  | 9 => ⟨S16x286x2048, .f32⟩
  | 10 => ⟨S16x256x2048, .f32⟩
  | 11 => ⟨S1x2048, .f32⟩
  | 12 => ⟨S2048, .f32⟩
  | 13 => ⟨S1x1x2048, .f32⟩
  | 14 => ⟨S16x256x2048, .f32⟩
  | 15 => ⟨S16x256x2048, .f32⟩
  | 16 => ⟨S1x1x2048, .f32⟩
  | 17 => ⟨S16x256x2048, .f32⟩
  | 18 => ⟨S16x256x2048, .f32⟩
  | 19 => ⟨S16x256x2048, .f32⟩
  | 20 => ⟨S1x2048, .f32⟩
  | 21 => ⟨S2048, .f32⟩
  | 22 => ⟨S1x1x2048, .f32⟩
  | 23 => ⟨S16x256x2048, .f32⟩
  | 24 => ⟨S16x256x2048, .f32⟩
  | 25 => ⟨S16x256x2048, .f32⟩
  | 26 => ⟨S16x256x2048, .f32⟩
  | 27 => ⟨S1x2048, .f32⟩
  | 28 => ⟨S2048, .f32⟩
  | 29 => ⟨S1x1x2048, .f32⟩
  | 30 => ⟨S16x256x2048, .f32⟩
  | 31 => ⟨S16x256x2048, .f32⟩
  | 32 => ⟨S16x256x2048, .f32⟩
  | 33 => ⟨S16x256x2048, .f32⟩
  | 34 => ⟨S1x2048, .f32⟩
  | 35 => ⟨S2048, .f32⟩
  | 36 => ⟨S1x1x2048, .f32⟩
  | 37 => ⟨S16x256x2048, .f32⟩
  | 38 => ⟨S16x256x2048, .f32⟩
  | 39 => ⟨S16x256x2048, .f32⟩
  | 40 => ⟨S16x256x2048, .f32⟩
  | 41 => ⟨S1x2048, .f32⟩
  | 42 => ⟨S2048, .f32⟩
  | 43 => ⟨S1x1x2048, .f32⟩
  | 44 => ⟨S16x256x2048, .f32⟩
  | 45 => ⟨S16x256x2048, .f32⟩
  | 46 => ⟨S16x256x2048, .f32⟩
  | 47 => ⟨S16x256x2048, .f32⟩
  | 48 => ⟨S1x2048, .f32⟩
  | 49 => ⟨S2048, .f32⟩
  | 50 => ⟨S1x1x2048, .f32⟩
  | 51 => ⟨S16x256x2048, .f32⟩
  | 52 => ⟨S16x256x2048, .f32⟩
  | 53 => ⟨S16x256x2048, .f32⟩
  | 54 => ⟨S16x256x2048, .f32⟩
  | 55 => ⟨S1x2048, .f32⟩
  | 56 => ⟨S2048, .f32⟩
  | 57 => ⟨S1x1x2048, .f32⟩
  | 58 => ⟨S16x256x2048, .f32⟩
  | 59 => ⟨S16x256x2048, .f32⟩
  | 60 => ⟨S16x256x2048, .f32⟩
  | 61 => ⟨S16x256x2048, .f32⟩
  | 62 => ⟨S1x2048, .f32⟩
  | 63 => ⟨S2048, .f32⟩
  | 64 => ⟨S1x1x2048, .f32⟩
  | 65 => ⟨S16x256x2048, .f32⟩
  | 66 => ⟨S16x256x2048, .f32⟩
  | 67 => ⟨S16x256x2048, .f32⟩
  | 68 => ⟨S16x256x2048, .f32⟩
  | 69 => ⟨S1x2048, .f32⟩
  | 70 => ⟨S2048, .f32⟩
  | 71 => ⟨S1x1x2048, .f32⟩
  | 72 => ⟨S16x256x2048, .f32⟩
  | 73 => ⟨S16x256x2048, .f32⟩
  | 74 => ⟨S16x256x2048, .f32⟩
  | 75 => ⟨S16x256x2048, .f32⟩
  | 76 => ⟨S1x2048, .f32⟩
  | 77 => ⟨S2048, .f32⟩
  | 78 => ⟨S1x1x2048, .f32⟩
  | 79 => ⟨S16x256x2048, .f32⟩
  | 80 => ⟨S16x256x2048, .f32⟩
  | 81 => ⟨S16x256x2048, .f32⟩
  | 82 => ⟨S16x256x2048, .f32⟩
  | 83 => ⟨S1x2048, .f32⟩
  | 84 => ⟨S2048, .f32⟩
  | 85 => ⟨S1x1x2048, .f32⟩
  | 86 => ⟨S16x256x2048, .f32⟩
  | 87 => ⟨S16x256x2048, .f32⟩
  | 88 => ⟨S16x256x2048, .f32⟩
  | 89 => ⟨S16x256x2048, .f32⟩
  | 90 => ⟨S1x2048, .f32⟩
  | 91 => ⟨S2048, .f32⟩
  | 92 => ⟨S1x1x2048, .f32⟩
  | 93 => ⟨S16x256x2048, .f32⟩
  | 94 => ⟨S16x256x2048, .f32⟩
  | 95 => ⟨S16x256x2048, .f32⟩
  | 96 => ⟨S16x256x2048, .f32⟩
  | 97 => ⟨S1x2048, .f32⟩
  | 98 => ⟨S2048, .f32⟩
  | 99 => ⟨S1x1x2048, .f32⟩
  | 100 => ⟨S16x256x2048, .f32⟩
  | 101 => ⟨S16x256x2048, .f32⟩
  | 102 => ⟨S16x256x2048, .f32⟩
  | 103 => ⟨S16x256x2048, .f32⟩
  | 104 => ⟨S1x2048, .f32⟩
  | 105 => ⟨S2048, .f32⟩
  | 106 => ⟨S1x1x2048, .f32⟩
  | 107 => ⟨S16x256x2048, .f32⟩
  | 108 => ⟨S16x256x2048, .f32⟩
  | 109 => ⟨S16x256x2048, .f32⟩
  | 110 => ⟨S16x256x2048, .f32⟩
  | 111 => ⟨S1x2048, .f32⟩
  | 112 => ⟨S2048, .f32⟩
  | 113 => ⟨S1x1x2048, .f32⟩
  | 114 => ⟨S16x256x2048, .f32⟩
  | 115 => ⟨S16x256x2048, .f32⟩
  | 116 => ⟨S16x256x2048, .f32⟩
  | 117 => ⟨S16x256x2048, .f32⟩
  | 118 => ⟨S1x2048, .f32⟩
  | 119 => ⟨S2048, .f32⟩
  | 120 => ⟨S1x1x2048, .f32⟩
  | 121 => ⟨S16x256x2048, .f32⟩
  | 122 => ⟨S16x256x2048, .f32⟩
  | 123 => ⟨S16x256x2048, .f32⟩
  | 124 => ⟨S16x256x2048, .f32⟩
  | 125 => ⟨S1x2048, .f32⟩
  | 126 => ⟨S2048, .f32⟩
  | 127 => ⟨S1x1x2048, .f32⟩
  | _ => ⟨S8192x2048, .f32⟩

abbrev hbmTy0_1 (i : Nat) : BufTy := match i % 128 with
  | 0 => ⟨S16x256x2048, .f32⟩
  | 1 => ⟨S16x256x2048, .f32⟩
  | 2 => ⟨S16x256x2048, .f32⟩
  | 3 => ⟨S16x256x2048, .f32⟩
  | 4 => ⟨S1x2048, .f32⟩
  | 5 => ⟨S2048, .f32⟩
  | 6 => ⟨S1x1x2048, .f32⟩
  | 7 => ⟨S16x256x2048, .f32⟩
  | 8 => ⟨S16x256x2048, .f32⟩
  | 9 => ⟨S16x256x2048, .f32⟩
  | 10 => ⟨S16x256x2048, .f32⟩
  | 11 => ⟨S1x2048, .f32⟩
  | 12 => ⟨S2048, .f32⟩
  | 13 => ⟨S1x1x2048, .f32⟩
  | 14 => ⟨S16x256x2048, .f32⟩
  | 15 => ⟨S16x256x2048, .f32⟩
  | 16 => ⟨S16x256x2048, .f32⟩
  | 17 => ⟨S16x256x2048, .f32⟩
  | 18 => ⟨S1x2048, .f32⟩
  | 19 => ⟨S2048, .f32⟩
  | 20 => ⟨S1x1x2048, .f32⟩
  | 21 => ⟨S16x256x2048, .f32⟩
  | 22 => ⟨S16x256x2048, .f32⟩
  | 23 => ⟨S16x256x2048, .f32⟩
  | 24 => ⟨S16x256x2048, .f32⟩
  | 25 => ⟨S1x2048, .f32⟩
  | 26 => ⟨S2048, .f32⟩
  | 27 => ⟨S1x1x2048, .f32⟩
  | 28 => ⟨S16x256x2048, .f32⟩
  | 29 => ⟨S16x256x2048, .f32⟩
  | 30 => ⟨S16x256x2048, .f32⟩
  | 31 => ⟨S16x256x2048, .f32⟩
  | 32 => ⟨S1x2048, .f32⟩
  | 33 => ⟨S2048, .f32⟩
  | 34 => ⟨S1x1x2048, .f32⟩
  | 35 => ⟨S16x256x2048, .f32⟩
  | 36 => ⟨S16x256x2048, .f32⟩
  | 37 => ⟨S16x256x2048, .f32⟩
  | 38 => ⟨S16x256x2048, .f32⟩
  | 39 => ⟨S1x2048, .f32⟩
  | 40 => ⟨S2048, .f32⟩
  | 41 => ⟨S1x1x2048, .f32⟩
  | 42 => ⟨S16x256x2048, .f32⟩
  | 43 => ⟨S16x256x2048, .f32⟩
  | 44 => ⟨S16x256x2048, .f32⟩
  | 45 => ⟨S16x256x2048, .f32⟩
  | 46 => ⟨S1x2048, .f32⟩
  | 47 => ⟨S2048, .f32⟩
  | 48 => ⟨S1x1x2048, .f32⟩
  | 49 => ⟨S16x256x2048, .f32⟩
  | 50 => ⟨S16x256x2048, .f32⟩
  | 51 => ⟨S16x256x2048, .f32⟩
  | 52 => ⟨S16x256x2048, .f32⟩
  | 53 => ⟨S1x2048, .f32⟩
  | 54 => ⟨S2048, .f32⟩
  | 55 => ⟨S1x1x2048, .f32⟩
  | 56 => ⟨S16x256x2048, .f32⟩
  | 57 => ⟨S16x256x2048, .f32⟩
  | 58 => ⟨S16x256x2048, .f32⟩
  | 59 => ⟨S16x256x2048, .f32⟩
  | 60 => ⟨S1x2048, .f32⟩
  | 61 => ⟨S2048, .f32⟩
  | 62 => ⟨S1x1x2048, .f32⟩
  | 63 => ⟨S16x256x2048, .f32⟩
  | 64 => ⟨S16x256x2048, .f32⟩
  | 65 => ⟨S16x256x2048, .f32⟩
  | 66 => ⟨S16x256x2048, .f32⟩
  | 67 => ⟨S1x2048, .f32⟩
  | 68 => ⟨S2048, .f32⟩
  | 69 => ⟨S1x1x2048, .f32⟩
  | 70 => ⟨S16x256x2048, .f32⟩
  | 71 => ⟨S16x256x2048, .f32⟩
  | 72 => ⟨S16x256x2048, .f32⟩
  | 73 => ⟨S16x256x2048, .f32⟩
  | 74 => ⟨S1x2048, .f32⟩
  | 75 => ⟨S2048, .f32⟩
  | 76 => ⟨S1x1x2048, .f32⟩
  | 77 => ⟨S16x256x2048, .f32⟩
  | 78 => ⟨S16x256x2048, .f32⟩
  | 79 => ⟨S16x256x2048, .f32⟩
  | 80 => ⟨S16x256x2048, .f32⟩
  | 81 => ⟨S1x2048, .f32⟩
  | 82 => ⟨S2048, .f32⟩
  | 83 => ⟨S1x1x2048, .f32⟩
  | 84 => ⟨S16x256x2048, .f32⟩
  | 85 => ⟨S16x256x2048, .f32⟩
  | 86 => ⟨S16x256x2048, .f32⟩
  | 87 => ⟨S16x256x2048, .f32⟩
  | 88 => ⟨S1x2048, .f32⟩
  | 89 => ⟨S2048, .f32⟩
  | 90 => ⟨S1x1x2048, .f32⟩
  | 91 => ⟨S16x256x2048, .f32⟩
  | 92 => ⟨S16x256x2048, .f32⟩
  | 93 => ⟨S16x256x2048, .f32⟩
  | 94 => ⟨S16x256x2048, .f32⟩
  | 95 => ⟨S1x2048, .f32⟩
  | 96 => ⟨S2048, .f32⟩
  | 97 => ⟨S1x1x2048, .f32⟩
  | 98 => ⟨S16x256x2048, .f32⟩
  | 99 => ⟨S16x256x2048, .f32⟩
  | 100 => ⟨S16x256x2048, .f32⟩
  | 101 => ⟨S_, .f32⟩
  | 102 => ⟨S16x256, .f32⟩
  | 103 => ⟨S16x256x1, .f32⟩
  | 104 => ⟨S_, .f32⟩
  | 105 => ⟨S16x256x1, .f32⟩
  | 106 => ⟨S16x256x1, .f32⟩
  | 107 => ⟨S16x256x2048, .f32⟩
  | 108 => ⟨S16x256x2048, .f32⟩
  | 109 => ⟨S16x256x2048, .f32⟩
  | 110 => ⟨S_, .f32⟩
  | 111 => ⟨S16x256, .f32⟩
  | 112 => ⟨S16x256x1, .f32⟩
  | 113 => ⟨S_, .f32⟩
  | 114 => ⟨S16x256x1, .f32⟩
  | 115 => ⟨S16x256x1, .f32⟩
  | 116 => ⟨S16x256x2048, .f32⟩
  | 117 => ⟨S16x256x2048, .f32⟩
  | 118 => ⟨S_, .f32⟩
  | 119 => ⟨S16x256x1, .f32⟩
  | 120 => ⟨S16x256x1, .f32⟩
  | 121 => ⟨S16x256x1, .f32⟩
  | 122 => ⟨S16x256x2048, .f32⟩
  | 123 => ⟨S16x256x2048, .f32⟩
  | 124 => ⟨S1x1x2048, .f32⟩
  | 125 => ⟨S16x256x2048, .f32⟩
  | 126 => ⟨S16x256x2048, .f32⟩
  | 127 => ⟨S1x1x2048, .f32⟩
  | _ => ⟨S8192x2048, .f32⟩

abbrev hbmTy0_2 (i : Nat) : BufTy := match i % 128 with
  | 0 => ⟨S16x256x2048, .f32⟩
  | 1 => ⟨S16x256x2048, .f32⟩
  | 2 => ⟨S16x256x2048, .f32⟩
  | 3 => ⟨S16x256x2048, .f32⟩
  | 4 => ⟨S_, .f32⟩
  | 5 => ⟨S16x256x2048, .f32⟩
  | 6 => ⟨S16x256x2048, .f32⟩
  | 7 => ⟨S_, .f32⟩
  | 8 => ⟨S16x256x2048, .f32⟩
  | 9 => ⟨S16x256x2048, .f32⟩
  | 10 => ⟨S16x256x2048, .f32⟩
  | 11 => ⟨S256x16x2048, .f32⟩
  | 12 => ⟨S4096x2048, .f32⟩
  | 13 => ⟨S4096x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_1 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_call1_v0 : Ref sig .tc := ⟨.hbm, 258, rfl⟩
abbrev main_call1_v1 : Ref sig .tc := ⟨.hbm, 259, rfl⟩
abbrev main_call1_cst : Ref sig .tc := ⟨.hbm, 260, rfl⟩
abbrev main_call1_v2 : Ref sig .tc := ⟨.hbm, 261, rfl⟩
abbrev main_call1_v3 : Ref sig .tc := ⟨.hbm, 262, rfl⟩
abbrev main_call1_cst_0 : Ref sig .tc := ⟨.hbm, 263, rfl⟩
abbrev main_call1_v4 : Ref sig .tc := ⟨.hbm, 264, rfl⟩
abbrev main_call1_v5 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩

abbrev nD : Nat := 1
abbrev τ : Topo := Topo.v7x

variable {F : FTy → Type} [FloatOps F]
-- ==== Proof.RwkvIn.lean ====
/-
  The input projection of a recurrent layer: its recurrence columns, the rows in time-major order.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Quiescent

@[expose] public section

set_option maxRecDepth 16384

noncomputable section

namespace Cert.Kernel2Ideal.RwkvIn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows in closed form, decided over the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The product of the rows with the weights. -/
def prod (X : FVec Ideal S8192x4096 .bf16) (W : FVec Ideal S4096x6912 .f32) : FVec Ideal S8192x6912 .f32 :=
  fun j => ∑ k : Fin 4096, X (ix2 (j 0) k) * W (ix2 k (j 1))

/-- What the body stores at an index of its block is the product at the place of that index in the array. -/
theorem point (c : Dev nD) (t : Fin cfg0.N) (y) :
    k0_pay1 (F := Ideal) (iblk m c 0 t) (iblk m c 1 t) y
      = prod (V m c main_v9) (V m c main_arg1) (((cfg0.win 2).blk t).view.emb y) := by
  pointwise [k0_pay1]
  unfold prod
  blk_point [iblk, idx t]

/-- After the call its result array holds the product. -/
theorem final (c : Dev nD) : (dats m 0 c).arrAt 2 cfg0.N = prod (V m c main_v9) (V m c main_arg1) := by
  refine (dats m 0 c).arrAt_eq_of_covers 2 _ (by decide +kernel) fun t _ y => ?_
  blk_simp
  rw [after0_2]; frame_out
  exact point m c t y

/-- The row of the tokens that comes `i`-th in time-major order: within each of the two runs, token after token over its
    requests. -/
def row (i : Fin 8192) : Fin 8192 :=
  if i.val < 4096 then ⟨i.val % 16 * 256 + i.val / 16, by omega⟩
  else ⟨4096 + ((i.val - 4096) % 4 * 1024 + (i.val - 4096) / 4), by omega⟩

/-- The first run's tokens in time-major order. -/
def timeP (X : FVec Ideal S8192x4096 .bf16) : FVec Ideal S4096x4096 .bf16 :=
  shapeCast _ (transpose S256x16x4096 [1, 0, 2] (shapeCast _ (extractStridedSlice S4096x4096 ![0, 0] X
    slices_S8192x4096_S4096x4096_0_0) shapeCasts_S4096x4096_S16x256x4096) transposes_S16x256x4096_S256x16x4096_1_0_2) shapeCasts_S256x16x4096_S4096x4096

/-- The second run's tokens in time-major order. -/
def timeS (X : FVec Ideal S8192x4096 .bf16) : FVec Ideal S4096x4096 .bf16 :=
  shapeCast _ (transpose S1024x4x4096 [1, 0, 2] (shapeCast _ (extractStridedSlice S4096x4096 ![4096, 0] X
    slices_S8192x4096_S4096x4096_4096_0) shapeCasts_S4096x4096_S4x1024x4096) transposes_S4x1024x4096_S1024x4x4096_1_0_2) shapeCasts_S1024x4x4096_S4096x4096

/-- The first run's tokens in time-major order, at an index. -/
theorem timeP_apply (X : FVec Ideal S8192x4096 .bf16) (i : Fin 4096) (k : Fin 4096) :
    timeP X (ix2 i k) = X (ix2 ⟨i.val % 16 * 256 + i.val / 16, by omega⟩ k) := by
  unfold timeP
  pointwise

/-- The second run's tokens in time-major order, at an index. -/
theorem timeS_apply (X : FVec Ideal S8192x4096 .bf16) (i : Fin 4096) (k : Fin 4096) :
    timeS X (ix2 i k) = X (ix2 ⟨4096 + (i.val % 4 * 1024 + i.val / 4), by omega⟩ k) := by
  unfold timeS
  pointwise

/-- The call's first operand: the tokens of the two runs, each in time-major order. -/
theorem entry_time (c : Dev nD) : V m c main_v9 = concatenate S8192x4096 0
    [⟨S4096x4096, timeP (truncf .bf16 (m ((c : Thread nD τ).loc main_arg0)) bitsLt_bf16_f32)⟩,
     ⟨S4096x4096, timeS (truncf .bf16 (m ((c : Thread nD τ).loc main_arg0)) bitsLt_bf16_f32)⟩] concatenates_S4096x4096_S4096x4096_S8192x4096_d0 := by
  entry_read
  rfl

/-- The call's first operand at an index: the token of that row. -/
theorem entry_rows (c : Dev nD) (i : Fin 8192) (k : Fin 4096) :
    V m c main_v9 (ix2 i k) = m ((c : Thread nD τ).loc main_arg0) (ix2 (row i) k) := by
  rw [entry_time]
  have hP := timeP_apply (truncf .bf16 (m ((c : Thread nD τ).loc main_arg0)) bitsLt_bf16_f32)
  have hS := timeS_apply (truncf .bf16 (m ((c : Thread nD τ).loc main_arg0)) bitsLt_bf16_f32)
  generalize timeP _ = P at hP ⊢
  generalize timeS _ = S at hS ⊢
  pointwise
  unfold row
  split_ifs with h h'
  · exact hP ⟨i.val, h⟩ k
  · exact hS ⟨i.val - 4096, by omega⟩ k
  · exact absurd rfl h'

end Cert.Kernel2Ideal.RwkvIn

namespace Cert.Reference2Ideal.RwkvIn

open Cert.Reference2Ideal
open Idealize.ShloMosaic Idealize.ShloMosaic.TcCoe Idealize.SL.Sem

/-- The first run's rows in time-major order. -/
def timeP (X : FVec Ideal S8192x6912 .f32) : FVec Ideal S4096x6912 .f32 :=
  shapeCast _ (transpose S256x16x6912 [1, 0, 2] (shapeCast _ (extractStridedSlice S4096x6912 ![0, 0] X
    Gen.slices_S8192x6912_S4096x6912_0_0) Gen.shapeCasts_S4096x6912_S16x256x6912) Gen.transposes_S16x256x6912_S256x16x6912_1_0_2) Gen.shapeCasts_S256x16x6912_S4096x6912

/-- The second run's rows in time-major order. -/
def timeS (X : FVec Ideal S8192x6912 .f32) : FVec Ideal S4096x6912 .f32 :=
  shapeCast _ (transpose S1024x4x6912 [1, 0, 2] (shapeCast _ (extractStridedSlice S4096x6912 ![4096, 0] X
    Gen.slices_S8192x6912_S4096x6912_4096_0) Gen.shapeCasts_S4096x6912_S4x1024x6912) Gen.transposes_S4x1024x6912_S1024x4x6912_1_0_2) Gen.shapeCasts_S1024x4x6912_S4096x6912

/-- The first run's rows in time-major order, at an index. -/
theorem timeP_apply (X : FVec Ideal S8192x6912 .f32) (i : Fin 4096) (k : Fin 6912) :
    timeP X (ix2 i k) = X (ix2 ⟨i.val % 16 * 256 + i.val / 16, by omega⟩ k) := by
  unfold timeP
  pointwise

/-- The second run's rows in time-major order, at an index. -/
theorem timeS_apply (X : FVec Ideal S8192x6912 .f32) (i : Fin 4096) (k : Fin 6912) :
    timeS X (ix2 i k) = X (ix2 ⟨4096 + (i.val % 4 * 1024 + i.val / 4), by omega⟩ k) := by
  unfold timeS
  pointwise

/-- The projected tokens, in the order of the tokens. -/
def proj (X : FVec Ideal S8192x4096 .f32) (W : FVec Ideal S4096x6912 .f32) : FVec Ideal S8192x6912 .f32 :=
  Host.dotGeneral dot_S8192x4096_S4096x6912_S8192x6912_1_0_0_1_n_n none X W

/-- The projected tokens at an index. -/
theorem proj_apply (X : FVec Ideal S8192x4096 .f32) (W : FVec Ideal S4096x6912 .f32) (i : Fin 8192) (n : Fin 6912) :
    proj X W (ix2 i n) = ∑ k : Fin 4096, X (ix2 i k) * W (ix2 k n) := by
  unfold proj
  pointwise

/-- The projected tokens of the two runs, each in time-major order. -/
def ref (X : FVec Ideal S8192x4096 .f32) (W : FVec Ideal S4096x6912 .f32) : FVec Ideal S8192x6912 .f32 :=
  concatenate S8192x6912 0 [⟨S4096x6912, timeP (proj X W)⟩, ⟨S4096x6912, timeS (proj X W)⟩] Gen.concatenates_S4096x6912_S4096x6912_S8192x6912_d0

/-- The reference's result at an index: the projection of the token that comes there in time-major order. -/
theorem ref_apply (X : FVec Ideal S8192x4096 .f32) (W : FVec Ideal S4096x6912 .f32) (i : Fin 8192) (n : Fin 6912) :
    ref X W (ix2 i n) = proj X W (ix2 (Cert.Kernel2Ideal.RwkvIn.row i) n) := by
  unfold ref
  have hP := timeP_apply (proj X W)
  have hS := timeS_apply (proj X W)
  generalize timeP _ = P at hP ⊢
  generalize timeS _ = S at hS ⊢
  generalize proj X W = Q at hP hS ⊢
  pointwise
  unfold Cert.Kernel2Ideal.RwkvIn.row
  split_ifs with h h'
  · exact hP ⟨i.val, h⟩ n
  · exact hS ⟨i.val - 4096, by omega⟩ n
  · exact absurd rfl h'

/-- The reference's result is the kernel's. -/
theorem ref_eq (m : (ℓ : Loc Cert.Kernel2Ideal.nD Cert.Kernel2Ideal.τ Cert.Kernel2Ideal.sig) → Buf (Elt Ideal) ℓ) (c : Dev Cert.Kernel2Ideal.nD) :
    ref (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      = Cert.Kernel2Ideal.RwkvIn.prod (Cert.Kernel2Ideal.Gen.V m c Cert.Kernel2Ideal.main_v9) (Cert.Kernel2Ideal.Gen.V m c Cert.Kernel2Ideal.main_arg1) := by
  rw [Cert.Kernel2Ideal.Gen.V_main_arg1]
  have key : ∀ (i : Fin 8192) (n : Fin 6912), ref (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (ix2 i n)
      = Cert.Kernel2Ideal.RwkvIn.prod (Cert.Kernel2Ideal.Gen.V m c Cert.Kernel2Ideal.main_v9) (m ((c : Thread Cert.Kernel2Ideal.nD Cert.Kernel2Ideal.τ).loc Cert.Kernel2Ideal.main_arg1)) (ix2 i n) := by
    intro i n
    rw [ref_apply, proj_apply]
    have h : ∀ k : Fin 4096, Cert.Kernel2Ideal.Gen.V m c Cert.Kernel2Ideal.main_v9 (ix2 i k) = _ := fun k => Cert.Kernel2Ideal.RwkvIn.entry_rows m c i k
    generalize Cert.Kernel2Ideal.Gen.V m c Cert.Kernel2Ideal.main_v9 = Y at h ⊢
    unfold Cert.Kernel2Ideal.RwkvIn.prod
    simp only [← h]
    rfl
  funext j
  rw [Idealize.ShloMosaic.eq_ix2 j]
  exact key _ _

end Cert.Reference2Ideal.RwkvIn

namespace Cert.Proof

open Idealize.ShloMosaic Idealize.SL.Sem

/-- The reference of the recurrence columns leaves its arguments unchanged and has no counter. -/
theorem quiescent_reference2 : Cert.quiescent_Reference2Ideal := fun m ρ _ =>
  (θ_run _ _ _).mono (fun r h => ⟨fun c => (h c).2, sem_eq_zero_of_no_sems (by decide) r.2⟩) (Cert.Reference2Ideal.Value.run m ρ)

/-- The recurrence columns: the kernel's result is the reference's. -/
theorem rwkv_in_algebraic : Cert.algebraic_Kernel2Ideal_Reference2Ideal := by
  pair_intro
  · run_from Cert.Kernel2Ideal.Value.run_blocks m g
  · run_from Cert.Reference2Ideal.Value.run m' g'
    · rw [Cert.Kernel2Ideal.RwkvIn.final m c]
      exact Cert.Reference2Ideal.RwkvIn.ref_eq m c

end Cert.Proof

end
-- ==== Proof.GluIn.lean ====
/-
  The input projection of a recurrent layer: the gated linear unit, the rows in time-major order.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Quiescent

@[expose] public section

set_option maxRecDepth 16384

noncomputable section

namespace Cert.Kernel3Ideal.GluIn

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows in closed form, decided over the grid. -/
theorem idx : ∀ t : Fin cfg0.N, win0_0.index t = ![(grid0.coords t 0).val, 0]
    ∧ win0_1.index t = ![1, 0, 27 + (grid0.coords t 1).val]
    ∧ win0_2.index t = ![1, 0, 35 + (grid0.coords t 1).val]
    ∧ win0_3.index t = ![(grid0.coords t 0).val, (grid0.coords t 1).val] :=
  (by decide +kernel : ∀ t : Fin grid0.N, _)

/-- The product with the first half of the columns at the sigmoid of the product with the second half. -/
def glu (X : FVec Ideal S8192x4096 .bf16) (W : FVec Ideal S2x4096x11008 .f32) : FVec Ideal S8192x2048 .f32 :=
  fun j => (∑ k : Fin 4096, X (ix2 (j 0) k) * W (ix3 1 k ⟨6912 + (j 1).val, by have := (j 1).isLt; simp at this; omega⟩))
    * Ideal.div 1 (1 + Ideal.exp (0 - ∑ k : Fin 4096, X (ix2 (j 0) k) * W (ix3 1 k ⟨8960 + (j 1).val, by have := (j 1).isLt; simp at this; omega⟩)))

/-- What the body stores at an index of its block is the gated unit at the place of that index in the array. -/
theorem point (c : Dev nD) (t : Fin cfg0.N) (y) :
    k0_pay1 (F := Ideal) (iblk m c 0 t) (iblk m c 1 t) (iblk m c 2 t) y
      = glu (V m c main_v9) (V m c main_arg1) (((cfg0.win 3).blk t).view.emb y) := by
  pointwise [k0_pay1]
  unfold glu
  blk_point [iblk, idx t]

/-- After the call its result array holds the gated unit. -/
theorem final (c : Dev nD) : (dats m 0 c).arrAt 3 cfg0.N = glu (V m c main_v9) (V m c main_arg1) := by
  refine (dats m 0 c).arrAt_eq_of_covers 3 _ (by decide +kernel) fun t _ y => ?_
  blk_simp
  rw [after0_3]; frame_out
  exact point m c t y

/-- The row of the tokens that comes `i`-th in time-major order: within each of the two runs, token after token over its
    requests. -/
def row (i : Fin 8192) : Fin 8192 :=
  if i.val < 4096 then ⟨i.val % 16 * 256 + i.val / 16, by omega⟩
  else ⟨4096 + ((i.val - 4096) % 4 * 1024 + (i.val - 4096) / 4), by omega⟩

/-- The first run's tokens in time-major order. -/
def timeP (X : FVec Ideal S8192x4096 .bf16) : FVec Ideal S4096x4096 .bf16 :=
  shapeCast _ (transpose S256x16x4096 [1, 0, 2] (shapeCast _ (extractStridedSlice S4096x4096 ![0, 0] X
    slices_S8192x4096_S4096x4096_0_0) shapeCasts_S4096x4096_S16x256x4096) transposes_S16x256x4096_S256x16x4096_1_0_2) shapeCasts_S256x16x4096_S4096x4096

/-- The second run's tokens in time-major order. -/
def timeS (X : FVec Ideal S8192x4096 .bf16) : FVec Ideal S4096x4096 .bf16 :=
  shapeCast _ (transpose S1024x4x4096 [1, 0, 2] (shapeCast _ (extractStridedSlice S4096x4096 ![4096, 0] X
    slices_S8192x4096_S4096x4096_4096_0) shapeCasts_S4096x4096_S4x1024x4096) transposes_S4x1024x4096_S1024x4x4096_1_0_2) shapeCasts_S1024x4x4096_S4096x4096

/-- The first run's tokens in time-major order, at an index. -/
theorem timeP_apply (X : FVec Ideal S8192x4096 .bf16) (i : Fin 4096) (k : Fin 4096) :
    timeP X (ix2 i k) = X (ix2 ⟨i.val % 16 * 256 + i.val / 16, by omega⟩ k) := by
  unfold timeP
  pointwise

/-- The second run's tokens in time-major order, at an index. -/
theorem timeS_apply (X : FVec Ideal S8192x4096 .bf16) (i : Fin 4096) (k : Fin 4096) :
    timeS X (ix2 i k) = X (ix2 ⟨4096 + (i.val % 4 * 1024 + i.val / 4), by omega⟩ k) := by
  unfold timeS
  pointwise

/-- The call's first operand: the tokens of the two runs, each in time-major order. -/
theorem entry_time (c : Dev nD) : V m c main_v9 = concatenate S8192x4096 0
    [⟨S4096x4096, timeP (truncf .bf16 (m ((c : Thread nD τ).loc main_arg0)) bitsLt_bf16_f32)⟩,
     ⟨S4096x4096, timeS (truncf .bf16 (m ((c : Thread nD τ).loc main_arg0)) bitsLt_bf16_f32)⟩] concatenates_S4096x4096_S4096x4096_S8192x4096_d0 := by
  entry_read
  rfl

/-- The call's first operand at an index: the token of that row. -/
theorem entry_rows (c : Dev nD) (i : Fin 8192) (k : Fin 4096) :
    V m c main_v9 (ix2 i k) = m ((c : Thread nD τ).loc main_arg0) (ix2 (row i) k) := by
  rw [entry_time]
  have hP := timeP_apply (truncf .bf16 (m ((c : Thread nD τ).loc main_arg0)) bitsLt_bf16_f32)
  have hS := timeS_apply (truncf .bf16 (m ((c : Thread nD τ).loc main_arg0)) bitsLt_bf16_f32)
  generalize timeP _ = P at hP ⊢
  generalize timeS _ = S at hS ⊢
  pointwise
  unfold row
  split_ifs with h h'
  · exact hP ⟨i.val, h⟩ k
  · exact hS ⟨i.val - 4096, by omega⟩ k
  · exact absurd rfl h'

end Cert.Kernel3Ideal.GluIn

namespace Cert.Reference3Ideal.GluIn

open Cert.Reference3Ideal
open Idealize.ShloMosaic Idealize.ShloMosaic.TcCoe Idealize.SL.Sem

/-- The first run's rows in time-major order. -/
def timeP (X : FVec Ideal S8192x2048 .f32) : FVec Ideal S4096x2048 .f32 :=
  shapeCast _ (transpose S256x16x2048 [1, 0, 2] (shapeCast _ (extractStridedSlice S4096x2048 ![0, 0] X
    Gen.slices_S8192x2048_S4096x2048_0_0) Gen.shapeCasts_S4096x2048_S16x256x2048) Gen.transposes_S16x256x2048_S256x16x2048_1_0_2) Gen.shapeCasts_S256x16x2048_S4096x2048

/-- The second run's rows in time-major order. -/
def timeS (X : FVec Ideal S8192x2048 .f32) : FVec Ideal S4096x2048 .f32 :=
  shapeCast _ (transpose S1024x4x2048 [1, 0, 2] (shapeCast _ (extractStridedSlice S4096x2048 ![4096, 0] X
    Gen.slices_S8192x2048_S4096x2048_4096_0) Gen.shapeCasts_S4096x2048_S4x1024x2048) Gen.transposes_S4x1024x2048_S1024x4x2048_1_0_2) Gen.shapeCasts_S1024x4x2048_S4096x2048

/-- The first run's rows in time-major order, at an index. -/
theorem timeP_apply (X : FVec Ideal S8192x2048 .f32) (i : Fin 4096) (k : Fin 2048) :
    timeP X (ix2 i k) = X (ix2 ⟨i.val % 16 * 256 + i.val / 16, by omega⟩ k) := by
  unfold timeP
  pointwise

/-- The second run's rows in time-major order, at an index. -/
theorem timeS_apply (X : FVec Ideal S8192x2048 .f32) (i : Fin 4096) (k : Fin 2048) :
    timeS X (ix2 i k) = X (ix2 ⟨4096 + (i.val % 4 * 1024 + i.val / 4), by omega⟩ k) := by
  unfold timeS
  pointwise

/-- The projected tokens, in the order of the tokens. -/
def proj (X : FVec Ideal S8192x4096 .f32) (W : FVec Ideal S2x4096x11008 .f32) : FVec Ideal S8192x2048 .f32 :=
  mulf (Host.dotGeneral dot_S8192x4096_S4096x2048_S8192x2048_1_0_0_1_n_n none X
      (shapeCast _ (extractStridedSlice S1x4096x2048 ![1, 0, 6912] W Gen.slices_S2x4096x11008_S1x4096x2048_1_0_6912) Gen.shapeCasts_S1x4096x2048_S4096x2048))
    (Host.divf (broadcastInDim S8192x2048 ![] Gen.bcast_S_S8192x2048 (constant S_ .f32 0x3F800000#32))
      (addf (broadcastInDim S8192x2048 ![] Gen.bcast_S_S8192x2048 (constant S_ .f32 0x3F800000#32)) (Host.exp (Host.negf (Host.dotGeneral dot_S8192x4096_S4096x2048_S8192x2048_1_0_0_1_n_n none X
      (shapeCast _ (extractStridedSlice S1x4096x2048 ![1, 0, 8960] W Gen.slices_S2x4096x11008_S1x4096x2048_1_0_8960) Gen.shapeCasts_S1x4096x2048_S4096x2048))))))

/-- The projected tokens at an index. -/
theorem proj_apply (X : FVec Ideal S8192x4096 .f32) (W : FVec Ideal S2x4096x11008 .f32) (i : Fin 8192) (n : Fin 2048) :
    proj X W (ix2 i n) = (∑ k : Fin 4096, X (ix2 i k) * W (ix3 1 k ⟨6912 + n.val, by omega⟩))
      * Ideal.div 1 (1 + Ideal.exp (0 - ∑ k : Fin 4096, X (ix2 i k) * W (ix3 1 k ⟨8960 + n.val, by omega⟩))) := by
  unfold proj
  rw [zero_sub]
  pointwise

/-- The projected tokens of the two runs, each in time-major order. -/
def ref (X : FVec Ideal S8192x4096 .f32) (W : FVec Ideal S2x4096x11008 .f32) : FVec Ideal S8192x2048 .f32 :=
  concatenate S8192x2048 0 [⟨S4096x2048, timeP (proj X W)⟩, ⟨S4096x2048, timeS (proj X W)⟩] Gen.concatenates_S4096x2048_S4096x2048_S8192x2048_d0

/-- The reference's result at an index: the projection of the token that comes there in time-major order. -/
theorem ref_apply (X : FVec Ideal S8192x4096 .f32) (W : FVec Ideal S2x4096x11008 .f32) (i : Fin 8192) (n : Fin 2048) :
    ref X W (ix2 i n) = proj X W (ix2 (Cert.Kernel3Ideal.GluIn.row i) n) := by
  unfold ref
  have hP := timeP_apply (proj X W)
  have hS := timeS_apply (proj X W)
  generalize timeP _ = P at hP ⊢
  generalize timeS _ = S at hS ⊢
  generalize proj X W = Q at hP hS ⊢
  pointwise
  unfold Cert.Kernel3Ideal.GluIn.row
  split_ifs with h h'
  · exact hP ⟨i.val, h⟩ n
  · exact hS ⟨i.val - 4096, by omega⟩ n
  · exact absurd rfl h'

/-- The reference's result is the kernel's. -/
theorem ref_eq (m : (ℓ : Loc Cert.Kernel3Ideal.nD Cert.Kernel3Ideal.τ Cert.Kernel3Ideal.sig) → Buf (Elt Ideal) ℓ) (c : Dev Cert.Kernel3Ideal.nD) :
    ref (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      = Cert.Kernel3Ideal.GluIn.glu (Cert.Kernel3Ideal.Gen.V m c Cert.Kernel3Ideal.main_v9) (Cert.Kernel3Ideal.Gen.V m c Cert.Kernel3Ideal.main_arg1) := by
  rw [Cert.Kernel3Ideal.Gen.V_main_arg1]
  have key : ∀ (i : Fin 8192) (n : Fin 2048), ref (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (ix2 i n)
      = Cert.Kernel3Ideal.GluIn.glu (Cert.Kernel3Ideal.Gen.V m c Cert.Kernel3Ideal.main_v9) (m ((c : Thread Cert.Kernel3Ideal.nD Cert.Kernel3Ideal.τ).loc Cert.Kernel3Ideal.main_arg1)) (ix2 i n) := by
    intro i n
    rw [ref_apply, proj_apply]
    have h : ∀ k : Fin 4096, Cert.Kernel3Ideal.Gen.V m c Cert.Kernel3Ideal.main_v9 (ix2 i k) = _ := fun k => Cert.Kernel3Ideal.GluIn.entry_rows m c i k
    generalize Cert.Kernel3Ideal.Gen.V m c Cert.Kernel3Ideal.main_v9 = Y at h ⊢
    unfold Cert.Kernel3Ideal.GluIn.glu
    simp only [← h]
    rfl
  funext j
  rw [Idealize.ShloMosaic.eq_ix2 j]
  exact key _ _

end Cert.Reference3Ideal.GluIn

namespace Cert.Proof

open Idealize.ShloMosaic Idealize.SL.Sem

/-- The reference of the gated linear unit leaves its arguments unchanged and has no counter. -/
theorem quiescent_reference3 : Cert.quiescent_Reference3Ideal := fun m ρ _ =>
  (θ_run _ _ _).mono (fun r h => ⟨fun c => (h c).2, sem_eq_zero_of_no_sems (by decide) r.2⟩) (Cert.Reference3Ideal.Value.run m ρ)

/-- The gated linear unit: the kernel's result is the reference's. -/
theorem glu_in_algebraic : Cert.algebraic_Kernel3Ideal_Reference3Ideal := by
  pair_intro
  · run_from Cert.Kernel3Ideal.Value.run_blocks m g
  · run_from Cert.Reference3Ideal.Value.run m' g'
    · rw [Cert.Kernel3Ideal.GluIn.final m c]
      exact Cert.Reference3Ideal.GluIn.ref_eq m c

end Cert.Proof

end
-- ==== Proof.HyenaIn.lean ====
/-
  The input projection of a convolution layer: the tiled product is the whole product.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import Idealize.ShloMosaic.Lib.Quiescent

@[expose] public section

set_option maxRecDepth 16384

noncomputable section

namespace Cert.Kernel4Ideal.HyenaIn

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows in closed form, decided over the grid. -/
theorem idx : ∀ t : Fin cfg0.N, win0_0.index t = ![(grid0.coords t 0).val, 0]
    ∧ win0_1.index t = ![1, 0, (grid0.coords t 1).val]
    ∧ win0_2.index t = ![(grid0.coords t 0).val, (grid0.coords t 1).val] :=
  (by decide +kernel : ∀ t : Fin grid0.N, _)

/-- The product of the tokens with the layer's weights. -/
def prod (X : FVec Ideal S8192x4096 .f32) (W : FVec Ideal S2x4096x12288 .f32) : FVec Ideal S8192x12288 .f32 :=
  fun j => ∑ k : Fin 4096, X (ix2 (j 0) k) * W (ix3 1 k (j 1))

/-- What the body stores at an index of its block is the product at the place of that index in the array. -/
theorem point (c : Dev nD) (t : Fin cfg0.N) (y) :
    k0_pay1 (F := Ideal) (iblk m c 0 t) (iblk m c 1 t) y
      = prod (m ((c : Thread nD τ).loc main_arg0)) (m ((c : Thread nD τ).loc main_arg1)) (((cfg0.win 2).blk t).view.emb y) := by
  pointwise [k0_pay1]
  unfold prod
  blk_point [iblk, V, idx t]

/-- After the call its result array holds the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.HyenaIn

namespace Cert.Proof

open Idealize.ShloMosaic Idealize.SL.Sem

/-- The reference of the input projection of a convolution layer leaves its arguments unchanged and has no counter. -/
theorem quiescent_reference4 : Cert.quiescent_Reference4Ideal := fun m ρ _ =>
  (θ_run _ _ _).mono (fun r h => ⟨fun c => (h c).2, sem_eq_zero_of_no_sems (by decide) r.2⟩) (Cert.Reference4Ideal.Value.run m ρ)

/-- The input projection of a convolution layer: the kernel's result is the reference's. -/
theorem hyena_in_algebraic : Cert.algebraic_Kernel4Ideal_Reference4Ideal := by
  pair_intro
  · run_from Cert.Kernel4Ideal.Value.run_blocks m g
  · run_from Cert.Reference4Ideal.Value.run m' g'
    · rw [Cert.Kernel4Ideal.HyenaIn.final m c]
      funext j
      unfold Cert.Kernel4Ideal.HyenaIn.prod
      pointwise

end Cert.Proof

end
-- ==== Proof.OutProj.lean ====
/-
  The output projection of a layer, gated into the residual stream.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Quiescent

@[expose] public section

set_option maxRecDepth 16384

noncomputable section

namespace Cert.Kernel5Ideal.OutProj

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The condition row of a token: row 0 for the prompts, row 1 + b for sample b. -/
def cond (i : Fin 8192) : Fin 8 := if i.val < 4096 then 0 else ⟨1 + (i.val - 4096) / 1024, by omega⟩

/-- Every token of a block of 1024 has the condition row that the block's index map names. -/
theorem cond_block (a b : ℕ) (i : Fin 8192) (ha : a < 8) (hb : b < 1024) (hi : i.val = a * 1024 + b) :
    (if a < 4 then 0 else a - 3) + 0 = (cond i).val := by
  unfold cond
  split_ifs <;> simp <;> omega

/-- The block indices of the windows in closed form, decided over the grid. -/
theorem idx : ∀ t : Fin cfg0.N, win0_0.index t = ![(grid0.coords t 0).val, 0]
    ∧ win0_1.index t = ![1, 0, (grid0.coords t 1).val]
    ∧ win0_2.index t = ![(grid0.coords t 0).val, (grid0.coords t 1).val]
    ∧ win0_3.index t = ![(if (grid0.coords t 0).val < 4 then 0 else (grid0.coords t 0).val - 3), 0, (grid0.coords t 1).val]
    ∧ win0_4.index t = ![(grid0.coords t 0).val, (grid0.coords t 1).val] :=
  (by decide +kernel : ∀ t : Fin grid0.N, _)

/-- The residual stream plus the gated projection. -/
def res (Y : FVec Ideal S8192x4096 .f32) (W : FVec Ideal S2x4096x4096 .f32) (X : FVec Ideal S8192x4096 .f32)
    (G : FVec Ideal S8x4096 .f32) : FVec Ideal S8192x4096 .f32 :=
  fun j => X j + G (ix2 (cond (j 0)) (j 1)) * ∑ k : Fin 4096, Y (ix2 (j 0) k) * W (ix3 1 k (j 1))

/-- What the body stores at an index of its block is the gated sum at the place of that index in the array. -/
theorem point (c : Dev nD) (t : Fin cfg0.N) (y) :
    k0_pay1 (F := Ideal) (iblk m c 0 t) (iblk m c 1 t) (iblk m c 2 t) (iblk m c 3 t) y
      = res (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1]
  unfold res
  blk_point [iblk, V, idx t]
  exact cond_block _ _ _ (grid0.coords t 0).isLt hb0 (by blk_simp [idx t])

/-- After the call its result array holds the gated sum. -/
theorem final (c : Dev nD) : (dats m 0 c).arrAt 4 cfg0.N
    = res (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

open Cert.Reference5Ideal in
/-- The reference's result as one function of its arguments. -/
def ref (Y : FVec Ideal S8192x4096 .f32) (W : FVec Ideal S2x4096x4096 .f32) (X : FVec Ideal S8192x4096 .f32)
    (G : FVec Ideal S8x4096 .f32) : FVec Ideal S8192x4096 .f32 :=
  concatenate S8192x4096 0 [⟨S4096x4096, (shapeCast _ (addf (shapeCast _ (extractStridedSlice S4096x4096 ![0, 0] X Cert.Reference5Ideal.Gen.slices_S8192x4096_S4096x4096_0_0) Cert.Reference5Ideal.Gen.shapeCasts_S4096x4096_S16x256x4096) (mulf (broadcastInDim S16x256x4096 ![0, 1, 2] Cert.Reference5Ideal.Gen.bcast_S1x1x4096_S16x256x4096_0_1_2 (broadcastInDim S1x1x4096 ![0, 2] Cert.Reference5Ideal.Gen.bcast_S1x4096_S1x1x4096_0_2 (extractStridedSlice S1x4096 ![0, 0] G Cert.Reference5Ideal.Gen.slices_S8x4096_S1x4096_0_0))) (Host.dotGeneral dot_S16x256x4096_S4096x4096_S16x256x4096_2_0_01_1_n_n none (shapeCast _ (extractStridedSlice S4096x4096 ![0, 0] Y Cert.Reference5Ideal.Gen.slices_S8192x4096_S4096x4096_0_0) Cert.Reference5Ideal.Gen.shapeCasts_S4096x4096_S16x256x4096) (shapeCast _ (extractStridedSlice S1x4096x4096 ![1, 0, 0] W Cert.Reference5Ideal.Gen.slices_S2x4096x4096_S1x4096x4096_1_0_0) Cert.Reference5Ideal.Gen.shapeCasts_S1x4096x4096_S4096x4096)))) Cert.Reference5Ideal.Gen.shapeCasts_S16x256x4096_S4096x4096)⟩, ⟨S4096x4096, (shapeCast _ (addf (shapeCast _ (extractStridedSlice S4096x4096 ![4096, 0] X Cert.Reference5Ideal.Gen.slices_S8192x4096_S4096x4096_4096_0) Cert.Reference5Ideal.Gen.shapeCasts_S4096x4096_S4x1024x4096) (mulf (broadcastInDim S4x1024x4096 ![0, 1, 2] Cert.Reference5Ideal.Gen.bcast_S4x1x4096_S4x1024x4096_0_1_2 (broadcastInDim S4x1x4096 ![0, 2] Cert.Reference5Ideal.Gen.bcast_S4x4096_S4x1x4096_0_2 (extractStridedSlice S4x4096 ![1, 0] G Cert.Reference5Ideal.Gen.slices_S8x4096_S4x4096_1_0))) (Host.dotGeneral dot_S4x1024x4096_S4096x4096_S4x1024x4096_2_0_01_1_n_n none (shapeCast _ (extractStridedSlice S4096x4096 ![4096, 0] Y Cert.Reference5Ideal.Gen.slices_S8192x4096_S4096x4096_4096_0) Cert.Reference5Ideal.Gen.shapeCasts_S4096x4096_S4x1024x4096) (shapeCast _ (extractStridedSlice S1x4096x4096 ![1, 0, 0] W Cert.Reference5Ideal.Gen.slices_S2x4096x4096_S1x4096x4096_1_0_0) Cert.Reference5Ideal.Gen.shapeCasts_S1x4096x4096_S4096x4096)))) Cert.Reference5Ideal.Gen.shapeCasts_S4x1024x4096_S4096x4096)⟩] Cert.Reference5Ideal.Gen.concatenates_S4096x4096_S4096x4096_S8192x4096_d0

/-- The reference's result is the gated sum. -/
theorem ref_eq (Y : FVec Ideal S8192x4096 .f32) (W : FVec Ideal S2x4096x4096 .f32) (X : FVec Ideal S8192x4096 .f32)
    (G : FVec Ideal S8x4096 .f32) : ref Y W X G = res Y W X G := by
  have key : ∀ (i : Fin 8192) (n : Fin 4096), ref Y W X G (ix2 i n) = res Y W X G (ix2 i n) := by
    intro i n
    unfold ref res
    pointwise
    have hi : i.val < 4096 → i.val / 256 * 256 + i.val % 256 = i.val := fun _ => by omega
    have hs : ¬ i.val < 4096 → 4096 + ((i.val - 4096) / 1024 * 1024 + (i.val - 4096) % 1024) = i.val := fun _ => by omega
    split_ifs with h h'
    · simp only [hi h, show cond i = 0 from if_pos h]
    · simp only [hs h, show cond i = ⟨1 + (i.val - 4096) / 1024, by omega⟩ from if_neg h]
    · exact absurd rfl h'
  funext j
  rw [Idealize.ShloMosaic.eq_ix2 j]
  exact key _ _

end Cert.Kernel5Ideal.OutProj

namespace Cert.Proof

open Idealize.ShloMosaic Idealize.SL.Sem

/-- The reference of the output projection leaves its arguments unchanged and has no counter. -/
theorem quiescent_reference5 : Cert.quiescent_Reference5Ideal := fun m ρ _ =>
  (θ_run _ _ _).mono (fun r h => ⟨fun c => (h c).2, sem_eq_zero_of_no_sems (by decide) r.2⟩) (Cert.Reference5Ideal.Value.run m ρ)

/-- The output projection: the kernel's result is the reference's. -/
theorem out_algebraic : Cert.algebraic_Kernel5Ideal_Reference5Ideal := by
  pair_intro
  · run_from Cert.Kernel5Ideal.Value.run_blocks m g
  · run_from Cert.Reference5Ideal.Value.run m' g'
    · rw [Cert.Kernel5Ideal.OutProj.final m c]
      rw [(hagree c).2.2.2]
      exact Cert.Kernel5Ideal.OutProj.ref_eq _ _ _ _

end Cert.Proof

end
-- ==== Proof.LastNorm.lean ====
/-
  The last norm, which gives the outputs.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import Idealize.ShloMosaic.Lib.Quiescent

@[expose] public section

set_option maxRecDepth 16384

noncomputable section

namespace Cert.Reference6Ideal.LastNorm

open Cert.Reference6Ideal Cert.Reference6Ideal.Gen
open Idealize.ShloMosaic Idealize.ShloMosaic.TcCoe Idealize.SL.Sem

/-- The norm of a row of the residual stream, times its weights. -/
def normed (X : FVec Ideal S8192x4096 .f32) (G : FVec Ideal S4096 .f32) : FVec Ideal S8192x4096 .f32 :=
  fun j => X j * Ideal.rsqrt (Ideal.div (∑ k : Fin 4096, X (ix2 (j 0) k) * X (ix2 (j 0) k)) (Ideal.ofBits .f32 0x45800000#32)
    + Ideal.ofBits .f32 0x358637BD#32) * G (ix1 (j 1))

/-- The reference's result as one function of its arguments. -/
def ref (A0 : FVec Ideal S8192x4096 .f32) (A1 : FVec Ideal S4096 .f32) : FVec Ideal S8192x4096 .f32 :=
  mulf (mulf A0 (broadcastInDim S8192x4096 ![0, 1] bcast_S8192x1_S8192x4096_0_1 (Host.rsqrt (addf (Host.divf (broadcastInDim S8192x1 ![0] bcast_S8192_S8192x1_0 (Host.reduceAdd (mulf A0 A0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 A1))

/-- The reference's result is the norm. -/
theorem ref_eq (A0 : FVec Ideal S8192x4096 .f32) (A1 : FVec Ideal S4096 .f32) : ref A0 A1 = normed A0 A1 := by
  have key : ∀ (i : Fin 8192) (n : Fin 4096), ref A0 A1 (ix2 i n) = normed A0 A1 (ix2 i n) := by
    intro i n
    unfold ref normed
    pointwise
  funext j
  rw [Idealize.ShloMosaic.eq_ix2 j]
  exact key _ _

end Cert.Reference6Ideal.LastNorm

namespace Cert.Kernel6Ideal.LastNorm

open Cert.Kernel6Ideal Cert.Kernel6Ideal.Gen Cert.Reference6Ideal.LastNorm
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows that move with the grid, decided over the grid; those of the modulation are not needed,
    since its rows are all zero. -/
theorem idx : ∀ t : Fin cfg0.N, win0_0.index t = ![(grid0.coords t 0).val, 0]
    ∧ win0_1.index t = ![0, 0]
    ∧ win0_4.index t = ![(grid0.coords t 0).val, 0] :=
  (by decide +kernel : ∀ t : Fin grid0.N, _)

/-- The call's scales are zero. -/
theorem entry_scale (c : Dev nD) (j) : V m c main_v2 j = (0 : EReal) := by
  have h : V m c main_v2 = (broadcastInDim S8x1x4096 ![0, 2] bcast_S8x4096_S8x1x4096_0_2
      (broadcastInDim S8x4096 ![] bcast_S_S8x4096 (constant (F := Ideal) S_ .f32 0x00000000#32))) := by
    entry_read
    rfl
  rw [h]
  pointwise

/-- The call's shifts are zero. -/
theorem entry_shift (c : Dev nD) (j) : V m c main_v3 j = (0 : EReal) := by
  have h : V m c main_v3 = (broadcastInDim S8x1x4096 ![0, 2] bcast_S8x4096_S8x1x4096_0_2
      (broadcastInDim S8x4096 ![] bcast_S_S8x4096 (constant (F := Ideal) S_ .f32 0x00000000#32))) := by
    entry_read
    rfl
  rw [h]
  pointwise

/-- The call's weights, as a row. -/
theorem entry_weight (c : Dev nD) : V m c main_v1
    = broadcastInDim S1x4096 ![1] bcast_S4096_S1x4096_1 (m ((c : Thread nD τ).loc main_arg1)) := by
  entry_read
  rfl

/-- What the body stores at an index of its block is the norm at the place of that index in the array. -/
theorem point (c : Dev nD) (t : Fin cfg0.N) (y) :
    k0_pay1 (F := Ideal) (iblk m c 0 t) (iblk m c 1 t) (iblk m c 2 t) (iblk m c 3 t) y
      = normed (V m c main_arg0) (fun j => V m c main_v1 (ix2 0 (j 0))) (((cfg0.win 4).blk t).view.emb y) := by
  have h2 : ∀ q, iblk m c 2 t q = (0 : EReal) := fun q => entry_scale m c _
  have h3 : ∀ q, iblk m c 3 t q = (0 : EReal) := fun q => entry_shift m c _
  pointwise [k0_pay1]
  rw [h2, h3, add_zero, add_zero, mul_one]
  unfold normed
  blk_point [iblk, idx t]

/-- After the call its result array holds the norm. -/
theorem final (c : Dev nD) : (dats m 0 c).arrAt 4 cfg0.N
    = normed (m ((c : Thread nD τ).loc main_arg0)) (m ((c : Thread nD τ).loc main_arg1)) := by
  have hw : (fun j => V m c main_v1 (ix2 0 (j 0))) = m ((c : Thread nD τ).loc main_arg1) := by
    funext j
    rw [entry_weight, Idealize.ShloMosaic.eq_ix1 j]
    pointwise
  rw [← hw, ← V_main_arg0 m c]
  refine (dats m 0 c).arrAt_eq_of_covers 4 _ (by decide +kernel) fun t _ y => ?_
  blk_simp
  rw [after0_4]; frame_out
  exact point m c t y

end Cert.Kernel6Ideal.LastNorm

namespace Cert.Proof

open Idealize.ShloMosaic Idealize.SL.Sem

/-- The reference of the last norm leaves its arguments unchanged and has no counter. -/
theorem quiescent_reference6 : Cert.quiescent_Reference6Ideal := fun m ρ _ =>
  (θ_run _ _ _).mono (fun r h => ⟨fun c => (h c).2, sem_eq_zero_of_no_sems (by decide) r.2⟩) (Cert.Reference6Ideal.Value.run m ρ)

/-- The last norm: the kernel's result is the reference's. -/
theorem last_norm_algebraic : Cert.algebraic_Kernel6Ideal_Reference6Ideal := by
  pair_intro
  · run_from Cert.Kernel6Ideal.Value.run_blocks m g
  · run_from Cert.Reference6Ideal.Value.run m' g'
    · rw [Cert.Kernel6Ideal.LastNorm.final m c]
      exact Cert.Reference6Ideal.LastNorm.ref_eq _ _

end Cert.Proof

end
-- ==== Proof.RouterNorm.lean ====
/-
  The norm before the experts, its modulation and the router's logits.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import Idealize.ShloMosaic.Lib.Quiescent

@[expose] public section

set_option maxRecDepth 16384

noncomputable section

namespace Cert.Reference7Ideal.RouterNorm

open Cert.Reference7Ideal Cert.Reference7Ideal.Gen
open Idealize.ShloMosaic Idealize.ShloMosaic.TcCoe Idealize.SL.Sem

/-- The condition row of a token: row 0 for the prompts, row 1 + b for sample b. -/
def condRow (i : Fin 8192) : Fin 8 := if i.val < 4096 then 0 else ⟨1 + (i.val - 4096) / 1024, by omega⟩

/-- The norm of a row of the residual stream, times its weights. -/
def normed (X : FVec Ideal S8192x4096 .f32) (G : FVec Ideal S4096 .f32) : FVec Ideal S8192x4096 .f32 :=
  fun j => X j * Ideal.rsqrt (Ideal.div (∑ k : Fin 4096, X (ix2 (j 0) k) * X (ix2 (j 0) k)) (Ideal.ofBits .f32 0x45800000#32)
    + Ideal.ofBits .f32 0x358637BD#32) * G (ix1 (j 1))

/-- The normed rows, scaled and shifted by the rows of their conditions. -/
def modded (X : FVec Ideal S8192x4096 .f32) (G : FVec Ideal S4096 .f32) (C H : FVec Ideal S8x4096 .f32) : FVec Ideal S8192x4096 .f32 :=
  fun j => normed X G j * (1 + C (ix2 (condRow (j 0)) (j 1))) + H (ix2 (condRow (j 0)) (j 1))

/-- The router's logits of the modulated rows. -/
def logits (X : FVec Ideal S8192x4096 .f32) (G : FVec Ideal S4096 .f32) (C H : FVec Ideal S8x4096 .f32)
    (R : FVec Ideal S4096x16 .f32) : FVec Ideal S8192x16 .f32 :=
  fun j => ∑ k : Fin 4096, modded X G C H (ix2 (j 0) k) * R (ix2 k (j 1))

/-- The reference's norm of all the rows. -/
def refNorm (A0 : FVec Ideal S8192x4096 .f32) (A1 : FVec Ideal S4096 .f32) : FVec Ideal S8192x4096 .f32 :=
  mulf (mulf A0 (broadcastInDim S8192x4096 ![0, 1] bcast_S8192x1_S8192x4096_0_1 (Host.rsqrt (addf (Host.divf (broadcastInDim S8192x1 ![0] bcast_S8192_S8192x1_0 (Host.reduceAdd (mulf A0 A0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 A1))

/-- The reference's rows, the prompts' and then the samples'. -/
def refRows (N : FVec Ideal S8192x4096 .f32) (A2 A3 : FVec Ideal S8x4096 .f32) : FVec Ideal S8192x4096 .f32 :=
  concatenate S8192x4096 0 [⟨S4096x4096, (shapeCast _ (addf (mulf (shapeCast _ (extractStridedSlice S4096x4096 ![0, 0] N slices_S8192x4096_S4096x4096_0_0) shapeCasts_S4096x4096_S16x256x4096) (broadcastInDim S16x256x4096 ![0, 1, 2] bcast_S1x1x4096_S16x256x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 0] A2 slices_S8x4096_S1x4096_0_0))))) (broadcastInDim S16x256x4096 ![0, 1, 2] bcast_S1x1x4096_S16x256x4096_0_1_2 (broadcastInDim S1x1x4096 ![0, 2] bcast_S1x4096_S1x1x4096_0_2 (extractStridedSlice S1x4096 ![0, 0] A3 slices_S8x4096_S1x4096_0_0)))) shapeCasts_S16x256x4096_S4096x4096)⟩, ⟨S4096x4096, (shapeCast _ (addf (mulf (shapeCast _ (extractStridedSlice S4096x4096 ![4096, 0] N slices_S8192x4096_S4096x4096_4096_0) shapeCasts_S4096x4096_S4x1024x4096) (broadcastInDim S4x1024x4096 ![0, 1, 2] bcast_S4x1x4096_S4x1024x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![1, 0] A2 slices_S8x4096_S4x4096_1_0))))) (broadcastInDim S4x1024x4096 ![0, 1, 2] bcast_S4x1x4096_S4x1024x4096_0_1_2 (broadcastInDim S4x1x4096 ![0, 2] bcast_S4x4096_S4x1x4096_0_2 (extractStridedSlice S4x4096 ![1, 0] A3 slices_S8x4096_S4x4096_1_0)))) shapeCasts_S4x1024x4096_S4096x4096)⟩] concatenates_S4096x4096_S4096x4096_S8192x4096_d0

/-- The reference's norm at an index. -/
theorem refNorm_apply (A0 : FVec Ideal S8192x4096 .f32) (A1 : FVec Ideal S4096 .f32) (i : Fin 8192) (n : Fin 4096) :
    refNorm A0 A1 (ix2 i n) = normed A0 A1 (ix2 i n) := by
  unfold refNorm normed
  pointwise

/-- The reference's rows are the modulated ones. -/
theorem refRows_eq (A0 : FVec Ideal S8192x4096 .f32) (A1 : FVec Ideal S4096 .f32) (A2 A3 : FVec Ideal S8x4096 .f32) :
    refRows (refNorm A0 A1) A2 A3 = modded A0 A1 A2 A3 := by
  have key : ∀ (i : Fin 8192) (n : Fin 4096), refRows (refNorm A0 A1) A2 A3 (ix2 i n) = modded A0 A1 A2 A3 (ix2 i n) := by
    intro i n
    have hn := refNorm_apply A0 A1
    unfold modded
    generalize refNorm A0 A1 = N at hn ⊢
    generalize normed A0 A1 = M at hn ⊢
    unfold refRows
    pointwise
    have hi : i.val < 4096 → i.val / 256 * 256 + i.val % 256 = i.val := fun _ => by omega
    have hs : ¬ i.val < 4096 → 4096 + ((i.val - 4096) / 1024 * 1024 + (i.val - 4096) % 1024) = i.val := fun _ => by omega
    split_ifs with h h'
    · simp only [hi h, show condRow i = 0 from if_pos h]
      rw [hn]
    · simp only [hs h, show condRow i = ⟨1 + (i.val - 4096) / 1024, by omega⟩ from if_neg h]
      rw [hn]
    · exact absurd rfl h'
  funext j
  rw [Idealize.ShloMosaic.eq_ix2 j]
  exact key _ _

/-- The reference's logits. -/
def refLogits (H : FVec Ideal S8192x4096 .f32) (A4 : FVec Ideal S4096x16 .f32) : FVec Ideal S8192x16 .f32 :=
  Host.dotGeneral dot_S8192x4096_S4096x16_S8192x16_1_0_0_1_n_n none H A4

/-- The reference's logits are the products of the modulated rows. -/
theorem refLogits_eq (A0 : FVec Ideal S8192x4096 .f32) (A1 : FVec Ideal S4096 .f32) (A2 A3 : FVec Ideal S8x4096 .f32)
    (A4 : FVec Ideal S4096x16 .f32) : refLogits (refRows (refNorm A0 A1) A2 A3) A4 = logits A0 A1 A2 A3 A4 := by
  rw [refRows_eq]
  have key : ∀ (i : Fin 8192) (n : Fin 16), refLogits (modded A0 A1 A2 A3) A4 (ix2 i n) = logits A0 A1 A2 A3 A4 (ix2 i n) := by
    intro i n
    unfold logits
    generalize modded A0 A1 A2 A3 = M
    unfold refLogits
    pointwise
  funext j
  rw [Idealize.ShloMosaic.eq_ix2 j]
  exact key _ _

end Cert.Reference7Ideal.RouterNorm

namespace Cert.Kernel7Ideal.RouterNorm

open Cert.Kernel7Ideal Cert.Kernel7Ideal.Gen Cert.Reference7Ideal.RouterNorm
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every token of a block of 256 has the condition row that the block's index map names. -/
theorem cond_block (a b : ℕ) (i : Fin 8192) (ha : a < 32) (hb : b < 256) (hi : i.val = a * 256 + b) :
    (if a < 16 then 0 else 1 + (a - 16) / 4) + 0 = (condRow i).val := by
  unfold condRow
  split_ifs <;> simp <;> omega

/-- The block indices of the windows in closed form, decided over the grid. -/
theorem idx : ∀ t : Fin cfg0.N, win0_0.index t = ![(grid0.coords t 0).val, 0]
    ∧ win0_1.index t = ![0, 0]
    ∧ win0_2.index t = ![(if (grid0.coords t 0).val < 16 then 0 else 1 + ((grid0.coords t 0).val - 16) / 4), 0, 0]
    ∧ win0_3.index t = ![(if (grid0.coords t 0).val < 16 then 0 else 1 + ((grid0.coords t 0).val - 16) / 4), 0, 0]
    ∧ win0_4.index t = ![0, 0]
    ∧ win0_5.index t = ![(grid0.coords t 0).val, 0]
    ∧ win0_6.index t = ![(grid0.coords t 0).val, 0] :=
  (by decide +kernel : ∀ t : Fin grid0.N, _)

/-- What the body computes at an index of its block is the modulated row's element at the place of that index in the array. -/
theorem point (c : Dev nD) (t : Fin cfg0.N) (y) :
    k0_pay1 (F := Ideal) (iblk m c 0 t) (iblk m c 1 t) (iblk m c 2 t) (iblk m c 3 t) y
      = modded (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1]
  unfold modded normed
  blk_point [iblk, V, idx t]
  all_goals exact cond_block _ _ _ (grid0.coords t 0).isLt hb0 (by blk_simp [idx t])

/-- After the call its first result array holds the modulated rows. -/
theorem final_rows (c : Dev nD) : (dats m 0 c).arrAt 5 cfg0.N
    = modded (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]; frame_out
  exact point m c t y

/-- What the body stores of the logits at an index of its block is the logit at the place of that index in the array. -/
theorem point_logits (c : Dev nD) (t : Fin cfg0.N) (y) :
    k0_pay3 (F := Ideal) (iblk m c 0 t) (iblk m c 1 t) (iblk m c 2 t) (iblk m c 3 t) (iblk m c 4 t) y
      = logits (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  have hp := point m c t
  unfold k0_pay3
  generalize k0_pay1 (F := Ideal) (iblk m c 0 t) (iblk m c 1 t) (iblk m c 2 t) (iblk m c 3 t) = H at hp ⊢
  unfold logits
  generalize modded (m ((c : Thread nD τ).loc main_arg0)) (m ((c : Thread nD τ).loc main_arg1)) (m ((c : Thread nD τ).loc main_arg2))
          (m ((c : Thread nD τ).loc main_arg3)) = M at hp ⊢
  pointwise
  simp only [hp]
  blk_point [iblk, V, idx t]

/-- After the call its second result array holds the logits. -/
theorem final_logits (c : Dev nD) : (dats m 0 c).arrAt 6 cfg0.N
    = logits (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_logits m c t y

end Cert.Kernel7Ideal.RouterNorm

namespace Cert.Proof

open Idealize.ShloMosaic Idealize.SL.Sem

/-- The reference of the norm before the experts leaves its arguments unchanged and has no counter. -/
theorem quiescent_reference7 : Cert.quiescent_Reference7Ideal := fun m ρ _ =>
  (θ_run _ _ _).mono (fun r h => ⟨fun c => ⟨(h c).2.2.1, (h c).2.2.2.1, (h c).2.2.2.2.1, (h c).2.2.2.2.2.1, (h c).2.2.2.2.2.2⟩, sem_eq_zero_of_no_sems (by decide) r.2⟩) (Cert.Reference7Ideal.Value.run m ρ)

/-- The norm before the experts and the router: the kernel's results are the reference's. -/
theorem router_norm_algebraic : Cert.algebraic_Kernel7Ideal_Reference7Ideal := by
  pair_intro
  · run_from Cert.Kernel7Ideal.Value.run_blocks m g
  · run_from Cert.Reference7Ideal.Value.run m' g'
    · rw [Cert.Kernel7Ideal.RouterNorm.final_rows m c]
      exact Cert.Reference7Ideal.RouterNorm.refRows_eq _ _ _ _
    · rw [Cert.Kernel7Ideal.RouterNorm.final_logits m c]
      exact Cert.Reference7Ideal.RouterNorm.refLogits_eq _ _ _ _ _

end Cert.Proof

end
-- ==== Proof.Modulation.lean ====
/-
  The modulation of a layer, from the conditions.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import Idealize.ShloMosaic.Lib.Quiescent

@[expose] public section

set_option maxRecDepth 16384

noncomputable section

namespace Cert.Kernel8Ideal.Modulation

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A condition through `silu`. -/
def silu (x : EReal) : EReal := x * Ideal.div 1 (1 + Ideal.exp (-x))

/-- The product of the conditions through `silu` with a layer's weights, plus the layer's bias. -/
def modulation (C : FVec Ideal S8x4096 .f32) (W : FVec Ideal S4x4096x24576 .f32) (B : FVec Ideal S24576 .f32) : FVec Ideal S8x24576 .f32 :=
  fun j => (∑ k : Fin 4096, silu (C (ix2 (j 0) k)) * W (ix3 1 k (j 1))) + B (ix1 (j 1))

/-- The conditions as rows: the prompts', the samples', and three of zeros. -/
def rows (A0 : FVec Ideal S4x4096 .f32) (A1 : FVec Ideal S4096 .f32) : FVec Ideal S8x4096 .f32 :=
  concatenate S8x4096 0 [⟨S1x4096, broadcastInDim S1x4096 ![1] bcast_S4096_S1x4096_1 A1⟩, ⟨S4x4096, A0⟩,
    ⟨S3x4096, broadcastInDim S3x4096 ![] bcast_S_S3x4096 (constant (F := Ideal) S_ .f32 0x00000000#32)⟩]
    concatenates_S1x4096_S4x4096_S3x4096_S8x4096_d0

/-- The layer's bias. -/
def bias (A3 : FVec Ideal S4x24576 .f32) : FVec Ideal S24576 .f32 :=
  shapeCast S24576 (extractStridedSlice S1x24576 ![1, 0] A3 slices_S4x24576_S1x24576_1_0) shapeCasts_S1x24576_S24576

/-- The block indices of the windows in closed form, decided over the grid. -/
theorem idx : ∀ t : Fin cfg0.N, win0_0.index t = ![0, 0]
    ∧ win0_1.index t = ![1, 0, (grid0.coords t 0).val]
    ∧ win0_2.index t = ![0, (grid0.coords t 0).val]
    ∧ win0_3.index t = ![0, (grid0.coords t 0).val] :=
  (by decide +kernel : ∀ t : Fin grid0.N, _)

/-- The call's conditions are the rows. -/
theorem entry_rows (c : Dev nD) : V m c main_v2
    = rows (m ((c : Thread nD τ).loc main_arg0)) (m ((c : Thread nD τ).loc main_arg1)) := by
  unfold V
  after_results_simp
  rfl

/-- The call's bias, as a row. -/
theorem entry_bias (c : Dev nD) : V m c main_v5
    = broadcastInDim S1x24576 ![1] bcast_S24576_S1x24576_1 (bias (m ((c : Thread nD τ).loc main_arg3))) := by
  entry_read
  rfl

/-- What the body stores at an index of its block is the modulation at the place of that index in the array. -/
theorem point (c : Dev nD) (t : Fin cfg0.N) (y) :
    k0_pay1 (F := Ideal) (iblk m c 0 t) (iblk m c 1 t) (iblk m c 2 t) y
      = modulation (V m c main_v2) (V m c main_arg2) (fun j => V m c main_v5 (ix2 0 (j 0))) (((cfg0.win 3).blk t).view.emb y) := by
  have h0 : iblk m c 0 t = fun q => V m c main_v2 (((cfg0.win 0).blk t).view.emb q) := rfl
  have h1 : iblk m c 1 t = fun q => V m c main_arg2 (((cfg0.win 1).blk t).view.emb q) := rfl
  have h2 : iblk m c 2 t = fun q => V m c main_v5 (((cfg0.win 2).blk t).view.emb q) := rfl
  rw [h0, h1, h2]
  generalize V m c main_v2 = C
  generalize V m c main_arg2 = W
  generalize V m c main_v5 = B
  pointwise [k0_pay1]
  unfold modulation silu
  simp only [zero_sub]
  blk_point [idx t]

/-- After the call its result array holds the modulation. -/
theorem final (c : Dev nD) : (dats m 0 c).arrAt 3 cfg0.N
    = modulation (rows (m ((c : Thread nD τ).loc main_arg0)) (m ((c : Thread nD τ).loc main_arg1)))
        (m ((c : Thread nD τ).loc main_arg2)) (bias (m ((c : Thread nD τ).loc main_arg3))) := by
  have hb : (fun j => V m c main_v5 (ix2 0 (j 0))) = bias (m ((c : Thread nD τ).loc main_arg3)) := by
    funext j
    rw [entry_bias, Idealize.ShloMosaic.eq_ix1 j]
    generalize bias _ = B
    pointwise
  rw [← hb, ← entry_rows, ← V_main_arg2 m c]
  refine (dats m 0 c).arrAt_eq_of_covers 3 _ (by decide +kernel) fun t _ y => ?_
  blk_simp
  rw [after0_3]; frame_out
  exact point m c t y

end Cert.Kernel8Ideal.Modulation

namespace Cert.Reference8Ideal.Modulation

open Cert.Reference8Ideal Cert.Reference8Ideal.Gen
open Idealize.ShloMosaic Idealize.ShloMosaic.TcCoe Idealize.SL.Sem
open Cert.Kernel8Ideal.Modulation (silu modulation rows bias)

/-- The reference's row of the prompts. -/
def refP (A1 : FVec Ideal S4096 .f32) (A2 : FVec Ideal S4x4096x24576 .f32) (A3 : FVec Ideal S4x24576 .f32) : FVec Ideal S1x24576 .f32 :=
  (addf (Host.dotGeneral dot_S1x4096_S4096x24576_S1x24576_1_0_0_1_n_n none (mulf (broadcastInDim S1x4096 ![1] bcast_S4096_S1x4096_1 A1) (Host.divf (broadcastInDim S1x4096 ![] bcast_S_S1x4096 (constant S_ .f32 0x3F800000#32)) (addf (broadcastInDim S1x4096 ![] bcast_S_S1x4096 (constant S_ .f32 0x3F800000#32)) (Host.exp (Host.negf (broadcastInDim S1x4096 ![1] bcast_S4096_S1x4096_1 A1)))))) (shapeCast _ (extractStridedSlice S1x4096x24576 ![1, 0, 0] A2 slices_S4x4096x24576_S1x4096x24576_1_0_0) shapeCasts_S1x4096x24576_S4096x24576)) (broadcastInDim S1x24576 ![1] bcast_S24576_S1x24576_1 (shapeCast _ (extractStridedSlice S1x24576 ![1, 0] A3 slices_S4x24576_S1x24576_1_0) shapeCasts_S1x24576_S24576)))

/-- The reference's rows of the samples. -/
def refS (A0 : FVec Ideal S4x4096 .f32) (A2 : FVec Ideal S4x4096x24576 .f32) (A3 : FVec Ideal S4x24576 .f32) : FVec Ideal S4x24576 .f32 :=
  (addf (Host.dotGeneral dot_S4x4096_S4096x24576_S4x24576_1_0_0_1_n_n none (mulf A0 (Host.divf (broadcastInDim S4x4096 ![] bcast_S_S4x4096 (constant S_ .f32 0x3F800000#32)) (addf (broadcastInDim S4x4096 ![] bcast_S_S4x4096 (constant S_ .f32 0x3F800000#32)) (Host.exp (Host.negf A0))))) (shapeCast _ (extractStridedSlice S1x4096x24576 ![1, 0, 0] A2 slices_S4x4096x24576_S1x4096x24576_1_0_0) shapeCasts_S1x4096x24576_S4096x24576)) (broadcastInDim S4x24576 ![0, 1] bcast_S1x24576_S4x24576_0_1 (broadcastInDim S1x24576 ![1] bcast_S24576_S1x24576_1 (shapeCast _ (extractStridedSlice S1x24576 ![1, 0] A3 slices_S4x24576_S1x24576_1_0) shapeCasts_S1x24576_S24576))))

/-- The reference's rows of no request. -/
def refZ (A3 : FVec Ideal S4x24576 .f32) : FVec Ideal S3x24576 .f32 :=
  (broadcastInDim S3x24576 ![1] bcast_S24576_S3x24576_1 (shapeCast _ (extractStridedSlice S1x24576 ![1, 0] A3 slices_S4x24576_S1x24576_1_0) shapeCasts_S1x24576_S24576))

/-- The reference's result as one function of its arguments. -/
def ref (A0 : FVec Ideal S4x4096 .f32) (A1 : FVec Ideal S4096 .f32) (A2 : FVec Ideal S4x4096x24576 .f32)
    (A3 : FVec Ideal S4x24576 .f32) : FVec Ideal S8x24576 .f32 :=
  concatenate S8x24576 0 [⟨S1x24576, refP A1 A2 A3⟩, ⟨S4x24576, refS A0 A2 A3⟩, ⟨S3x24576, refZ A3⟩]
    concatenates_S1x24576_S4x24576_S3x24576_S8x24576_d0

/-- The prompts' row at an index. -/
theorem refP_apply (A1 : FVec Ideal S4096 .f32) (A2 : FVec Ideal S4x4096x24576 .f32) (A3 : FVec Ideal S4x24576 .f32) (n : Fin 24576) :
    refP A1 A2 A3 (ix2 0 n) = (∑ k : Fin 4096, silu (A1 (ix1 k)) * A2 (ix3 1 k n)) + bias A3 (ix1 n) := by
  unfold refP silu bias
  pointwise

/-- The samples' rows at an index. -/
theorem refS_apply (A0 : FVec Ideal S4x4096 .f32) (A2 : FVec Ideal S4x4096x24576 .f32) (A3 : FVec Ideal S4x24576 .f32) (b : Fin 4) (n : Fin 24576) :
    refS A0 A2 A3 (ix2 b n) = (∑ k : Fin 4096, silu (A0 (ix2 b k)) * A2 (ix3 1 k n)) + bias A3 (ix1 n) := by
  unfold refS silu bias
  pointwise

/-- The rows of no request at an index: the bias. -/
theorem refZ_apply (A3 : FVec Ideal S4x24576 .f32) (b : Fin 3) (n : Fin 24576) : refZ A3 (ix2 b n) = bias A3 (ix1 n) := by
  unfold refZ bias
  pointwise

/-- The conditions' rows at an index. -/
theorem rows_apply (A0 : FVec Ideal S4x4096 .f32) (A1 : FVec Ideal S4096 .f32) (i : Fin 8) (k : Fin 4096) :
    rows A0 A1 (ix2 i k) = if i.val < 1 then A1 (ix1 k) else if h : i.val - 1 < 4 then A0 (ix2 ⟨i.val - 1, h⟩ k) else 0 := by
  unfold rows
  pointwise
  rfl

/-- The reference's result is the modulation of the rows. -/
theorem ref_eq (A0 : FVec Ideal S4x4096 .f32) (A1 : FVec Ideal S4096 .f32) (A2 : FVec Ideal S4x4096x24576 .f32)
    (A3 : FVec Ideal S4x24576 .f32) : ref A0 A1 A2 A3 = modulation (rows A0 A1) A2 (bias A3) := by
  have key : ∀ (i : Fin 8) (n : Fin 24576), ref A0 A1 A2 A3 (ix2 i n) = modulation (rows A0 A1) A2 (bias A3) (ix2 i n) := by
    intro i n
    have hP := refP_apply A1 A2 A3
    have hS := refS_apply A0 A2 A3
    have hZ := refZ_apply A3
    have hR := rows_apply A0 A1
    unfold ref modulation
    generalize refP A1 A2 A3 = P at hP ⊢
    generalize refS A0 A2 A3 = S at hS ⊢
    generalize refZ A3 = Z at hZ ⊢
    generalize rows A0 A1 = R at hR ⊢
    generalize bias A3 = B at hP hS hZ ⊢
    pointwise
    by_cases h : i.val < 1
    · simp only [hR, dif_pos h, if_pos h]
      have hi : (⟨i.val, h⟩ : Fin 1) = 0 := Subsingleton.elim _ _
      rw [hi, hP]
    · by_cases h' : i.val - 1 < 4
      · simp only [hR, dif_neg h, if_neg h, dif_pos h']
        rw [hS]
      · simp only [hR, dif_neg h, if_neg h, dif_neg h']
        rw [hZ]
        simp [silu]
  funext j
  rw [Idealize.ShloMosaic.eq_ix2 j]
  exact key _ _

end Cert.Reference8Ideal.Modulation

namespace Cert.Proof

open Idealize.ShloMosaic Idealize.SL.Sem

/-- The reference of the modulation leaves its arguments unchanged and has no counter. -/
theorem quiescent_reference8 : Cert.quiescent_Reference8Ideal := fun m ρ _ =>
  (θ_run _ _ _).mono (fun r h => ⟨fun c => (h c).2, sem_eq_zero_of_no_sems (by decide) r.2⟩) (Cert.Reference8Ideal.Value.run m ρ)

/-- The modulation: the kernel's result is the reference's. -/
theorem modulation_algebraic : Cert.algebraic_Kernel8Ideal_Reference8Ideal := by
  pair_intro
  · run_from Cert.Kernel8Ideal.Value.run_blocks m g
  · run_from Cert.Reference8Ideal.Value.run m' g'
    · rw [Cert.Kernel8Ideal.Modulation.final m c, (hagree c).2.2.2]
      exact Cert.Reference8Ideal.Modulation.ref_eq _ _ _ _

end Cert.Proof

end
-- ==== Proof.Combine.lean ====
/-
  The scatter of the experts' rows back to the tokens of the prompts.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Routing.OpsPair
public import Idealize.ShloMosaic.Lib.ReduceAll
public import Idealize.ShloMosaic.Lib.Claim
public import Idealize.ShloMosaic.Lib.Quiescent

@[expose] public section

set_option maxRecDepth 16384

noncomputable section

namespace Cert.Reference9Ideal.Combine

open Cert.Reference9Ideal Cert.Reference9Ideal.Gen
open Idealize.ShloMosaic Idealize.ShloMosaic.TcCoe Idealize.SL.Sem

/-- The slots' request numbers, as the scatter takes them. -/
def requests : IVec S16x512x1 32 :=
  broadcastInDim S16x512x1 ![0, 1] bcast_S16x512_S16x512x1_0_1 (broadcastInDim S16x512 ![0, 1] bcast_S16x1_S16x512_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0))))

/-- The slots' tokens, as the scatter takes them. -/
def tokens (A3 : IVec S16x16x32 32) : IVec S16x512x1 32 :=
  broadcastInDim S16x512x1 ![0, 1] bcast_S16x512_S16x512x1_0_1 (select (cmpi .slt (shapeCast _ A3 shapeCasts_S16x16x32_S16x512) (broadcastInDim S16x512 ![] bcast_S_S16x512 (constantI S_ 32 0#32))) (addi (shapeCast _ A3 shapeCasts_S16x16x32_S16x512) (broadcastInDim S16x512 ![] bcast_S_S16x512 (constantI S_ 32 256#32))) (shapeCast _ A3 shapeCasts_S16x16x32_S16x512))

/-- The scatter's pairs of words. -/
def pairs (P Q : IVec S16x512x1 32) : IVec S16x512x2 32 :=
  concatenate S16x512x2 2 [⟨S16x512x1, P⟩, ⟨S16x512x1, Q⟩] concatenates_S16x512x1_S16x512x1_S16x512x2_d2

/-- The slots' rows summed at their tokens. -/
def mix (P : IVec S16x512x2 32) (A2 : FVec Ideal S16x16x32x4096 .f32) : FVec Ideal S16x256x4096 .f32 :=
  Host.scatterAdd scatter_S16x256x4096_S16x512x2_S16x512x4096_2_01_01_2 (broadcastInDim S16x256x4096 ![] bcast_S_S16x256x4096 (constant S_ .f32 0x00000000#32)) P (shapeCast _ A2 shapeCasts_S16x16x32x4096_S16x512x4096)

/-- The reference's rows, the prompts' and then the samples'. -/
def refRows (A0 : FVec Ideal S8192x4096 .f32) (A1 : FVec Ideal S8x4096 .f32) (M : FVec Ideal S16x256x4096 .f32) : FVec Ideal S8192x4096 .f32 :=
  concatenate S8192x4096 0 [⟨S4096x4096, (shapeCast _ (addf (shapeCast _ (extractStridedSlice S4096x4096 ![0, 0] A0 slices_S8192x4096_S4096x4096_0_0) shapeCasts_S4096x4096_S16x256x4096) (mulf (broadcastInDim S16x256x4096 ![0, 1, 2] bcast_S1x1x4096_S16x256x4096_0_1_2 (broadcastInDim S1x1x4096 ![2] bcast_S4096_S1x1x4096_2 (shapeCast _ (extractStridedSlice S1x4096 ![0, 0] A1 slices_S8x4096_S1x4096_0_0) shapeCasts_S1x4096_S4096))) M)) shapeCasts_S16x256x4096_S4096x4096)⟩, ⟨S4096x4096, (extractStridedSlice S4096x4096 ![4096, 0] A0 slices_S8192x4096_S4096x4096_4096_0)⟩] concatenates_S4096x4096_S4096x4096_S8192x4096_d0

/-- Where an update lands: at its two words and its own column. -/
theorem lands (P : IVec S16x512x2 32) (b : Fin 16) (k : Fin 512) (n : Fin 4096) (b' : Fin 16) (r : Fin 256) (n' : Fin 4096) :
    scatter_S16x256x4096_S16x512x2_S16x512x4096_2_01_01_2.resultIdx? (ix3 b k n) P = some (ix3 b' r n')
      ↔ (P (ix3 b k 0)).toInt = b'.val ∧ (P (ix3 b k 1)).toInt = r.val ∧ n = n' := by
  have e0 : scatter_S16x256x4096_S16x512x2_S16x512x4096_2_01_01_2.siIdx (ix3 b k n) ⟨0, Nat.zero_lt_two⟩ = ix3 b k 0 := by
    funext a
    match a with
    | ⟨0, _⟩ => rfl
    | ⟨1, _⟩ => rfl
    | ⟨2, _⟩ => rfl
  have e1 : scatter_S16x256x4096_S16x512x2_S16x512x4096_2_01_01_2.siIdx (ix3 b k n) ⟨1, Nat.one_lt_two⟩ = ix3 b k 1 := by
    funext a
    match a with
    | ⟨0, _⟩ => rfl
    | ⟨1, _⟩ => rfl
    | ⟨2, _⟩ => rfl
  have s0 : scatter_S16x256x4096_S16x512x2_S16x512x4096_2_01_01_2.start (ix3 b k n) P 0 = (P (ix3 b k 0)).toInt := by rw [← e0]; rfl
  have s1 : scatter_S16x256x4096_S16x512x2_S16x512x4096_2_01_01_2.start (ix3 b k n) P 1 = (P (ix3 b k 1)).toInt := by rw [← e1]; rfl
  have s2 : scatter_S16x256x4096_S16x512x2_S16x512x4096_2_01_01_2.start (ix3 b k n) P 2 = 0 := rfl
  have w0 : scatter_S16x256x4096_S16x512x2_S16x512x4096_2_01_01_2.window (ix3 b k n) 0 = 0 := rfl
  have w1 : scatter_S16x256x4096_S16x512x2_S16x512x4096_2_01_01_2.window (ix3 b k n) 1 = 0 := rfl
  have w2 : scatter_S16x256x4096_S16x512x2_S16x512x4096_2_01_01_2.window (ix3 b k n) 2 = n.val := rfl
  rw [Routing.resultIdx?_eq_some]
  constructor
  · intro h
    have h0 := h 0
    have h1 := h 1
    have h2 := h 2
    rw [s0, w0] at h0
    rw [s1, w1] at h1
    rw [s2, w2] at h2
    refine ⟨?_, ?_, Fin.ext ?_⟩
    · have h0' : (P (ix3 b k 0)).toInt + ((0 : ℕ) : Int) = (b'.val : Int) := h0
      omega
    · have h1' : (P (ix3 b k 1)).toInt + ((0 : ℕ) : Int) = (r.val : Int) := h1
      omega
    · have h2' : (0 : Int) + (n.val : Int) = (n'.val : Int) := h2
      omega
  · rintro ⟨h0, h1, h2⟩ a
    match a with
    | ⟨0, _⟩ =>
      show _ = (b'.val : Int)
      refine (congrArg₂ (fun (u : Int) (v : ℕ) => u + (v : Int)) s0 w0).trans ?_
      show _ + ((0 : ℕ) : Int) = _
      omega
    | ⟨1, _⟩ =>
      show _ = (r.val : Int)
      refine (congrArg₂ (fun (u : Int) (v : ℕ) => u + (v : Int)) s1 w1).trans ?_
      show _ + ((0 : ℕ) : Int) = _
      omega
    | ⟨2, _⟩ =>
      show _ = (n'.val : Int)
      refine (congrArg₂ (fun (u : Int) (v : ℕ) => u + (v : Int)) s2 w2).trans ?_
      rw [h2]
      omega

/-- The two words of a slot. -/
theorem pairs_fst (P Q : IVec S16x512x1 32) (b : Fin 16) (k : Fin 512) : pairs P Q (ix3 b k 0) = P (ix3 b k 0) := by
  unfold pairs
  pointwise

/-- The two words of a slot. -/
theorem pairs_snd (P Q : IVec S16x512x1 32) (b : Fin 16) (k : Fin 512) : pairs P Q (ix3 b k 1) = Q (ix3 b k 0) := by
  unfold pairs
  pointwise

/-- A slot's request number. -/
theorem requests_apply (b : Fin 16) (k : Fin 512) : requests (ix3 b k 0) = BitVec.ofNat 32 b.val := by
  unfold requests
  pointwise
  exact Routing.wrap_of_lt _ _ (by rw [BitVec.toNat_ofNat]; omega)

/-- A slot's token, where its word is not negative. -/
theorem tokens_apply (A3 : IVec S16x16x32 32) (h : ∀ q, 0 ≤ (A3 q).toInt) (b : Fin 16) (k : Fin 512) :
    tokens A3 (ix3 b k 0) = A3 (ix3 b ⟨k.val / 32, by omega⟩ ⟨k.val % 32, by omega⟩) := by
  unfold tokens
  pointwise
  refine Routing.wrap_of_lt _ _ ?_
  have hq := h (ix3 b ⟨k.val / 32, by omega⟩ ⟨k.val % 32, by omega⟩)
  rw [BitVec.toInt_eq_toNat_cond] at hq
  split at hq <;> omega

/-- The sum at a token is over the slots whose word is the token's number. -/
theorem mix_apply (A2 : FVec Ideal S16x16x32x4096 .f32) (A3 : IVec S16x16x32 32) (h : ∀ q, 0 ≤ (A3 q).toInt)
    (b : Fin 16) (r : Fin 256) (n : Fin 4096) :
    mix (pairs requests (tokens A3)) A2 (ix3 b r n) = ∑ k : Fin 512,
      (if BitVec.ofNat 32 r.val = A3 (ix3 b ⟨k.val / 32, by omega⟩ ⟨k.val % 32, by omega⟩)
        then (A2 (ix4 b ⟨k.val / 32, by omega⟩ ⟨k.val % 32, by omega⟩ n) : EReal) else 0) := by
  have hl : ∀ (b' : Fin 16) (k : Fin 512) (n' : Fin 4096),
      scatter_S16x256x4096_S16x512x2_S16x512x4096_2_01_01_2.resultIdx? (ix3 b' k n') (pairs requests (tokens A3)) = some (ix3 b r n)
        ↔ b' = b ∧ BitVec.ofNat 32 r.val = A3 (ix3 b' ⟨k.val / 32, by omega⟩ ⟨k.val % 32, by omega⟩) ∧ n' = n := by
    intro b' k n'
    rw [lands, pairs_fst, pairs_snd, requests_apply, tokens_apply A3 h]
    have hb : (BitVec.ofNat 32 b'.val).toInt = (b'.val : Int) := StableHlo.Predicate.toInt_ofNat_small _ (by omega)
    have hr : (BitVec.ofNat 32 r.val).toInt = (r.val : Int) := StableHlo.Predicate.toInt_ofNat_small _ (by omega)
    rw [hb, ← hr, BitVec.toInt_inj]
    constructor
    · rintro ⟨h0, h1, h2⟩
      exact ⟨Fin.ext (by omega), h1.symm, h2⟩
    · rintro ⟨h0, h1, h2⟩
      exact ⟨by rw [h0], h1.symm, h2⟩
  unfold mix
  show Ideal.hostScatterAdd _ _ _ _ (ix3 b r n) = _
  unfold Ideal.hostScatterAdd
  rw [Finset.sum_filter, Idealize.ShloMosaic.sum_idx3]
  simp only [hl]
  rw [Finset.sum_eq_single b (fun b' _ hb => by simp [hb]) (fun hb => absurd (Finset.mem_univ b) hb)]
  have hz : broadcastInDim S16x256x4096 ![] bcast_S_S16x256x4096 (constant (F := Ideal) S_ .f32 0x00000000#32) (ix3 b r n) = (0 : EReal) := by
    pointwise
  rw [hz, zero_add]
  refine Finset.sum_congr rfl fun k _ => ?_
  have hc : ∀ n', shapeCast S16x512x4096 A2 shapeCasts_S16x16x32x4096_S16x512x4096 (ix3 b k n')
      = A2 (ix4 b ⟨k.val / 32, by omega⟩ ⟨k.val % 32, by omega⟩ n') := fun n' => by pointwise
  rw [Finset.sum_eq_single n (fun n' _ hn => by simp [hn]) (fun hn => absurd (Finset.mem_univ n) hn), hc]
  simp

/-- The reference's row of a token: a prompt's row plus the gate's times the sum at the token; a sample's row. -/
theorem refRows_apply (A0 : FVec Ideal S8192x4096 .f32) (A1 : FVec Ideal S8x4096 .f32) (M : FVec Ideal S16x256x4096 .f32)
    (i : Fin 8192) (n : Fin 4096) : refRows A0 A1 M (ix2 i n)
      = if h : i.val < 4096 then (A0 (ix2 i n) : EReal) + A1 (ix2 0 n) * M (ix3 ⟨i.val / 256, by omega⟩ ⟨i.val % 256, by omega⟩ n)
        else A0 (ix2 i n) := by
  unfold refRows
  pointwise
  split_ifs with h h'
  · have hi : (⟨i.val / 256 * 256 + i.val % 256, by omega⟩ : Fin 8192) = i := Fin.ext (by show i.val / 256 * 256 + i.val % 256 = i.val; omega)
    rw [hi]
  · have hi : (⟨4096 + (i.val - 4096), by omega⟩ : Fin 8192) = i := Fin.ext (by show 4096 + (i.val - 4096) = i.val; omega)
    rw [hi]
  · exact absurd rfl h'

end Cert.Reference9Ideal.Combine

namespace Cert.Pre_slots_named_rows_finite.Combine

open Cert.Pre_slots_named_rows_finite
open Idealize.ShloMosaic Idealize.ShloMosaic.TcCoe Idealize.SL.Sem

/-- The side conditions of the precondition's operations. -/
theorem facts : Facts where
  bcast_S_S16x16x32 := by decide
  reducesTo_S16x16x32_S_d0_1_2 := by decide
  h_S_ := by decide
  bcast_S_S16x16x32x4096 := by decide
  reducesTo_S16x16x32x4096_S_d0_1_2_3 := by decide

variable [Facts]

/-- Under the precondition no word is negative and every row is finite. -/
theorem words_rows (A0 : FVec Ideal S8192x4096 .f32) (A1 : FVec Ideal S8x4096 .f32) (A2 : FVec Ideal S16x16x32x4096 .f32)
    (A3 : IVec S16x16x32 32) (h : fn (F := Ideal) A0 A1 A2 A3 = fun _ => 1#1) :
    (∀ q, 0 ≤ (A3 q).toInt) ∧ ∀ q, A2 q ≠ (⊤ : EReal) ∧ A2 q ≠ (⊥ : EReal) := by
  have h1 := congrFun h ix0
  unfold fn at h1
  obtain ⟨ha, hb⟩ := IntOp.andi_eq_one.1 h1
  constructor
  · intro q
    have hq := Host.reduce_andi_all _ _ _ _ _ ha q
    have hq' : (0#32 : BitVec 32).toInt ≤ (A3 q).toInt := IntOp.cmpi_sge.1 hq
    exact hq'
  · intro q
    have hq := Host.reduce_andi_all _ _ _ _ _ hb q
    have hq' : Ideal.cmp .olt (max (A2 q) (-(A2 q)) : EReal) (Ideal.ofBits .f32 0x7F800000#32) = 1#1 := hq
    have hlt : (max (A2 q) (-(A2 q)) : EReal) < Ideal.ofBits .f32 0x7F800000#32 := by
      have e : ∀ b : Bool, BitVec.ofBool b = 1#1 → b = true := by decide
      exact of_decide_eq_true (e _ hq')
    have h1 : (A2 q : EReal) ≠ ⊤ := ne_top_of_lt (lt_of_le_of_lt (le_max_left _ _) hlt)
    have h2 : -(A2 q : EReal) ≠ ⊤ := ne_top_of_lt (lt_of_le_of_lt (le_max_right _ _) hlt)
    exact ⟨h1, fun e => h2 (by rw [e]; rfl)⟩

end Cert.Pre_slots_named_rows_finite.Combine

namespace Cert.Kernel9Ideal.Combine

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A prompt's token keeps its row plus the gate's times the sum of the slots that name the token; a sample's keeps its row. -/
def combined (X : FVec Ideal S8192x4096 .f32) (G : FVec Ideal S8x1x4096 .f32) (O : FVec Ideal S16x512x4096 .f32)
    (I : IVec S16x1x512 32) : FVec Ideal S8192x4096 .f32 :=
  fun j => if h : (j 0).val < 4096 then
      X j + G (ix3 0 0 (j 1)) * ∑ k : Fin 512,
        (if BitVec.ofNat 32 ((j 0).val % 256) = I (ix3 ⟨(j 0).val / 256, by omega⟩ 0 k)
          then O (ix3 ⟨(j 0).val / 256, by omega⟩ k (j 1)) else (0 : EReal))
    else X j

/-- An extended real that is finite less itself is zero. -/
theorem sub_self_finite (x : EReal) (h : x ≠ ⊤) (h' : x ≠ ⊥) : x - x = 0 := EReal.sub_self h h'

/-- What the body stores at an index of its block, of blocks of finite rows: the token's row plus the gate's times the sum of
    the slots that name the token. -/
theorem pay_apply (x0 : Vec Ideal S1x1x512 .i32) (x1 : Vec Ideal S1x512x512 .f32) (x2 : Vec Ideal S1x1x512 .f32)
    (x3 : Vec Ideal S256x512 .f32) (hfin : ∀ q, x1 q ≠ (⊤ : EReal) ∧ x1 q ≠ (⊥ : EReal)) (p : Fin 256) (q : Fin 512) :
    k0_pay2 (F := Ideal) (k0_pay1 (F := Ideal) x0) x1 x3 x2 (ix2 p q)
      = (x3 (ix2 p q) : EReal) + x2 (ix3 0 0 q) * ∑ k : Fin 512,
          (if BitVec.ofNat 32 p.val = x0 (ix3 0 0 k) then (x1 (ix3 0 k q) : EReal) else 0) := by
  pointwise [k0_pay2, k0_pay1]
  have hs : ∀ (a b : BitVec 32) (u v : EReal), Scalar.select (IntOp.cmpi .eq a b) u v = if a = b then u else v := fun a b u v => by
    rw [WordCmp.cmpi_eq_eq, WordCmp.select_decide]
  have hz : ∀ z, (x1 z : EReal) - x1 z = 0 := fun z => sub_self_finite _ (hfin z).1 (hfin z).2
  simp only [hs, hz, ite_self, Finset.sum_const_zero, add_zero]

/-- The block indices of the windows in closed form, decided over the grid. -/
theorem idx : ∀ t : Fin cfg0.N, win0_0.index t = ![t.val / 8, 0, 0]
    ∧ win0_1.index t = ![t.val / 8, 0, t.val % 8]
    ∧ win0_2.index t = ![0, 0, t.val % 8]
    ∧ win0_3.index t = ![t.val / 8, t.val % 8]
    ∧ win0_4.index t = ![t.val / 8, t.val % 8] :=
  (by decide +kernel : ∀ t : Fin grid0.N, _)

/-- A point's slots' tokens are those of its request. -/
theorem block_words (c : Dev nD) (t : Fin cfg0.N) (q) : iblk m c 0 t q
    = V m c main_v1 (ix3 ⟨t.val / 8, by have := t.isLt; have : cfg0.N = 128 := N_0; omega⟩ 0 (q 2)) := by
  show V m c main_v1 (((cfg0.win 0).blk t).view.emb q) = _
  generalize V m c main_v1 = C
  have h := q
  blk_point [idx t]

/-- Two points of one request have the same slots' tokens. -/
theorem same_words (c : Dev nD) (t t' : Fin cfg0.N) (h : t.val / 8 = t'.val / 8) : iblk m c 0 t = iblk m c 0 t' := by
  funext q
  refine (block_words m c t q).trans (Eq.trans ?_ (block_words m c t' q).symm)
  simp only [h]

/-- The scratch holds the request's one-hot table at every one of its points. -/
theorem table (c : Dev nD) : ∀ (n : ℕ) (h : n < cfg0.N), (outsAt0 m c n h).2 = k0_pay1 (F := Ideal) (iblk m c 0 ⟨n, h⟩)
  | n, h => by
    by_cases h0 : n % 8 = 0
    · rw [outsAt0_A m c ⟨n, h⟩ h0]
      dsimp only
      frame_out
    · have e : (outsAt0 m c n h).2 = (outsAt0 m c (n - 1) (by omega)).2 := by
        rw [outsAt0_B m c ⟨n, h⟩ h0]
        rfl
      rw [e, table c (n - 1) (by omega), same_words m c ⟨n - 1, by omega⟩ ⟨n, h⟩ (by show (n - 1) / 8 = n / 8; omega)]

/-- What the output's block holds after a point. -/
theorem stored (c : Dev nD) (t : Fin cfg0.N) : (outsAt0 m c t.val t.isLt).1
    = k0_pay2 (F := Ideal) (k0_pay1 (F := Ideal) (iblk m c 0 t)) (iblk m c 1 t) (iblk m c 3 t) (iblk m c 2 t) := by
  by_cases h0 : t.val % 8 = 0
  · rw [outsAt0_A m c t h0]
    dsimp only
    frame_out
  · have hs := table m c (t.val - 1) (Nat.lt_of_le_of_lt (Nat.sub_le _ _) t.isLt)
    rw [same_words m c ⟨t.val - 1, Nat.lt_of_le_of_lt (Nat.sub_le _ _) t.isLt⟩ t (by show (t.val - 1) / 8 = t.val / 8; omega)] at hs
    rw [outsAt0_B m c t h0]
    dsimp only
    rw [hs]
    frame_out
    exact congrArg (fun T => k0_pay2 (F := Ideal) T (iblk m c 1 t) (iblk m c 3 t) (iblk m c 2 t)) (Memref.IsWhole.read_unread _ _)

/-- The call's rows are the argument's rows with the slots numbered over all the experts. -/
theorem entry_rows (c : Dev nD) : V m c main_v0 = shapeCast S16x512x4096 (m ((c : Thread nD τ).loc main_arg2)) shapeCasts_S16x16x32x4096_S16x512x4096 := by
  entry_read
  rfl

/-- The call's words are the argument's words with the slots numbered over all the experts. -/
theorem entry_words (c : Dev nD) : V m c main_v1 = shapeCast S16x1x512 (m ((c : Thread nD τ).loc main_arg3)) shapeCasts_S16x16x32_S16x1x512 := by
  entry_read
  rfl

/-- The call's gates. -/
theorem entry_gate (c : Dev nD) : V m c main_v2 = broadcastInDim S8x1x4096 ![0, 2] bcast_S8x4096_S8x1x4096_0_2 (m ((c : Thread nD τ).loc main_arg1)) := by
  entry_read
  rfl

/-- What the body stores at an index of its block is the token's row at the place of that index in the array. -/
theorem point (c : Dev nD) (t : Fin cfg0.N) (hfin : ∀ q, V m c main_v0 q ≠ (⊤ : EReal) ∧ V m c main_v0 q ≠ (⊥ : EReal)) (y) :
    k0_pay2 (F := Ideal) (k0_pay1 (F := Ideal) (iblk m c 0 t)) (iblk m c 1 t) (iblk m c 3 t) (iblk m c 2 t) y
      = combined (V m c main_arg0) (V m c main_v2) (V m c main_v0) (V m c main_v1) (((cfg0.win 4).blk t).view.emb y) := by
  have h := pay_apply (iblk m c 0 t) (iblk m c 1 t) (iblk m c 2 t) (iblk m c 3 t) (fun q => hfin _) (y 0) (y 1)
  rw [← Idealize.ShloMosaic.eq_ix2 y] at h
  rw [h]
  have h0 : iblk m c 0 t = fun q => V m c main_v1 (((cfg0.win 0).blk t).view.emb q) := rfl
  have h1 : iblk m c 1 t = fun q => V m c main_v0 (((cfg0.win 1).blk t).view.emb q) := rfl
  have h2 : iblk m c 2 t = fun q => V m c main_v2 (((cfg0.win 2).blk t).view.emb q) := rfl
  have h3 : iblk m c 3 t = fun q => V m c main_arg0 (((cfg0.win 3).blk t).view.emb q) := rfl
  rw [h0, h1, h2, h3]
  generalize V m c main_v1 = I
  generalize V m c main_v0 = O
  generalize V m c main_v2 = G
  generalize V m c main_arg0 = X
  unfold combined
  have ht : t.val < 128 := lt_of_lt_of_eq t.isLt (show cfg0.N = 128 from N_0)
  have h4 : (((cfg0.win 4).blk t).view.emb y 0).val < 4096 := by
    have hy : (y 0).val < 256 := (y 0).isLt
    blk_simp [idx t]
    omega
  rw [dif_pos h4]
  blk_point [idx t]
  congr 1
  omega

/-- After the call its result array holds the rows with the slots' sums put in. -/
theorem final (c : Dev nD) (hfin : ∀ q, V m c main_v0 q ≠ (⊤ : EReal) ∧ V m c main_v0 q ≠ (⊥ : EReal)) :
    (dats m 0 c).arrAt 4 cfg0.N = combined (V m c main_arg0) (V m c main_v2) (V m c main_v0) (V m c main_v1) := by
  refine (dats m 0 c).arrAt_eq_of_coversWhere_of_agree 4 _ (fun β => β (0 : Fin 2) < 16) (by decide +kernel) (fun t _ y => ?_) (fun j hj => ?_)
  · blk_simp
    rw [after0_4, stored m c t]
    exact point m c t hfin y
  · have hr : ¬ (j 0).val < 4096 := fun h => hj (by
      show (j 0).val / 256 < 16
      omega)
    rw [A_eq]
    show V m c main_v3 j = combined _ _ _ _ j
    unfold combined
    rw [dif_neg hr, V_main_arg0]
    have h3 : V m c main_v3 = m ((c : Thread nD τ).loc main_arg0) := by
      entry_read
      rfl
    rw [h3]

/-- The gates as the call takes them. -/
theorem gate_apply (A1 : FVec Ideal S8x4096 .f32) (n : Fin 4096) :
    broadcastInDim S8x1x4096 ![0, 2] bcast_S8x4096_S8x1x4096_0_2 A1 (ix3 0 0 n) = A1 (ix2 0 n) := by
  pointwise

/-- The experts' rows as the call takes them. -/
theorem rows_apply (A2 : FVec Ideal S16x16x32x4096 .f32) (b : Fin 16) (k : Fin 512) (n : Fin 4096) :
    shapeCast S16x512x4096 A2 shapeCasts_S16x16x32x4096_S16x512x4096 (ix3 b k n)
      = A2 (ix4 b ⟨k.val / 32, by omega⟩ ⟨k.val % 32, by omega⟩ n) := by
  pointwise

/-- The slots' words as the call takes them. -/
theorem words_apply (A3 : IVec S16x16x32 32) (b : Fin 16) (k : Fin 512) :
    shapeCast S16x1x512 A3 shapeCasts_S16x16x32_S16x1x512 (ix3 b 0 k) = A3 (ix3 b ⟨k.val / 32, by omega⟩ ⟨k.val % 32, by omega⟩) := by
  pointwise

/-- The call's result is the reference's rows, where no word is negative and every row is finite. -/
theorem combined_eq (c : Dev nD) (h : ∀ q, 0 ≤ (m ((c : Thread nD τ).loc main_arg3) q : BitVec 32).toInt) :
    combined (V m c main_arg0) (V m c main_v2) (V m c main_v0) (V m c main_v1)
      = Cert.Reference9Ideal.Combine.refRows (m ((c : Thread nD τ).loc main_arg0)) (m ((c : Thread nD τ).loc main_arg1))
        (Cert.Reference9Ideal.Combine.mix (Cert.Reference9Ideal.Combine.pairs Cert.Reference9Ideal.Combine.requests
          (Cert.Reference9Ideal.Combine.tokens (m ((c : Thread nD τ).loc main_arg3)))) (m ((c : Thread nD τ).loc main_arg2))) := by
  rw [V_main_arg0, entry_gate, entry_rows, entry_words]
  generalize m ((c : Thread nD τ).loc main_arg0) = A0
  generalize m ((c : Thread nD τ).loc main_arg1) = A1
  generalize m ((c : Thread nD τ).loc main_arg2) = A2
  generalize m ((c : Thread nD τ).loc main_arg3) = A3 at h ⊢
  have key : ∀ (i : Fin 8192) (n : Fin 4096), combined A0 (broadcastInDim S8x1x4096 ![0, 2] bcast_S8x4096_S8x1x4096_0_2 A1)
      (shapeCast S16x512x4096 A2 shapeCasts_S16x16x32x4096_S16x512x4096) (shapeCast S16x1x512 A3 shapeCasts_S16x16x32_S16x1x512) (ix2 i n)
      = Cert.Reference9Ideal.Combine.refRows A0 A1
        (Cert.Reference9Ideal.Combine.mix (Cert.Reference9Ideal.Combine.pairs Cert.Reference9Ideal.Combine.requests
          (Cert.Reference9Ideal.Combine.tokens A3)) A2) (ix2 i n) := by
    intro i n
    rw [Cert.Reference9Ideal.Combine.refRows_apply]
    unfold combined
    by_cases hi : i.val < 4096
    · rw [dif_pos hi, dif_pos (show ((ix2 i n : S8192x4096.Idx) 0).val < 4096 from hi), Cert.Reference9Ideal.Combine.mix_apply A2 A3 h]
      refine congrArg₂ (fun g s : EReal => HAdd.hAdd (α := EReal) (A0 (ix2 i n)) (g * s)) (gate_apply A1 n) (Finset.sum_congr rfl fun k _ => ?_)
      rw [← rows_apply A2 ⟨i.val / 256, by omega⟩ k n, ← words_apply A3 ⟨i.val / 256, by omega⟩ k]
      rfl
    · rw [dif_neg hi, dif_neg (show ¬ ((ix2 i n : S8192x4096.Idx) 0).val < 4096 from hi)]
  funext j
  rw [Idealize.ShloMosaic.eq_ix2 j]
  exact key _ _

end Cert.Kernel9Ideal.Combine

namespace Cert.Proof

open Idealize.ShloMosaic Idealize.SL.Sem

/-- The reference of the scatter leaves its arguments unchanged and has no counter. -/
theorem quiescent_reference9 : Cert.quiescent_Reference9Ideal := fun m ρ _ =>
  (θ_run _ _ _).mono (fun r h => ⟨fun c => (h c).2, sem_eq_zero_of_no_sems (by decide) r.2⟩) (Cert.Reference9Ideal.Value.run m ρ)

/-- The scatter of the experts' rows: where no word is negative and every row is finite, the kernel's result is the
    reference's. -/
theorem combine_algebraic [hf : Cert.Pre_slots_named_rows_finite.Facts] :
    Cert.algebraic_Kernel9Ideal_Reference9Ideal_pre_slots_named_rows_finite := by
  pair_intro
  · run_from Cert.Kernel9Ideal.Value.run m g
  · run_from Cert.Reference9Ideal.Value.run m' g'
    have hp := Cert.Pre_slots_named_rows_finite.Combine.words_rows _ _ _ _ (hpre c)
    have hfin : ∀ q, Cert.Kernel9Ideal.Gen.V m c Cert.Kernel9Ideal.main_v0 q ≠ (⊤ : EReal)
        ∧ Cert.Kernel9Ideal.Gen.V m c Cert.Kernel9Ideal.main_v0 q ≠ (⊥ : EReal) := fun q => by
      rw [Cert.Kernel9Ideal.Combine.entry_rows m c]
      exact hp.2 _
    rw [← Cert.Kernel9Ideal.Value.final4 m c, Cert.Kernel9Ideal.Combine.final m c hfin,
      Cert.Kernel9Ideal.Combine.combined_eq m c hp.1, (hagree c).2.2.2]
    rfl

end Cert.Proof

end
-- ==== Proof.MixerNorm.lean ====
/-
  The norm before a mixer, with its modulation.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Claim
public import Idealize.ShloMosaic.Lib.Quiescent

@[expose] public section

set_option maxRecDepth 16384

noncomputable section

namespace Cert.Reference10Ideal.MixerNorm

open Cert.Reference10Ideal Cert.Reference10Ideal.Gen
open Idealize.ShloMosaic Idealize.ShloMosaic.TcCoe Idealize.SL.Sem

/-- The condition row of a token: row 0 for the prompts, row 1 + b for sample b. -/
def condRow (i : Fin 8192) : Fin 8 := if i.val < 4096 then 0 else ⟨1 + (i.val - 4096) / 1024, by omega⟩

/-- The norm of a row of the residual stream, times its weights. -/
def normed (X : FVec Ideal S8192x4096 .f32) (G : FVec Ideal S4096 .f32) : FVec Ideal S8192x4096 .f32 :=
  fun j => X j * Ideal.rsqrt (Ideal.div (∑ k : Fin 4096, X (ix2 (j 0) k) * X (ix2 (j 0) k)) (Ideal.ofBits .f32 0x45800000#32)
    + Ideal.ofBits .f32 0x358637BD#32) * G (ix1 (j 1))

/-- The normed rows, scaled and shifted by the rows of their conditions. -/
def modded (X : FVec Ideal S8192x4096 .f32) (G : FVec Ideal S4096 .f32) (C H : FVec Ideal S8x4096 .f32) : FVec Ideal S8192x4096 .f32 :=
  fun j => normed X G j * (1 + C (ix2 (condRow (j 0)) (j 1))) + H (ix2 (condRow (j 0)) (j 1))

/-- The reference's norm of all the rows. -/
def refNorm (A0 : FVec Ideal S8192x4096 .f32) (A1 : FVec Ideal S4096 .f32) : FVec Ideal S8192x4096 .f32 :=
  mulf (mulf A0 (broadcastInDim S8192x4096 ![0, 1] bcast_S8192x1_S8192x4096_0_1 (Host.rsqrt (addf (Host.divf (broadcastInDim S8192x1 ![0] bcast_S8192_S8192x1_0 (Host.reduceAdd (mulf A0 A0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 A1))

/-- The reference's rows, the prompts' and then the samples'. -/
def refRows (N : FVec Ideal S8192x4096 .f32) (A2 A3 : FVec Ideal S8x4096 .f32) : FVec Ideal S8192x4096 .f32 :=
  concatenate S8192x4096 0 [⟨S4096x4096, (shapeCast _ (addf (mulf (shapeCast _ (extractStridedSlice S4096x4096 ![0, 0] N slices_S8192x4096_S4096x4096_0_0) shapeCasts_S4096x4096_S16x256x4096) (broadcastInDim S16x256x4096 ![0, 1, 2] bcast_S1x1x4096_S16x256x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 0] A2 slices_S8x4096_S1x4096_0_0))))) (broadcastInDim S16x256x4096 ![0, 1, 2] bcast_S1x1x4096_S16x256x4096_0_1_2 (broadcastInDim S1x1x4096 ![0, 2] bcast_S1x4096_S1x1x4096_0_2 (extractStridedSlice S1x4096 ![0, 0] A3 slices_S8x4096_S1x4096_0_0)))) shapeCasts_S16x256x4096_S4096x4096)⟩, ⟨S4096x4096, (shapeCast _ (addf (mulf (shapeCast _ (extractStridedSlice S4096x4096 ![4096, 0] N slices_S8192x4096_S4096x4096_4096_0) shapeCasts_S4096x4096_S4x1024x4096) (broadcastInDim S4x1024x4096 ![0, 1, 2] bcast_S4x1x4096_S4x1024x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![1, 0] A2 slices_S8x4096_S4x4096_1_0))))) (broadcastInDim S4x1024x4096 ![0, 1, 2] bcast_S4x1x4096_S4x1024x4096_0_1_2 (broadcastInDim S4x1x4096 ![0, 2] bcast_S4x4096_S4x1x4096_0_2 (extractStridedSlice S4x4096 ![1, 0] A3 slices_S8x4096_S4x4096_1_0)))) shapeCasts_S4x1024x4096_S4096x4096)⟩] concatenates_S4096x4096_S4096x4096_S8192x4096_d0

/-- The reference's norm at an index. -/
theorem refNorm_apply (A0 : FVec Ideal S8192x4096 .f32) (A1 : FVec Ideal S4096 .f32) (i : Fin 8192) (n : Fin 4096) :
    refNorm A0 A1 (ix2 i n) = normed A0 A1 (ix2 i n) := by
  unfold refNorm normed
  pointwise

/-- The reference's rows are the modulated ones. -/
theorem refRows_eq (A0 : FVec Ideal S8192x4096 .f32) (A1 : FVec Ideal S4096 .f32) (A2 A3 : FVec Ideal S8x4096 .f32) :
    refRows (refNorm A0 A1) A2 A3 = modded A0 A1 A2 A3 := by
  have key : ∀ (i : Fin 8192) (n : Fin 4096), refRows (refNorm A0 A1) A2 A3 (ix2 i n) = modded A0 A1 A2 A3 (ix2 i n) := by
    intro i n
    have hn := refNorm_apply A0 A1
    unfold modded
    generalize refNorm A0 A1 = N at hn ⊢
    generalize normed A0 A1 = M at hn ⊢
    unfold refRows
    pointwise
    have hi : i.val < 4096 → i.val / 256 * 256 + i.val % 256 = i.val := fun _ => by omega
    have hs : ¬ i.val < 4096 → 4096 + ((i.val - 4096) / 1024 * 1024 + (i.val - 4096) % 1024) = i.val := fun _ => by omega
    split_ifs with h h'
    · simp only [hi h, show condRow i = 0 from if_pos h]
      rw [hn]
    · simp only [hs h, show condRow i = ⟨1 + (i.val - 4096) / 1024, by omega⟩ from if_neg h]
      rw [hn]
    · exact absurd rfl h'
  funext j
  rw [Idealize.ShloMosaic.eq_ix2 j]
  exact key _ _

end Cert.Reference10Ideal.MixerNorm

namespace Cert.Kernel10Ideal.MixerNorm

open Cert.Kernel10Ideal Cert.Kernel10Ideal.Gen Cert.Reference10Ideal.MixerNorm
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every token of a block of 256 has the condition row that the block's index map names. -/
theorem cond_block (a b : ℕ) (i : Fin 8192) (ha : a < 32) (hb : b < 256) (hi : i.val = a * 256 + b) :
    (if a < 16 then 0 else 1 + (a - 16) / 4) + 0 = (condRow i).val := by
  unfold condRow
  split_ifs <;> simp <;> omega

/-- The block indices of the windows in closed form, decided over the grid. -/
theorem idx : ∀ t : Fin cfg0.N, win0_0.index t = ![(grid0.coords t 0).val, 0]
    ∧ win0_1.index t = ![0, 0]
    ∧ win0_2.index t = ![(if (grid0.coords t 0).val < 16 then 0 else 1 + ((grid0.coords t 0).val - 16) / 4), 0, 0]
    ∧ win0_3.index t = ![(if (grid0.coords t 0).val < 16 then 0 else 1 + ((grid0.coords t 0).val - 16) / 4), 0, 0]
    ∧ win0_4.index t = ![(grid0.coords t 0).val, 0] :=
  (by decide +kernel : ∀ t : Fin grid0.N, _)

/-- What the body computes at an index of its block is the modulated row's element at the place of that index in the array. -/
theorem point (c : Dev nD) (t : Fin cfg0.N) (y) :
    k0_pay1 (F := Ideal) (iblk m c 0 t) (iblk m c 1 t) (iblk m c 2 t) (iblk m c 3 t) y
      = modded (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1]
  unfold modded normed
  blk_point [iblk, V, idx t]
  all_goals exact cond_block _ _ _ (grid0.coords t 0).isLt hb0 (by blk_simp [idx t])

/-- After the call its result array holds the modulated rows. -/
theorem final_rows (c : Dev nD) : (dats m 0 c).arrAt 4 cfg0.N
    = modded (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.Kernel10Ideal.MixerNorm

namespace Cert.Proof

open Idealize.ShloMosaic Idealize.SL.Sem

/-- The reference of the norm before a mixer leaves its arguments unchanged and has no counter. -/
theorem quiescent_reference10 : Cert.quiescent_Reference10Ideal := fun m ρ _ =>
  (θ_run _ _ _).mono (fun r h => ⟨fun c => (h c).2, sem_eq_zero_of_no_sems (by decide) r.2⟩) (Cert.Reference10Ideal.Value.run m ρ)

/-- The norm before a mixer: the kernel's result is the reference's. -/
theorem mixer_norm_algebraic : Cert.algebraic_Kernel10Ideal_Reference10Ideal := by
  pair_intro
  · run_from Cert.Kernel10Ideal.Value.run_blocks m g
  · run_from Cert.Reference10Ideal.Value.run m' g'
    rw [Cert.Kernel10Ideal.MixerNorm.final_rows m c, (hagree c).2.2.2]
    exact Cert.Reference10Ideal.MixerNorm.refRows_eq _ _ _ _

end Cert.Proof

end
-- ==== Proof.HyenaHost.lean ====
/-
  The host operations before the calls of the long convolution: the filters, the tables of cosines and sines and the
  rows of the bias, each buffer named and read off the operations.
-/
module

public import proofs.«01_k».proof.Proof.Gen.Kernel11Ideal.Frame
public import Idealize.ShloMosaic.Lib.Pipeline.ValueKit

@[expose] public section

set_option maxRecDepth 16384

noncomputable section

namespace Cert.Kernel11Ideal.Hyena

open Cert.Kernel11Ideal Cert.Kernel11Ideal.Gen
open Idealize.ShloMosaic Idealize.ShloMosaic.TcCoe Idealize.SL.Sem

/-- An argument of the kernel at a valuation. -/
abbrev k_arg2 (V : Valuation τ sig (Elt Ideal)) : FVec Ideal S12288 .f32 := V (Proc.devRef .tc main_arg2)
/-- An argument of the kernel at a valuation. -/
abbrev k_arg3 (V : Valuation τ sig (Elt Ideal)) : FVec Ideal S33x64 .f32 := V (Proc.devRef .tc main_arg3)
/-- An argument of the kernel at a valuation. -/
abbrev k_arg4 (V : Valuation τ sig (Elt Ideal)) : FVec Ideal S64 .f32 := V (Proc.devRef .tc main_arg4)
/-- An argument of the kernel at a valuation. -/
abbrev k_arg5 (V : Valuation τ sig (Elt Ideal)) : FVec Ideal S64x64 .f32 := V (Proc.devRef .tc main_arg5)
/-- An argument of the kernel at a valuation. -/
abbrev k_arg6 (V : Valuation τ sig (Elt Ideal)) : FVec Ideal S64 .f32 := V (Proc.devRef .tc main_arg6)
/-- An argument of the kernel at a valuation. -/
abbrev k_arg7 (V : Valuation τ sig (Elt Ideal)) : FVec Ideal S64x64 .f32 := V (Proc.devRef .tc main_arg7)
/-- An argument of the kernel at a valuation. -/
abbrev k_arg8 (V : Valuation τ sig (Elt Ideal)) : FVec Ideal S64 .f32 := V (Proc.devRef .tc main_arg8)
/-- An argument of the kernel at a valuation. -/
abbrev k_arg9 (V : Valuation τ sig (Elt Ideal)) : FVec Ideal S64x8192 .f32 := V (Proc.devRef .tc main_arg9)
/-- An argument of the kernel at a valuation. -/
abbrev k_arg10 (V : Valuation τ sig (Elt Ideal)) : FVec Ideal S64 .f32 := V (Proc.devRef .tc main_arg10)
/-- An argument of the kernel at a valuation. -/
abbrev k_arg11 (V : Valuation τ sig (Elt Ideal)) : FVec Ideal S4096 .f32 := V (Proc.devRef .tc main_arg11)
/-- What the operation writing `cst` computes. -/
def k_cst (V : Valuation τ sig (Elt Ideal)) : FVec Ideal S_ .f32 := constant S_ .f32 0x00000000#32
/-- What the operation writing `cst_0` computes. -/
def k_cst_0 (V : Valuation τ sig (Elt Ideal)) : FVec Ideal S_ .f32 := constant S_ .f32 0x3F800000#32
/-- What the operation writing `call0_v0` computes. -/
def k_c0_v0 (V : Valuation τ sig (Elt Ideal)) : FVec Ideal S_ .f32 := (k_cst V)
/-- What the operation writing `call0_v1` computes. -/
def k_c0_v1 (V : Valuation τ sig (Elt Ideal)) : FVec Ideal S_ .f32 := (k_cst_0 V)
/-- What the operation writing `call0_v4` computes. -/
def k_c0_v4 (V : Valuation τ sig (Elt Ideal)) : FVec Ideal S255 .f32 := sitofp .f32 (iotaInDim S255 32 0)
/-- What the operation writing `call0_cst_0` computes. -/
def k_c0_cst_0 (V : Valuation τ sig (Elt Ideal)) : FVec Ideal S_ .f32 := constant S_ .f32 0x437F0000#32
/-- What the operation writing `call0_v5` computes. -/
def k_c0_v5 (V : Valuation τ sig (Elt Ideal)) : FVec Ideal S255 .f32 := broadcastInDim S255 ![] bcast_S_S255 (k_c0_cst_0 V)
/-- What the operation writing `call0_v6` computes. -/
def k_c0_v6 (V : Valuation τ sig (Elt Ideal)) : FVec Ideal S255 .f32 := Host.divf (k_c0_v4 V) (k_c0_v5 V)
/-- What the operation writing `call0_v7` computes. -/
def k_c0_v7 (V : Valuation τ sig (Elt Ideal)) : FVec Ideal S1 .f32 := shapeCast S1 (k_c0_v0 V) shapeCasts_S_S1
/-- What the operation writing `call0_cst_1` computes. -/
def k_c0_cst_1 (V : Valuation τ sig (Elt Ideal)) : FVec Ideal S_ .f32 := constant S_ .f32 0x3F800000#32
/-- What the operation writing `call0_v8` computes. -/
def k_c0_v8 (V : Valuation τ sig (Elt Ideal)) : FVec Ideal S255 .f32 := broadcastInDim S255 ![] bcast_S_S255 (k_c0_cst_1 V)
/-- What the operation writing `call0_v9` computes. -/
def k_c0_v9 (V : Valuation τ sig (Elt Ideal)) : FVec Ideal S255 .f32 := subf (k_c0_v8 V) (k_c0_v6 V)
/-- What the operation writing `call0_v10` computes. -/
def k_c0_v10 (V : Valuation τ sig (Elt Ideal)) : FVec Ideal S255 .f32 := broadcastInDim S255 ![0] bcast_S1_S255_0 (k_c0_v7 V)
/-- What the operation writing `call0_v11` computes. -/
def k_c0_v11 (V : Valuation τ sig (Elt Ideal)) : FVec Ideal S255 .f32 := mulf (k_c0_v10 V) (k_c0_v9 V)
/-- What the operation writing `call0_v12` computes. -/
def k_c0_v12 (V : Valuation τ sig (Elt Ideal)) : FVec Ideal S1 .f32 := shapeCast S1 (k_c0_v1 V) shapeCasts_S_S1
/-- What the operation writing `call0_v13` computes. -/
def k_c0_v13 (V : Valuation τ sig (Elt Ideal)) : FVec Ideal S255 .f32 := broadcastInDim S255 ![0] bcast_S1_S255_0 (k_c0_v12 V)
/-- What the operation writing `call0_v14` computes. -/
def k_c0_v14 (V : Valuation τ sig (Elt Ideal)) : FVec Ideal S255 .f32 := mulf (k_c0_v13 V) (k_c0_v6 V)
/-- What the operation writing `call0_v15` computes. -/
def k_c0_v15 (V : Valuation τ sig (Elt Ideal)) : FVec Ideal S255 .f32 := addf (k_c0_v11 V) (k_c0_v14 V)
/-- What the operation writing `call0_v16` computes. -/
def k_c0_v16 (V : Valuation τ sig (Elt Ideal)) : FVec Ideal S1 .f32 := broadcastInDim S1 ![] bcast_S_S1 (k_c0_v1 V)
/-- What the operation writing `v0` computes. -/
def k_v0 (V : Valuation τ sig (Elt Ideal)) : FVec Ideal S256 .f32 := concatenate S256 0 [⟨S255, (k_c0_v15 V)⟩, ⟨S1, (k_c0_v16 V)⟩] concatenates_S255_S1_S256_d0
/-- What the operation writing `v1` computes. -/
def k_v1 (V : Valuation τ sig (Elt Ideal)) : FVec Ideal S256x1 .f32 := broadcastInDim S256x1 ![0] bcast_S256_S256x1_0 (k_v0 V)
/-- What the operation writing `v2` computes. -/
def k_v2 (V : Valuation τ sig (Elt Ideal)) : FVec Ideal S256 .f32 := sitofp .f32 (iotaInDim S256 32 0)
/-- What the operation writing `v3` computes. -/
def k_v3 (V : Valuation τ sig (Elt Ideal)) : FVec Ideal S256x1 .f32 := broadcastInDim S256x1 ![0] bcast_S256_S256x1_0 (k_v2 V)
/-- What the operation writing `cst_1` computes. -/
def k_cst_1 (V : Valuation τ sig (Elt Ideal)) : FVec Ideal S_ .f32 := constant S_ .f32 0x3CC90FDB#32
/-- What the operation writing `v4` computes. -/
def k_v4 (V : Valuation τ sig (Elt Ideal)) : FVec Ideal S256x1 .f32 := broadcastInDim S256x1 ![] bcast_S_S256x1 (k_cst_1 V)
/-- What the operation writing `v5` computes. -/
def k_v5 (V : Valuation τ sig (Elt Ideal)) : FVec Ideal S256x1 .f32 := mulf (k_v4 V) (k_v3 V)
/-- What the operation writing `cst_2` computes. -/
def k_cst_2 (V : Valuation τ sig (Elt Ideal)) : FVec Ideal S_ .f32 := constant S_ .f32 0x38D1B717#32
/-- What the operation writing `c` computes. -/
def k_c (V : Valuation τ sig (Elt Ideal)) : IVec S_ 32 := constantI S_ 32 15#32
/-- What the operation writing `call1_v0` computes. -/
def k_c1_v0 (V : Valuation τ sig (Elt Ideal)) : FVec Ideal S_ .f32 := (k_cst_2 V)
/-- What the operation writing `call1_v1` computes. -/
def k_c1_v1 (V : Valuation τ sig (Elt Ideal)) : FVec Ideal S_ .f32 := sitofp .f32 (k_c V)
/-- What the operation writing `call1_v4` computes. -/
def k_c1_v4 (V : Valuation τ sig (Elt Ideal)) : FVec Ideal S15 .f32 := sitofp .f32 (iotaInDim S15 32 0)
/-- What the operation writing `call1_cst_0` computes. -/
def k_c1_cst_0 (V : Valuation τ sig (Elt Ideal)) : FVec Ideal S_ .f32 := constant S_ .f32 0x41700000#32
/-- What the operation writing `call1_v5` computes. -/
def k_c1_v5 (V : Valuation τ sig (Elt Ideal)) : FVec Ideal S15 .f32 := broadcastInDim S15 ![] bcast_S_S15 (k_c1_cst_0 V)
/-- What the operation writing `call1_v6` computes. -/
def k_c1_v6 (V : Valuation τ sig (Elt Ideal)) : FVec Ideal S15 .f32 := Host.divf (k_c1_v4 V) (k_c1_v5 V)
/-- What the operation writing `call1_v7` computes. -/
def k_c1_v7 (V : Valuation τ sig (Elt Ideal)) : FVec Ideal S1 .f32 := shapeCast S1 (k_c1_v0 V) shapeCasts_S_S1
/-- What the operation writing `call1_cst_1` computes. -/
def k_c1_cst_1 (V : Valuation τ sig (Elt Ideal)) : FVec Ideal S_ .f32 := constant S_ .f32 0x3F800000#32
/-- What the operation writing `call1_v8` computes. -/
def k_c1_v8 (V : Valuation τ sig (Elt Ideal)) : FVec Ideal S15 .f32 := broadcastInDim S15 ![] bcast_S_S15 (k_c1_cst_1 V)
/-- What the operation writing `call1_v9` computes. -/
def k_c1_v9 (V : Valuation τ sig (Elt Ideal)) : FVec Ideal S15 .f32 := subf (k_c1_v8 V) (k_c1_v6 V)
/-- What the operation writing `call1_v10` computes. -/
def k_c1_v10 (V : Valuation τ sig (Elt Ideal)) : FVec Ideal S15 .f32 := broadcastInDim S15 ![0] bcast_S1_S15_0 (k_c1_v7 V)
/-- What the operation writing `call1_v11` computes. -/
def k_c1_v11 (V : Valuation τ sig (Elt Ideal)) : FVec Ideal S15 .f32 := mulf (k_c1_v10 V) (k_c1_v9 V)
/-- What the operation writing `call1_v12` computes. -/
def k_c1_v12 (V : Valuation τ sig (Elt Ideal)) : FVec Ideal S1 .f32 := shapeCast S1 (k_c1_v1 V) shapeCasts_S_S1
/-- What the operation writing `call1_v13` computes. -/
def k_c1_v13 (V : Valuation τ sig (Elt Ideal)) : FVec Ideal S15 .f32 := broadcastInDim S15 ![0] bcast_S1_S15_0 (k_c1_v12 V)
/-- What the operation writing `call1_v14` computes. -/
def k_c1_v14 (V : Valuation τ sig (Elt Ideal)) : FVec Ideal S15 .f32 := mulf (k_c1_v13 V) (k_c1_v6 V)
/-- What the operation writing `call1_v15` computes. -/
def k_c1_v15 (V : Valuation τ sig (Elt Ideal)) : FVec Ideal S15 .f32 := addf (k_c1_v11 V) (k_c1_v14 V)
/-- What the operation writing `call1_v16` computes. -/
def k_c1_v16 (V : Valuation τ sig (Elt Ideal)) : FVec Ideal S1 .f32 := broadcastInDim S1 ![] bcast_S_S1 (k_c1_v1 V)
/-- What the operation writing `v6` computes. -/
def k_v6 (V : Valuation τ sig (Elt Ideal)) : FVec Ideal S16 .f32 := concatenate S16 0 [⟨S15, (k_c1_v15 V)⟩, ⟨S1, (k_c1_v16 V)⟩] concatenates_S15_S1_S16_d0
/-- What the operation writing `v7` computes. -/
def k_v7 (V : Valuation τ sig (Elt Ideal)) : FVec Ideal S1x16 .f32 := broadcastInDim S1x16 ![1] bcast_S16_S1x16_1 (k_v6 V)
/-- What the operation writing `v8` computes. -/
def k_v8 (V : Valuation τ sig (Elt Ideal)) : FVec Ideal S256x16 .f32 := broadcastInDim S256x16 ![0, 1] bcast_S256x1_S256x16_0_1 (k_v5 V)
/-- What the operation writing `v9` computes. -/
def k_v9 (V : Valuation τ sig (Elt Ideal)) : FVec Ideal S256x16 .f32 := broadcastInDim S256x16 ![0, 1] bcast_S1x16_S256x16_0_1 (k_v7 V)
/-- What the operation writing `v10` computes. -/
def k_v10 (V : Valuation τ sig (Elt Ideal)) : FVec Ideal S256x16 .f32 := mulf (k_v8 V) (k_v9 V)
/-- What the operation writing `v11` computes. -/
def k_v11 (V : Valuation τ sig (Elt Ideal)) : FVec Ideal S256x16 .f32 := Host.cos (k_v10 V)
/-- What the operation writing `v12` computes. -/
def k_v12 (V : Valuation τ sig (Elt Ideal)) : FVec Ideal S256x16 .f32 := Host.sin (k_v10 V)
/-- What the operation writing `v13` computes. -/
def k_v13 (V : Valuation τ sig (Elt Ideal)) : FVec Ideal S256x16 .f32 := Host.negf (k_v12 V)
/-- What the operation writing `v14` computes. -/
def k_v14 (V : Valuation τ sig (Elt Ideal)) : FVec Ideal S256x33 .f32 := concatenate S256x33 1 [⟨S256x1, (k_v1 V)⟩, ⟨S256x16, (k_v11 V)⟩, ⟨S256x16, (k_v13 V)⟩] concatenates_S256x1_S256x16_S256x16_S256x33_d1
/-- What the operation writing `v15` computes. -/
def k_v15 (V : Valuation τ sig (Elt Ideal)) : FVec Ideal S256x64 .f32 := Host.dotGeneral dot_S256x33_S33x64_S256x64_1_0_0_1_n_n (some .fp32) (k_v14 V) (k_arg3 V)
/-- What the operation writing `v16` computes. -/
def k_v16 (V : Valuation τ sig (Elt Ideal)) : FVec Ideal S1x64 .f32 := broadcastInDim S1x64 ![1] bcast_S64_S1x64_1 (k_arg4 V)
/-- What the operation writing `v17` computes. -/
def k_v17 (V : Valuation τ sig (Elt Ideal)) : FVec Ideal S256x64 .f32 := broadcastInDim S256x64 ![0, 1] bcast_S1x64_S256x64_0_1 (k_v16 V)
/-- What the operation writing `v18` computes. -/
def k_v18 (V : Valuation τ sig (Elt Ideal)) : FVec Ideal S256x64 .f32 := addf (k_v15 V) (k_v17 V)
/-- What the operation writing `v19` computes. -/
def k_v19 (V : Valuation τ sig (Elt Ideal)) : FVec Ideal S1x64 .f32 := broadcastInDim S1x64 ![1] bcast_S64_S1x64_1 (k_arg10 V)
/-- What the operation writing `v20` computes. -/
def k_v20 (V : Valuation τ sig (Elt Ideal)) : FVec Ideal S256x64 .f32 := broadcastInDim S256x64 ![0, 1] bcast_S1x64_S256x64_0_1 (k_v19 V)
/-- What the operation writing `v21` computes. -/
def k_v21 (V : Valuation τ sig (Elt Ideal)) : FVec Ideal S256x64 .f32 := mulf (k_v20 V) (k_v18 V)
/-- What the operation writing `v22` computes. -/
def k_v22 (V : Valuation τ sig (Elt Ideal)) : FVec Ideal S256x64 .f32 := Host.sin (k_v21 V)
/-- What the operation writing `v23` computes. -/
def k_v23 (V : Valuation τ sig (Elt Ideal)) : FVec Ideal S256x64 .f32 := Host.dotGeneral dot_S256x64_S64x64_S256x64_1_0_0_1_n_n (some .fp32) (k_v22 V) (k_arg5 V)
/-- What the operation writing `v24` computes. -/
def k_v24 (V : Valuation τ sig (Elt Ideal)) : FVec Ideal S1x64 .f32 := broadcastInDim S1x64 ![1] bcast_S64_S1x64_1 (k_arg6 V)
/-- What the operation writing `v25` computes. -/
def k_v25 (V : Valuation τ sig (Elt Ideal)) : FVec Ideal S256x64 .f32 := broadcastInDim S256x64 ![0, 1] bcast_S1x64_S256x64_0_1 (k_v24 V)
/-- What the operation writing `v26` computes. -/
def k_v26 (V : Valuation τ sig (Elt Ideal)) : FVec Ideal S256x64 .f32 := addf (k_v23 V) (k_v25 V)
/-- What the operation writing `v27` computes. -/
def k_v27 (V : Valuation τ sig (Elt Ideal)) : FVec Ideal S1x64 .f32 := broadcastInDim S1x64 ![1] bcast_S64_S1x64_1 (k_arg10 V)
/-- What the operation writing `v28` computes. -/
def k_v28 (V : Valuation τ sig (Elt Ideal)) : FVec Ideal S256x64 .f32 := broadcastInDim S256x64 ![0, 1] bcast_S1x64_S256x64_0_1 (k_v27 V)
/-- What the operation writing `v29` computes. -/
def k_v29 (V : Valuation τ sig (Elt Ideal)) : FVec Ideal S256x64 .f32 := mulf (k_v28 V) (k_v26 V)
/-- What the operation writing `v30` computes. -/
def k_v30 (V : Valuation τ sig (Elt Ideal)) : FVec Ideal S256x64 .f32 := Host.sin (k_v29 V)
/-- What the operation writing `v31` computes. -/
def k_v31 (V : Valuation τ sig (Elt Ideal)) : FVec Ideal S256x64 .f32 := Host.dotGeneral dot_S256x64_S64x64_S256x64_1_0_0_1_n_n (some .fp32) (k_v30 V) (k_arg7 V)
/-- What the operation writing `v32` computes. -/
def k_v32 (V : Valuation τ sig (Elt Ideal)) : FVec Ideal S1x64 .f32 := broadcastInDim S1x64 ![1] bcast_S64_S1x64_1 (k_arg8 V)
/-- What the operation writing `v33` computes. -/
def k_v33 (V : Valuation τ sig (Elt Ideal)) : FVec Ideal S256x64 .f32 := broadcastInDim S256x64 ![0, 1] bcast_S1x64_S256x64_0_1 (k_v32 V)
/-- What the operation writing `v34` computes. -/
def k_v34 (V : Valuation τ sig (Elt Ideal)) : FVec Ideal S256x64 .f32 := addf (k_v31 V) (k_v33 V)
/-- What the operation writing `v35` computes. -/
def k_v35 (V : Valuation τ sig (Elt Ideal)) : FVec Ideal S1x64 .f32 := broadcastInDim S1x64 ![1] bcast_S64_S1x64_1 (k_arg10 V)
/-- What the operation writing `v36` computes. -/
def k_v36 (V : Valuation τ sig (Elt Ideal)) : FVec Ideal S256x64 .f32 := broadcastInDim S256x64 ![0, 1] bcast_S1x64_S256x64_0_1 (k_v35 V)
/-- What the operation writing `v37` computes. -/
def k_v37 (V : Valuation τ sig (Elt Ideal)) : FVec Ideal S256x64 .f32 := mulf (k_v36 V) (k_v34 V)
/-- What the operation writing `v38` computes. -/
def k_v38 (V : Valuation τ sig (Elt Ideal)) : FVec Ideal S256x64 .f32 := Host.sin (k_v37 V)
/-- What the operation writing `v39` computes. -/
def k_v39 (V : Valuation τ sig (Elt Ideal)) : FVec Ideal S256x8192 .f32 := Host.dotGeneral dot_S256x64_S64x8192_S256x8192_1_0_0_1_n_n (some .fp32) (k_v38 V) (k_arg9 V)
/-- What the operation writing `v40` computes. -/
def k_v40 (V : Valuation τ sig (Elt Ideal)) : FVec Ideal S256x2x4096 .f32 := shapeCast S256x2x4096 (k_v39 V) shapeCasts_S256x8192_S256x2x4096
/-- What the operation writing `cst_3` computes. -/
def k_cst_3 (V : Valuation τ sig (Elt Ideal)) : FVec Ideal S_ .f32 := constant S_ .f32 0xC0447CBD#32
/-- What the operation writing `cst_4` computes. -/
def k_cst_4 (V : Valuation τ sig (Elt Ideal)) : FVec Ideal S_ .f32 := constant S_ .f32 0xC1759BEC#32
/-- What the operation writing `call2_v0` computes. -/
def k_c2_v0 (V : Valuation τ sig (Elt Ideal)) : FVec Ideal S_ .f32 := (k_cst_3 V)
/-- What the operation writing `call2_v1` computes. -/
def k_c2_v1 (V : Valuation τ sig (Elt Ideal)) : FVec Ideal S_ .f32 := (k_cst_4 V)
/-- What the operation writing `call2_v4` computes. -/
def k_c2_v4 (V : Valuation τ sig (Elt Ideal)) : FVec Ideal S4095 .f32 := sitofp .f32 (iotaInDim S4095 32 0)
/-- What the operation writing `call2_cst_0` computes. -/
def k_c2_cst_0 (V : Valuation τ sig (Elt Ideal)) : FVec Ideal S_ .f32 := constant S_ .f32 0x457FF000#32
/-- What the operation writing `call2_v5` computes. -/
def k_c2_v5 (V : Valuation τ sig (Elt Ideal)) : FVec Ideal S4095 .f32 := broadcastInDim S4095 ![] bcast_S_S4095 (k_c2_cst_0 V)
/-- What the operation writing `call2_v6` computes. -/
def k_c2_v6 (V : Valuation τ sig (Elt Ideal)) : FVec Ideal S4095 .f32 := Host.divf (k_c2_v4 V) (k_c2_v5 V)
/-- What the operation writing `call2_v7` computes. -/
def k_c2_v7 (V : Valuation τ sig (Elt Ideal)) : FVec Ideal S1 .f32 := shapeCast S1 (k_c2_v0 V) shapeCasts_S_S1
/-- What the operation writing `call2_cst_1` computes. -/
def k_c2_cst_1 (V : Valuation τ sig (Elt Ideal)) : FVec Ideal S_ .f32 := constant S_ .f32 0x3F800000#32
/-- What the operation writing `call2_v8` computes. -/
def k_c2_v8 (V : Valuation τ sig (Elt Ideal)) : FVec Ideal S4095 .f32 := broadcastInDim S4095 ![] bcast_S_S4095 (k_c2_cst_1 V)
/-- What the operation writing `call2_v9` computes. -/
def k_c2_v9 (V : Valuation τ sig (Elt Ideal)) : FVec Ideal S4095 .f32 := subf (k_c2_v8 V) (k_c2_v6 V)
/-- What the operation writing `call2_v10` computes. -/
def k_c2_v10 (V : Valuation τ sig (Elt Ideal)) : FVec Ideal S4095 .f32 := broadcastInDim S4095 ![0] bcast_S1_S4095_0 (k_c2_v7 V)
/-- What the operation writing `call2_v11` computes. -/
def k_c2_v11 (V : Valuation τ sig (Elt Ideal)) : FVec Ideal S4095 .f32 := mulf (k_c2_v10 V) (k_c2_v9 V)
/-- What the operation writing `call2_v12` computes. -/
def k_c2_v12 (V : Valuation τ sig (Elt Ideal)) : FVec Ideal S1 .f32 := shapeCast S1 (k_c2_v1 V) shapeCasts_S_S1
/-- What the operation writing `call2_v13` computes. -/
def k_c2_v13 (V : Valuation τ sig (Elt Ideal)) : FVec Ideal S4095 .f32 := broadcastInDim S4095 ![0] bcast_S1_S4095_0 (k_c2_v12 V)
/-- What the operation writing `call2_v14` computes. -/
def k_c2_v14 (V : Valuation τ sig (Elt Ideal)) : FVec Ideal S4095 .f32 := mulf (k_c2_v13 V) (k_c2_v6 V)
/-- What the operation writing `call2_v15` computes. -/
def k_c2_v15 (V : Valuation τ sig (Elt Ideal)) : FVec Ideal S4095 .f32 := addf (k_c2_v11 V) (k_c2_v14 V)
/-- What the operation writing `call2_v16` computes. -/
def k_c2_v16 (V : Valuation τ sig (Elt Ideal)) : FVec Ideal S1 .f32 := broadcastInDim S1 ![] bcast_S_S1 (k_c2_v1 V)
/-- What the operation writing `v41` computes. -/
def k_v41 (V : Valuation τ sig (Elt Ideal)) : FVec Ideal S4096 .f32 := concatenate S4096 0 [⟨S4095, (k_c2_v15 V)⟩, ⟨S1, (k_c2_v16 V)⟩] concatenates_S4095_S1_S4096_d0
/-- What the operation writing `v42` computes. -/
def k_v42 (V : Valuation τ sig (Elt Ideal)) : FVec Ideal S4096 .f32 := Host.absf (k_v41 V)
/-- What the operation writing `v43` computes. -/
def k_v43 (V : Valuation τ sig (Elt Ideal)) : FVec Ideal S256x1 .f32 := Host.negf (k_v1 V)
/-- What the operation writing `v44` computes. -/
def k_v44 (V : Valuation τ sig (Elt Ideal)) : FVec Ideal S1x4096 .f32 := broadcastInDim S1x4096 ![1] bcast_S4096_S1x4096_1 (k_v42 V)
/-- What the operation writing `v45` computes. -/
def k_v45 (V : Valuation τ sig (Elt Ideal)) : FVec Ideal S256x4096 .f32 := broadcastInDim S256x4096 ![0, 1] bcast_S256x1_S256x4096_0_1 (k_v43 V)
/-- What the operation writing `v46` computes. -/
def k_v46 (V : Valuation τ sig (Elt Ideal)) : FVec Ideal S256x4096 .f32 := broadcastInDim S256x4096 ![0, 1] bcast_S1x4096_S256x4096_0_1 (k_v44 V)
/-- What the operation writing `v47` computes. -/
def k_v47 (V : Valuation τ sig (Elt Ideal)) : FVec Ideal S256x4096 .f32 := mulf (k_v45 V) (k_v46 V)
/-- What the operation writing `v48` computes. -/
def k_v48 (V : Valuation τ sig (Elt Ideal)) : FVec Ideal S256x4096 .f32 := Host.exp (k_v47 V)
/-- What the operation writing `v49` computes. -/
def k_v49 (V : Valuation τ sig (Elt Ideal)) : FVec Ideal S256x1x4096 .f32 := broadcastInDim S256x1x4096 ![0, 2] bcast_S256x4096_S256x1x4096_0_2 (k_v48 V)
/-- What the operation writing `v50` computes. -/
def k_v50 (V : Valuation τ sig (Elt Ideal)) : FVec Ideal S256x2x4096 .f32 := broadcastInDim S256x2x4096 ![0, 1, 2] bcast_S256x1x4096_S256x2x4096_0_1_2 (k_v49 V)
/-- What the operation writing `v51` computes. -/
def k_v51 (V : Valuation τ sig (Elt Ideal)) : FVec Ideal S256x2x4096 .f32 := mulf (k_v40 V) (k_v50 V)
/-- What the operation writing `v52` computes. -/
def k_v52 (V : Valuation τ sig (Elt Ideal)) : FVec Ideal S256x2x4096 .f32 := Host.absf (k_v51 V)
/-- What the operation writing `cst_5` computes. -/
def k_cst_5 (V : Valuation τ sig (Elt Ideal)) : FVec Ideal S_ .f32 := constant S_ .f32 0x00000000#32
/-- What the operation writing `v53` computes. -/
def k_v53 (V : Valuation τ sig (Elt Ideal)) : FVec Ideal S4096 .f32 := Host.reduceAdd (k_v52 V) (k_cst_5 V) reducesTo_S256x2x4096_S4096_d0_1 h_S_
/-- What the operation writing `cst_6` computes. -/
def k_cst_6 (V : Valuation τ sig (Elt Ideal)) : FVec Ideal S_ .f32 := constant S_ .f32 0x358637BD#32
/-- What the operation writing `v54` computes. -/
def k_v54 (V : Valuation τ sig (Elt Ideal)) : FVec Ideal S4096 .f32 := broadcastInDim S4096 ![] bcast_S_S4096 (k_cst_6 V)
/-- What the operation writing `v55` computes. -/
def k_v55 (V : Valuation τ sig (Elt Ideal)) : FVec Ideal S4096 .f32 := addf (k_v53 V) (k_v54 V)
/-- What the operation writing `v56` computes. -/
def k_v56 (V : Valuation τ sig (Elt Ideal)) : FVec Ideal S1x1x4096 .f32 := broadcastInDim S1x1x4096 ![2] bcast_S4096_S1x1x4096_2 (k_v55 V)
/-- What the operation writing `v57` computes. -/
def k_v57 (V : Valuation τ sig (Elt Ideal)) : FVec Ideal S256x2x4096 .f32 := broadcastInDim S256x2x4096 ![0, 1, 2] bcast_S1x1x4096_S256x2x4096_0_1_2 (k_v56 V)
/-- What the operation writing `v58` computes. -/
def k_v58 (V : Valuation τ sig (Elt Ideal)) : FVec Ideal S256x2x4096 .f32 := Host.divf (k_v51 V) (k_v57 V)
/-- What the operation writing `v59` computes. -/
def k_v59 (V : Valuation τ sig (Elt Ideal)) : FVec Ideal S256x1x4096 .f32 := extractStridedSlice S256x1x4096 ![0, 0, 0] (k_v58 V) slices_S256x2x4096_S256x1x4096_0_0_0
/-- What the operation writing `v60` computes. -/
def k_v60 (V : Valuation τ sig (Elt Ideal)) : FVec Ideal S256x4096 .f32 := shapeCast S256x4096 (k_v59 V) shapeCasts_S256x1x4096_S256x4096
/-- What the operation writing `v61` computes. -/
def k_v61 (V : Valuation τ sig (Elt Ideal)) : FVec Ideal S256x1x4096 .f32 := extractStridedSlice S256x1x4096 ![0, 1, 0] (k_v58 V) slices_S256x2x4096_S256x1x4096_0_1_0
/-- What the operation writing `v62` computes. -/
def k_v62 (V : Valuation τ sig (Elt Ideal)) : FVec Ideal S256x4096 .f32 := shapeCast S256x4096 (k_v61 V) shapeCasts_S256x1x4096_S256x4096
/-- What the operation writing `v63` computes. -/
def k_v63 (V : Valuation τ sig (Elt Ideal)) : IVec S256 32 := iotaInDim S256 32 0
/-- What the operation writing `v64` computes. -/
def k_v64 (V : Valuation τ sig (Elt Ideal)) : IVec S256x1 32 := broadcastInDim S256x1 ![0] bcast_S256_S256x1_0 (k_v63 V)
/-- What the operation writing `v65` computes. -/
def k_v65 (V : Valuation τ sig (Elt Ideal)) : IVec S512 32 := iotaInDim S512 32 0
/-- What the operation writing `v66` computes. -/
def k_v66 (V : Valuation τ sig (Elt Ideal)) : IVec S1x512 32 := broadcastInDim S1x512 ![1] bcast_S512_S1x512_1 (k_v65 V)
/-- What the operation writing `v67` computes. -/
def k_v67 (V : Valuation τ sig (Elt Ideal)) : IVec S256x512 32 := broadcastInDim S256x512 ![0, 1] bcast_S256x1_S256x512_0_1 (k_v64 V)
/-- What the operation writing `v68` computes. -/
def k_v68 (V : Valuation τ sig (Elt Ideal)) : IVec S256x512 32 := broadcastInDim S256x512 ![0, 1] bcast_S1x512_S256x512_0_1 (k_v66 V)
/-- What the operation writing `v69` computes. -/
def k_v69 (V : Valuation τ sig (Elt Ideal)) : IVec S256x512 32 := muli (k_v67 V) (k_v68 V)
/-- What the operation writing `c_7` computes. -/
def k_c_7 (V : Valuation τ sig (Elt Ideal)) : IVec S_ 32 := constantI S_ 32 512#32
/-- What the operation writing `call3_v0` computes. -/
def k_c3_v0 (V : Valuation τ sig (Elt Ideal)) : IVec S_ 32 := (k_c_7 V)
/-- What the operation writing `call3_c` computes. -/
def k_c3_c (V : Valuation τ sig (Elt Ideal)) : IVec S_ 32 := constantI S_ 32 0#32
/-- What the operation writing `call3_v1` computes. -/
def k_c3_v1 (V : Valuation τ sig (Elt Ideal)) : IVec S_ 1 := cmpi .eq (k_c3_v0 V) (k_c3_c V)
/-- What the operation writing `call3_c_0` computes. -/
def k_c3_c_0 (V : Valuation τ sig (Elt Ideal)) : IVec S_ 32 := constantI S_ 32 1#32
/-- What the operation writing `call3_v2` computes. -/
def k_c3_v2 (V : Valuation τ sig (Elt Ideal)) : IVec S_ 32 := select (k_c3_v1 V) (k_c3_c_0 V) (k_c3_v0 V)
/-- What the operation writing `call3_v3` computes. -/
def k_c3_v3 (V : Valuation τ sig (Elt Ideal)) : IVec S256x512 32 := broadcastInDim S256x512 ![] bcast_S_S256x512 (k_c3_v2 V)
/-- What the operation writing `call3_v4` computes. -/
def k_c3_v4 (V : Valuation τ sig (Elt Ideal)) : IVec S256x512 32 := Host.remsi (k_v69 V) (k_c3_v3 V)
/-- What the operation writing `call3_c_1` computes. -/
def k_c3_c_1 (V : Valuation τ sig (Elt Ideal)) : IVec S_ 32 := constantI S_ 32 0#32
/-- What the operation writing `call3_v5` computes. -/
def k_c3_v5 (V : Valuation τ sig (Elt Ideal)) : IVec S256x512 32 := broadcastInDim S256x512 ![] bcast_S_S256x512 (k_c3_c_1 V)
/-- What the operation writing `call3_v6` computes. -/
def k_c3_v6 (V : Valuation τ sig (Elt Ideal)) : IVec S256x512 1 := cmpi .ne (k_c3_v4 V) (k_c3_v5 V)
/-- What the operation writing `call3_c_2` computes. -/
def k_c3_c_2 (V : Valuation τ sig (Elt Ideal)) : IVec S_ 32 := constantI S_ 32 0#32
/-- What the operation writing `call3_v7` computes. -/
def k_c3_v7 (V : Valuation τ sig (Elt Ideal)) : IVec S256x512 32 := broadcastInDim S256x512 ![] bcast_S_S256x512 (k_c3_c_2 V)
/-- What the operation writing `call3_v8` computes. -/
def k_c3_v8 (V : Valuation τ sig (Elt Ideal)) : IVec S256x512 1 := cmpi .slt (k_c3_v4 V) (k_c3_v7 V)
/-- What the operation writing `call3_c_3` computes. -/
def k_c3_c_3 (V : Valuation τ sig (Elt Ideal)) : IVec S_ 32 := constantI S_ 32 0#32
/-- What the operation writing `call3_v9` computes. -/
def k_c3_v9 (V : Valuation τ sig (Elt Ideal)) : IVec S_ 1 := cmpi .slt (k_c3_v2 V) (k_c3_c_3 V)
/-- What the operation writing `call3_v10` computes. -/
def k_c3_v10 (V : Valuation τ sig (Elt Ideal)) : IVec S256x512 1 := broadcastInDim S256x512 ![] bcast_S_S256x512 (k_c3_v9 V)
/-- What the operation writing `call3_v11` computes. -/
def k_c3_v11 (V : Valuation τ sig (Elt Ideal)) : IVec S256x512 1 := cmpi .ne (k_c3_v8 V) (k_c3_v10 V)
/-- What the operation writing `call3_v12` computes. -/
def k_c3_v12 (V : Valuation τ sig (Elt Ideal)) : IVec S256x512 1 := andi (k_c3_v11 V) (k_c3_v6 V)
/-- What the operation writing `call3_v13` computes. -/
def k_c3_v13 (V : Valuation τ sig (Elt Ideal)) : IVec S256x512 32 := broadcastInDim S256x512 ![] bcast_S_S256x512 (k_c3_v2 V)
/-- What the operation writing `call3_v14` computes. -/
def k_c3_v14 (V : Valuation τ sig (Elt Ideal)) : IVec S256x512 32 := addi (k_c3_v4 V) (k_c3_v13 V)
/-- What the operation writing `v70` computes. -/
def k_v70 (V : Valuation τ sig (Elt Ideal)) : IVec S256x512 32 := select (k_c3_v12 V) (k_c3_v14 V) (k_c3_v4 V)
/-- What the operation writing `v71` computes. -/
def k_v71 (V : Valuation τ sig (Elt Ideal)) : FVec Ideal S256x512 .f32 := sitofp .f32 (k_v70 V)
/-- What the operation writing `cst_8` computes. -/
def k_cst_8 (V : Valuation τ sig (Elt Ideal)) : FVec Ideal S_ .f32 := constant S_ .f32 0x3C490FDB#32
/-- What the operation writing `v72` computes. -/
def k_v72 (V : Valuation τ sig (Elt Ideal)) : FVec Ideal S256x512 .f32 := broadcastInDim S256x512 ![] bcast_S_S256x512 (k_cst_8 V)
/-- What the operation writing `v73` computes. -/
def k_v73 (V : Valuation τ sig (Elt Ideal)) : FVec Ideal S256x512 .f32 := mulf (k_v72 V) (k_v71 V)
/-- What the operation writing `v74` computes. -/
def k_v74 (V : Valuation τ sig (Elt Ideal)) : FVec Ideal S256x512 .f32 := Host.cos (k_v73 V)
/-- What the operation writing `c_9` computes. -/
def k_c_9 (V : Valuation τ sig (Elt Ideal)) : IVec S_ 32 := constantI S_ 32 0#32
/-- What the operation writing `v75` computes. -/
def k_v75 (V : Valuation τ sig (Elt Ideal)) : IVec S256x1 32 := broadcastInDim S256x1 ![] bcast_S_S256x1 (k_c_9 V)
/-- What the operation writing `v76` computes. -/
def k_v76 (V : Valuation τ sig (Elt Ideal)) : IVec S256x1 1 := cmpi .eq (k_v64 V) (k_v75 V)
/-- What the operation writing `c_10` computes. -/
def k_c_10 (V : Valuation τ sig (Elt Ideal)) : IVec S_ 32 := constantI S_ 32 2#32
/-- What the operation writing `call4_v0` computes. -/
def k_c4_v0 (V : Valuation τ sig (Elt Ideal)) : IVec S_ 32 := (k_c_10 V)
/-- What the operation writing `call4_c` computes. -/
def k_c4_c (V : Valuation τ sig (Elt Ideal)) : IVec S_ 32 := constantI S_ 32 0#32
/-- What the operation writing `call4_v1` computes. -/
def k_c4_v1 (V : Valuation τ sig (Elt Ideal)) : IVec S_ 1 := cmpi .eq (k_c4_v0 V) (k_c4_c V)
/-- What the operation writing `call4_c_0` computes. -/
def k_c4_c_0 (V : Valuation τ sig (Elt Ideal)) : IVec S_ 32 := constantI S_ 32 1#32
/-- What the operation writing `call4_v2` computes. -/
def k_c4_v2 (V : Valuation τ sig (Elt Ideal)) : IVec S_ 32 := select (k_c4_v1 V) (k_c4_c_0 V) (k_c4_v0 V)
/-- What the operation writing `call4_v3` computes. -/
def k_c4_v3 (V : Valuation τ sig (Elt Ideal)) : IVec S1x512 32 := broadcastInDim S1x512 ![] bcast_S_S1x512 (k_c4_v2 V)
/-- What the operation writing `call4_v4` computes. -/
def k_c4_v4 (V : Valuation τ sig (Elt Ideal)) : IVec S1x512 32 := Host.remsi (k_v66 V) (k_c4_v3 V)
/-- What the operation writing `call4_c_1` computes. -/
def k_c4_c_1 (V : Valuation τ sig (Elt Ideal)) : IVec S_ 32 := constantI S_ 32 0#32
/-- What the operation writing `call4_v5` computes. -/
def k_c4_v5 (V : Valuation τ sig (Elt Ideal)) : IVec S1x512 32 := broadcastInDim S1x512 ![] bcast_S_S1x512 (k_c4_c_1 V)
/-- What the operation writing `call4_v6` computes. -/
def k_c4_v6 (V : Valuation τ sig (Elt Ideal)) : IVec S1x512 1 := cmpi .ne (k_c4_v4 V) (k_c4_v5 V)
/-- What the operation writing `call4_c_2` computes. -/
def k_c4_c_2 (V : Valuation τ sig (Elt Ideal)) : IVec S_ 32 := constantI S_ 32 0#32
/-- What the operation writing `call4_v7` computes. -/
def k_c4_v7 (V : Valuation τ sig (Elt Ideal)) : IVec S1x512 32 := broadcastInDim S1x512 ![] bcast_S_S1x512 (k_c4_c_2 V)
/-- What the operation writing `call4_v8` computes. -/
def k_c4_v8 (V : Valuation τ sig (Elt Ideal)) : IVec S1x512 1 := cmpi .slt (k_c4_v4 V) (k_c4_v7 V)
/-- What the operation writing `call4_c_3` computes. -/
def k_c4_c_3 (V : Valuation τ sig (Elt Ideal)) : IVec S_ 32 := constantI S_ 32 0#32
/-- What the operation writing `call4_v9` computes. -/
def k_c4_v9 (V : Valuation τ sig (Elt Ideal)) : IVec S_ 1 := cmpi .slt (k_c4_v2 V) (k_c4_c_3 V)
/-- What the operation writing `call4_v10` computes. -/
def k_c4_v10 (V : Valuation τ sig (Elt Ideal)) : IVec S1x512 1 := broadcastInDim S1x512 ![] bcast_S_S1x512 (k_c4_v9 V)
/-- What the operation writing `call4_v11` computes. -/
def k_c4_v11 (V : Valuation τ sig (Elt Ideal)) : IVec S1x512 1 := cmpi .ne (k_c4_v8 V) (k_c4_v10 V)
/-- What the operation writing `call4_v12` computes. -/
def k_c4_v12 (V : Valuation τ sig (Elt Ideal)) : IVec S1x512 1 := andi (k_c4_v11 V) (k_c4_v6 V)
/-- What the operation writing `call4_v13` computes. -/
def k_c4_v13 (V : Valuation τ sig (Elt Ideal)) : IVec S1x512 32 := broadcastInDim S1x512 ![] bcast_S_S1x512 (k_c4_v2 V)
/-- What the operation writing `call4_v14` computes. -/
def k_c4_v14 (V : Valuation τ sig (Elt Ideal)) : IVec S1x512 32 := addi (k_c4_v4 V) (k_c4_v13 V)
/-- What the operation writing `v77` computes. -/
def k_v77 (V : Valuation τ sig (Elt Ideal)) : IVec S1x512 32 := select (k_c4_v12 V) (k_c4_v14 V) (k_c4_v4 V)
/-- What the operation writing `c_11` computes. -/
def k_c_11 (V : Valuation τ sig (Elt Ideal)) : IVec S_ 32 := constantI S_ 32 0#32
/-- What the operation writing `v78` computes. -/
def k_v78 (V : Valuation τ sig (Elt Ideal)) : IVec S1x512 32 := broadcastInDim S1x512 ![] bcast_S_S1x512 (k_c_11 V)
/-- What the operation writing `v79` computes. -/
def k_v79 (V : Valuation τ sig (Elt Ideal)) : IVec S1x512 1 := cmpi .eq (k_v77 V) (k_v78 V)
/-- What the operation writing `cst_12` computes. -/
def k_cst_12 (V : Valuation τ sig (Elt Ideal)) : FVec Ideal S_ .f32 := constant S_ .f32 0x3F800000#32
/-- What the operation writing `cst_13` computes. -/
def k_cst_13 (V : Valuation τ sig (Elt Ideal)) : FVec Ideal S_ .f32 := constant S_ .f32 0xBF800000#32
/-- What the operation writing `call5_v0` computes. -/
def k_c5_v0 (V : Valuation τ sig (Elt Ideal)) : FVec Ideal S1x512 .f32 := broadcastInDim S1x512 ![] bcast_S_S1x512 (k_cst_12 V)
/-- What the operation writing `call5_v1` computes. -/
def k_c5_v1 (V : Valuation τ sig (Elt Ideal)) : FVec Ideal S1x512 .f32 := broadcastInDim S1x512 ![] bcast_S_S1x512 (k_cst_13 V)
/-- What the operation writing `v80` computes. -/
def k_v80 (V : Valuation τ sig (Elt Ideal)) : FVec Ideal S1x512 .f32 := select (k_v79 V) (k_c5_v0 V) (k_c5_v1 V)
/-- What the operation writing `v81` computes. -/
def k_v81 (V : Valuation τ sig (Elt Ideal)) : FVec Ideal S1x512 .f32 := (k_v80 V)
/-- What the operation writing `v82` computes. -/
def k_v82 (V : Valuation τ sig (Elt Ideal)) : FVec Ideal S256x512 .f32 := Host.sin (k_v73 V)
/-- What the operation writing `call6_v0` computes. -/
def k_c6_v0 (V : Valuation τ sig (Elt Ideal)) : IVec S256x512 1 := broadcastInDim S256x512 ![0, 1] bcast_S256x1_S256x512_0_1 (k_v76 V)
/-- What the operation writing `call6_v1` computes. -/
def k_c6_v1 (V : Valuation τ sig (Elt Ideal)) : FVec Ideal S256x512 .f32 := broadcastInDim S256x512 ![0, 1] bcast_S1x512_S256x512_0_1 (k_v81 V)
/-- What the operation writing `v83` computes. -/
def k_v83 (V : Valuation τ sig (Elt Ideal)) : FVec Ideal S256x512 .f32 := select (k_c6_v0 V) (k_c6_v1 V) (k_v82 V)
/-- What the operation writing `v84` computes. -/
def k_v84 (V : Valuation τ sig (Elt Ideal)) : FVec Ideal S512x512 .f32 := concatenate S512x512 0 [⟨S256x512, (k_v74 V)⟩, ⟨S256x512, (k_v83 V)⟩] concatenates_S256x512_S256x512_S512x512_d0
/-- What the operation writing `c_14` computes. -/
def k_c_14 (V : Valuation τ sig (Elt Ideal)) : IVec S_ 32 := constantI S_ 32 0#32
/-- What the operation writing `v85` computes. -/
def k_v85 (V : Valuation τ sig (Elt Ideal)) : IVec S256x1 32 := broadcastInDim S256x1 ![] bcast_S_S256x1 (k_c_14 V)
/-- What the operation writing `v86` computes. -/
def k_v86 (V : Valuation τ sig (Elt Ideal)) : IVec S256x1 1 := cmpi .eq (k_v64 V) (k_v85 V)
/-- What the operation writing `cst_15` computes. -/
def k_cst_15 (V : Valuation τ sig (Elt Ideal)) : FVec Ideal S_ .f32 := constant S_ .f32 0x3B000000#32
/-- What the operation writing `cst_16` computes. -/
def k_cst_16 (V : Valuation τ sig (Elt Ideal)) : FVec Ideal S_ .f32 := constant S_ .f32 0x3B800000#32
/-- What the operation writing `call7_v0` computes. -/
def k_c7_v0 (V : Valuation τ sig (Elt Ideal)) : FVec Ideal S256x1 .f32 := broadcastInDim S256x1 ![] bcast_S_S256x1 (k_cst_15 V)
/-- What the operation writing `call7_v1` computes. -/
def k_c7_v1 (V : Valuation τ sig (Elt Ideal)) : FVec Ideal S256x1 .f32 := broadcastInDim S256x1 ![] bcast_S_S256x1 (k_cst_16 V)
/-- What the operation writing `v87` computes. -/
def k_v87 (V : Valuation τ sig (Elt Ideal)) : FVec Ideal S256x1 .f32 := select (k_v86 V) (k_c7_v0 V) (k_c7_v1 V)
/-- What the operation writing `v88` computes. -/
def k_v88 (V : Valuation τ sig (Elt Ideal)) : FVec Ideal S256x1 .f32 := (k_v87 V)
/-- What the operation writing `v89` computes. -/
def k_v89 (V : Valuation τ sig (Elt Ideal)) : FVec Ideal S256x512 .f32 := broadcastInDim S256x512 ![0, 1] bcast_S256x1_S256x512_0_1 (k_v88 V)
/-- What the operation writing `v90` computes. -/
def k_v90 (V : Valuation τ sig (Elt Ideal)) : FVec Ideal S256x512 .f32 := mulf (k_v74 V) (k_v89 V)
/-- What the operation writing `v91` computes. -/
def k_v91 (V : Valuation τ sig (Elt Ideal)) : FVec Ideal S256x256 .f32 := extractStridedSlice S256x256 ![0, 0] (k_v90 V) slices_S256x512_S256x256_0_0
/-- What the operation writing `v92` computes. -/
def k_v92 (V : Valuation τ sig (Elt Ideal)) : FVec Ideal S256x256 .f32 := transpose S256x256 [1, 0] (k_v91 V) transposes_S256x256_S256x256_1_0
/-- What the operation writing `v93` computes. -/
def k_v93 (V : Valuation τ sig (Elt Ideal)) : FVec Ideal S256x1 .f32 := (k_v87 V)
/-- What the operation writing `v94` computes. -/
def k_v94 (V : Valuation τ sig (Elt Ideal)) : FVec Ideal S256x512 .f32 := broadcastInDim S256x512 ![0, 1] bcast_S256x1_S256x512_0_1 (k_v93 V)
/-- What the operation writing `v95` computes. -/
def k_v95 (V : Valuation τ sig (Elt Ideal)) : FVec Ideal S256x512 .f32 := mulf (k_v83 V) (k_v94 V)
/-- What the operation writing `v96` computes. -/
def k_v96 (V : Valuation τ sig (Elt Ideal)) : FVec Ideal S256x256 .f32 := extractStridedSlice S256x256 ![0, 0] (k_v95 V) slices_S256x512_S256x256_0_0
/-- What the operation writing `v97` computes. -/
def k_v97 (V : Valuation τ sig (Elt Ideal)) : FVec Ideal S256x256 .f32 := transpose S256x256 [1, 0] (k_v96 V) transposes_S256x256_S256x256_1_0
/-- What the operation writing `v98` computes. -/
def k_v98 (V : Valuation τ sig (Elt Ideal)) : FVec Ideal S256x512 .f32 := concatenate S256x512 1 [⟨S256x256, (k_v92 V)⟩, ⟨S256x256, (k_v97 V)⟩] concatenates_S256x256_S256x256_S256x512_d1
/-- What the operation writing `cst_17` computes. -/
def k_cst_17 (V : Valuation τ sig (Elt Ideal)) : FVec Ideal S_ .f32 := constant S_ .f32 0x00000000#32
/-- What the operation writing `v99` computes. -/
def k_v99 (V : Valuation τ sig (Elt Ideal)) : FVec Ideal S1x4096 .f32 := broadcastInDim S1x4096 ![] bcast_S_S1x4096 (k_cst_17 V)
/-- What the operation writing `v100` computes. -/
def k_v100 (V : Valuation τ sig (Elt Ideal)) : FVec Ideal S255x4096 .f32 := extractStridedSlice S255x4096 ![1, 0] (k_v62 V) slices_S256x4096_S255x4096_1_0
/-- What the operation writing `v101` computes. -/
def k_v101 (V : Valuation τ sig (Elt Ideal)) : FVec Ideal S255x4096 .f32 := Host.reverse [0] (k_v100 V)
/-- What the operation writing `v102` computes. -/
def k_v102 (V : Valuation τ sig (Elt Ideal)) : FVec Ideal S512x4096 .f32 := concatenate S512x4096 0 [⟨S256x4096, (k_v60 V)⟩, ⟨S1x4096, (k_v99 V)⟩, ⟨S255x4096, (k_v101 V)⟩] concatenates_S256x4096_S1x4096_S255x4096_S512x4096_d0
/-- What the operation writing `v104` computes. -/
def k_v104 (V : Valuation τ sig (Elt Ideal)) : FVec Ideal S1x12288 .f32 := broadcastInDim S1x12288 ![1] bcast_S12288_S1x12288_1 (k_arg2 V)
/-- What the operation writing `v105` computes. -/
def k_v105 (V : Valuation τ sig (Elt Ideal)) : FVec Ideal S1x12288 .f32 := broadcastInDim S1x12288 ![1] bcast_S12288_S1x12288_1 (k_arg2 V)
/-- What the operation writing `v106` computes. -/
def k_v106 (V : Valuation τ sig (Elt Ideal)) : FVec Ideal S1x12288 .f32 := broadcastInDim S1x12288 ![1] bcast_S12288_S1x12288_1 (k_arg2 V)
/-- What the operation writing `v107` computes. -/
def k_v107 (V : Valuation τ sig (Elt Ideal)) : FVec Ideal S1x4096 .f32 := broadcastInDim S1x4096 ![1] bcast_S4096_S1x4096_1 (k_arg11 V)
/-- What the operation writing `v108` computes. -/
def k_v108 (V : Valuation τ sig (Elt Ideal)) : FVec Ideal S512x256 .f32 := extractStridedSlice S512x256 ![0, 0] (k_v84 V) slices_S512x512_S512x256_0_0
/-- What the operation writing `v109` computes. -/
def k_v109 (V : Valuation τ sig (Elt Ideal)) : FVec Ideal S512x256 .bf16 := truncf .bf16 (k_v108 V) bitsLt_bf16_f32
/-- What the operation writing `v110` computes. -/
def k_v110 (V : Valuation τ sig (Elt Ideal)) : FVec Ideal S256x512 .bf16 := truncf .bf16 (k_v98 V) bitsLt_bf16_f32
/-- Arrays joined are the same when each of them is. -/
theorem beside0 {a a' : S256x256.Idx → Elt Ideal .f32} {b b' : S256x256.Idx → Elt Ideal .f32} (ha : a = a') (hb : b = b') :
    concatenate S256x512 1 [⟨S256x256, a⟩, ⟨S256x256, b⟩] concatenates_S256x256_S256x256_S256x512_d1 = concatenate S256x512 1 [⟨S256x256, a'⟩, ⟨S256x256, b'⟩] concatenates_S256x256_S256x256_S256x512_d1 := by
  subst ha; subst hb; rfl
/-- Arrays joined are the same when each of them is. -/
theorem beside1 {a a' : S256x4096.Idx → Elt Ideal .f32} {b b' : S1x4096.Idx → Elt Ideal .f32} {c c' : S255x4096.Idx → Elt Ideal .f32} (ha : a = a') (hb : b = b') (hc : c = c') :
    concatenate S512x4096 0 [⟨S256x4096, a⟩, ⟨S1x4096, b⟩, ⟨S255x4096, c⟩] concatenates_S256x4096_S1x4096_S255x4096_S512x4096_d0 = concatenate S512x4096 0 [⟨S256x4096, a'⟩, ⟨S1x4096, b'⟩, ⟨S255x4096, c'⟩] concatenates_S256x4096_S1x4096_S255x4096_S512x4096_d0 := by
  subst ha; subst hb; subst hc; rfl
/-- Arrays joined are the same when each of them is. -/
theorem beside2 {a a' : S255.Idx → Elt Ideal .f32} {b b' : S1.Idx → Elt Ideal .f32} (ha : a = a') (hb : b = b') :
    concatenate S256 0 [⟨S255, a⟩, ⟨S1, b⟩] concatenates_S255_S1_S256_d0 = concatenate S256 0 [⟨S255, a'⟩, ⟨S1, b'⟩] concatenates_S255_S1_S256_d0 := by
  subst ha; subst hb; rfl
/-- Arrays joined are the same when each of them is. -/
theorem beside3 {a a' : S15.Idx → Elt Ideal .f32} {b b' : S1.Idx → Elt Ideal .f32} (ha : a = a') (hb : b = b') :
    concatenate S16 0 [⟨S15, a⟩, ⟨S1, b⟩] concatenates_S15_S1_S16_d0 = concatenate S16 0 [⟨S15, a'⟩, ⟨S1, b'⟩] concatenates_S15_S1_S16_d0 := by
  subst ha; subst hb; rfl
/-- Arrays joined are the same when each of them is. -/
theorem beside4 {a a' : S256x512.Idx → Elt Ideal .f32} {b b' : S256x512.Idx → Elt Ideal .f32} (ha : a = a') (hb : b = b') :
    concatenate S512x512 0 [⟨S256x512, a⟩, ⟨S256x512, b⟩] concatenates_S256x512_S256x512_S512x512_d0 = concatenate S512x512 0 [⟨S256x512, a'⟩, ⟨S256x512, b'⟩] concatenates_S256x512_S256x512_S512x512_d0 := by
  subst ha; subst hb; rfl
/-- Arrays joined are the same when each of them is. -/
theorem beside5 {a a' : S256x1.Idx → Elt Ideal .f32} {b b' : S256x16.Idx → Elt Ideal .f32} {c c' : S256x16.Idx → Elt Ideal .f32} (ha : a = a') (hb : b = b') (hc : c = c') :
    concatenate S256x33 1 [⟨S256x1, a⟩, ⟨S256x16, b⟩, ⟨S256x16, c⟩] concatenates_S256x1_S256x16_S256x16_S256x33_d1 = concatenate S256x33 1 [⟨S256x1, a'⟩, ⟨S256x16, b'⟩, ⟨S256x16, c'⟩] concatenates_S256x1_S256x16_S256x16_S256x33_d1 := by
  subst ha; subst hb; subst hc; rfl
/-- Arrays joined are the same when each of them is. -/
theorem beside6 {a a' : S4095.Idx → Elt Ideal .f32} {b b' : S1.Idx → Elt Ideal .f32} (ha : a = a') (hb : b = b') :
    concatenate S4096 0 [⟨S4095, a⟩, ⟨S1, b⟩] concatenates_S4095_S1_S4096_d0 = concatenate S4096 0 [⟨S4095, a'⟩, ⟨S1, b'⟩] concatenates_S4095_S1_S4096_d0 := by
  subst ha; subst hb; rfl
/-- The operations of one stretch leave `cst` as named. -/
theorem st_cst (X V : Valuation τ sig (Elt Ideal))  :
    StableHlo.after hostOps0 X (Proc.devRef .tc main_cst) = k_cst V := by
  simp only [hostOps0]
  after_results_simp
  first | done | (simp only [k_cst]; first | done | rfl) | rfl
/-- The operations of one stretch leave `cst_0` as named. -/
theorem st_cst_0 (X V : Valuation τ sig (Elt Ideal))  :
    StableHlo.after hostOps0 X (Proc.devRef .tc main_cst_0) = k_cst_0 V := by
  simp only [hostOps0]
  after_results_simp
  first | done | (simp only [k_cst_0]; first | done | rfl) | rfl
/-- The operations of one stretch leave `v0` as named. -/
theorem st_v0 (X V : Valuation τ sig (Elt Ideal)) (h0 : X (Proc.devRef .tc main_cst) = k_cst V) (h1 : X (Proc.devRef .tc main_cst_0) = k_cst_0 V) :
    StableHlo.after hostOps0_1 X (Proc.devRef .tc main_v0) = k_v0 V := by
  simp only [hostOps0_1]
  after_results_simp
  refine beside2 ?_ ?_
  all_goals (first | exact h0 | exact h1 | (after_results_simp; first | done | (simp only [h0, h1, k_c0_v15, k_c0_v11, k_c0_v10, k_c0_v7, k_c0_v0, k_c0_v9, k_c0_v8, k_c0_cst_1, k_c0_v6, k_c0_v4, k_c0_v5, k_c0_cst_0, k_c0_v14, k_c0_v13, k_c0_v12, k_c0_v1, k_c0_v16]; first | done | rfl) | rfl))
/-- The operations of one stretch leave `v1` as named. -/
theorem st_v1 (X V : Valuation τ sig (Elt Ideal)) (h0 : X (Proc.devRef .tc main_v0) = k_v0 V) :
    StableHlo.after hostOps0_2 X (Proc.devRef .tc main_v1) = k_v1 V := by
  simp only [hostOps0_2]
  after_results_simp
  first | done | (simp only [h0, k_v1]; first | done | rfl) | rfl
/-- The operations of one stretch leave `v5` as named. -/
theorem st_v5 (X V : Valuation τ sig (Elt Ideal))  :
    StableHlo.after hostOps0_2 X (Proc.devRef .tc main_v5) = k_v5 V := by
  simp only [hostOps0_2]
  after_results_simp
  first | done | (simp only [k_v5, k_v4, k_cst_1, k_v3, k_v2]; first | done | rfl) | rfl
/-- The operations of one stretch leave `cst_2` as named. -/
theorem st_cst_2 (X V : Valuation τ sig (Elt Ideal))  :
    StableHlo.after hostOps0_2 X (Proc.devRef .tc main_cst_2) = k_cst_2 V := by
  simp only [hostOps0_2]
  after_results_simp
  first | done | (simp only [k_cst_2]; first | done | rfl) | rfl
/-- The operations of one stretch leave `c` as named. -/
theorem st_c (X V : Valuation τ sig (Elt Ideal))  :
    StableHlo.after hostOps0_2 X (Proc.devRef .tc main_c) = k_c V := by
  simp only [hostOps0_2]
  after_results_simp
  first | done | (simp only [k_c]; first | done | rfl) | rfl
/-- The operations of one stretch leave `v6` as named. -/
theorem st_v6 (X V : Valuation τ sig (Elt Ideal)) (h0 : X (Proc.devRef .tc main_cst_2) = k_cst_2 V) (h1 : X (Proc.devRef .tc main_c) = k_c V) :
    StableHlo.after hostOps0_3 X (Proc.devRef .tc main_v6) = k_v6 V := by
  simp only [hostOps0_3]
  after_results_simp
  refine beside3 ?_ ?_
  all_goals (first | exact h0 | exact h1 | (after_results_simp; first | done | (simp only [h0, h1, k_c1_v15, k_c1_v11, k_c1_v10, k_c1_v7, k_c1_v0, k_c1_v9, k_c1_v8, k_c1_cst_1, k_c1_v6, k_c1_v4, k_c1_v5, k_c1_cst_0, k_c1_v14, k_c1_v13, k_c1_v12, k_c1_v1, k_c1_v16]; first | done | rfl) | rfl))
/-- The operations of one stretch leave `v14` as named. -/
theorem st_v14 (X V : Valuation τ sig (Elt Ideal)) (h0 : X (Proc.devRef .tc main_v1) = k_v1 V) (h1 : X (Proc.devRef .tc main_v5) = k_v5 V) (h2 : X (Proc.devRef .tc main_v6) = k_v6 V) :
    StableHlo.after hostOps0_4 X (Proc.devRef .tc main_v14) = k_v14 V := by
  simp only [hostOps0_4]
  after_results_simp
  refine beside5 ?_ ?_ ?_
  · first | exact h0 | exact h1 | exact h2
  · show StableHlo.after ((hostOps0_4 : List (HloOp τ sig (Elt Ideal))).take 5) X (Proc.devRef .tc main_v11) = _
    simp only [hostOps0_4, List.take_succ_cons, List.take_zero]
    after_results_simp
    first | done | (simp only [h0, h1, h2, k_v11, k_v10, k_v8, k_v9, k_v7, k_v13, k_v12]; first | done | rfl) | rfl
  · show StableHlo.after ((hostOps0_4 : List (HloOp τ sig (Elt Ideal))).take 7) X (Proc.devRef .tc main_v13) = _
    simp only [hostOps0_4, List.take_succ_cons, List.take_zero]
    after_results_simp
    first | done | (simp only [h0, h1, h2, k_v11, k_v10, k_v8, k_v9, k_v7, k_v13, k_v12]; first | done | rfl) | rfl
/-- The operations of one stretch leave `v40` as named. -/
theorem st_v40 (X V : Valuation τ sig (Elt Ideal)) (h0 : X (Proc.devRef .tc main_arg10) = k_arg10 V) (h1 : X (Proc.devRef .tc main_v1) = k_v1 V) (h2 : X (Proc.devRef .tc main_v5) = k_v5 V) (h3 : X (Proc.devRef .tc main_v6) = k_v6 V) (h4 : X (Proc.devRef .tc main_arg3) = k_arg3 V) (h5 : X (Proc.devRef .tc main_arg4) = k_arg4 V) (h6 : X (Proc.devRef .tc main_arg5) = k_arg5 V) (h7 : X (Proc.devRef .tc main_arg6) = k_arg6 V) (h8 : X (Proc.devRef .tc main_arg7) = k_arg7 V) (h9 : X (Proc.devRef .tc main_arg8) = k_arg8 V) (h10 : X (Proc.devRef .tc main_arg9) = k_arg9 V) :
    StableHlo.after hostOps0_4 X (Proc.devRef .tc main_v40) = k_v40 V := by
  have e := st_v14 X V h1 h2 h3
  simp only [hostOps0_4] at e ⊢
  unfold k_v40
  unfold k_v39 k_v38 k_v37 k_v34 k_v31 k_v30 k_v29 k_v26 k_v23 k_v22 k_v21 k_v18 k_v15
  rw [← e]
  after_results_simp
  first | done | (simp only [h0, h1, h2, h3, h4, h5, h6, h7, h8, h9, h10, k_v40, k_v39, k_v38, k_v37, k_v36, k_v35, k_v34, k_v31, k_v30, k_v29, k_v28, k_v27, k_v26, k_v23, k_v22, k_v21, k_v20, k_v19, k_v18, k_v15, k_v11, k_v10, k_v8, k_v9, k_v7, k_v13, k_v12, k_v17, k_v16, k_v25, k_v24, k_v33, k_v32]; first | done | rfl) | rfl
/-- The operations of one stretch leave `cst_3` as named. -/
theorem st_cst_3 (X V : Valuation τ sig (Elt Ideal))  :
    StableHlo.after hostOps0_4 X (Proc.devRef .tc main_cst_3) = k_cst_3 V := by
  simp only [hostOps0_4]
  after_results_simp
  first | done | (simp only [k_cst_3]; first | done | rfl) | rfl
/-- The operations of one stretch leave `cst_4` as named. -/
theorem st_cst_4 (X V : Valuation τ sig (Elt Ideal))  :
    StableHlo.after hostOps0_4 X (Proc.devRef .tc main_cst_4) = k_cst_4 V := by
  simp only [hostOps0_4]
  after_results_simp
  first | done | (simp only [k_cst_4]; first | done | rfl) | rfl
/-- The operations of one stretch leave `v41` as named. -/
theorem st_v41 (X V : Valuation τ sig (Elt Ideal)) (h0 : X (Proc.devRef .tc main_cst_3) = k_cst_3 V) (h1 : X (Proc.devRef .tc main_cst_4) = k_cst_4 V) :
    StableHlo.after hostOps0_5 X (Proc.devRef .tc main_v41) = k_v41 V := by
  simp only [hostOps0_5]
  after_results_simp
  refine beside6 ?_ ?_
  all_goals (first | exact h0 | exact h1 | (after_results_simp; first | done | (simp only [h0, h1, k_c2_v15, k_c2_v11, k_c2_v10, k_c2_v7, k_c2_v0, k_c2_v9, k_c2_v8, k_c2_cst_1, k_c2_v6, k_c2_v4, k_c2_v5, k_c2_cst_0, k_c2_v14, k_c2_v13, k_c2_v12, k_c2_v1, k_c2_v16]; first | done | rfl) | rfl))
/-- The operations of one stretch leave `v60` as named. -/
theorem st_v60 (X V : Valuation τ sig (Elt Ideal)) (h0 : X (Proc.devRef .tc main_v40) = k_v40 V) (h1 : X (Proc.devRef .tc main_v1) = k_v1 V) (h2 : X (Proc.devRef .tc main_v41) = k_v41 V) :
    StableHlo.after hostOps0_6 X (Proc.devRef .tc main_v60) = k_v60 V := by
  simp only [hostOps0_6]
  after_results_simp
  first | done | (simp only [h0, h1, h2, k_v60, k_v59, k_v58, k_v51, k_v50, k_v49, k_v48, k_v47, k_v45, k_v43, k_v46, k_v44, k_v42, k_v57, k_v56, k_v55, k_v53, k_v52, k_cst_5, k_v54, k_cst_6]; first | done | rfl) | rfl
/-- The operations of one stretch leave `v62` as named. -/
theorem st_v62 (X V : Valuation τ sig (Elt Ideal)) (h0 : X (Proc.devRef .tc main_v40) = k_v40 V) (h1 : X (Proc.devRef .tc main_v1) = k_v1 V) (h2 : X (Proc.devRef .tc main_v41) = k_v41 V) :
    StableHlo.after hostOps0_6 X (Proc.devRef .tc main_v62) = k_v62 V := by
  simp only [hostOps0_6]
  after_results_simp
  first | done | (simp only [h0, h1, h2, k_v62, k_v61, k_v58, k_v51, k_v50, k_v49, k_v48, k_v47, k_v45, k_v43, k_v46, k_v44, k_v42, k_v57, k_v56, k_v55, k_v53, k_v52, k_cst_5, k_v54, k_cst_6]; first | done | rfl) | rfl
/-- The operations of one stretch leave `v64` as named. -/
theorem st_v64 (X V : Valuation τ sig (Elt Ideal))  :
    StableHlo.after hostOps0_6 X (Proc.devRef .tc main_v64) = k_v64 V := by
  simp only [hostOps0_6]
  after_results_simp
  first | done | (simp only [k_v64, k_v63]; first | done | rfl) | rfl
/-- The operations of one stretch leave `v66` as named. -/
theorem st_v66 (X V : Valuation τ sig (Elt Ideal))  :
    StableHlo.after hostOps0_6 X (Proc.devRef .tc main_v66) = k_v66 V := by
  simp only [hostOps0_6]
  after_results_simp
  first | done | (simp only [k_v66, k_v65]; first | done | rfl) | rfl
/-- The operations of one stretch leave `v69` as named. -/
theorem st_v69 (X V : Valuation τ sig (Elt Ideal))  :
    StableHlo.after hostOps0_6 X (Proc.devRef .tc main_v69) = k_v69 V := by
  simp only [hostOps0_6]
  after_results_simp
  first | done | (simp only [k_v69, k_v67, k_v64, k_v63, k_v68, k_v66, k_v65]; first | done | rfl) | rfl
/-- The operations of one stretch leave `c_7` as named. -/
theorem st_c_7 (X V : Valuation τ sig (Elt Ideal))  :
    StableHlo.after hostOps0_6 X (Proc.devRef .tc main_c_7) = k_c_7 V := by
  simp only [hostOps0_6]
  after_results_simp
  first | done | (simp only [k_c_7]; first | done | rfl) | rfl
/-- The operations of one stretch leave `v70` as named. -/
theorem st_v70 (X V : Valuation τ sig (Elt Ideal)) (h0 : X (Proc.devRef .tc main_v69) = k_v69 V) (h1 : X (Proc.devRef .tc main_c_7) = k_c_7 V) :
    StableHlo.after hostOps0_7 X (Proc.devRef .tc main_v70) = k_v70 V := by
  simp only [hostOps0_7]
  after_results_simp
  first | done | (simp only [h0, h1, k_v70, k_c3_v12, k_c3_v11, k_c3_v8, k_c3_v4, k_c3_v3, k_c3_v2, k_c3_v1, k_c3_v0, k_c3_c, k_c3_c_0, k_c3_v7, k_c3_c_2, k_c3_v10, k_c3_v9, k_c3_c_3, k_c3_v6, k_c3_v5, k_c3_c_1, k_c3_v14, k_c3_v13]; first | done | rfl) | rfl
/-- The operations of one stretch leave `v73` as named. -/
theorem st_v73 (X V : Valuation τ sig (Elt Ideal)) (h0 : X (Proc.devRef .tc main_v70) = k_v70 V) :
    StableHlo.after hostOps0_8 X (Proc.devRef .tc main_v73) = k_v73 V := by
  simp only [hostOps0_8]
  after_results_simp
  first | done | (simp only [h0, k_v73, k_v72, k_cst_8, k_v71]; first | done | rfl) | rfl
/-- The operations of one stretch leave `v74` as named. -/
theorem st_v74 (X V : Valuation τ sig (Elt Ideal)) (h0 : X (Proc.devRef .tc main_v70) = k_v70 V) :
    StableHlo.after hostOps0_8 X (Proc.devRef .tc main_v74) = k_v74 V := by
  simp only [hostOps0_8]
  after_results_simp
  first | done | (simp only [h0, k_v74, k_v73, k_v72, k_cst_8, k_v71]; first | done | rfl) | rfl
/-- The operations of one stretch leave `v76` as named. -/
theorem st_v76 (X V : Valuation τ sig (Elt Ideal)) (h0 : X (Proc.devRef .tc main_v64) = k_v64 V) :
    StableHlo.after hostOps0_8 X (Proc.devRef .tc main_v76) = k_v76 V := by
  simp only [hostOps0_8]
  after_results_simp
  first | done | (simp only [h0, k_v76, k_v75, k_c_9]; first | done | rfl) | rfl
/-- The operations of one stretch leave `c_10` as named. -/
theorem st_c_10 (X V : Valuation τ sig (Elt Ideal))  :
    StableHlo.after hostOps0_8 X (Proc.devRef .tc main_c_10) = k_c_10 V := by
  simp only [hostOps0_8]
  after_results_simp
  first | done | (simp only [k_c_10]; first | done | rfl) | rfl
/-- The operations of one stretch leave `v77` as named. -/
theorem st_v77 (X V : Valuation τ sig (Elt Ideal)) (h0 : X (Proc.devRef .tc main_v66) = k_v66 V) (h1 : X (Proc.devRef .tc main_c_10) = k_c_10 V) :
    StableHlo.after hostOps0_9 X (Proc.devRef .tc main_v77) = k_v77 V := by
  simp only [hostOps0_9]
  after_results_simp
  first | done | (simp only [h0, h1, k_v77, k_c4_v12, k_c4_v11, k_c4_v8, k_c4_v4, k_c4_v3, k_c4_v2, k_c4_v1, k_c4_v0, k_c4_c, k_c4_c_0, k_c4_v7, k_c4_c_2, k_c4_v10, k_c4_v9, k_c4_c_3, k_c4_v6, k_c4_v5, k_c4_c_1, k_c4_v14, k_c4_v13]; first | done | rfl) | rfl
/-- The operations of one stretch leave `v79` as named. -/
theorem st_v79 (X V : Valuation τ sig (Elt Ideal)) (h0 : X (Proc.devRef .tc main_v77) = k_v77 V) :
    StableHlo.after hostOps0_10 X (Proc.devRef .tc main_v79) = k_v79 V := by
  simp only [hostOps0_10]
  after_results_simp
  first | done | (simp only [h0, k_v79, k_v78, k_c_11]; first | done | rfl) | rfl
/-- The operations of one stretch leave `cst_12` as named. -/
theorem st_cst_12 (X V : Valuation τ sig (Elt Ideal))  :
    StableHlo.after hostOps0_10 X (Proc.devRef .tc main_cst_12) = k_cst_12 V := by
  simp only [hostOps0_10]
  after_results_simp
  first | done | (simp only [k_cst_12]; first | done | rfl) | rfl
/-- The operations of one stretch leave `cst_13` as named. -/
theorem st_cst_13 (X V : Valuation τ sig (Elt Ideal))  :
    StableHlo.after hostOps0_10 X (Proc.devRef .tc main_cst_13) = k_cst_13 V := by
  simp only [hostOps0_10]
  after_results_simp
  first | done | (simp only [k_cst_13]; first | done | rfl) | rfl
/-- The operations of one stretch leave `v80` as named. -/
theorem st_v80 (X V : Valuation τ sig (Elt Ideal)) (h0 : X (Proc.devRef .tc main_v79) = k_v79 V) (h1 : X (Proc.devRef .tc main_cst_12) = k_cst_12 V) (h2 : X (Proc.devRef .tc main_cst_13) = k_cst_13 V) :
    StableHlo.after hostOps0_11 X (Proc.devRef .tc main_v80) = k_v80 V := by
  simp only [hostOps0_11]
  after_results_simp
  first | done | (simp only [h0, h1, h2, k_v80, k_c5_v0, k_c5_v1]; first | done | rfl) | rfl
/-- The operations of one stretch leave `v81` as named. -/
theorem st_v81 (X V : Valuation τ sig (Elt Ideal)) (h0 : X (Proc.devRef .tc main_v80) = k_v80 V) :
    StableHlo.after hostOps0_12 X (Proc.devRef .tc main_v81) = k_v81 V := by
  simp only [hostOps0_12]
  after_results_simp
  first | done | (simp only [h0, k_v81]; first | done | rfl) | rfl
/-- The operations of one stretch leave `v82` as named. -/
theorem st_v82 (X V : Valuation τ sig (Elt Ideal)) (h0 : X (Proc.devRef .tc main_v73) = k_v73 V) :
    StableHlo.after hostOps0_12 X (Proc.devRef .tc main_v82) = k_v82 V := by
  simp only [hostOps0_12]
  after_results_simp
  first | done | (simp only [h0, k_v82]; first | done | rfl) | rfl
/-- The operations of one stretch leave `v83` as named. -/
theorem st_v83 (X V : Valuation τ sig (Elt Ideal)) (h0 : X (Proc.devRef .tc main_v76) = k_v76 V) (h1 : X (Proc.devRef .tc main_v81) = k_v81 V) (h2 : X (Proc.devRef .tc main_v82) = k_v82 V) :
    StableHlo.after hostOps0_13 X (Proc.devRef .tc main_v83) = k_v83 V := by
  simp only [hostOps0_13]
  after_results_simp
  first | done | (simp only [h0, h1, h2, k_v83, k_c6_v0, k_c6_v1]; first | done | rfl) | rfl
/-- The operations of one stretch leave `v84` as named. -/
theorem st_v84 (X V : Valuation τ sig (Elt Ideal)) (h0 : X (Proc.devRef .tc main_v74) = k_v74 V) (h1 : X (Proc.devRef .tc main_v83) = k_v83 V) :
    StableHlo.after hostOps0_14 X (Proc.devRef .tc main_v84) = k_v84 V := by
  simp only [hostOps0_14]
  after_results_simp
  refine beside4 ?_ ?_
  all_goals (first | exact h0 | exact h1 | (after_results_simp; first | done | (simp only [h0, h1]; first | done | rfl) | rfl))
/-- The operations of one stretch leave `v86` as named. -/
theorem st_v86 (X V : Valuation τ sig (Elt Ideal)) (h0 : X (Proc.devRef .tc main_v64) = k_v64 V) :
    StableHlo.after hostOps0_14 X (Proc.devRef .tc main_v86) = k_v86 V := by
  simp only [hostOps0_14]
  after_results_simp
  first | done | (simp only [h0, k_v86, k_v85, k_c_14]; first | done | rfl) | rfl
/-- The operations of one stretch leave `cst_15` as named. -/
theorem st_cst_15 (X V : Valuation τ sig (Elt Ideal))  :
    StableHlo.after hostOps0_14 X (Proc.devRef .tc main_cst_15) = k_cst_15 V := by
  simp only [hostOps0_14]
  after_results_simp
  first | done | (simp only [k_cst_15]; first | done | rfl) | rfl
/-- The operations of one stretch leave `cst_16` as named. -/
theorem st_cst_16 (X V : Valuation τ sig (Elt Ideal))  :
    StableHlo.after hostOps0_14 X (Proc.devRef .tc main_cst_16) = k_cst_16 V := by
  simp only [hostOps0_14]
  after_results_simp
  first | done | (simp only [k_cst_16]; first | done | rfl) | rfl
/-- The operations of one stretch leave `v87` as named. -/
theorem st_v87 (X V : Valuation τ sig (Elt Ideal)) (h0 : X (Proc.devRef .tc main_v86) = k_v86 V) (h1 : X (Proc.devRef .tc main_cst_15) = k_cst_15 V) (h2 : X (Proc.devRef .tc main_cst_16) = k_cst_16 V) :
    StableHlo.after hostOps0_15 X (Proc.devRef .tc main_v87) = k_v87 V := by
  simp only [hostOps0_15]
  after_results_simp
  first | done | (simp only [h0, h1, h2, k_v87, k_c7_v0, k_c7_v1]; first | done | rfl) | rfl
/-- The operations of one stretch leave `v98` as named. -/
theorem st_v98 (X V : Valuation τ sig (Elt Ideal)) (h0 : X (Proc.devRef .tc main_v74) = k_v74 V) (h1 : X (Proc.devRef .tc main_v87) = k_v87 V) (h2 : X (Proc.devRef .tc main_v83) = k_v83 V) :
    StableHlo.after hostOps0_16 X (Proc.devRef .tc main_v98) = k_v98 V := by
  simp only [hostOps0_16]
  after_results_simp
  refine beside0 ?_ ?_
  all_goals (first | exact h0 | exact h1 | exact h2 | (after_results_simp; first | done | (simp only [h0, h1, h2, k_v92, k_v91, k_v90, k_v89, k_v88, k_v97, k_v96, k_v95, k_v94, k_v93]; first | done | rfl) | rfl))
/-- The operations of one stretch leave `v99` as named. -/
theorem st_v99 (X V : Valuation τ sig (Elt Ideal))  :
    StableHlo.after hostOps0_16 X (Proc.devRef .tc main_v99) = k_v99 V := by
  simp only [hostOps0_16]
  after_results_simp
  first | done | (simp only [k_v99, k_cst_17]; first | done | rfl) | rfl
/-- The operations of one stretch leave `v100` as named. -/
theorem st_v100 (X V : Valuation τ sig (Elt Ideal)) (h0 : X (Proc.devRef .tc main_v62) = k_v62 V) :
    StableHlo.after hostOps0_16 X (Proc.devRef .tc main_v100) = k_v100 V := by
  simp only [hostOps0_16]
  after_results_simp
  first | done | (simp only [h0, k_v100]; first | done | rfl) | rfl
/-- The operations of one stretch leave `v101` as named. -/
theorem st_v101 (X V : Valuation τ sig (Elt Ideal)) (h0 : X (Proc.devRef .tc main_v100) = k_v100 V) :
    StableHlo.after hostOps0_17 X (Proc.devRef .tc main_v101) = k_v101 V := by
  simp only [hostOps0_17]
  after_results_simp
  first | done | (simp only [h0, k_v101]; first | done | rfl) | rfl
/-- The operations of one stretch leave `v102` as named. -/
theorem st_v102 (X V : Valuation τ sig (Elt Ideal)) (h0 : X (Proc.devRef .tc main_v60) = k_v60 V) (h1 : X (Proc.devRef .tc main_v99) = k_v99 V) (h2 : X (Proc.devRef .tc main_v101) = k_v101 V) :
    StableHlo.after hostOps0_18 X (Proc.devRef .tc main_v102) = k_v102 V := by
  simp only [hostOps0_18]
  after_results_simp
  refine beside1 ?_ ?_ ?_
  · first | exact h0 | exact h1 | exact h2
  · first | exact h0 | exact h1 | exact h2
  · first | exact h0 | exact h1 | exact h2
/-- The operations of one stretch leave `v104` as named. -/
theorem st_v104 (X V : Valuation τ sig (Elt Ideal)) (h0 : X (Proc.devRef .tc main_arg2) = k_arg2 V) :
    StableHlo.after hostOps1 X (Proc.devRef .tc main_v104) = k_v104 V := by
  simp only [hostOps1]
  after_results_simp
  first | done | (simp only [h0, k_v104]; first | done | rfl) | rfl
/-- The operations of one stretch leave `v105` as named. -/
theorem st_v105 (X V : Valuation τ sig (Elt Ideal)) (h0 : X (Proc.devRef .tc main_arg2) = k_arg2 V) :
    StableHlo.after hostOps1 X (Proc.devRef .tc main_v105) = k_v105 V := by
  simp only [hostOps1]
  after_results_simp
  first | done | (simp only [h0, k_v105]; first | done | rfl) | rfl
/-- The operations of one stretch leave `v106` as named. -/
theorem st_v106 (X V : Valuation τ sig (Elt Ideal)) (h0 : X (Proc.devRef .tc main_arg2) = k_arg2 V) :
    StableHlo.after hostOps1 X (Proc.devRef .tc main_v106) = k_v106 V := by
  simp only [hostOps1]
  after_results_simp
  first | done | (simp only [h0, k_v106]; first | done | rfl) | rfl
/-- The operations of one stretch leave `v107` as named. -/
theorem st_v107 (X V : Valuation τ sig (Elt Ideal)) (h0 : X (Proc.devRef .tc main_arg11) = k_arg11 V) :
    StableHlo.after hostOps1 X (Proc.devRef .tc main_v107) = k_v107 V := by
  simp only [hostOps1]
  after_results_simp
  first | done | (simp only [h0, k_v107]; first | done | rfl) | rfl
/-- The operations of one stretch leave `v109` as named. -/
theorem st_v109 (X V : Valuation τ sig (Elt Ideal)) (h0 : X (Proc.devRef .tc main_v84) = k_v84 V) :
    StableHlo.after hostOps1 X (Proc.devRef .tc main_v109) = k_v109 V := by
  simp only [hostOps1]
  after_results_simp
  first | done | (simp only [h0, k_v109, k_v108]; first | done | rfl) | rfl
/-- The operations of one stretch leave `v110` as named. -/
theorem st_v110 (X V : Valuation τ sig (Elt Ideal)) (h0 : X (Proc.devRef .tc main_v98) = k_v98 V) :
    StableHlo.after hostOps1 X (Proc.devRef .tc main_v110) = k_v110 V := by
  simp only [hostOps1]
  after_results_simp
  first | done | (simp only [h0, k_v110]; first | done | rfl) | rfl

variable (m : (ℓ : Loc nD τ sig) → Buf (Elt Ideal) ℓ) (ρ : Dev nD → PrngReg)
/-- The contents of `v69` at one boundary. -/
theorem w7_v69 (c : Dev nD) : W7 m ρ c (Proc.devRef .tc main_v69) = k_v69 (W0 m ρ c) := st_v69 _ _
/-- The contents of `c_7` at one boundary. -/
theorem w7_c_7 (c : Dev nD) : W7 m ρ c (Proc.devRef .tc main_c_7) = k_c_7 (W0 m ρ c) := st_c_7 _ _
/-- The contents of `v70` at one boundary. -/
theorem w8_v70 (c : Dev nD) : W8 m ρ c (Proc.devRef .tc main_v70) = k_v70 (W0 m ρ c) := st_v70 _ _ (w7_v69 m ρ c) (w7_c_7 m ρ c)
/-- The contents of `v74` at one boundary. -/
theorem w9_v74 (c : Dev nD) : W9 m ρ c (Proc.devRef .tc main_v74) = k_v74 (W0 m ρ c) := st_v74 _ _ (w8_v70 m ρ c)
/-- The contents of `v74` at one boundary. -/
theorem w10_v74 (c : Dev nD) : W10 m ρ c (Proc.devRef .tc main_v74) = k_v74 (W0 m ρ c) := (W10_of m ρ c _ (by decide)).trans (w9_v74 m ρ c)
/-- The contents of `v74` at one boundary. -/
theorem w11_v74 (c : Dev nD) : W11 m ρ c (Proc.devRef .tc main_v74) = k_v74 (W0 m ρ c) := (W11_of m ρ c _ (by decide)).trans (w10_v74 m ρ c)
/-- The contents of `v74` at one boundary. -/
theorem w12_v74 (c : Dev nD) : W12 m ρ c (Proc.devRef .tc main_v74) = k_v74 (W0 m ρ c) := (W12_of m ρ c _ (by decide)).trans (w11_v74 m ρ c)
/-- The contents of `v74` at one boundary. -/
theorem w13_v74 (c : Dev nD) : W13 m ρ c (Proc.devRef .tc main_v74) = k_v74 (W0 m ρ c) := (W13_of m ρ c _ (by decide)).trans (w12_v74 m ρ c)
/-- The contents of `v74` at one boundary. -/
theorem w14_v74 (c : Dev nD) : W14 m ρ c (Proc.devRef .tc main_v74) = k_v74 (W0 m ρ c) := (W14_of m ρ c _ (by decide)).trans (w13_v74 m ρ c)
/-- The contents of `v64` at one boundary. -/
theorem w7_v64 (c : Dev nD) : W7 m ρ c (Proc.devRef .tc main_v64) = k_v64 (W0 m ρ c) := st_v64 _ _
/-- The contents of `v64` at one boundary. -/
theorem w8_v64 (c : Dev nD) : W8 m ρ c (Proc.devRef .tc main_v64) = k_v64 (W0 m ρ c) := (W8_of m ρ c _ (by decide)).trans (w7_v64 m ρ c)
/-- The contents of `v76` at one boundary. -/
theorem w9_v76 (c : Dev nD) : W9 m ρ c (Proc.devRef .tc main_v76) = k_v76 (W0 m ρ c) := st_v76 _ _ (w8_v64 m ρ c)
/-- The contents of `v76` at one boundary. -/
theorem w10_v76 (c : Dev nD) : W10 m ρ c (Proc.devRef .tc main_v76) = k_v76 (W0 m ρ c) := (W10_of m ρ c _ (by decide)).trans (w9_v76 m ρ c)
/-- The contents of `v76` at one boundary. -/
theorem w11_v76 (c : Dev nD) : W11 m ρ c (Proc.devRef .tc main_v76) = k_v76 (W0 m ρ c) := (W11_of m ρ c _ (by decide)).trans (w10_v76 m ρ c)
/-- The contents of `v76` at one boundary. -/
theorem w12_v76 (c : Dev nD) : W12 m ρ c (Proc.devRef .tc main_v76) = k_v76 (W0 m ρ c) := (W12_of m ρ c _ (by decide)).trans (w11_v76 m ρ c)
/-- The contents of `v76` at one boundary. -/
theorem w13_v76 (c : Dev nD) : W13 m ρ c (Proc.devRef .tc main_v76) = k_v76 (W0 m ρ c) := (W13_of m ρ c _ (by decide)).trans (w12_v76 m ρ c)
/-- The contents of `v66` at one boundary. -/
theorem w7_v66 (c : Dev nD) : W7 m ρ c (Proc.devRef .tc main_v66) = k_v66 (W0 m ρ c) := st_v66 _ _
/-- The contents of `v66` at one boundary. -/
theorem w8_v66 (c : Dev nD) : W8 m ρ c (Proc.devRef .tc main_v66) = k_v66 (W0 m ρ c) := (W8_of m ρ c _ (by decide)).trans (w7_v66 m ρ c)
/-- The contents of `v66` at one boundary. -/
theorem w9_v66 (c : Dev nD) : W9 m ρ c (Proc.devRef .tc main_v66) = k_v66 (W0 m ρ c) := (W9_of m ρ c _ (by decide)).trans (w8_v66 m ρ c)
/-- The contents of `c_10` at one boundary. -/
theorem w9_c_10 (c : Dev nD) : W9 m ρ c (Proc.devRef .tc main_c_10) = k_c_10 (W0 m ρ c) := st_c_10 _ _
/-- The contents of `v77` at one boundary. -/
theorem w10_v77 (c : Dev nD) : W10 m ρ c (Proc.devRef .tc main_v77) = k_v77 (W0 m ρ c) := st_v77 _ _ (w9_v66 m ρ c) (w9_c_10 m ρ c)
/-- The contents of `v79` at one boundary. -/
theorem w11_v79 (c : Dev nD) : W11 m ρ c (Proc.devRef .tc main_v79) = k_v79 (W0 m ρ c) := st_v79 _ _ (w10_v77 m ρ c)
/-- The contents of `cst_12` at one boundary. -/
theorem w11_cst_12 (c : Dev nD) : W11 m ρ c (Proc.devRef .tc main_cst_12) = k_cst_12 (W0 m ρ c) := st_cst_12 _ _
/-- The contents of `cst_13` at one boundary. -/
theorem w11_cst_13 (c : Dev nD) : W11 m ρ c (Proc.devRef .tc main_cst_13) = k_cst_13 (W0 m ρ c) := st_cst_13 _ _
/-- The contents of `v80` at one boundary. -/
theorem w12_v80 (c : Dev nD) : W12 m ρ c (Proc.devRef .tc main_v80) = k_v80 (W0 m ρ c) := st_v80 _ _ (w11_v79 m ρ c) (w11_cst_12 m ρ c) (w11_cst_13 m ρ c)
/-- The contents of `v81` at one boundary. -/
theorem w13_v81 (c : Dev nD) : W13 m ρ c (Proc.devRef .tc main_v81) = k_v81 (W0 m ρ c) := st_v81 _ _ (w12_v80 m ρ c)
/-- The contents of `v73` at one boundary. -/
theorem w9_v73 (c : Dev nD) : W9 m ρ c (Proc.devRef .tc main_v73) = k_v73 (W0 m ρ c) := st_v73 _ _ (w8_v70 m ρ c)
/-- The contents of `v73` at one boundary. -/
theorem w10_v73 (c : Dev nD) : W10 m ρ c (Proc.devRef .tc main_v73) = k_v73 (W0 m ρ c) := (W10_of m ρ c _ (by decide)).trans (w9_v73 m ρ c)
/-- The contents of `v73` at one boundary. -/
theorem w11_v73 (c : Dev nD) : W11 m ρ c (Proc.devRef .tc main_v73) = k_v73 (W0 m ρ c) := (W11_of m ρ c _ (by decide)).trans (w10_v73 m ρ c)
/-- The contents of `v73` at one boundary. -/
theorem w12_v73 (c : Dev nD) : W12 m ρ c (Proc.devRef .tc main_v73) = k_v73 (W0 m ρ c) := (W12_of m ρ c _ (by decide)).trans (w11_v73 m ρ c)
/-- The contents of `v82` at one boundary. -/
theorem w13_v82 (c : Dev nD) : W13 m ρ c (Proc.devRef .tc main_v82) = k_v82 (W0 m ρ c) := st_v82 _ _ (w12_v73 m ρ c)
/-- The contents of `v83` at one boundary. -/
theorem w14_v83 (c : Dev nD) : W14 m ρ c (Proc.devRef .tc main_v83) = k_v83 (W0 m ρ c) := st_v83 _ _ (w13_v76 m ρ c) (w13_v81 m ρ c) (w13_v82 m ρ c)
/-- The contents of `v84` at one boundary. -/
theorem w15_v84 (c : Dev nD) : W15 m ρ c (Proc.devRef .tc main_v84) = k_v84 (W0 m ρ c) := st_v84 _ _ (w14_v74 m ρ c) (w14_v83 m ρ c)
/-- The contents of `v84` at one boundary. -/
theorem w16_v84 (c : Dev nD) : W16 m ρ c (Proc.devRef .tc main_v84) = k_v84 (W0 m ρ c) := (W16_of m ρ c _ (by decide)).trans (w15_v84 m ρ c)
/-- The contents of `v84` at one boundary. -/
theorem w17_v84 (c : Dev nD) : W17 m ρ c (Proc.devRef .tc main_v84) = k_v84 (W0 m ρ c) := (W17_of m ρ c _ (by decide)).trans (w16_v84 m ρ c)
/-- The contents of `v84` at one boundary. -/
theorem w18_v84 (c : Dev nD) : W18 m ρ c (Proc.devRef .tc main_v84) = k_v84 (W0 m ρ c) := (W18_of m ρ c _ (by decide)).trans (w17_v84 m ρ c)
/-- The contents of `v84` at one boundary. -/
theorem w19_v84 (c : Dev nD) : W19 m ρ c (Proc.devRef .tc main_v84) = k_v84 (W0 m ρ c) := (W19_of m ρ c _ (by decide)).trans (w18_v84 m ρ c)
/-- The contents of `arg10` at one boundary. -/
theorem w4_arg10 (c : Dev nD) : W4 m ρ c (Proc.devRef .tc main_arg10) = k_arg10 (W0 m ρ c) := W4_args m ρ c _ (by decide)
/-- The contents of `cst` at one boundary. -/
theorem w1_cst (c : Dev nD) : W1 m ρ c (Proc.devRef .tc main_cst) = k_cst (W0 m ρ c) := st_cst _ _
/-- The contents of `cst_0` at one boundary. -/
theorem w1_cst_0 (c : Dev nD) : W1 m ρ c (Proc.devRef .tc main_cst_0) = k_cst_0 (W0 m ρ c) := st_cst_0 _ _
/-- The contents of `v0` at one boundary. -/
theorem w2_v0 (c : Dev nD) : W2 m ρ c (Proc.devRef .tc main_v0) = k_v0 (W0 m ρ c) := st_v0 _ _ (w1_cst m ρ c) (w1_cst_0 m ρ c)
/-- The contents of `v1` at one boundary. -/
theorem w3_v1 (c : Dev nD) : W3 m ρ c (Proc.devRef .tc main_v1) = k_v1 (W0 m ρ c) := st_v1 _ _ (w2_v0 m ρ c)
/-- The contents of `v1` at one boundary. -/
theorem w4_v1 (c : Dev nD) : W4 m ρ c (Proc.devRef .tc main_v1) = k_v1 (W0 m ρ c) := (W4_of m ρ c _ (by decide)).trans (w3_v1 m ρ c)
/-- The contents of `v5` at one boundary. -/
theorem w3_v5 (c : Dev nD) : W3 m ρ c (Proc.devRef .tc main_v5) = k_v5 (W0 m ρ c) := st_v5 _ _
/-- The contents of `v5` at one boundary. -/
theorem w4_v5 (c : Dev nD) : W4 m ρ c (Proc.devRef .tc main_v5) = k_v5 (W0 m ρ c) := (W4_of m ρ c _ (by decide)).trans (w3_v5 m ρ c)
/-- The contents of `cst_2` at one boundary. -/
theorem w3_cst_2 (c : Dev nD) : W3 m ρ c (Proc.devRef .tc main_cst_2) = k_cst_2 (W0 m ρ c) := st_cst_2 _ _
/-- The contents of `c` at one boundary. -/
theorem w3_c (c : Dev nD) : W3 m ρ c (Proc.devRef .tc main_c) = k_c (W0 m ρ c) := st_c _ _
/-- The contents of `v6` at one boundary. -/
theorem w4_v6 (c : Dev nD) : W4 m ρ c (Proc.devRef .tc main_v6) = k_v6 (W0 m ρ c) := st_v6 _ _ (w3_cst_2 m ρ c) (w3_c m ρ c)
/-- The contents of `arg3` at one boundary. -/
theorem w4_arg3 (c : Dev nD) : W4 m ρ c (Proc.devRef .tc main_arg3) = k_arg3 (W0 m ρ c) := W4_args m ρ c _ (by decide)
/-- The contents of `arg4` at one boundary. -/
theorem w4_arg4 (c : Dev nD) : W4 m ρ c (Proc.devRef .tc main_arg4) = k_arg4 (W0 m ρ c) := W4_args m ρ c _ (by decide)
/-- The contents of `arg5` at one boundary. -/
theorem w4_arg5 (c : Dev nD) : W4 m ρ c (Proc.devRef .tc main_arg5) = k_arg5 (W0 m ρ c) := W4_args m ρ c _ (by decide)
/-- The contents of `arg6` at one boundary. -/
theorem w4_arg6 (c : Dev nD) : W4 m ρ c (Proc.devRef .tc main_arg6) = k_arg6 (W0 m ρ c) := W4_args m ρ c _ (by decide)
/-- The contents of `arg7` at one boundary. -/
theorem w4_arg7 (c : Dev nD) : W4 m ρ c (Proc.devRef .tc main_arg7) = k_arg7 (W0 m ρ c) := W4_args m ρ c _ (by decide)
/-- The contents of `arg8` at one boundary. -/
theorem w4_arg8 (c : Dev nD) : W4 m ρ c (Proc.devRef .tc main_arg8) = k_arg8 (W0 m ρ c) := W4_args m ρ c _ (by decide)
/-- The contents of `arg9` at one boundary. -/
theorem w4_arg9 (c : Dev nD) : W4 m ρ c (Proc.devRef .tc main_arg9) = k_arg9 (W0 m ρ c) := W4_args m ρ c _ (by decide)
/-- The contents of `v40` at one boundary. -/
theorem w5_v40 (c : Dev nD) : W5 m ρ c (Proc.devRef .tc main_v40) = k_v40 (W0 m ρ c) := st_v40 _ _ (w4_arg10 m ρ c) (w4_v1 m ρ c) (w4_v5 m ρ c) (w4_v6 m ρ c) (w4_arg3 m ρ c) (w4_arg4 m ρ c) (w4_arg5 m ρ c) (w4_arg6 m ρ c) (w4_arg7 m ρ c) (w4_arg8 m ρ c) (w4_arg9 m ρ c)
/-- The contents of `v40` at one boundary. -/
theorem w6_v40 (c : Dev nD) : W6 m ρ c (Proc.devRef .tc main_v40) = k_v40 (W0 m ρ c) := (W6_of m ρ c _ (by decide)).trans (w5_v40 m ρ c)
/-- The contents of `v1` at one boundary. -/
theorem w5_v1 (c : Dev nD) : W5 m ρ c (Proc.devRef .tc main_v1) = k_v1 (W0 m ρ c) := (W5_of m ρ c _ (by decide)).trans (w4_v1 m ρ c)
/-- The contents of `v1` at one boundary. -/
theorem w6_v1 (c : Dev nD) : W6 m ρ c (Proc.devRef .tc main_v1) = k_v1 (W0 m ρ c) := (W6_of m ρ c _ (by decide)).trans (w5_v1 m ρ c)
/-- The contents of `cst_3` at one boundary. -/
theorem w5_cst_3 (c : Dev nD) : W5 m ρ c (Proc.devRef .tc main_cst_3) = k_cst_3 (W0 m ρ c) := st_cst_3 _ _
/-- The contents of `cst_4` at one boundary. -/
theorem w5_cst_4 (c : Dev nD) : W5 m ρ c (Proc.devRef .tc main_cst_4) = k_cst_4 (W0 m ρ c) := st_cst_4 _ _
/-- The contents of `v41` at one boundary. -/
theorem w6_v41 (c : Dev nD) : W6 m ρ c (Proc.devRef .tc main_v41) = k_v41 (W0 m ρ c) := st_v41 _ _ (w5_cst_3 m ρ c) (w5_cst_4 m ρ c)
/-- The contents of `v60` at one boundary. -/
theorem w7_v60 (c : Dev nD) : W7 m ρ c (Proc.devRef .tc main_v60) = k_v60 (W0 m ρ c) := st_v60 _ _ (w6_v40 m ρ c) (w6_v1 m ρ c) (w6_v41 m ρ c)
/-- The contents of `v60` at one boundary. -/
theorem w8_v60 (c : Dev nD) : W8 m ρ c (Proc.devRef .tc main_v60) = k_v60 (W0 m ρ c) := (W8_of m ρ c _ (by decide)).trans (w7_v60 m ρ c)
/-- The contents of `v60` at one boundary. -/
theorem w9_v60 (c : Dev nD) : W9 m ρ c (Proc.devRef .tc main_v60) = k_v60 (W0 m ρ c) := (W9_of m ρ c _ (by decide)).trans (w8_v60 m ρ c)
/-- The contents of `v60` at one boundary. -/
theorem w10_v60 (c : Dev nD) : W10 m ρ c (Proc.devRef .tc main_v60) = k_v60 (W0 m ρ c) := (W10_of m ρ c _ (by decide)).trans (w9_v60 m ρ c)
/-- The contents of `v60` at one boundary. -/
theorem w11_v60 (c : Dev nD) : W11 m ρ c (Proc.devRef .tc main_v60) = k_v60 (W0 m ρ c) := (W11_of m ρ c _ (by decide)).trans (w10_v60 m ρ c)
/-- The contents of `v60` at one boundary. -/
theorem w12_v60 (c : Dev nD) : W12 m ρ c (Proc.devRef .tc main_v60) = k_v60 (W0 m ρ c) := (W12_of m ρ c _ (by decide)).trans (w11_v60 m ρ c)
/-- The contents of `v60` at one boundary. -/
theorem w13_v60 (c : Dev nD) : W13 m ρ c (Proc.devRef .tc main_v60) = k_v60 (W0 m ρ c) := (W13_of m ρ c _ (by decide)).trans (w12_v60 m ρ c)
/-- The contents of `v60` at one boundary. -/
theorem w14_v60 (c : Dev nD) : W14 m ρ c (Proc.devRef .tc main_v60) = k_v60 (W0 m ρ c) := (W14_of m ρ c _ (by decide)).trans (w13_v60 m ρ c)
/-- The contents of `v60` at one boundary. -/
theorem w15_v60 (c : Dev nD) : W15 m ρ c (Proc.devRef .tc main_v60) = k_v60 (W0 m ρ c) := (W15_of m ρ c _ (by decide)).trans (w14_v60 m ρ c)
/-- The contents of `v60` at one boundary. -/
theorem w16_v60 (c : Dev nD) : W16 m ρ c (Proc.devRef .tc main_v60) = k_v60 (W0 m ρ c) := (W16_of m ρ c _ (by decide)).trans (w15_v60 m ρ c)
/-- The contents of `v60` at one boundary. -/
theorem w17_v60 (c : Dev nD) : W17 m ρ c (Proc.devRef .tc main_v60) = k_v60 (W0 m ρ c) := (W17_of m ρ c _ (by decide)).trans (w16_v60 m ρ c)
/-- The contents of `v60` at one boundary. -/
theorem w18_v60 (c : Dev nD) : W18 m ρ c (Proc.devRef .tc main_v60) = k_v60 (W0 m ρ c) := (W18_of m ρ c _ (by decide)).trans (w17_v60 m ρ c)
/-- The contents of `v99` at one boundary. -/
theorem w17_v99 (c : Dev nD) : W17 m ρ c (Proc.devRef .tc main_v99) = k_v99 (W0 m ρ c) := st_v99 _ _
/-- The contents of `v99` at one boundary. -/
theorem w18_v99 (c : Dev nD) : W18 m ρ c (Proc.devRef .tc main_v99) = k_v99 (W0 m ρ c) := (W18_of m ρ c _ (by decide)).trans (w17_v99 m ρ c)
/-- The contents of `v62` at one boundary. -/
theorem w7_v62 (c : Dev nD) : W7 m ρ c (Proc.devRef .tc main_v62) = k_v62 (W0 m ρ c) := st_v62 _ _ (w6_v40 m ρ c) (w6_v1 m ρ c) (w6_v41 m ρ c)
/-- The contents of `v62` at one boundary. -/
theorem w8_v62 (c : Dev nD) : W8 m ρ c (Proc.devRef .tc main_v62) = k_v62 (W0 m ρ c) := (W8_of m ρ c _ (by decide)).trans (w7_v62 m ρ c)
/-- The contents of `v62` at one boundary. -/
theorem w9_v62 (c : Dev nD) : W9 m ρ c (Proc.devRef .tc main_v62) = k_v62 (W0 m ρ c) := (W9_of m ρ c _ (by decide)).trans (w8_v62 m ρ c)
/-- The contents of `v62` at one boundary. -/
theorem w10_v62 (c : Dev nD) : W10 m ρ c (Proc.devRef .tc main_v62) = k_v62 (W0 m ρ c) := (W10_of m ρ c _ (by decide)).trans (w9_v62 m ρ c)
/-- The contents of `v62` at one boundary. -/
theorem w11_v62 (c : Dev nD) : W11 m ρ c (Proc.devRef .tc main_v62) = k_v62 (W0 m ρ c) := (W11_of m ρ c _ (by decide)).trans (w10_v62 m ρ c)
/-- The contents of `v62` at one boundary. -/
theorem w12_v62 (c : Dev nD) : W12 m ρ c (Proc.devRef .tc main_v62) = k_v62 (W0 m ρ c) := (W12_of m ρ c _ (by decide)).trans (w11_v62 m ρ c)
/-- The contents of `v62` at one boundary. -/
theorem w13_v62 (c : Dev nD) : W13 m ρ c (Proc.devRef .tc main_v62) = k_v62 (W0 m ρ c) := (W13_of m ρ c _ (by decide)).trans (w12_v62 m ρ c)
/-- The contents of `v62` at one boundary. -/
theorem w14_v62 (c : Dev nD) : W14 m ρ c (Proc.devRef .tc main_v62) = k_v62 (W0 m ρ c) := (W14_of m ρ c _ (by decide)).trans (w13_v62 m ρ c)
/-- The contents of `v62` at one boundary. -/
theorem w15_v62 (c : Dev nD) : W15 m ρ c (Proc.devRef .tc main_v62) = k_v62 (W0 m ρ c) := (W15_of m ρ c _ (by decide)).trans (w14_v62 m ρ c)
/-- The contents of `v62` at one boundary. -/
theorem w16_v62 (c : Dev nD) : W16 m ρ c (Proc.devRef .tc main_v62) = k_v62 (W0 m ρ c) := (W16_of m ρ c _ (by decide)).trans (w15_v62 m ρ c)
/-- The contents of `v100` at one boundary. -/
theorem w17_v100 (c : Dev nD) : W17 m ρ c (Proc.devRef .tc main_v100) = k_v100 (W0 m ρ c) := st_v100 _ _ (w16_v62 m ρ c)
/-- The contents of `v101` at one boundary. -/
theorem w18_v101 (c : Dev nD) : W18 m ρ c (Proc.devRef .tc main_v101) = k_v101 (W0 m ρ c) := st_v101 _ _ (w17_v100 m ρ c)
/-- The contents of `v102` at one boundary. -/
theorem w19_v102 (c : Dev nD) : W19 m ρ c (Proc.devRef .tc main_v102) = k_v102 (W0 m ρ c) := st_v102 _ _ (w18_v60 m ρ c) (w18_v99 m ρ c) (w18_v101 m ρ c)
/-- The contents of `arg2` at one boundary. -/
theorem w20_arg2 (c : Dev nD) : W20 m ρ c (Proc.devRef .tc main_arg2) = k_arg2 (W0 m ρ c) := W20_args m ρ c _ (by decide)
/-- The contents of `v104` at one boundary. -/
theorem w21_v104 (c : Dev nD) : W21 m ρ c (Proc.devRef .tc main_v104) = k_v104 (W0 m ρ c) := st_v104 _ _ (w20_arg2 m ρ c)
/-- The contents of `v105` at one boundary. -/
theorem w21_v105 (c : Dev nD) : W21 m ρ c (Proc.devRef .tc main_v105) = k_v105 (W0 m ρ c) := st_v105 _ _ (w20_arg2 m ρ c)
/-- The contents of `v106` at one boundary. -/
theorem w21_v106 (c : Dev nD) : W21 m ρ c (Proc.devRef .tc main_v106) = k_v106 (W0 m ρ c) := st_v106 _ _ (w20_arg2 m ρ c)
/-- The contents of `arg11` at one boundary. -/
theorem w20_arg11 (c : Dev nD) : W20 m ρ c (Proc.devRef .tc main_arg11) = k_arg11 (W0 m ρ c) := W20_args m ρ c _ (by decide)
/-- The contents of `v107` at one boundary. -/
theorem w21_v107 (c : Dev nD) : W21 m ρ c (Proc.devRef .tc main_v107) = k_v107 (W0 m ρ c) := st_v107 _ _ (w20_arg11 m ρ c)
/-- The contents of `v84` at one boundary. -/
theorem w20_v84 (c : Dev nD) : W20 m ρ c (Proc.devRef .tc main_v84) = k_v84 (W0 m ρ c) := (W20_of m ρ c _ (by decide)).trans (w19_v84 m ρ c)
/-- The contents of `v109` at one boundary. -/
theorem w21_v109 (c : Dev nD) : W21 m ρ c (Proc.devRef .tc main_v109) = k_v109 (W0 m ρ c) := st_v109 _ _ (w20_v84 m ρ c)
/-- The contents of `v74` at one boundary. -/
theorem w15_v74 (c : Dev nD) : W15 m ρ c (Proc.devRef .tc main_v74) = k_v74 (W0 m ρ c) := (W15_of m ρ c _ (by decide)).trans (w14_v74 m ρ c)
/-- The contents of `v74` at one boundary. -/
theorem w16_v74 (c : Dev nD) : W16 m ρ c (Proc.devRef .tc main_v74) = k_v74 (W0 m ρ c) := (W16_of m ρ c _ (by decide)).trans (w15_v74 m ρ c)
/-- The contents of `v64` at one boundary. -/
theorem w9_v64 (c : Dev nD) : W9 m ρ c (Proc.devRef .tc main_v64) = k_v64 (W0 m ρ c) := (W9_of m ρ c _ (by decide)).trans (w8_v64 m ρ c)
/-- The contents of `v64` at one boundary. -/
theorem w10_v64 (c : Dev nD) : W10 m ρ c (Proc.devRef .tc main_v64) = k_v64 (W0 m ρ c) := (W10_of m ρ c _ (by decide)).trans (w9_v64 m ρ c)
/-- The contents of `v64` at one boundary. -/
theorem w11_v64 (c : Dev nD) : W11 m ρ c (Proc.devRef .tc main_v64) = k_v64 (W0 m ρ c) := (W11_of m ρ c _ (by decide)).trans (w10_v64 m ρ c)
/-- The contents of `v64` at one boundary. -/
theorem w12_v64 (c : Dev nD) : W12 m ρ c (Proc.devRef .tc main_v64) = k_v64 (W0 m ρ c) := (W12_of m ρ c _ (by decide)).trans (w11_v64 m ρ c)
/-- The contents of `v64` at one boundary. -/
theorem w13_v64 (c : Dev nD) : W13 m ρ c (Proc.devRef .tc main_v64) = k_v64 (W0 m ρ c) := (W13_of m ρ c _ (by decide)).trans (w12_v64 m ρ c)
/-- The contents of `v64` at one boundary. -/
theorem w14_v64 (c : Dev nD) : W14 m ρ c (Proc.devRef .tc main_v64) = k_v64 (W0 m ρ c) := (W14_of m ρ c _ (by decide)).trans (w13_v64 m ρ c)
/-- The contents of `v86` at one boundary. -/
theorem w15_v86 (c : Dev nD) : W15 m ρ c (Proc.devRef .tc main_v86) = k_v86 (W0 m ρ c) := st_v86 _ _ (w14_v64 m ρ c)
/-- The contents of `cst_15` at one boundary. -/
theorem w15_cst_15 (c : Dev nD) : W15 m ρ c (Proc.devRef .tc main_cst_15) = k_cst_15 (W0 m ρ c) := st_cst_15 _ _
/-- The contents of `cst_16` at one boundary. -/
theorem w15_cst_16 (c : Dev nD) : W15 m ρ c (Proc.devRef .tc main_cst_16) = k_cst_16 (W0 m ρ c) := st_cst_16 _ _
/-- The contents of `v87` at one boundary. -/
theorem w16_v87 (c : Dev nD) : W16 m ρ c (Proc.devRef .tc main_v87) = k_v87 (W0 m ρ c) := st_v87 _ _ (w15_v86 m ρ c) (w15_cst_15 m ρ c) (w15_cst_16 m ρ c)
/-- The contents of `v83` at one boundary. -/
theorem w15_v83 (c : Dev nD) : W15 m ρ c (Proc.devRef .tc main_v83) = k_v83 (W0 m ρ c) := (W15_of m ρ c _ (by decide)).trans (w14_v83 m ρ c)
/-- The contents of `v83` at one boundary. -/
theorem w16_v83 (c : Dev nD) : W16 m ρ c (Proc.devRef .tc main_v83) = k_v83 (W0 m ρ c) := (W16_of m ρ c _ (by decide)).trans (w15_v83 m ρ c)
/-- The contents of `v98` at one boundary. -/
theorem w17_v98 (c : Dev nD) : W17 m ρ c (Proc.devRef .tc main_v98) = k_v98 (W0 m ρ c) := st_v98 _ _ (w16_v74 m ρ c) (w16_v87 m ρ c) (w16_v83 m ρ c)
/-- The contents of `v98` at one boundary. -/
theorem w18_v98 (c : Dev nD) : W18 m ρ c (Proc.devRef .tc main_v98) = k_v98 (W0 m ρ c) := (W18_of m ρ c _ (by decide)).trans (w17_v98 m ρ c)
/-- The contents of `v98` at one boundary. -/
theorem w19_v98 (c : Dev nD) : W19 m ρ c (Proc.devRef .tc main_v98) = k_v98 (W0 m ρ c) := (W19_of m ρ c _ (by decide)).trans (w18_v98 m ρ c)
/-- The contents of `v98` at one boundary. -/
theorem w20_v98 (c : Dev nD) : W20 m ρ c (Proc.devRef .tc main_v98) = k_v98 (W0 m ρ c) := (W20_of m ρ c _ (by decide)).trans (w19_v98 m ρ c)
/-- The contents of `v110` at one boundary. -/
theorem w21_v110 (c : Dev nD) : W21 m ρ c (Proc.devRef .tc main_v110) = k_v110 (W0 m ρ c) := st_v110 _ _ (w20_v98 m ρ c)

end Cert.Kernel11Ideal.Hyena

end
-- ==== Proof.HyenaCall.lean ====
/-
  The long convolution's two calls: what each of them leaves in its result array, from the arrays at its entry.
-/
module

public import proofs.«01_k».proof.Proof.Gen.Kernel11Ideal.Frame
public import Idealize.ShloMosaic.Lib.Pipeline.ValueKit

@[expose] public section

set_option maxRecDepth 16384

noncomputable section

namespace Cert.Kernel11Ideal.Hyena

open Cert.Kernel11Ideal Cert.Kernel11Ideal.Gen
open Idealize.ShloMosaic Idealize.ShloMosaic.TcCoe Idealize.SL.Sem
open Idealize.ShloMosaic.Pipeline (Dat)

/-- A choice by the equality of two words is a choice by the equality of the numbers they hold. -/
theorem sel (α : Type) (n k : ℕ) (hn : n < 4294967296) (hk : k < 4294967296) (a b : α) :
    Scalar.select (IntOp.cmpi .eq (BitVec.ofNat 32 n) (BitVec.ofNat 32 k)) a b = if n = k then a else b := by
  have e : (BitVec.ofNat 32 n == BitVec.ofNat 32 k) = decide (n = k) := by
    rw [Bool.eq_iff_iff]
    simp only [beq_iff_eq, decide_eq_true_eq]
    constructor
    · intro h
      have := congrArg BitVec.toNat h
      rw [BitVec.toNat_ofNat, BitVec.toNat_ofNat, Nat.mod_eq_of_lt hn, Nat.mod_eq_of_lt hk] at this
      exact this
    · intro h; rw [h]
  by_cases h : n = k <;> simp [Scalar.select, IntOp.cmpi, e, h]

/-- The short convolution of a block: the token before times the first row, the token times the second, the token after
    times the third, plus the bias; nothing precedes the first token and nothing follows the last. -/
def convB (x : FVec Ideal S256x1024 .f32) (a b c d : FVec Ideal S1x1024 .f32) : FVec Ideal S256x1024 .f32 := fun y =>
  (if (y 0).val = 0 then 0 else x (ix2 ⟨((y 0).val + 255) % 256, Nat.mod_lt _ (by decide)⟩ (y 1)) * a (ix2 0 (y 1)))
    + x (ix2 (y 0) (y 1)) * b (ix2 0 (y 1))
    + (if (y 0).val = 255 then 0 else x (ix2 ⟨((y 0).val + 1) % 256, Nat.mod_lt _ (by decide)⟩ (y 1)) * c (ix2 0 (y 1)))
    + d (ix2 0 (y 1))

/-- The number of a row is below the range of words. -/
theorem row_lt (y : S256x1024.Idx) : (y 0).val < 4294967296 := lt_trans (show (y 0).val < 256 from (y 0).isLt) (by decide)

/-- The first short convolution of the body. -/
theorem pay1_eq (x : FVec Ideal S256x1024 .f32) (a b c d : FVec Ideal S1x1024 .f32) :
    k1_pay1 (F := Ideal) x a b c d = convB x a b c d := by
  funext y
  obtain ⟨y0, y1, rfl⟩ : ∃ (y0 : Fin 256) (y1 : Fin 1024), y = ix2 y0 y1 := ⟨y 0, y 1, by funext k; fin_cases k <;> rfl⟩
  pointwise [k1_pay1]
  unfold convB
  have h := y0.isLt
  simp only [sel _ y0.val 0 (by omega) (by decide), sel _ y0.val 255 (by omega) (by decide)]
  rfl

/-- The product of the value's and the first gate's short convolutions. -/
theorem pay4_eq (w x : FVec Ideal S256x1024 .f32) (a b c d : FVec Ideal S1x1024 .f32) :
    k1_pay4 (F := Ideal) w x (k1_pay2 x) k1_pay3 255#32 a b c d = fun y => convB x a b c d y * w y := by
  funext y
  obtain ⟨y0, y1, rfl⟩ : ∃ (y0 : Fin 256) (y1 : Fin 1024), y = ix2 y0 y1 := ⟨y 0, y 1, by funext k; fin_cases k <;> rfl⟩
  pointwise [k1_pay4, k1_pay2, k1_pay3]
  unfold convB
  have h := y0.isLt
  simp only [sel _ y0.val 0 (by omega) (by decide), sel _ y0.val 255 (by omega) (by decide)]
  rfl

/-- Frequency `r` of the first half of the packed rows. -/
def lo (r : Fin 256) : Fin 512 := ⟨r.val, by omega⟩
/-- Frequency `r` of the second half of the packed rows. -/
def hi (r : Fin 256) : Fin 512 := ⟨256 + r.val, by omega⟩

/-- A sum over the packed rows is the sum over its halves. -/
theorem sum_halves (f : Fin 512 → Ideal .f32) : ∑ q, f q = ∑ r, f (lo r) + ∑ r, f (hi r) :=
  Fin.sum_univ_add (a := 256) (b := 256) f

/-- The first half of the packed products: the real part, at the first row without the second product. -/
def packLo (r : Fin 256) (zc zs kc ks : Ideal .f32) : Ideal .f32 := if r.val = 0 then zc * kc else zc * kc - zs * ks
/-- The second half of the packed products: the imaginary part, at the first row the other real frequency. -/
def packHi (r : Fin 256) (zc zs kc ks : Ideal .f32) : Ideal .f32 := if r.val = 0 then zs * ks else zc * ks + zs * kc

/-- The packed products of the spectra, first half. -/
theorem pay5_lo (w x : FVec Ideal S256x1024 .f32) (a b c d : FVec Ideal S1x1024 .f32) (fw : FVec Ideal S512x256 .bf16)
    (k0 k1 : FVec Ideal S256x1024 .f32) (r : Fin 256) (e : Fin 1024) :
    k1_pay5 (F := Ideal) (iota .tc S256x1024 32 [0] iota_S256x1024_d0_w32) w x (k1_pay2 x) k1_pay3 255#32 a b c d fw k0 k1 (ix2 (lo r) e)
      = packLo r (∑ s : Fin 256, fw (ix2 (lo r) s) * (convB x a b c d (ix2 s e) * w (ix2 s e)))
          (∑ s : Fin 256, fw (ix2 (hi r) s) * (convB x a b c d (ix2 s e) * w (ix2 s e)))
          (k0 (ix2 r e)) (k1 (ix2 r e)) := by
  have h := r.isLt
  unfold k1_pay5
  rw [pay4_eq]
  generalize hz : (fun y => convB x a b c d y * w y) = z
  have hz' : ∀ s e, convB x a b c d (ix2 s e) * w (ix2 s e) = z (ix2 s e) := fun s e => congrFun hz (ix2 s e)
  simp only [hz']
  pointwise
  refine (dif_pos (show (lo r).val < 256 from r.isLt)).trans ?_
  exact sel _ r.val 0 (by omega) (by decide) _ _

/-- The packed products of the spectra, second half. -/
theorem pay5_hi (w x : FVec Ideal S256x1024 .f32) (a b c d : FVec Ideal S1x1024 .f32) (fw : FVec Ideal S512x256 .bf16)
    (k0 k1 : FVec Ideal S256x1024 .f32) (r : Fin 256) (e : Fin 1024) :
    k1_pay5 (F := Ideal) (iota .tc S256x1024 32 [0] iota_S256x1024_d0_w32) w x (k1_pay2 x) k1_pay3 255#32 a b c d fw k0 k1 (ix2 (hi r) e)
      = packHi r (∑ s : Fin 256, fw (ix2 (lo r) s) * (convB x a b c d (ix2 s e) * w (ix2 s e)))
          (∑ s : Fin 256, fw (ix2 (hi r) s) * (convB x a b c d (ix2 s e) * w (ix2 s e)))
          (k0 (ix2 r e)) (k1 (ix2 r e)) := by
  have h := r.isLt
  unfold k1_pay5
  rw [pay4_eq]
  generalize hz : (fun y => convB x a b c d y * w y) = z
  have hz' : ∀ s e, convB x a b c d (ix2 s e) * w (ix2 s e) = z (ix2 s e) := fun s e => congrFun hz (ix2 s e)
  simp only [hz']
  pointwise
  refine (dif_neg (show ¬ (hi r).val < 256 from fun hh => by have : 256 + r.val < 256 := hh; omega)).trans ?_
  have e1 : (hi r).val - 256 = r.val := by show 256 + r.val - 256 = r.val; omega
  simp only [e1]
  exact sel _ r.val 0 (by omega) (by decide) _ _

/-- What the body stores: the inverse transform of the packed products plus the bias' share, times the last gate. -/
theorem pay6_eq (z : FVec Ideal S256x1024 .f32) (p : FVec Ideal S512x1024 .bf16) (iv : FVec Ideal S256x512 .bf16)
    (x : FVec Ideal S256x1024 .f32) (a b c d g : FVec Ideal S1x1024 .f32) :
    k1_pay6 (F := Ideal) (iota .tc S256x1024 32 [0] iota_S256x1024_d0_w32) z p iv x a b c d g
      = fun y => ((∑ q : Fin 512, iv (ix2 (y 0) q) * p (ix2 q (y 1))) + g (ix2 0 (y 1)) * z y) * convB x a b c d y := by
  funext y
  obtain ⟨y0, y1, rfl⟩ : ∃ (y0 : Fin 256) (y1 : Fin 1024), y = ix2 y0 y1 := ⟨y 0, y 1, by funext k; fin_cases k <;> rfl⟩
  pointwise [k1_pay6]
  unfold convB
  have h := y0.isLt
  simp only [sel _ y0.val 0 (by omega) (by decide), sel _ y0.val 255 (by omega) (by decide)]
  rfl

/-- The short convolution of a block with the three rows of its weights. -/
def convW (x : Vec Ideal S256x1024 .f32) (w : Vec Ideal S3x1024 .f32) (d : Vec Ideal S1x1024 .f32) (s : Fin 256) (e : Fin 1024) : Ideal .f32 :=
  (if s.val = 0 then 0 else x (ix2 ⟨(s.val + 255) % 256, Nat.mod_lt _ (by decide)⟩ e) * w (ix2 (0 : Fin 3) e))
    + x (ix2 s e) * w (ix2 (1 : Fin 3) e)
    + (if s.val = 255 then 0 else x (ix2 ⟨(s.val + 1) % 256, Nat.mod_lt _ (by decide)⟩ e) * w (ix2 (2 : Fin 3) e))
    + d (ix2 (0 : Fin 1) e)

/-- The first row read of the weights. -/
theorem ld_0 (w : Vec Ideal S3x1024 .f32) (e : Fin 1024) : View.ld w r1_1 (ix2 (0 : Fin 1) e) = w (ix2 (0 : Fin 3) e) := by
  pointwise
/-- The second row read of the weights. -/
theorem ld_1 (w : Vec Ideal S3x1024 .f32) (e : Fin 1024) : View.ld w r1_2 (ix2 (0 : Fin 1) e) = w (ix2 (1 : Fin 3) e) := by
  pointwise
/-- The third row read of the weights. -/
theorem ld_2 (w : Vec Ideal S3x1024 .f32) (e : Fin 1024) : View.ld w r1_3 (ix2 (0 : Fin 1) e) = w (ix2 (2 : Fin 3) e) := by
  pointwise
/-- The first half read of the filters' spectrum. -/
theorem ld_lo (w : Vec Ideal S512x1024 .f32) (r : Fin 256) (e : Fin 1024) : View.ld w r1_6 (ix2 r e) = w (ix2 (lo r) e) := by
  pointwise
  rfl
/-- The second half read of the filters' spectrum. -/
theorem ld_hi (w : Vec Ideal S512x1024 .f32) (r : Fin 256) (e : Fin 1024) : View.ld w r1_7 (ix2 r e) = w (ix2 (hi r) e) := by
  pointwise
  rfl

/-- The short convolution with the weights' rows read one by one. -/
theorem conv_ld (x : Vec Ideal S256x1024 .f32) (w : Vec Ideal S3x1024 .f32) (d : Vec Ideal S1x1024 .f32) (s : Fin 256) (e : Fin 1024) :
    convB x (View.ld w r1_1) (View.ld w r1_2) (View.ld w r1_3) d (ix2 s e) = convW x w d s e := by
  have h0 := ld_0 w e
  have h1 := ld_1 w e
  have h2 := ld_2 w e
  unfold convB convW
  show (if s.val = 0 then 0 else x (ix2 ⟨(s.val + 255) % 256, Nat.mod_lt _ (by decide)⟩ e) * View.ld w r1_1 (ix2 (0 : Fin 1) e))
    + x (ix2 s e) * View.ld w r1_2 (ix2 (0 : Fin 1) e)
    + (if s.val = 255 then 0 else x (ix2 ⟨(s.val + 1) % 256, Nat.mod_lt _ (by decide)⟩ e) * View.ld w r1_3 (ix2 (0 : Fin 1) e))
    + d (ix2 (0 : Fin 1) e) = _
  rw [h0, h1, h2]

/-- What the second call's body stores, over its input blocks. -/
theorem body_eq (x0 x1 x2 : Vec Ideal S256x1024 .f32) (x3 x4 x5 : Vec Ideal S3x1024 .f32) (x6 x7 x8 x9 : Vec Ideal S1x1024 .f32)
    (x10 : Vec Ideal S512x1024 .f32) (x11 : Vec Ideal S512x256 .bf16) (x12 : Vec Ideal S256x512 .bf16) (s : Fin 256) (e : Fin 1024) :
    k1_pay6 (F := Ideal) (iota .tc S256x1024 32 [0] iota_S256x1024_d0_w32)
      (k1_pay4 (k1_pay1 x1 (View.ld x4 r1_1) (View.ld x4 r1_2) (View.ld x4 r1_3) x7) x2 (k1_pay2 x2) k1_pay3 255#32
        (View.ld x5 r1_1) (View.ld x5 r1_2) (View.ld x5 r1_3) x8)
      (k1_pay5 (iota .tc S256x1024 32 [0] iota_S256x1024_d0_w32) (k1_pay1 x1 (View.ld x4 r1_1) (View.ld x4 r1_2) (View.ld x4 r1_3) x7) x2 (k1_pay2 x2) k1_pay3 255#32
        (View.ld x5 r1_1) (View.ld x5 r1_2) (View.ld x5 r1_3) x8 x11 (View.ld x10 r1_6) (View.ld x10 r1_7))
      x12 x0 (View.ld x3 r1_1) (View.ld x3 r1_2) (View.ld x3 r1_3) x6 x9 (ix2 s e)
    = ((∑ r : Fin 256, x12 (ix2 s (lo r)) * packLo r
            (∑ u : Fin 256, x11 (ix2 (lo r) u) * (convW x2 x5 x8 u e * convW x1 x4 x7 u e))
            (∑ u : Fin 256, x11 (ix2 (hi r) u) * (convW x2 x5 x8 u e * convW x1 x4 x7 u e))
            (x10 (ix2 (lo r) e)) (x10 (ix2 (hi r) e))
        + ∑ r : Fin 256, x12 (ix2 s (hi r)) * packHi r
            (∑ u : Fin 256, x11 (ix2 (lo r) u) * (convW x2 x5 x8 u e * convW x1 x4 x7 u e))
            (∑ u : Fin 256, x11 (ix2 (hi r) u) * (convW x2 x5 x8 u e * convW x1 x4 x7 u e))
            (x10 (ix2 (lo r) e)) (x10 (ix2 (hi r) e)))
        + x9 (ix2 (0 : Fin 1) e) * (convW x2 x5 x8 s e * convW x1 x4 x7 s e)) * convW x0 x3 x6 s e := by
  rw [pay6_eq, pay4_eq, pay1_eq]
  show ((∑ q : Fin 512, x12 (ix2 s q) * k1_pay5 (F := Ideal) _ _ _ _ _ _ _ _ _ _ _ _ _ (ix2 q e)) + x9 (ix2 (0 : Fin 1) e) * (convB x2 _ _ _ _ (ix2 s e) * convB x1 _ _ _ _ (ix2 s e))) * convB x0 _ _ _ _ (ix2 s e) = _
  rw [sum_halves]
  have pl := fun r : Fin 256 => pay5_lo (k1_pay1 x1 (View.ld x4 r1_1) (View.ld x4 r1_2) (View.ld x4 r1_3) x7) x2 (View.ld x5 r1_1) (View.ld x5 r1_2)
    (View.ld x5 r1_3) x8 x11 (View.ld x10 r1_6) (View.ld x10 r1_7) r e
  have ph := fun r : Fin 256 => pay5_hi (k1_pay1 x1 (View.ld x4 r1_1) (View.ld x4 r1_2) (View.ld x4 r1_3) x7) x2 (View.ld x5 r1_1) (View.ld x5 r1_2)
    (View.ld x5 r1_3) x8 x11 (View.ld x10 r1_6) (View.ld x10 r1_7) r e
  rw [pay1_eq] at pl ph
  refine (congrArg₂ (fun a b => (a + b + x9 (ix2 (0 : Fin 1) e) * (convB x2 _ _ _ _ (ix2 s e) * convB x1 _ _ _ _ (ix2 s e))) * convB x0 _ _ _ _ (ix2 s e))
    (Finset.sum_congr rfl fun r _ => congrArg (fun v => x12 (ix2 s (lo r)) * v) (pl r))
    (Finset.sum_congr rfl fun r _ => congrArg (fun v => x12 (ix2 s (hi r)) * v) (ph r))).trans ?_
  simp only [conv_ld]
  have hl := fun r : Fin 256 => ld_lo x10 r e
  have hh := fun r : Fin 256 => ld_hi x10 r e
  simp only [hl, hh]

variable (V : (c : Dev nD) → (b : Ref sig .tc) → Buf (Elt Ideal) ((c : Thread nD τ).loc b))

/-- The block indices of the first call's windows in closed form, decided over the grid. -/
theorem idx0 : ∀ t : Fin cfg0.N, win0_0.index t = ![0, 0]
    ∧ win0_1.index t = ![0, (grid0.coords t 1).val]
    ∧ win0_2.index t = ![0, (grid0.coords t 1).val] :=
  (by decide +kernel : ∀ t : Fin grid0.N, _)

/-- The filters' spectrum. -/
def spec (A : FVec Ideal S512x512 .f32) (K : FVec Ideal S512x4096 .f32) : FVec Ideal S512x4096 .f32 :=
  fun j => ∑ s : Fin 512, A (ix2 (j 0) s) * K (ix2 s (j 1))

/-- What the first call's body stores at an index of its block is the spectrum at the place of that index. -/
theorem point0 (c : Dev nD) (t : Fin cfg0.N) (y) :
    k0_pay1 (F := Ideal) (iblk0 V c 0 t) (iblk0 V c 1 t) y
      = spec (V c main_v84) (V c main_v102) (((cfg0.win 2).blk t).view.emb y) := by
  pointwise [k0_pay1]
  unfold spec
  blk_point [iblk0, idx0 t]

/-- After the first call its result array holds the spectrum of the filters. -/
theorem final0 (c : Dev nD) : (dat0 V c).arrAt 2 cfg0.N = spec (V c main_v84) (V c main_v102) := by
  refine (dat0 V c).arrAt_eq_of_covers 2 _ (by decide +kernel) fun t _ y => ?_
  blk_simp
  rw [after0_2]; frame_out
  exact point0 V c t y

/-- The block indices of the second call's windows in closed form, decided over the grid. -/
theorem idx1 : ∀ t : Fin cfg1.N, win1_0.index t = ![(grid1.coords t 0).val, (grid1.coords t 1).val]
    ∧ win1_1.index t = ![(grid1.coords t 0).val, 4 + (grid1.coords t 1).val]
    ∧ win1_2.index t = ![(grid1.coords t 0).val, 8 + (grid1.coords t 1).val]
    ∧ win1_3.index t = ![0, (grid1.coords t 1).val]
    ∧ win1_4.index t = ![0, 4 + (grid1.coords t 1).val]
    ∧ win1_5.index t = ![0, 8 + (grid1.coords t 1).val]
    ∧ win1_6.index t = ![0, (grid1.coords t 1).val]
    ∧ win1_7.index t = ![0, 4 + (grid1.coords t 1).val]
    ∧ win1_8.index t = ![0, 8 + (grid1.coords t 1).val]
    ∧ win1_9.index t = ![0, (grid1.coords t 1).val]
    ∧ win1_10.index t = ![0, (grid1.coords t 1).val]
    ∧ win1_11.index t = ![0, 0]
    ∧ win1_12.index t = ![0, 0]
    ∧ win1_13.index t = ![(grid1.coords t 0).val, (grid1.coords t 1).val] :=
  (by decide +kernel : ∀ t : Fin grid1.N, _)

/-- A token of a request among all of them. -/
def at16 (b : Fin 16) (s : Fin 256) : Fin 8192 := ⟨b.val * 256 + s.val, by omega⟩
/-- A channel of a block among those of one part. -/
def atC (j : Fin 4) (e : Fin 1024) : Fin 4096 := ⟨j.val * 1024 + e.val, by omega⟩
/-- A channel of one part among those of all three. -/
def atP (p : Fin 3) (d : Fin 4096) : Fin 12288 := ⟨p.val * 4096 + d.val, by omega⟩

/-- The reads of window 0's block. -/
theorem rd0 (c : Dev nD) (t : Fin cfg1.N) (s : Fin 256) (e : Fin 1024) : iblk1 V c 0 t (ix2 s e) = V c main_arg0 (ix2 (at16 (grid1.coords t 0) s) (atP 0 (atC (grid1.coords t 1) e))) := by
  blk_point [iblk1, idx1 t]
  all_goals (simp [at16, atC, atP]; try omega)
/-- The reads of window 1's block. -/
theorem rd1 (c : Dev nD) (t : Fin cfg1.N) (s : Fin 256) (e : Fin 1024) : iblk1 V c 1 t (ix2 s e) = V c main_arg0 (ix2 (at16 (grid1.coords t 0) s) (atP 1 (atC (grid1.coords t 1) e))) := by
  blk_point [iblk1, idx1 t]
  all_goals (simp [at16, atC, atP]; try omega)
/-- The reads of window 2's block. -/
theorem rd2 (c : Dev nD) (t : Fin cfg1.N) (s : Fin 256) (e : Fin 1024) : iblk1 V c 2 t (ix2 s e) = V c main_arg0 (ix2 (at16 (grid1.coords t 0) s) (atP 2 (atC (grid1.coords t 1) e))) := by
  blk_point [iblk1, idx1 t]
  all_goals (simp [at16, atC, atP]; try omega)
/-- The reads of window 3's block. -/
theorem rd3 (c : Dev nD) (t : Fin cfg1.N) (s : Fin 3) (e : Fin 1024) : iblk1 V c 3 t (ix2 s e) = V c main_arg1 (ix2 s (atP 0 (atC (grid1.coords t 1) e))) := by
  blk_point [iblk1, idx1 t]
  all_goals (simp [at16, atC, atP]; try omega)
/-- The reads of window 4's block. -/
theorem rd4 (c : Dev nD) (t : Fin cfg1.N) (s : Fin 3) (e : Fin 1024) : iblk1 V c 4 t (ix2 s e) = V c main_arg1 (ix2 s (atP 1 (atC (grid1.coords t 1) e))) := by
  blk_point [iblk1, idx1 t]
  all_goals (simp [at16, atC, atP]; try omega)
/-- The reads of window 5's block. -/
theorem rd5 (c : Dev nD) (t : Fin cfg1.N) (s : Fin 3) (e : Fin 1024) : iblk1 V c 5 t (ix2 s e) = V c main_arg1 (ix2 s (atP 2 (atC (grid1.coords t 1) e))) := by
  blk_point [iblk1, idx1 t]
  all_goals (simp [at16, atC, atP]; try omega)
/-- The reads of window 6's block. -/
theorem rd6 (c : Dev nD) (t : Fin cfg1.N) (s : Fin 1) (e : Fin 1024) : iblk1 V c 6 t (ix2 s e) = V c main_v104 (ix2 s (atP 0 (atC (grid1.coords t 1) e))) := by
  blk_point [iblk1, idx1 t]
  all_goals (simp [at16, atC, atP]; try omega)
/-- The reads of window 7's block. -/
theorem rd7 (c : Dev nD) (t : Fin cfg1.N) (s : Fin 1) (e : Fin 1024) : iblk1 V c 7 t (ix2 s e) = V c main_v105 (ix2 s (atP 1 (atC (grid1.coords t 1) e))) := by
  blk_point [iblk1, idx1 t]
  all_goals (simp [at16, atC, atP]; try omega)
/-- The reads of window 8's block. -/
theorem rd8 (c : Dev nD) (t : Fin cfg1.N) (s : Fin 1) (e : Fin 1024) : iblk1 V c 8 t (ix2 s e) = V c main_v106 (ix2 s (atP 2 (atC (grid1.coords t 1) e))) := by
  blk_point [iblk1, idx1 t]
  all_goals (simp [at16, atC, atP]; try omega)
/-- The reads of window 9's block. -/
theorem rd9 (c : Dev nD) (t : Fin cfg1.N) (s : Fin 1) (e : Fin 1024) : iblk1 V c 9 t (ix2 s e) = V c main_v107 (ix2 s (atC (grid1.coords t 1) e)) := by
  blk_point [iblk1, idx1 t]
  all_goals (simp [at16, atC, atP]; try omega)
/-- The reads of window 10's block. -/
theorem rd10 (c : Dev nD) (t : Fin cfg1.N) (s : Fin 512) (e : Fin 1024) : iblk1 V c 10 t (ix2 s e) = V c main_v103 (ix2 s (atC (grid1.coords t 1) e)) := by
  blk_point [iblk1, idx1 t]
  all_goals (simp [at16, atC, atP]; try omega)
/-- The reads of window 11's block. -/
theorem rd11 (c : Dev nD) (t : Fin cfg1.N) (s : Fin 512) (e : Fin 256) : iblk1 V c 11 t (ix2 s e) = V c main_v109 (ix2 s e) := by
  blk_point [iblk1, idx1 t]
  all_goals (simp [at16, atC, atP]; try omega)
/-- The reads of window 12's block. -/
theorem rd12 (c : Dev nD) (t : Fin cfg1.N) (s : Fin 256) (e : Fin 512) : iblk1 V c 12 t (ix2 s e) = V c main_v110 (ix2 s e) := by
  blk_point [iblk1, idx1 t]
  all_goals (simp [at16, atC, atP]; try omega)

/-- The short convolution of part `p` of the tokens' channels at token `s` of request `b`. -/
def sc (U : FVec Ideal S8192x12288 .f32) (W : FVec Ideal S3x12288 .f32) (B : FVec Ideal S1x12288 .f32) (p : Fin 3) (b : Fin 16)
    (s : Fin 256) (d : Fin 4096) : Ideal .f32 :=
  (if s.val = 0 then 0 else U (ix2 (at16 b ⟨(s.val + 255) % 256, Nat.mod_lt _ (by decide)⟩) (atP p d)) * W (ix2 (0 : Fin 3) (atP p d)))
    + U (ix2 (at16 b s) (atP p d)) * W (ix2 (1 : Fin 3) (atP p d))
    + (if s.val = 255 then 0 else U (ix2 (at16 b ⟨(s.val + 1) % 256, Nat.mod_lt _ (by decide)⟩) (atP p d)) * W (ix2 (2 : Fin 3) (atP p d)))
    + B (ix2 (0 : Fin 1) (atP p d))

/-- The request of a row of the result. -/
def req (r : Fin 4096) : Fin 16 := ⟨r.val / 256, by omega⟩
/-- The token of a row of the result within its request. -/
def tok (r : Fin 4096) : Fin 256 := ⟨r.val % 256, Nat.mod_lt _ (by decide)⟩

/-- The gated long convolution of the value: over the packed frequencies, from the tables and the filters' spectrum. -/
def hyena (U : FVec Ideal S8192x12288 .f32) (W : FVec Ideal S3x12288 .f32) (B0 B1 B2 : FVec Ideal S1x12288 .f32)
    (G : FVec Ideal S1x4096 .f32) (K : FVec Ideal S512x4096 .f32) (A : FVec Ideal S512x256 .bf16) (I : FVec Ideal S256x512 .bf16)
    (b : Fin 16) (s : Fin 256) (d : Fin 4096) : Ideal .f32 :=
  ((∑ r : Fin 256, I (ix2 s (lo r)) * packLo r
            (∑ u : Fin 256, A (ix2 (lo r) u) * (sc U W B2 2 b u d * sc U W B1 1 b u d))
            (∑ u : Fin 256, A (ix2 (hi r) u) * (sc U W B2 2 b u d * sc U W B1 1 b u d))
            (K (ix2 (lo r) d)) (K (ix2 (hi r) d))
        + ∑ r : Fin 256, I (ix2 s (hi r)) * packHi r
            (∑ u : Fin 256, A (ix2 (lo r) u) * (sc U W B2 2 b u d * sc U W B1 1 b u d))
            (∑ u : Fin 256, A (ix2 (hi r) u) * (sc U W B2 2 b u d * sc U W B1 1 b u d))
            (K (ix2 (lo r) d)) (K (ix2 (hi r) d)))
        + G (ix2 (0 : Fin 1) d) * (sc U W B2 2 b s d * sc U W B1 1 b s d)) * sc U W B0 0 b s d

/-- The short convolution of window 0's block is that of its part of the channels. -/
theorem conv_rd0 (c : Dev nD) (t : Fin cfg1.N) (s : Fin 256) (e : Fin 1024) :
    convW (iblk1 V c 0 t) (iblk1 V c 3 t) (iblk1 V c 6 t) s e
      = sc (V c main_arg0) (V c main_arg1) (V c main_v104) 0 (grid1.coords t 0) s (atC (grid1.coords t 1) e) := by
  unfold convW sc
  rw [rd0 V c t, rd0 V c t, rd0 V c t, rd3 V c t, rd3 V c t, rd3 V c t, rd6 V c t]

/-- The short convolution of window 1's block is that of its part of the channels. -/
theorem conv_rd1 (c : Dev nD) (t : Fin cfg1.N) (s : Fin 256) (e : Fin 1024) :
    convW (iblk1 V c 1 t) (iblk1 V c 4 t) (iblk1 V c 7 t) s e
      = sc (V c main_arg0) (V c main_arg1) (V c main_v105) 1 (grid1.coords t 0) s (atC (grid1.coords t 1) e) := by
  unfold convW sc
  rw [rd1 V c t, rd1 V c t, rd1 V c t, rd4 V c t, rd4 V c t, rd4 V c t, rd7 V c t]

/-- The short convolution of window 2's block is that of its part of the channels. -/
theorem conv_rd2 (c : Dev nD) (t : Fin cfg1.N) (s : Fin 256) (e : Fin 1024) :
    convW (iblk1 V c 2 t) (iblk1 V c 5 t) (iblk1 V c 8 t) s e
      = sc (V c main_arg0) (V c main_arg1) (V c main_v106) 2 (grid1.coords t 0) s (atC (grid1.coords t 1) e) := by
  unfold convW sc
  rw [rd2 V c t, rd2 V c t, rd2 V c t, rd5 V c t, rd5 V c t, rd5 V c t, rd8 V c t]

/-- A token of a request among the result's rows. -/
def at16' (b : Fin 16) (s : Fin 256) : Fin 4096 := ⟨b.val * 256 + s.val, by omega⟩
/-- Its request. -/
theorem req_at (b : Fin 16) (s : Fin 256) : req (at16' b s) = b :=
  Fin.ext (by show (b.val * 256 + s.val) / 256 = b.val; have := s.isLt; omega)
/-- Its place within the request. -/
theorem tok_at (b : Fin 16) (s : Fin 256) : tok (at16' b s) = s :=
  Fin.ext (by show (b.val * 256 + s.val) % 256 = s.val; have := s.isLt; omega)

/-- The places of the result's block. -/
theorem rd13 {α : Type} (H : S4096x4096.Idx → α) (t : Fin cfg1.N) (s : Fin 256) (e : Fin 1024) :
    H (((cfg1.win 13).blk t).view.emb (ix2 s e)) = H (ix2 (at16' (grid1.coords t 0) s) (atC (grid1.coords t 1) e)) := by
  blk_point [idx1 t]
  all_goals (simp [at16', atC]; try omega)

/-- After the second call its result array holds the gated long convolution of the arrays at its entry. -/
theorem final1 (c : Dev nD) : (dat1 V c).arrAt 13 cfg1.N = (fun j => hyena (V c main_arg0) (V c main_arg1) (V c main_v104)
    (V c main_v105) (V c main_v106) (V c main_v107) (V c main_v103) (V c main_v109) (V c main_v110) (req (j 0)) (tok (j 0)) (j 1) : FVec Ideal S4096x4096 .bf16) := by
  refine (dat1 V c).arrAt_eq_of_covers 13 _ (by decide +kernel) fun t _ y => ?_
  blk_simp
  rw [after1_13]; frame_out [k1_pay7, k1_pay8, k1_pay9, k1_pay10]
  obtain ⟨s, e, rfl⟩ : ∃ (s : Fin 256) (e : Fin 1024), y = ix2 s e := ⟨y 0, y 1, by funext k; fin_cases k <;> rfl⟩
  refine (body_eq _ _ _ _ _ _ _ _ _ _ _ _ _ s e).trans ?_
  refine Eq.trans ?_ (rd13 (fun j => hyena (V c main_arg0) (V c main_arg1) (V c main_v104) (V c main_v105) (V c main_v106) (V c main_v107)
    (V c main_v103) (V c main_v109) (V c main_v110) (req (j 0)) (tok (j 0)) (j 1)) t s e).symm
  refine Eq.trans ?_ (congrArg₂ (fun b u => hyena (V c main_arg0) (V c main_arg1) (V c main_v104) (V c main_v105) (V c main_v106) (V c main_v107)
    (V c main_v103) (V c main_v109) (V c main_v110) b u (atC (grid1.coords t 1) e)) (req_at (grid1.coords t 0) s) (tok_at (grid1.coords t 0) s)).symm
  unfold hyena
  simp only [conv_rd0 V c t, conv_rd1 V c t, conv_rd2 V c t]
  simp only [rd9 V c t, rd10 V c t, rd11 V c t, rd12 V c t]

end Cert.Kernel11Ideal.Hyena

end
-- ==== Proof.HyenaTables.lean ====
/-
  The Fourier tables of the long convolution: the kernel's packed rows are the reference's rows.
-/
module

public import proofs.«01_k».proof.Proof.HyenaHost
public import proofs.«01_k».proof.Proof.HyenaCall
public import proofs.«01_k».proof.Proof.Gen.Reference11Ideal.Run

@[expose] public section

set_option maxRecDepth 16384

noncomputable section

namespace Cert.Kernel11Ideal.Hyena

open Cert.Kernel11Ideal Cert.Kernel11Ideal.Gen
open Idealize.ShloMosaic Idealize.ShloMosaic.TcCoe Idealize.SL.Sem

variable (V : Valuation τ sig (Elt Ideal)) (V0 : Valuation Cert.Reference11Ideal.τ Cert.Reference11Ideal.sig (Elt Ideal))

/-- The reference's cosine rows, the frequencies 0 to 256. -/
abbrev rcos : FVec Ideal Cert.Reference11Ideal.S257x512 .f32 := Cert.Reference11Ideal.Value.res_main_v116 V0
/-- The reference's sine rows, the frequencies 0 to 256. -/
abbrev rsin : FVec Ideal Cert.Reference11Ideal.S257x512 .f32 := Cert.Reference11Ideal.Value.res_main_v123 V0
/-- The reference's angles. -/
abbrev rang : FVec Ideal Cert.Reference11Ideal.S257x512 .f32 := Cert.Reference11Ideal.Value.res_main_v107 V0
/-- The reference's weights of the frequencies. -/
abbrev rscale : FVec Ideal Cert.Reference11Ideal.S257x1 .f32 := Cert.Reference11Ideal.Value.res_main_v151 V0

/-- A choice by the equality of a word with one of two words is a choice by the equality of the numbers they hold. -/
theorem sel2 (α : Type) (n j k : ℕ) (hn : n < 4294967296) (hj : j < 4294967296) (hk : k < 4294967296) (a b : α) :
    Scalar.select (IntOp.ori (IntOp.cmpi .eq (BitVec.ofNat 32 n) (BitVec.ofNat 32 j)) (IntOp.cmpi .eq (BitVec.ofNat 32 n) (BitVec.ofNat 32 k))) a b
      = if n = j ∨ n = k then a else b := by
  have e (k : ℕ) (hk : k < 4294967296) : (BitVec.ofNat 32 n == BitVec.ofNat 32 k) = decide (n = k) := by
    rw [Bool.eq_iff_iff]
    simp only [beq_iff_eq, decide_eq_true_eq]
    constructor
    · intro h
      have := congrArg BitVec.toNat h
      rw [BitVec.toNat_ofNat, BitVec.toNat_ofNat, Nat.mod_eq_of_lt hn, Nat.mod_eq_of_lt hk] at this
      exact this
    · intro h; rw [h]
  simp only [Scalar.select, IntOp.ori, IntOp.cmpi, e j hj, e k hk]
  by_cases h : n = j
  · rw [decide_eq_true h, if_pos (Or.inl h)]
    by_cases h' : n = k
    · rw [decide_eq_true h']; rfl
    · rw [decide_eq_false h']; rfl
  · rw [decide_eq_false h]
    by_cases h' : n = k
    · rw [decide_eq_true h', if_pos (Or.inr h')]; rfl
    · rw [decide_eq_false h']; exact (if_neg (fun q : n = j ∨ n = k => q.elim h h')).symm

/-- The zero pattern reads as zero. -/
theorem bits_zero : Ideal.ofBits FTy.f32 0#32 = 0 := by
  exact Ideal.ofBits_zero_f32

/-- The kernel's angle at a frequency below 256 is the reference's. -/
theorem t_ang (r : Fin 256) (s : Fin 512) : k_v73 V (ix2 r s) = rang V0 (ix2 r.castSucc s) := by
  unfold rang
  pointwise [k_v73, k_v72, k_cst_8, k_v71, k_v70, k_c3_v12, k_c3_v11, k_c3_v8, k_c3_v4, k_v69, k_v67, k_v64, k_v63, k_v68, k_v66, k_v65, k_c3_v3, k_c3_v2, k_c3_v1, k_c3_v0, k_c_7, k_c3_c, k_c3_c_0, k_c3_v7, k_c3_c_2, k_c3_v10, k_c3_v9, k_c3_c_3, k_c3_v6, k_c3_v5, k_c3_c_1, k_c3_v14, k_c3_v13, Cert.Reference11Ideal.Value.res_main_v107, Cert.Reference11Ideal.Value.res_main_call4_v4, Cert.Reference11Ideal.Value.res_main_call4_v2, Cert.Reference11Ideal.Value.res_main_call4_v0, Cert.Reference11Ideal.Value.res_main_v98, Cert.Reference11Ideal.Value.res_main_v100, id_eq]
  rfl

/-- The kernel's cosine at a frequency below 256 is the reference's. -/
theorem t_cos (r : Fin 256) (s : Fin 512) : k_v74 V (ix2 r s) = rcos V0 (ix2 r.castSucc s) := by
  have h := r.isLt
  have ha := t_ang V V0 r s
  unfold rcos
  unfold rang at ha
  unfold k_v74 Cert.Reference11Ideal.Value.res_main_v116
  generalize k_v73 V = A at ha ⊢
  generalize Cert.Reference11Ideal.Value.res_main_v107 (F := Ideal) V0 = B at ha ⊢
  pointwise [Cert.Reference11Ideal.Value.res_main_v98]

  exact (congrArg Ideal.cos ha).trans ((sel _ r.val 256 (by omega) (by decide) _ _).trans (if_neg (by omega))).symm

/-- The kernel's row 0 of sines holds the reference's cosines at frequency 256. -/
theorem t_par (s : Fin 512) : k_v83 V (ix2 (0 : Fin 256) s) = rcos V0 (ix2 (256 : Fin 257) s) := by
  unfold rcos k_v83 k_c6_v0 k_c6_v1 Cert.Reference11Ideal.Value.res_main_v116
  generalize k_v82 V = A
  generalize Cert.Reference11Ideal.Value.res_main_v107 (F := Ideal) V0 = B
  pointwise [k_v81, k_v80, k_v79, k_v77, k_c4_v12, k_c4_v11, k_c4_v8, k_c4_v4, k_v66, k_v65, k_c4_v3, k_c4_v2, k_c4_v1, k_c4_v0, k_c_10, k_c4_c, k_c4_c_0, k_c4_v7, k_c4_c_2, k_c4_v10, k_c4_v9, k_c4_c_3, k_c4_v6, k_c4_v5, k_c4_c_1, k_c4_v14, k_c4_v13, k_v78, k_c_11, k_c5_v0, k_cst_12, k_c5_v1, k_cst_13, k_v76, k_v64, k_v63, k_v75, k_c_9, Cert.Reference11Ideal.Value.res_main_v98, Cert.Reference11Ideal.Value.res_main_call5_v4, Cert.Reference11Ideal.Value.res_main_call5_v2, Cert.Reference11Ideal.Value.res_main_call5_v0, Cert.Reference11Ideal.Value.res_main_v100, id_eq]

/-- The kernel's sine at a frequency from 1 to 255 is the reference's. -/
theorem t_sin (r : Fin 256) (hr : r.val ≠ 0) (s : Fin 512) : k_v83 V (ix2 r s) = rsin V0 (ix2 r.castSucc s) := by
  have h := r.isLt
  have ha := t_ang V V0 r s
  unfold rsin
  unfold rang at ha
  unfold k_v83 k_c6_v0 k_c6_v1 k_v82 Cert.Reference11Ideal.Value.res_main_v123
  generalize k_v81 V = P
  generalize k_v73 V = A at ha ⊢
  generalize Cert.Reference11Ideal.Value.res_main_v107 (F := Ideal) V0 = B at ha ⊢
  pointwise [k_v76, k_v64, k_v63, k_v75, k_c_9, Cert.Reference11Ideal.Value.res_main_v98]
  refine Eq.trans ?_ (sel2 _ r.val 0 256 (by omega) (by decide) (by decide) _ _).symm
  rw [sel _ r.val 0 (by omega) (by decide), if_neg hr, if_neg (by omega), ha]

/-- The reference's sine at frequency 0 is zero. -/
theorem t_sin0 (s : Fin 512) : rsin V0 (ix2 (0 : Fin 257) s) = 0 := by
  unfold rsin Cert.Reference11Ideal.Value.res_main_v123
  generalize Cert.Reference11Ideal.Value.res_main_v107 (F := Ideal) V0 = B
  pointwise [Cert.Reference11Ideal.Value.res_main_v98]
  exact (sel2 _ 0 0 256 (by decide) (by decide) (by decide) _ _).trans ((if_pos (Or.inl rfl)).trans bits_zero)

/-- The reference's sine at frequency 256 is zero. -/
theorem t_sinN (s : Fin 512) : rsin V0 (ix2 (256 : Fin 257) s) = 0 := by
  unfold rsin Cert.Reference11Ideal.Value.res_main_v123
  generalize Cert.Reference11Ideal.Value.res_main_v107 (F := Ideal) V0 = B
  pointwise [Cert.Reference11Ideal.Value.res_main_v98]
  exact (sel2 _ 256 0 256 (by decide) (by decide) (by decide) _ _).trans ((if_pos (Or.inr rfl)).trans bits_zero)

/-- The kernel's weight of a frequency below 256 is the reference's. -/
theorem t_scale (r : Fin 256) : k_v87 V (ix2 r (0 : Fin 1)) = rscale V0 (ix2 r.castSucc (0 : Fin 1)) := by
  have h := r.isLt
  unfold rscale
  pointwise [k_v87, k_v86, k_v64, k_v63, k_v85, k_c_14, k_c7_v0, k_cst_15, k_c7_v1, k_cst_16, Cert.Reference11Ideal.Value.res_main_v151, Cert.Reference11Ideal.Value.res_main_v98]
  refine Eq.trans ?_ (sel2 _ r.val 0 256 (by omega) (by decide) (by decide) _ _).symm
  rw [sel _ r.val 0 (by omega) (by decide)]
  by_cases h0 : r.val = 0
  · rw [if_pos h0, if_pos (Or.inl h0)]
  · rw [if_neg h0, if_neg (by omega)]

/-- The kernel's weight of frequency 0 is the reference's of frequency 256. -/
theorem t_scaleN : k_v87 V (ix2 (0 : Fin 256) (0 : Fin 1)) = rscale V0 (ix2 (256 : Fin 257) (0 : Fin 1)) := by
  unfold rscale
  pointwise [k_v87, k_v86, k_v64, k_v63, k_v85, k_c_14, k_c7_v0, k_cst_15, k_c7_v1, k_cst_16, Cert.Reference11Ideal.Value.res_main_v151, Cert.Reference11Ideal.Value.res_main_v98]
  exact ((sel2 _ 256 0 256 (by decide) (by decide) (by decide) _ _).trans (if_pos (Or.inr rfl))).symm

/-- The forward table's first half. -/
theorem fwd_lo (r : Fin 256) (s : Fin 512) : k_v84 V (ix2 (lo r) s) = k_v74 V (ix2 r s) := by
  have h := r.isLt
  unfold k_v84 lo
  generalize k_v74 V = A
  generalize k_v83 V = B
  pointwise

/-- The forward table's second half. -/
theorem fwd_hi (r : Fin 256) (s : Fin 512) : k_v84 V (ix2 (hi r) s) = k_v83 V (ix2 r s) := by
  have h := r.isLt
  unfold k_v84 hi
  generalize k_v74 V = A
  generalize k_v83 V = B
  pointwise

/-- The forward table over the prompts, first half. -/
theorem ana_lo (r : Fin 256) (u : Fin 256) : k_v109 V (ix2 (lo r) u) = k_v74 V (ix2 r (lo u)) := by
  rw [← fwd_lo]
  unfold k_v109 k_v108 lo
  generalize k_v84 V = A
  pointwise

/-- The forward table over the prompts, second half. -/
theorem ana_hi (r : Fin 256) (u : Fin 256) : k_v109 V (ix2 (hi r) u) = k_v83 V (ix2 r (lo u)) := by
  rw [← fwd_hi]
  unfold k_v109 k_v108 lo hi
  generalize k_v84 V = A
  pointwise

/-- The inverse table, first half. -/
theorem inv_lo (s : Fin 256) (r : Fin 256) : k_v110 V (ix2 s (lo r)) = k_v74 V (ix2 r (lo s)) * k_v87 V (ix2 r (0 : Fin 1)) := by
  have h := r.isLt
  unfold k_v110 k_v98 k_v92 k_v91 k_v90 k_v89 k_v88 lo
  generalize k_v74 V = A
  generalize k_v87 V = B
  generalize k_v97 V = D
  pointwise

/-- The inverse table, second half. -/
theorem inv_hi (s : Fin 256) (r : Fin 256) : k_v110 V (ix2 s (hi r)) = k_v83 V (ix2 r (lo s)) * k_v87 V (ix2 r (0 : Fin 1)) := by
  have h := r.isLt
  unfold k_v110 k_v98 k_v97 k_v96 k_v95 k_v94 k_v93 lo hi
  generalize k_v83 V = A
  generalize k_v87 V = B
  generalize k_v92 V = D
  pointwise

end Cert.Kernel11Ideal.Hyena

end
-- ==== Proof.HyenaRef.lean ====
/-
  The reference's long convolution, read at one place.
-/
module

public import proofs.«01_k».proof.Proof.HyenaTables

@[expose] public section

set_option maxRecDepth 16384

noncomputable section

namespace Cert.Kernel11Ideal.Hyena

open Idealize.ShloMosaic Idealize.ShloMosaic.TcCoe Idealize.SL.Sem
open Cert.Reference11Ideal Cert.Reference11Ideal.Gen Cert.Reference11Ideal.Value

/-- A sum over the frequencies 0 to 256, and the packed sums over 0 to 255 whose first row holds two real frequencies. -/
theorem fold (zc zs kc ks ic is : Fin 257 → Ideal .f32) (Il Ih Zl Zh Kl Kh : Fin 256 → Ideal .f32)
    (hIl : ∀ r, Il r = ic r.castSucc) (hZl : ∀ r, Zl r = zc r.castSucc) (hKl : ∀ r, Kl r = kc r.castSucc)
    (hIh : ∀ r, Ih r = if r.val = 0 then ic (Fin.last 256) else is r.castSucc)
    (hZh : ∀ r, Zh r = if r.val = 0 then zc (Fin.last 256) else zs r.castSucc)
    (hKh : ∀ r, Kh r = if r.val = 0 then kc (Fin.last 256) else ks r.castSucc)
    (z0 : zs 0 = 0) (k0 : ks 0 = 0) (zN : zs (Fin.last 256) = 0) (kN : ks (Fin.last 256) = 0) :
    ∑ r : Fin 256, Il r * packLo r (Zl r) (Zh r) (Kl r) (Kh r) + ∑ r : Fin 256, Ih r * packHi r (Zl r) (Zh r) (Kl r) (Kh r)
      = ∑ k : Fin 257, (zc k * kc k - zs k * ks k) * ic k + ∑ k : Fin 257, (zc k * ks k + zs k * kc k) * is k := by
  have a : ∀ r : Fin 256, Il r * packLo r (Zl r) (Zh r) (Kl r) (Kh r)
      = (zc r.castSucc * kc r.castSucc - zs r.castSucc * ks r.castSucc) * ic r.castSucc := by
    intro r
    unfold packLo
    rw [hIl, hZl, hKl, mul_comm, hZh, hKh]
    by_cases h : r.val = 0
    · have hr : r.castSucc = 0 := Fin.ext h
      simp only [if_pos h, hr, z0, k0, mul_zero, sub_zero]
    · simp only [if_neg h]
  have b : ∀ r : Fin 255, Ih r.succ * packHi r.succ (Zl r.succ) (Zh r.succ) (Kl r.succ) (Kh r.succ)
      = (zc r.succ.castSucc * ks r.succ.castSucc + zs r.succ.castSucc * kc r.succ.castSucc) * is r.succ.castSucc := by
    intro r
    have h : ¬ (r.succ : Fin 256).val = 0 := by rw [Fin.val_succ]; omega
    unfold packHi
    rw [hIh, hZl, hKl, mul_comm, hZh, hKh]
    simp only [if_neg h]
  have b0 : Ih 0 * packHi 0 (Zl 0) (Zh 0) (Kl 0) (Kh 0) = (zc (Fin.last 256) * kc (Fin.last 256) - zs (Fin.last 256) * ks (Fin.last 256)) * ic (Fin.last 256) := by
    unfold packHi
    rw [hIh, hZh, hKh, mul_comm]
    have h : ((0 : Fin 256).val) = 0 := rfl
    simp only [if_pos h, zN, kN, mul_zero, sub_zero]
  rw [Fin.sum_univ_castSucc (n := 256), Fin.sum_univ_castSucc (n := 256) (f := fun k => (zc k * ks k + zs k * kc k) * is k)]
  simp only [a]
  rw [Fin.sum_univ_succ (n := 255) (f := fun r => Ih r * packHi r (Zl r) (Zh r) (Kl r) (Kh r)), b0]
  simp only [b]
  rw [Fin.sum_univ_succ (n := 255) (f := fun r : Fin 256 => (zc r.castSucc * ks r.castSucc + zs r.castSucc * kc r.castSucc) * is r.castSucc)]
  have c0 : (0 : Fin 256).castSucc = (0 : Fin 257) := rfl
  simp only [c0, z0, k0, zN, kN, mul_zero, zero_mul, zero_add, add_zero]
  rw [add_assoc]

end Cert.Kernel11Ideal.Hyena

namespace Cert.Reference11Ideal.Hyena

open Idealize.ShloMosaic Idealize.ShloMosaic.TcCoe Idealize.SL.Sem
open Cert.Reference11Ideal Cert.Reference11Ideal.Gen Cert.Reference11Ideal.Value
open Cert.Kernel11Ideal.Hyena (lo hi atP at16 at16' sc req tok rcos rsin rscale)

variable (V0 : Valuation τ sig (Elt Ideal))

/-- The reference's transform of the product by the cosines. -/
abbrev rzc : FVec Ideal S16x257x4096 .f32 := res_main_v126 V0
/-- The reference's transform of the product by the sines. -/
abbrev rzs : FVec Ideal S16x257x4096 .f32 := res_main_v129 V0
/-- The reference's spectrum of the filter by the cosines. -/
abbrev rkc : FVec Ideal S257x4096 .f32 := res_main_v130 V0
/-- The reference's spectrum of the filter by the sines. -/
abbrev rks : FVec Ideal S257x4096 .f32 := res_main_v131 V0
/-- The reference's product of the second and the third part. -/
abbrev rz : FVec Ideal S16x256x4096 .f32 := res_main_v96 V0
/-- The reference's short convolution. -/
abbrev rsc : FVec Ideal S16x256x12288 .f32 := res_main_v26 V0
/-- The reference's two-sided filter. -/
abbrev rkern : FVec Ideal S512x4096 .f32 := res_main_v95 V0

/-- The reference's bias of the short convolution as a row. -/
def biasRow (b : FVec Ideal S12288 .f32) : FVec Ideal S1x12288 .f32 := fun j => b (ix1 (j 1))

/-- The reference's short convolution at one place. -/
theorem r_short (p : Fin 3) (b : Fin 16) (s : Fin 256) (d : Fin 4096) :
    rsc V0 (ix3 b s (atP p d))
      = sc (V0 (Proc.devRef .tc main_arg0)) (V0 (Proc.devRef .tc main_arg1)) (biasRow (V0 (Proc.devRef .tc main_arg2))) p b s d := by
  have hs := s.isLt
  have hb := b.isLt
  unfold rsc sc at16 biasRow
  generalize atP p d = ch
  pointwise [res_main_v26, res_main_v1, res_main_v2]
  refine congrArg₂ (fun x y => x + y) (congrArg₂ (fun x y => x + y) (congrArg₂ (fun x y => x + y) ?_ rfl) ?_) rfl
  · by_cases h : s.val = 0
    · rw [if_pos h, dif_pos (by omega), zero_mul]
    · rw [if_neg h, dif_neg (by omega)]
      have e : b.val * 256 + (s.val - 1) = b.val * 256 + (s.val + 255) % 256 := by omega
      simp only [e]
  · by_cases h : s.val = 255
    · rw [if_pos h, dif_neg (by omega), zero_mul]
    · rw [if_neg h, dif_pos (by omega)]
      have e : b.val * 256 + (1 + s.val) = b.val * 256 + (s.val + 1) % 256 := by omega
      simp only [e]

/-- The reference's product of the second and the third part. -/
theorem r_z (b : Fin 16) (s : Fin 256) (d : Fin 4096) :
    rz V0 (ix3 b s d) = rsc V0 (ix3 b s (atP 2 d)) * rsc V0 (ix3 b s (atP 1 d)) := by
  unfold rz res_main_v96 rsc atP
  generalize res_main_v26 (F := Ideal) V0 = A
  pointwise

/-- The reference's transform of the product by the cosines, at one place. -/
theorem r_zc (b : Fin 16) (k : Fin 257) (d : Fin 4096) :
    rzc V0 (ix3 b k d) = ∑ u : Fin 256, rcos V0 (ix2 k (lo u)) * rz V0 (ix3 b u d) := by
  unfold rzc res_main_v126 rcos rz lo
  generalize res_main_v116 (F := Ideal) V0 = A
  generalize res_main_v96 (F := Ideal) V0 = B
  pointwise
  exact Finset.sum_congr rfl fun _ _ => mul_comm _ _

/-- The reference's transform of the product by the sines, at one place. -/
theorem r_zs (b : Fin 16) (k : Fin 257) (d : Fin 4096) :
    rzs V0 (ix3 b k d) = ∑ u : Fin 256, rsin V0 (ix2 k (lo u)) * rz V0 (ix3 b u d) := by
  unfold rzs res_main_v129 rsin rz lo
  generalize res_main_v123 (F := Ideal) V0 = A
  generalize res_main_v96 (F := Ideal) V0 = B
  pointwise
  exact Finset.sum_congr rfl fun _ _ => mul_comm _ _

/-- The reference's spectrum of the filter by the cosines, at one place. -/
theorem r_kc (k : Fin 257) (d : Fin 4096) :
    rkc V0 (ix2 k d) = ∑ u : Fin 512, rcos V0 (ix2 k u) * rkern V0 (ix2 u d) := by
  unfold rkc res_main_v130 rcos rkern
  generalize res_main_v116 (F := Ideal) V0 = A
  generalize res_main_v95 (F := Ideal) V0 = B
  pointwise

/-- The reference's spectrum of the filter by the sines, at one place. -/
theorem r_ks (k : Fin 257) (d : Fin 4096) :
    rks V0 (ix2 k d) = ∑ u : Fin 512, rsin V0 (ix2 k u) * rkern V0 (ix2 u d) := by
  unfold rks res_main_v131 rsin rkern
  generalize res_main_v123 (F := Ideal) V0 = A
  generalize res_main_v95 (F := Ideal) V0 = B
  pointwise

/-- The reference's result from its intermediate arrays. -/
def rmix (C D : FVec Ideal S16x257x4096 .f32) (E G : FVec Ideal S257x4096 .f32) (A B : FVec Ideal S257x512 .f32) (H : FVec Ideal S257x1 .f32)
    (Y : FVec Ideal S4096 .f32) (K : FVec Ideal S16x256x4096 .f32) (L : FVec Ideal S16x256x12288 .f32) : FVec Ideal S4096x4096 .bf16 :=
  truncf .bf16 (shapeCast S4096x4096 (mulf (addf (addf (transpose S16x256x4096 [0, 2, 1] (Host.dotGeneral dot_S16x257x4096_S257x256_S16x4096x256_1_0_02_1_n_n none (subf (mulf C (broadcastInDim S16x257x4096 ![0, 1, 2] bcast_S1x257x4096_S16x257x4096_0_1_2 (broadcastInDim S1x257x4096 ![1, 2] bcast_S257x4096_S1x257x4096_1_2 E))) (mulf D (broadcastInDim S16x257x4096 ![0, 1, 2] bcast_S1x257x4096_S16x257x4096_0_1_2 (broadcastInDim S1x257x4096 ![1, 2] bcast_S257x4096_S1x257x4096_1_2 G)))) (extractStridedSlice S257x256 ![0, 0] (mulf A (broadcastInDim S257x512 ![0, 1] bcast_S257x1_S257x512_0_1 (id H))) slices_S257x512_S257x256_0_0)) transposes_S16x4096x256_S16x256x4096_0_2_1) (transpose S16x256x4096 [0, 2, 1] (Host.dotGeneral dot_S16x257x4096_S257x256_S16x4096x256_1_0_02_1_n_n none (addf (mulf C (broadcastInDim S16x257x4096 ![0, 1, 2] bcast_S1x257x4096_S16x257x4096_0_1_2 (broadcastInDim S1x257x4096 ![1, 2] bcast_S257x4096_S1x257x4096_1_2 G))) (mulf D (broadcastInDim S16x257x4096 ![0, 1, 2] bcast_S1x257x4096_S16x257x4096_0_1_2 (broadcastInDim S1x257x4096 ![1, 2] bcast_S257x4096_S1x257x4096_1_2 E)))) (extractStridedSlice S257x256 ![0, 0] (mulf B (broadcastInDim S257x512 ![0, 1] bcast_S257x1_S257x512_0_1 (id H))) slices_S257x512_S257x256_0_0)) transposes_S16x4096x256_S16x256x4096_0_2_1)) (mulf (broadcastInDim S16x256x4096 ![0, 1, 2] bcast_S1x1x4096_S16x256x4096_0_1_2 (broadcastInDim S1x1x4096 ![2] bcast_S4096_S1x1x4096_2 Y)) K)) (extractStridedSlice S16x256x4096 ![0, 0, 0] L slices_S16x256x12288_S16x256x4096_0_0_0)) shapeCasts_S16x256x4096_S4096x4096) bitsLt_bf16_f32

/-- The reference's result at one place. -/
theorem r_out (C D : FVec Ideal S16x257x4096 .f32) (E G : FVec Ideal S257x4096 .f32) (A B : FVec Ideal S257x512 .f32) (H : FVec Ideal S257x1 .f32)
    (Y : FVec Ideal S4096 .f32) (K : FVec Ideal S16x256x4096 .f32) (L : FVec Ideal S16x256x12288 .f32) (j0 j1 : Fin 4096) :
    rmix C D E G A B H Y K L (ix2 j0 j1)
    = (∑ k : Fin 257, (C (ix3 (req j0) k j1) * E (ix2 k j1) - D (ix3 (req j0) k j1) * G (ix2 k j1))
          * (A (ix2 k (lo (tok j0))) * H (ix2 k (0 : Fin 1)))
        + ∑ k : Fin 257, (C (ix3 (req j0) k j1) * G (ix2 k j1) + D (ix3 (req j0) k j1) * E (ix2 k j1))
          * (B (ix2 k (lo (tok j0))) * H (ix2 k (0 : Fin 1)))
        + Y (ix1 j1) * K (ix3 (req j0) (tok j0) j1))
      * L (ix3 (req j0) (tok j0) (atP 0 j1)) := by
  unfold rmix lo atP req tok
  pointwise [id_eq]

end Cert.Reference11Ideal.Hyena

end
-- ==== Proof.HyenaRun.lean ====
/-
  The run of the long convolution: every weakly fair execution of its main function ends with the result array at the
  contents that the second region leaves and with the arguments as launched.
-/
module

public import proofs.«01_k».proof.Proof.Gen.Kernel11Ideal.Frame

@[expose] public section

set_option maxRecDepth 16384

noncomputable section

namespace Cert.Kernel11Ideal.Hyena

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with every buffer that outlives the calls at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W22 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ => h)

/-- The run with the result read as the array that the second region's output window leaves. -/
theorem run : θ_run defs (onTc (τ := τ) (main (F := F))) ⟨m, fun _ => 0, ρ⟩ (fun r => ∀ c : Dev nD,
      r.2.mem ((c.tc : Thread nD τ).loc main_v111) = (dat1 (V21 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v111 (by decide))).trans (W22_arr m ρ c 13),
     (h c _ (mem_uc main_arg0 (by decide))).trans (W22_main_arg0 m ρ c),
     (h c _ (mem_uc main_arg1 (by decide))).trans (W22_main_arg1 m ρ c),
     (h c _ (mem_uc main_arg2 (by decide))).trans (W22_main_arg2 m ρ c),
     (h c _ (mem_uc main_arg3 (by decide))).trans (W22_main_arg3 m ρ c),
     (h c _ (mem_uc main_arg4 (by decide))).trans (W22_main_arg4 m ρ c),
     (h c _ (mem_uc main_arg5 (by decide))).trans (W22_main_arg5 m ρ c),
     (h c _ (mem_uc main_arg6 (by decide))).trans (W22_main_arg6 m ρ c),
     (h c _ (mem_uc main_arg7 (by decide))).trans (W22_main_arg7 m ρ c),
     (h c _ (mem_uc main_arg8 (by decide))).trans (W22_main_arg8 m ρ c),
     (h c _ (mem_uc main_arg9 (by decide))).trans (W22_main_arg9 m ρ c),
     (h c _ (mem_uc main_arg10 (by decide))).trans (W22_main_arg10 m ρ c),
     (h c _ (mem_uc main_arg11 (by decide))).trans (W22_main_arg11 m ρ c)⟩) (run_all m ρ)

end Cert.Kernel11Ideal.Hyena

end
-- ==== Proof.HyenaFilters.lean ====
/-
  The long convolution's filters: the kernel's host code and the reference compute the same ones.
-/
module

public import proofs.«01_k».proof.Proof.HyenaHost
public import proofs.«01_k».proof.Proof.Gen.Reference11Ideal.Run

@[expose] public section

set_option maxRecDepth 16384

noncomputable section

namespace Cert.Kernel11Ideal.Hyena

open Cert.Kernel11Ideal Cert.Kernel11Ideal.Gen
open Idealize.ShloMosaic Idealize.ShloMosaic.TcCoe Idealize.SL.Sem

variable (V : Valuation τ sig (Elt Ideal)) (V0 : Valuation Cert.Reference11Ideal.τ Cert.Reference11Ideal.sig (Elt Ideal))

/-- The positions are the same. -/
theorem f_pos : k_v1 V = Cert.Reference11Ideal.Value.res_main_v31 (F := Ideal) V0 := by
  simp only [k_v1, k_v0, k_c0_v15, k_c0_v11, k_c0_v10, k_c0_v7, k_c0_v0, k_cst, k_c0_v9, k_c0_v8, k_c0_cst_1, k_c0_v6, k_c0_v4, k_c0_v5, k_c0_cst_0, k_c0_v14, k_c0_v13, k_c0_v12, k_c0_v1, k_cst_0, k_c0_v16, Cert.Reference11Ideal.Value.res_main_v31, Cert.Reference11Ideal.Value.res_main_call0_v0, Cert.Reference11Ideal.Value.res_main_call0_v1, Cert.Reference11Ideal.Value.res_main_call0_v6]
  rfl

/-- The angles of the filters' features are the same. -/
theorem f_ang : k_v10 V = Cert.Reference11Ideal.Value.res_main_v40 (F := Ideal) V0 := by
  simp only [k_v10, k_v8, k_v5, k_v4, k_cst_1, k_v3, k_v2, k_v9, k_v7, k_v6, k_c1_v15, k_c1_v11, k_c1_v10, k_c1_v7, k_c1_v0, k_cst_2, k_c1_v9, k_c1_v8, k_c1_cst_1, k_c1_v6, k_c1_v4, k_c1_v5, k_c1_cst_0, k_c1_v14, k_c1_v13, k_c1_v12, k_c1_v1, k_c, k_c1_v16, Cert.Reference11Ideal.Value.res_main_v40, Cert.Reference11Ideal.Value.res_main_call1_v0, Cert.Reference11Ideal.Value.res_main_call1_v1, Cert.Reference11Ideal.Value.res_main_call1_v6]
  rfl

/-- Over the extended reals a product of matrices does not depend on its precision. -/
theorem dot_prec {ls rs os : Shape} (d : DotDims ls rs os) (p q : Option ContractPrecision) (a : FVec Ideal ls .f32) (b : FVec Ideal rs .f32) :
    (Host.dotGeneral d p a b : FVec Ideal os .f32) = Host.dotGeneral d q a b := rfl

/-- The decayed filters are the same. -/
theorem f_raw (h3 : k_arg3 V = V0 (Proc.devRef .tc Cert.Reference11Ideal.main_arg3))
    (h4 : k_arg4 V = V0 (Proc.devRef .tc Cert.Reference11Ideal.main_arg4))
    (h5 : k_arg5 V = V0 (Proc.devRef .tc Cert.Reference11Ideal.main_arg5))
    (h6 : k_arg6 V = V0 (Proc.devRef .tc Cert.Reference11Ideal.main_arg6))
    (h7 : k_arg7 V = V0 (Proc.devRef .tc Cert.Reference11Ideal.main_arg7))
    (h8 : k_arg8 V = V0 (Proc.devRef .tc Cert.Reference11Ideal.main_arg8))
    (h9 : k_arg9 V = V0 (Proc.devRef .tc Cert.Reference11Ideal.main_arg9))
    (h10 : k_arg10 V = V0 (Proc.devRef .tc Cert.Reference11Ideal.main_arg10)) : k_v51 V = Cert.Reference11Ideal.Value.res_main_v81 (F := Ideal) V0 := by
  simp only [k_v51, k_v40, k_v39, k_v38, k_v37, k_v36, k_v35, k_v34, k_v31, k_v30, k_v29, k_v28, k_v27, k_v26, k_v23, k_v22, k_v21, k_v20, k_v19, k_v18, k_v15, k_v14, k_v11, k_v13, k_v12, k_v17, k_v16, k_v25, k_v24, k_v33, k_v32, k_v50, k_v49, k_v48, k_v47, k_v45, k_v43, k_v46, k_v44, k_v42, k_v41, k_c2_v15, k_c2_v11, k_c2_v10, k_c2_v7, k_c2_v0, k_cst_3, k_c2_v9, k_c2_v8, k_c2_cst_1, k_c2_v6, k_c2_v4, k_c2_v5, k_c2_cst_0, k_c2_v14, k_c2_v13, k_c2_v12, k_c2_v1, k_cst_4, k_c2_v16, f_pos V V0, f_ang V V0, Cert.Reference11Ideal.Value.res_main_v81, Cert.Reference11Ideal.Value.res_main_call2_v0, Cert.Reference11Ideal.Value.res_main_call2_v1, Cert.Reference11Ideal.Value.res_main_call2_v6, h3, h4, h5, h6, h7, h8, h9, h10]
  rfl

/-- The normalised filters are the same. -/
theorem f_norm (h3 : k_arg3 V = V0 (Proc.devRef .tc Cert.Reference11Ideal.main_arg3))
    (h4 : k_arg4 V = V0 (Proc.devRef .tc Cert.Reference11Ideal.main_arg4))
    (h5 : k_arg5 V = V0 (Proc.devRef .tc Cert.Reference11Ideal.main_arg5))
    (h6 : k_arg6 V = V0 (Proc.devRef .tc Cert.Reference11Ideal.main_arg6))
    (h7 : k_arg7 V = V0 (Proc.devRef .tc Cert.Reference11Ideal.main_arg7))
    (h8 : k_arg8 V = V0 (Proc.devRef .tc Cert.Reference11Ideal.main_arg8))
    (h9 : k_arg9 V = V0 (Proc.devRef .tc Cert.Reference11Ideal.main_arg9))
    (h10 : k_arg10 V = V0 (Proc.devRef .tc Cert.Reference11Ideal.main_arg10)) : k_v58 V = Cert.Reference11Ideal.Value.res_main_v88 (F := Ideal) V0 := by
  simp only [k_v58, k_v57, k_v56, k_v55, k_v53, k_v52, k_cst_5, k_v54, k_cst_6, f_raw V V0 h3 h4 h5 h6 h7 h8 h9 h10, Cert.Reference11Ideal.Value.res_main_v88]

/-- The two-sided filter, the backward taps at the end in reverse, is the same. -/
theorem f_kern (h3 : k_arg3 V = V0 (Proc.devRef .tc Cert.Reference11Ideal.main_arg3))
    (h4 : k_arg4 V = V0 (Proc.devRef .tc Cert.Reference11Ideal.main_arg4))
    (h5 : k_arg5 V = V0 (Proc.devRef .tc Cert.Reference11Ideal.main_arg5))
    (h6 : k_arg6 V = V0 (Proc.devRef .tc Cert.Reference11Ideal.main_arg6))
    (h7 : k_arg7 V = V0 (Proc.devRef .tc Cert.Reference11Ideal.main_arg7))
    (h8 : k_arg8 V = V0 (Proc.devRef .tc Cert.Reference11Ideal.main_arg8))
    (h9 : k_arg9 V = V0 (Proc.devRef .tc Cert.Reference11Ideal.main_arg9))
    (h10 : k_arg10 V = V0 (Proc.devRef .tc Cert.Reference11Ideal.main_arg10)) : k_v102 V = Cert.Reference11Ideal.Value.res_main_v95 (F := Ideal) V0 := by
  have h := f_norm V V0 h3 h4 h5 h6 h7 h8 h9 h10
  unfold k_v102 Cert.Reference11Ideal.Value.res_main_v95 k_v101 k_v100 k_v99 k_cst_17 k_v62 k_v61 k_v60 k_v59
  generalize k_v58 V = A at h ⊢
  generalize Cert.Reference11Ideal.Value.res_main_v88 (F := Ideal) V0 = B at h ⊢
  subst h
  have e : (extractStridedSlice S255x4096 ![1, 0] (shapeCast S256x4096 (extractStridedSlice S256x1x4096 ![0, 1, 0] A slices_S256x2x4096_S256x1x4096_0_1_0)
        shapeCasts_S256x1x4096_S256x4096) slices_S256x4096_S255x4096_1_0 : FVec Ideal S255x4096 .f32)
      = shapeCast Cert.Reference11Ideal.S255x4096 (extractStridedSlice Cert.Reference11Ideal.S255x1x4096 ![1, 1, 0] A
        Cert.Reference11Ideal.Gen.slices_S256x2x4096_S255x1x4096_1_1_0) Cert.Reference11Ideal.Gen.shapeCasts_S255x1x4096_S255x4096 := by
    funext j
    obtain ⟨j0, j1, rfl⟩ : ∃ (j0 : Fin 255) (j1 : Fin 4096), j = ix2 j0 j1 := ⟨j 0, j 1, by funext k; fin_cases k <;> rfl⟩
    pointwise
  generalize (extractStridedSlice S255x4096 ![1, 0] (shapeCast S256x4096 (extractStridedSlice S256x1x4096 ![0, 1, 0] A slices_S256x2x4096_S256x1x4096_0_1_0)
        shapeCasts_S256x1x4096_S256x4096) slices_S256x4096_S255x4096_1_0 : FVec Ideal S255x4096 .f32) = X at e ⊢
  subst e
  rfl

end Cert.Kernel11Ideal.Hyena

end
-- ==== Proof.HyenaConv.lean ====
/-
  The long convolution: the kernel's host tables and its two calls leave the reference's result.
-/
module

public import proofs.«01_k».proof.Defs
public import proofs.«01_k».proof.Proof.HyenaRef
public import proofs.«01_k».proof.Proof.HyenaRun
public import proofs.«01_k».proof.Proof.HyenaFilters
public import Idealize.ShloMosaic.Lib.Pipeline.ValueKit

@[expose] public section

set_option maxRecDepth 16384

noncomputable section

namespace Cert.Kernel11Ideal.Hyena

open Cert.Kernel11Ideal Cert.Kernel11Ideal.Gen
open Idealize.ShloMosaic Idealize.ShloMosaic.TcCoe Idealize.SL.Sem
open Cert.Reference11Ideal.Hyena

section
variable (V : Valuation τ sig (Elt Ideal)) (V0 : Valuation Cert.Reference11Ideal.τ Cert.Reference11Ideal.sig (Elt Ideal))

/-- The kernel's row of the first bias. -/
theorem bias0 (B : FVec Ideal S12288 .f32) (h : k_arg2 V = B) : k_v104 V = biasRow B := by
  subst h
  funext j
  obtain ⟨j0, j1, rfl⟩ : ∃ (j0 : Fin 1) (j1 : Fin 12288), j = ix2 j0 j1 := ⟨j 0, j 1, by funext k; fin_cases k <;> rfl⟩
  unfold biasRow k_v104
  pointwise

/-- The kernel's row of the gate's bias. -/
theorem bias11 (B : FVec Ideal S4096 .f32) (h : k_arg11 V = B) (d : Fin 4096) : k_v107 V (ix2 (0 : Fin 1) d) = B (ix1 d) := by
  subst h
  unfold k_v107
  pointwise

/-- The kernel's value at a place of the result is the reference's. -/
theorem conv_eq (U : FVec Ideal S8192x12288 .f32) (W : FVec Ideal S3x12288 .f32)
    (h0 : V0 (Proc.devRef .tc Cert.Reference11Ideal.main_arg0) = U) (h1 : V0 (Proc.devRef .tc Cert.Reference11Ideal.main_arg1) = W)
    (h2 : k_arg2 V = V0 (Proc.devRef .tc Cert.Reference11Ideal.main_arg2)) (h11 : k_arg11 V = V0 (Proc.devRef .tc Cert.Reference11Ideal.main_arg11))
    (hk : k_v102 V = rkern V0) (j0 j1 : Fin 4096) :
    hyena U W (k_v104 V) (k_v105 V) (k_v106 V) (k_v107 V) (spec (k_v84 V) (k_v102 V)) (k_v109 V) (k_v110 V) (req j0) (tok j0) j1
      = rmix (rzc V0) (rzs V0) (rkc V0) (rks V0) (rcos V0) (rsin V0) (rscale V0) (V0 (Proc.devRef .tc Cert.Reference11Ideal.main_arg11))
          (rz V0) (rsc V0) (ix2 j0 j1) := by
  rw [r_out]
  have b0 := bias0 V _ h2
  have b1 : k_v105 V = biasRow (V0 (Proc.devRef .tc Cert.Reference11Ideal.main_arg2)) := bias0 V _ h2
  have b2 : k_v106 V = biasRow (V0 (Proc.devRef .tc Cert.Reference11Ideal.main_arg2)) := bias0 V _ h2
  rw [b0, b1, b2]
  have hs : ∀ (p : Fin 3) (b : Fin 16) (s : Fin 256) (d : Fin 4096),
      sc U W (biasRow (V0 (Proc.devRef .tc Cert.Reference11Ideal.main_arg2))) p b s d = rsc V0 (ix3 b s (atP p d)) := by
    intro p b s d
    rw [r_short, h0, h1]
  unfold hyena
  simp only [hs, ← r_z]
  generalize req j0 = b
  generalize tok j0 = s
  generalize j1 = d
  refine congrArg₂ (fun x y => x * y) (congrArg₂ (fun x y => x + y)
    (fold (fun k => rzc V0 (ix3 b k d)) (fun k => rzs V0 (ix3 b k d)) (fun k => rkc V0 (ix2 k d)) (fun k => rks V0 (ix2 k d))
      (fun k => rcos V0 (ix2 k (lo s)) * rscale V0 (ix2 k (0 : Fin 1))) (fun k => rsin V0 (ix2 k (lo s)) * rscale V0 (ix2 k (0 : Fin 1)))
      (fun r => k_v110 V (ix2 s (lo r))) (fun r => k_v110 V (ix2 s (hi r)))
      (fun r => ∑ u : Fin 256, k_v109 V (ix2 (lo r) u) * rz V0 (ix3 b u d)) (fun r => ∑ u : Fin 256, k_v109 V (ix2 (hi r) u) * rz V0 (ix3 b u d))
      (fun r => spec (k_v84 V) (k_v102 V) (ix2 (lo r) d)) (fun r => spec (k_v84 V) (k_v102 V) (ix2 (hi r) d))
      ?_ ?_ ?_ ?_ ?_ ?_ ?_ ?_ ?_ ?_) ?_) rfl
  · intro r
    show k_v110 V (ix2 s (lo r)) = _
    rw [inv_lo, t_cos V V0, t_scale V V0]
  · intro r
    show _ = rzc V0 (ix3 b r.castSucc d)
    rw [r_zc]
    exact Finset.sum_congr rfl fun u _ => by rw [ana_lo, t_cos V V0]
  · intro r
    show _ = rkc V0 (ix2 r.castSucc d)
    rw [r_kc]
    exact Finset.sum_congr rfl fun u _ => congrArg₂ (fun x y => x * y) ((fwd_lo V r u).trans (t_cos V V0 r u)) (congrFun hk _)
  · intro r
    show k_v110 V (ix2 s (hi r)) = _
    rw [inv_hi]
    by_cases h : r.val = 0
    · obtain rfl : r = 0 := Fin.ext h
      rw [if_pos h, t_par V V0, t_scaleN V V0]
      rfl
    · rw [if_neg h, t_sin V V0 r h, t_scale V V0]
  · intro r
    by_cases h : r.val = 0
    · obtain rfl : r = 0 := Fin.ext h
      rw [if_pos h]
      show _ = rzc V0 (ix3 b (Fin.last 256) d)
      rw [r_zc]
      exact Finset.sum_congr rfl fun u _ => by rw [ana_hi, t_par V V0]; rfl
    · rw [if_neg h]
      show _ = rzs V0 (ix3 b r.castSucc d)
      rw [r_zs]
      exact Finset.sum_congr rfl fun u _ => by rw [ana_hi, t_sin V V0 r h]
  · intro r
    by_cases h : r.val = 0
    · obtain rfl : r = 0 := Fin.ext h
      rw [if_pos h]
      show _ = rkc V0 (ix2 (Fin.last 256) d)
      rw [r_kc]
      refine Finset.sum_congr rfl fun u _ => ?_
      refine congrArg₂ (fun x y => x * y) ((fwd_hi V 0 u).trans (t_par V V0 u)) (congrFun hk _)
    · rw [if_neg h]
      show _ = rks V0 (ix2 r.castSucc d)
      rw [r_ks]
      refine Finset.sum_congr rfl fun u _ => ?_
      exact congrArg₂ (fun x y => x * y) ((fwd_hi V r u).trans (t_sin V V0 r h u)) (congrFun hk _)
  · show rzs V0 (ix3 b (0 : Fin 257) d) = 0
    rw [r_zs]
    exact Finset.sum_eq_zero fun u _ => by rw [t_sin0, zero_mul]
  · show rks V0 (ix2 (0 : Fin 257) d) = 0
    rw [r_ks]
    exact Finset.sum_eq_zero fun u _ => by rw [t_sin0, zero_mul]
  · show rzs V0 (ix3 b (256 : Fin 257) d) = 0
    rw [r_zs]
    exact Finset.sum_eq_zero fun u _ => by rw [t_sinN, zero_mul]
  · show rks V0 (ix2 (256 : Fin 257) d) = 0
    rw [r_ks]
    exact Finset.sum_eq_zero fun u _ => by rw [t_sinN, zero_mul]
  · exact congrArg (fun x => x * _) (bias11 V _ h11 d)
end

variable (m : (ℓ : Loc nD τ sig) → Buf (Elt Ideal) ℓ) (ρ : Dev nD → PrngReg)

/-- Equal arrays give equal values. -/
theorem hyena_congr {U U' : FVec Ideal S8192x12288 .f32} {W W' : FVec Ideal S3x12288 .f32} {B0 B0' B1 B1' B2 B2' : FVec Ideal S1x12288 .f32}
    {G G' : FVec Ideal S1x4096 .f32} {K K' : FVec Ideal S512x4096 .f32} {A A' : FVec Ideal S512x256 .bf16} {I I' : FVec Ideal S256x512 .bf16}
    (hU : U = U') (hW : W = W') (h0 : B0 = B0') (h1 : B1 = B1') (h2 : B2 = B2') (hG : G = G') (hK : K = K') (hA : A = A') (hI : I = I') :
    (fun j : S4096x4096.Idx => hyena U W B0 B1 B2 G K A I (req (j 0)) (tok (j 0)) (j 1))
      = fun j => hyena U' W' B0' B1' B2' G' K' A' I' (req (j 0)) (tok (j 0)) (j 1) := by
  subst hU hW h0 h1 h2 hG hK hA hI
  rfl

/-- The two calls leave the convolution's values over the host's tables. -/
theorem final_conv (c : Dev nD) : (dat1 (V21 m ρ) c).arrAt 13 cfg1.N
    = fun j => hyena (m ((c : Thread nD τ).loc main_arg0)) (m ((c : Thread nD τ).loc main_arg1)) (k_v104 (W0 m ρ c)) (k_v105 (W0 m ρ c))
        (k_v106 (W0 m ρ c)) (k_v107 (W0 m ρ c)) (spec (k_v84 (W0 m ρ c)) (k_v102 (W0 m ρ c))) (k_v109 (W0 m ρ c)) (k_v110 (W0 m ρ c))
        (req (j 0)) (tok (j 0)) (j 1) := by
  rw [final1]
  have e0 : V21 m ρ c main_arg0 = m ((c : Thread nD τ).loc main_arg0) := W21_args m ρ c _ (by decide)
  have e1 : V21 m ρ c main_arg1 = m ((c : Thread nD τ).loc main_arg1) := W21_args m ρ c _ (by decide)
  have e104 : V21 m ρ c main_v104 = k_v104 (W0 m ρ c) := w21_v104 m ρ c
  have e105 : V21 m ρ c main_v105 = k_v105 (W0 m ρ c) := w21_v105 m ρ c
  have e106 : V21 m ρ c main_v106 = k_v106 (W0 m ρ c) := w21_v106 m ρ c
  have e107 : V21 m ρ c main_v107 = k_v107 (W0 m ρ c) := w21_v107 m ρ c
  have e109 : V21 m ρ c main_v109 = k_v109 (W0 m ρ c) := w21_v109 m ρ c
  have e110 : V21 m ρ c main_v110 = k_v110 (W0 m ρ c) := w21_v110 m ρ c
  have f84 : V19 m ρ c main_v84 = k_v84 (W0 m ρ c) := w19_v84 m ρ c
  have f102 : V19 m ρ c main_v102 = k_v102 (W0 m ρ c) := w19_v102 m ρ c
  have e103 : V21 m ρ c main_v103 = spec (k_v84 (W0 m ρ c)) (k_v102 (W0 m ρ c)) := by
    refine (W21_of m ρ c _ (by decide)).trans ((W20_arr m ρ c 2).trans ((final0 (V19 m ρ) c).trans ?_))
    rw [f84, f102]
  exact hyena_congr e0 e1 e104 e105 e106 e107 e103 e109 e110

end Cert.Kernel11Ideal.Hyena

namespace Cert.Proof

open Idealize.ShloMosaic Idealize.SL.Sem

/-- The reference of the long convolution leaves its arguments unchanged and has no counter. -/
theorem quiescent_reference11 : Cert.quiescent_Reference11Ideal := fun m ρ _ =>
  (θ_run _ _ _).mono (fun r h => ⟨fun c => (h c).2, sem_eq_zero_of_no_sems (by decide) r.2⟩) (Cert.Reference11Ideal.Value.run m ρ)

/-- The long convolution: the kernel's result is the reference's. -/
theorem hyena_conv_algebraic : Cert.algebraic_Kernel11Ideal_Reference11Ideal := by
  pair_intro
  · run_from Cert.Kernel11Ideal.Hyena.run m g
  · run_from Cert.Reference11Ideal.Value.run m' g'
    obtain ⟨a0, a1, a2, a3, a4, a5, a6, a7, a8, a9, a10, a11⟩ := hagree c
    rw [Cert.Kernel11Ideal.Hyena.final_conv m _ c]
    funext j
    obtain ⟨j0, j1, rfl⟩ : ∃ (j0 j1 : Fin 4096), j = ix2 j0 j1 := ⟨j 0, j 1, by funext k; fin_cases k <;> rfl⟩
    refine Eq.trans ?_ (Cert.Kernel11Ideal.Hyena.conv_eq (Cert.Kernel11Ideal.Gen.W0 m g c) (StableHlo.launchContents m' c) _ _ a0 a1 a2.symm a11.symm
      (Cert.Kernel11Ideal.Hyena.f_kern _ _ a3.symm a4.symm a5.symm a6.symm a7.symm a8.symm a9.symm a10.symm) j0 j1).symm
    rw [show StableHlo.launchContents m' c (Proc.devRef .tc Cert.Reference11Ideal.main_arg11) = m (c.tc.loc Cert.Kernel11Ideal.main_arg11) from a11]
    rfl

end Cert.Proof

end
-- ==== Proof.HeadNorm.lean ====
/-
  The end of the recurrence: the norm of every head, the bonus and the gate.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Claim
public import Idealize.ShloMosaic.Lib.Quiescent

@[expose] public section

set_option maxRecDepth 16384

noncomputable section

namespace Cert.Reference12Ideal.HeadNorm

open Cert.Reference12Ideal Cert.Reference12Ideal.Gen
open Idealize.ShloMosaic Idealize.ShloMosaic.TcCoe Idealize.SL.Sem

/-- The place in a row of channel n of head h. -/
def place (h : Fin 32) (n : Fin 64) : Fin 2048 := ⟨n.val * 32 + h.val, by omega⟩

/-- The head of a place in a row. -/
def headOf (p : Fin 2048) : Fin 32 := ⟨p.val % 32, by omega⟩

/-- The place's channel in the weights, where every head's channels lie together. -/
def weightOf (p : Fin 2048) : Fin 2048 := ⟨p.val % 32 * 64 + p.val / 32, by omega⟩

/-- The mean of a row over a head. -/
def mean (y : Fin 2048 → EReal) (h : Fin 32) : EReal :=
  Ideal.div (∑ n : Fin 64, y (place h n)) (Ideal.ofBits .f32 0x42800000#32)

/-- A row less the mean of its place's head. -/
def centred (y : Fin 2048 → EReal) (p : Fin 2048) : EReal := y p - mean y (headOf p)

/-- A row normed over every head. -/
def normed (y : Fin 2048 → EReal) (p : Fin 2048) : EReal :=
  centred y p * Ideal.rsqrt (mean (fun q => centred y q * centred y q) (headOf p) + Ideal.ofBits .f32 0x3A27C5AC#32)

/-- The two directions' sum normed over every head, weighted, with the bonus and the gate. -/
def ended (Y0 Y1 B G : FVec Ideal S4096x2048 .f32) (W C : FVec Ideal S2048 .f32) : FVec Ideal S4096x2048 .bf16 :=
  fun j => (normed (fun q => Y0 (ix2 (j 0) q) + Y1 (ix2 (j 0) q)) (j 1) * W (ix1 (weightOf (j 1))) + C (ix1 (weightOf (j 1))) + B j) * G j

/-- The rows by head and channel. -/
def heads (Y : FVec Ideal S4096x2048 .f32) : FVec Ideal S4096x32x64 .f32 :=
  transpose S4096x32x64 [0, 2, 1] (shapeCast _ Y shapeCasts_S4096x2048_S4096x64x32) transposes_S4096x64x32_S4096x32x64_0_2_1

/-- The rows by head and channel, at an index. -/
theorem heads_apply (Y : FVec Ideal S4096x2048 .f32) (i : Fin 4096) (h : Fin 32) (n : Fin 64) :
    heads Y (ix3 i h n) = Y (ix2 i (place h n)) := by
  unfold heads place
  pointwise

/-- The reference's mean over every head. -/
def refMean (Z : FVec Ideal S4096x32x64 .f32) : FVec Ideal S4096x32x1 .f32 :=
  Host.divf (broadcastInDim S4096x32x1 ![0, 1] bcast_S4096x32_S4096x32x1_0_1 (Host.reduceAdd Z (constant S_ .f32 0x00000000#32) reducesTo_S4096x32x64_S4096x32_d2 h_S_)) (broadcastInDim S4096x32x1 ![] bcast_S_S4096x32x1 (constant S_ .f32 0x42800000#32))

/-- The reference's mean at an index. -/
theorem refMean_apply (Z : FVec Ideal S4096x32x64 .f32) (i : Fin 4096) (h : Fin 32) (u : Fin 1) :
    refMean Z (ix3 i h u) = Ideal.div (∑ n : Fin 64, Z (ix3 i h n)) (Ideal.ofBits .f32 0x42800000#32) := by
  unfold refMean
  pointwise

/-- The reference's rows less their means. -/
def refCentred (Z : FVec Ideal S4096x32x64 .f32) : FVec Ideal S4096x32x64 .f32 :=
  subf Z (broadcastInDim S4096x32x64 ![0, 1, 2] bcast_S4096x32x1_S4096x32x64_0_1_2 (refMean Z))

/-- The reference's rows less their means, at an index. -/
theorem refCentred_apply (Z : FVec Ideal S4096x32x64 .f32) (i : Fin 4096) (h : Fin 32) (n : Fin 64) :
    refCentred Z (ix3 i h n) = Z (ix3 i h n) - refMean Z (ix3 i h 0) := by
  unfold refCentred
  generalize refMean Z = M
  pointwise

/-- The reference's rows normed over every head. -/
def refNormed (Z : FVec Ideal S4096x32x64 .f32) : FVec Ideal S4096x32x64 .f32 :=
  mulf (refCentred Z) (broadcastInDim S4096x32x64 ![0, 1, 2] bcast_S4096x32x1_S4096x32x64_0_1_2 (Host.rsqrt (addf (refMean (mulf (refCentred Z) (refCentred Z))) (broadcastInDim S4096x32x1 ![] bcast_S_S4096x32x1 (constant S_ .f32 0x3A27C5AC#32)))))

/-- The reference's rows normed over every head, at an index. -/
theorem refNormed_apply (Z : FVec Ideal S4096x32x64 .f32) (i : Fin 4096) (h : Fin 32) (n : Fin 64) :
    refNormed Z (ix3 i h n) = refCentred Z (ix3 i h n)
      * Ideal.rsqrt (refMean (mulf (refCentred Z) (refCentred Z)) (ix3 i h 0) + Ideal.ofBits .f32 0x3A27C5AC#32) := by
  unfold refNormed
  generalize refMean _ = M
  generalize refCentred Z = D
  pointwise

/-- The reference's last steps. -/
def refEnd (N B G : FVec Ideal S4096x32x64 .f32) (W C : FVec Ideal S2048 .f32) : FVec Ideal S4096x2048 .bf16 :=
  truncf .bf16 (shapeCast _ (transpose S4096x64x32 [0, 2, 1] (mulf (addf (addf (mulf N (broadcastInDim S4096x32x64 ![0, 1, 2] bcast_S1x32x64_S4096x32x64_0_1_2 (broadcastInDim S1x32x64 ![1, 2] bcast_S32x64_S1x32x64_1_2 (shapeCast _ W shapeCasts_S2048_S32x64)))) (broadcastInDim S4096x32x64 ![0, 1, 2] bcast_S1x32x64_S4096x32x64_0_1_2 (broadcastInDim S1x32x64 ![1, 2] bcast_S32x64_S1x32x64_1_2 (shapeCast _ C shapeCasts_S2048_S32x64)))) B) G) transposes_S4096x32x64_S4096x64x32_0_2_1) shapeCasts_S4096x64x32_S4096x2048) bitsLt_bf16_f32

/-- The reference's last steps at an index. -/
theorem refEnd_apply (N B G : FVec Ideal S4096x32x64 .f32) (W C : FVec Ideal S2048 .f32) (i : Fin 4096) (p : Fin 2048) :
    refEnd N B G W C (ix2 i p) = (N (ix3 i (headOf p) ⟨p.val / 32, by omega⟩) * W (ix1 (weightOf p)) + C (ix1 (weightOf p))
      + B (ix3 i (headOf p) ⟨p.val / 32, by omega⟩)) * G (ix3 i (headOf p) ⟨p.val / 32, by omega⟩) := by
  unfold refEnd headOf weightOf
  pointwise

/-- The mean of the sums by head is the mean of the row. -/
theorem mean_heads (Z : FVec Ideal S4096x32x64 .f32) (i : Fin 4096) (y : Fin 2048 → EReal)
    (hz : ∀ h n, Z (ix3 i h n) = y (place h n)) (h : Fin 32) (u : Fin 1) : refMean Z (ix3 i h u) = mean y h := by
  rw [refMean_apply]
  unfold mean
  simp only [hz]

/-- A place's head and channel give the place. -/
theorem place_headOf (p : Fin 2048) : place (headOf p) ⟨p.val / 32, by omega⟩ = p := by
  unfold place headOf
  apply Fin.ext
  show p.val / 32 * 32 + p.val % 32 = p.val
  omega

/-- The head of a place is the head it is the place of. -/
theorem headOf_place (h : Fin 32) (n : Fin 64) : headOf (place h n) = h := by
  unfold place headOf
  apply Fin.ext
  show (n.val * 32 + h.val) % 32 = h.val
  omega

/-- The reference's normed rows are the normed rows. -/
theorem normed_heads (Z : FVec Ideal S4096x32x64 .f32) (i : Fin 4096) (y : Fin 2048 → EReal)
    (hz : ∀ h n, Z (ix3 i h n) = y (place h n)) (p : Fin 2048) :
    refNormed Z (ix3 i (headOf p) ⟨p.val / 32, by omega⟩) = normed y p := by
  have hc : ∀ h n, refCentred Z (ix3 i h n) = centred y (place h n) := fun h n => by
    rw [refCentred_apply, hz, mean_heads Z i y hz, centred, headOf_place]
  have hq : ∀ h n, mulf (refCentred Z) (refCentred Z) (ix3 i h n)
      = (fun q => centred y q * centred y q) (place h n) := fun h n => by
    show refCentred Z (ix3 i h n) * refCentred Z (ix3 i h n) = _
    rw [hc]
  rw [refNormed_apply, hc, mean_heads _ i (fun q => centred y q * centred y q) hq, place_headOf]
  rfl

/-- The reference's result. -/
theorem ref_eq (Y0 Y1 B G : FVec Ideal S4096x2048 .f32) (W C : FVec Ideal S2048 .f32) :
    refEnd (refNormed (addf (heads Y0) (heads Y1))) (heads B) (heads G) W C = ended Y0 Y1 B G W C := by
  have key : ∀ (i : Fin 4096) (p : Fin 2048),
      refEnd (refNormed (addf (heads Y0) (heads Y1))) (heads B) (heads G) W C (ix2 i p) = ended Y0 Y1 B G W C (ix2 i p) := by
    intro i p
    rw [refEnd_apply, normed_heads _ i (fun q => Y0 (ix2 i q) + Y1 (ix2 i q)) (fun h n => by
      show heads Y0 (ix3 i h n) + heads Y1 (ix3 i h n) = _
      rw [heads_apply, heads_apply]), heads_apply, heads_apply, place_headOf]
    rfl
  funext j
  rw [Idealize.ShloMosaic.eq_ix2 j]
  exact key _ _

end Cert.Reference12Ideal.HeadNorm

namespace Cert.Kernel12Ideal.HeadNorm

open Cert.Kernel12Ideal Cert.Kernel12Ideal.Gen Cert.Reference12Ideal.HeadNorm
open Idealize.ShloMosaic Idealize.ShloMosaic.TcCoe Idealize.SL.Sem
open Idealize.ShloMosaic.Pipeline (Dat)

/-- The sum of the sixteen lane groups of a row. -/
def laneSum (v : FVec Ideal S256x2048 .f32) : FVec Ideal S256x128 .f32 :=
  addf (addf (addf (addf (addf (addf (addf (addf (addf (addf (addf (addf (addf (addf (addf (extractStridedSlice S256x128 ![0, 0] v slices_S256x2048_o0_0_S256x128) (extractStridedSlice S256x128 ![0, 128] v slices_S256x2048_o0_128_S256x128)) (extractStridedSlice S256x128 ![0, 256] v slices_S256x2048_o0_256_S256x128)) (extractStridedSlice S256x128 ![0, 384] v slices_S256x2048_o0_384_S256x128)) (extractStridedSlice S256x128 ![0, 512] v slices_S256x2048_o0_512_S256x128)) (extractStridedSlice S256x128 ![0, 640] v slices_S256x2048_o0_640_S256x128)) (extractStridedSlice S256x128 ![0, 768] v slices_S256x2048_o0_768_S256x128)) (extractStridedSlice S256x128 ![0, 896] v slices_S256x2048_o0_896_S256x128)) (extractStridedSlice S256x128 ![0, 1024] v slices_S256x2048_o0_1024_S256x128)) (extractStridedSlice S256x128 ![0, 1152] v slices_S256x2048_o0_1152_S256x128)) (extractStridedSlice S256x128 ![0, 1280] v slices_S256x2048_o0_1280_S256x128)) (extractStridedSlice S256x128 ![0, 1408] v slices_S256x2048_o0_1408_S256x128)) (extractStridedSlice S256x128 ![0, 1536] v slices_S256x2048_o0_1536_S256x128)) (extractStridedSlice S256x128 ![0, 1664] v slices_S256x2048_o0_1664_S256x128)) (extractStridedSlice S256x128 ![0, 1792] v slices_S256x2048_o0_1792_S256x128)) (extractStridedSlice S256x128 ![0, 1920] v slices_S256x2048_o0_1920_S256x128)

/-- The sum of the sixteen lane groups at an index. -/
theorem laneSum_apply (v : FVec Ideal S256x2048 .f32) (i : Fin 256) (l : Fin 128) :
    laneSum v (ix2 i l) = ∑ j : Fin 16, v (ix2 i ⟨j.val * 128 + l.val, by omega⟩) := by
  unfold laneSum
  pointwise
  simp only [Fin.sum_univ_castSucc, Fin.sum_univ_zero, zero_add]
  repeat' refine congrArg₂ (· + ·) ?_ ?_
  all_goals exact congrArg v (congrArg (ix2 i) (Fin.ext (by simp <;> omega)))

/-- A rotation of the lanes, at an index. -/
theorem rotate_apply (k : BitVec 32) (hk : k.toNat < 128) (v : FVec Ideal S256x128 .f32) (i : Fin 256) (l : Fin 128) :
    dynamicRotate 1 k none v rotates_S256x128_d1 (ix2 i l) = v (ix2 i ⟨(l.val + 128 - k.toNat) % 128, by omega⟩) := by
  pointwise
  simp only [Nat.mod_eq_of_lt hk]

/-- The sum over each head, at every lane of the head. -/
def headSum (v : FVec Ideal S256x2048 .f32) : FVec Ideal S256x128 .f32 :=
  addf (addf (laneSum v) (dynamicRotate 1 32#32 none (laneSum v) rotates_S256x128_d1))
    (dynamicRotate 1 64#32 none (addf (laneSum v) (dynamicRotate 1 32#32 none (laneSum v) rotates_S256x128_d1)) rotates_S256x128_d1)

/-- A head's sum in four sums of sixteen. -/
theorem sum_four (f : Fin 64 → EReal) : ∑ n : Fin 64, f n = ∑ g : Fin 4, ∑ j : Fin 16, f ⟨j.val * 4 + g.val, by omega⟩ := by
  rw [Finset.sum_comm, ← Fintype.sum_prod_type' (f := fun (j : Fin 16) (g : Fin 4) => f ⟨j.val * 4 + g.val, by omega⟩)]
  refine (Fintype.sum_equiv (finProdFinEquiv (m := 16) (n := 4)) _ _ fun x => ?_).symm
  congr 1
  apply Fin.ext
  show x.1.val * 4 + x.2.val = x.2.val + 4 * x.1.val
  omega

/-- The sum over each head, at an index. -/
theorem headSum_apply (v : FVec Ideal S256x2048 .f32) (i : Fin 256) (l : Fin 128) :
    headSum v (ix2 i l) = ∑ n : Fin 64, v (ix2 i (place ⟨l.val % 32, by omega⟩ n)) := by
  have e : headSum v (ix2 i l) = (laneSum v (ix2 i l) + laneSum v (ix2 i ⟨(l.val + 128 - 32) % 128, by omega⟩))
      + (laneSum v (ix2 i ⟨(l.val + 128 - 64) % 128, by omega⟩) + laneSum v (ix2 i ⟨((l.val + 128 - 64) % 128 + 128 - 32) % 128, by omega⟩)) := by
    show (laneSum v (ix2 i l) + dynamicRotate 1 32#32 none (laneSum v) rotates_S256x128_d1 (ix2 i l))
      + dynamicRotate 1 64#32 none (addf (laneSum v) (dynamicRotate 1 32#32 none (laneSum v) rotates_S256x128_d1)) rotates_S256x128_d1 (ix2 i l) = _
    rw [rotate_apply 32#32 (by decide), rotate_apply 64#32 (by decide)]
    show _ + (laneSum v (ix2 i _) + dynamicRotate 1 32#32 none (laneSum v) rotates_S256x128_d1 (ix2 i _)) = _
    rw [rotate_apply 32#32 (by decide)]
    rfl
  have hq : ∀ g : Fin 4, ∑ j : Fin 16, v (ix2 i (place ⟨l.val % 32, by omega⟩ ⟨j.val * 4 + g.val, by omega⟩))
      = laneSum v (ix2 i ⟨g.val * 32 + l.val % 32, by omega⟩) := fun g => by
    rw [laneSum_apply]
    refine Finset.sum_congr rfl fun j _ => ?_
    congr 2
    apply Fin.ext
    show (j.val * 4 + g.val) * 32 + l.val % 32 = j.val * 128 + (g.val * 32 + l.val % 32)
    omega
  rw [sum_four, e]
  simp only [hq, Fin.sum_univ_four]
  generalize laneSum v = s
  have hx : ∀ (a b : Fin 128), a.val = b.val → s (ix2 i a) = s (ix2 i b) := fun a b h => by rw [Fin.ext h]
  have h4 : l.val / 32 = 0 ∨ l.val / 32 = 1 ∨ l.val / 32 = 2 ∨ l.val / 32 = 3 := by omega
  have go : ∀ (g0 g1 g2 g3 : Fin 4), (l.val = g0.val * 32 + l.val % 32) → ((l.val + 128 - 32) % 128 = g1.val * 32 + l.val % 32)
      → ((l.val + 128 - 64) % 128 = g2.val * 32 + l.val % 32) → (((l.val + 128 - 64) % 128 + 128 - 32) % 128 = g3.val * 32 + l.val % 32)
      → (s (ix2 i l) + s (ix2 i ⟨(l.val + 128 - 32) % 128, by omega⟩))
        + (s (ix2 i ⟨(l.val + 128 - 64) % 128, by omega⟩) + s (ix2 i ⟨((l.val + 128 - 64) % 128 + 128 - 32) % 128, by omega⟩))
      = (s (ix2 i ⟨g0.val * 32 + l.val % 32, by omega⟩) + s (ix2 i ⟨g1.val * 32 + l.val % 32, by omega⟩))
        + (s (ix2 i ⟨g2.val * 32 + l.val % 32, by omega⟩) + s (ix2 i ⟨g3.val * 32 + l.val % 32, by omega⟩)) := by
    intro g0 g1 g2 g3 h0 h1 h2 h3
    exact congrArg₂ (· + ·) (congrArg₂ (· + ·) (hx _ _ h0) (hx _ _ h1)) (congrArg₂ (· + ·) (hx _ _ h2) (hx _ _ h3))
  rcases h4 with h | h | h | h
  · rw [go 0 3 2 1 (by simp; omega) (by simp; omega) (by simp; omega) (by simp; omega)]; ac_rfl
  · rw [go 1 0 3 2 (by simp; omega) (by simp; omega) (by simp; omega) (by simp; omega)]; ac_rfl
  · rw [go 2 1 0 3 (by simp; omega) (by simp; omega) (by simp; omega) (by simp; omega)]; ac_rfl
  · rw [go 3 2 1 0 (by simp; omega) (by simp; omega) (by simp; omega) (by simp; omega)]; ac_rfl

/-- The lanes repeated sixteen times along a row. -/
def repeated (x : FVec Ideal S256x128 .f32) : FVec Ideal S256x2048 .f32 :=
  concatenate S256x2048 1 [⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩, ⟨S256x128, x⟩] concatenates_S256x128_S256x128_S256x128_S256x128_S256x128_S256x128_S256x128_S256x128_S256x128_S256x128_S256x128_S256x128_S256x128_S256x128_S256x128_S256x128_S256x2048_d1

/-- The lanes repeated, at an index. -/
theorem repeated_apply (x : FVec Ideal S256x128 .f32) (i : Fin 256) (p : Fin 2048) :
    repeated x (ix2 i p) = x (ix2 i ⟨p.val % 128, by omega⟩) := by
  unfold repeated
  refine concatenate_replicate_apply (1 : Fin S256x2048.rank) 16 x concatenates_S256x128_S256x128_S256x128_S256x128_S256x128_S256x128_S256x128_S256x128_S256x128_S256x128_S256x128_S256x128_S256x128_S256x128_S256x128_S256x128_S256x2048_d1 rfl (ix2 i p) (ix2 i ⟨p.val % 128, by omega⟩) rfl ?_
  intro b hb
  fin_cases b
  · rfl
  · exact absurd rfl hb

/-- A product with the sixty-fourth is the quotient by sixty-four. -/
theorem mul_sixty_fourth (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_cast), ← EReal.coe_inv]
  norm_num

/-- The mean over each head, at every place of the head. -/
def headMean (v : FVec Ideal S256x2048 .f32) : FVec Ideal S256x2048 .f32 :=
  repeated (mulf (headSum v) (broadcast S256x128 (Scalar.ofBits (F := Ideal) .f32 0x3C800000#32)))

/-- The mean over each head, at an index. -/
theorem headMean_apply (v : FVec Ideal S256x2048 .f32) (i : Fin 256) (p : Fin 2048) :
    headMean v (ix2 i p) = mean (fun q => v (ix2 i q)) (headOf p) := by
  unfold headMean
  rw [repeated_apply]
  show headSum v (ix2 i ⟨p.val % 128, by omega⟩) * Ideal.ofBits .f32 0x3C800000#32 = _
  rw [mul_sixty_fourth, headSum_apply]
  unfold mean
  congr 1
  refine Finset.sum_congr rfl fun n _ => ?_
  congr 3
  unfold headOf
  apply Fin.ext
  show p.val % 128 % 32 = p.val % 32
  omega

/-- The body's sum of the two directions less its mean. -/
theorem pay1_eq (a b : FVec Ideal S256x2048 .f32) : k0_pay1 (F := Ideal) a b = subf (addf a b) (headMean (addf a b)) := rfl

/-- The body's centred row at an index. -/
theorem pay1_apply (a b : FVec Ideal S256x2048 .f32) (i : Fin 256) (p : Fin 2048) :
    k0_pay1 (F := Ideal) a b (ix2 i p) = centred (fun q => a (ix2 i q) + b (ix2 i q)) p := by
  rw [pay1_eq]
  show (a (ix2 i p) + b (ix2 i p)) - headMean (addf a b) (ix2 i p) = _
  rw [headMean_apply]
  rfl

/-- The body's last steps. -/
theorem pay4_eq (d q : FVec Ideal S256x2048 .f32) (w c : FVec Ideal S1x2048 .f32) (b g : FVec Ideal S256x2048 .f32)
    (s : FVec Ideal S256x128 .f32) (a a' : FVec Ideal S256x2048 .f32) (hq : q = k0_pay2 (F := Ideal) a a') (hs : s = k0_pay3 (F := Ideal) a a') :
    k0_pay4 (F := Ideal) d q s w c b g = truncf .bf16 (mulf (addf (addf (mulf (mulf d (rsqrt (addf (headMean q)
      (broadcast S256x2048 (Scalar.ofBits (F := Ideal) .f32 0x3A27C5AC#32))))) (broadcastTo S256x2048 (shapeCast S1x2048 w shapeCasts_S1x2048_S1x2048) broadcasts_S1x2048_S256x2048))
      (broadcastTo S256x2048 (shapeCast S1x2048 c shapeCasts_S1x2048_S1x2048) broadcasts_S1x2048_S256x2048)) b) g) bitsLt_bf16_f32 := by
  subst hq hs
  rfl

/-- The body's result at an index of its block. -/
theorem pay_apply (a a' b g : FVec Ideal S256x2048 .f32) (w c : FVec Ideal S1x2048 .f32) (i : Fin 256) (p : Fin 2048) :
    k0_pay4 (F := Ideal) (k0_pay1 (F := Ideal) a a') (k0_pay2 (F := Ideal) a a') (k0_pay3 (F := Ideal) a a') w c b g (ix2 i p)
      = (normed (fun q => a (ix2 i q) + a' (ix2 i q)) p * w (ix2 0 p) + c (ix2 0 p) + b (ix2 i p)) * g (ix2 i p) := by
  have hm : headMean (k0_pay2 (F := Ideal) a a') (ix2 i p) = mean (fun q => centred (fun q => a (ix2 i q) + a' (ix2 i q)) q
      * centred (fun q => a (ix2 i q) + a' (ix2 i q)) q) (headOf p) := by
    rw [headMean_apply]
    congr 1
    funext q
    show k0_pay1 (F := Ideal) a a' (ix2 i q) * k0_pay1 (F := Ideal) a a' (ix2 i q) = _
    rw [pay1_apply]
  have hd := pay1_apply a a' i p
  rw [pay4_eq _ _ _ _ _ _ _ a a' rfl rfl]
  unfold normed
  rw [← hm, ← hd]
  generalize headMean _ = M
  generalize k0_pay1 (F := Ideal) a a' = D
  pointwise

variable (m : (ℓ : Loc nD τ sig) → Buf (Elt Ideal) ℓ) (ρ : Dev nD → PrngReg)

/-- The block indices of the windows in closed form, decided over the grid. -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![0, 0]
    ∧ win0_5.index t = ![0, 0]
    ∧ win0_6.index t = ![(grid0.coords t 0).val, 0] :=
  (by decide +kernel : ∀ t : Fin grid0.N, _)

/-- A weight vector with the channels in the rows' order. -/
def weights (W : FVec Ideal S2048 .f32) : FVec Ideal S1x2048 .f32 :=
  broadcastInDim S1x2048 ![1] bcast_S2048_S1x2048_1 (shapeCast S2048 (transpose S64x32 [1, 0] (shapeCast S32x64 W shapeCasts_S2048_S32x64) transposes_S32x64_S64x32_1_0) shapeCasts_S64x32_S2048)

/-- A weight vector with the channels in the rows' order, at an index. -/
theorem weights_apply (W : FVec Ideal S2048 .f32) (u : Fin 1) (p : Fin 2048) : weights W (ix2 u p) = W (ix1 (weightOf p)) := by
  unfold weights weightOf
  pointwise

/-- The call's weights. -/
theorem entry_scale (c : Dev nD) : V m c main_v6 = weights (m ((c : Thread nD τ).loc main_arg4)) := by
  entry_read
  rfl

/-- The call's shifts. -/
theorem entry_shift (c : Dev nD) : V m c main_v7 = weights (m ((c : Thread nD τ).loc main_arg5)) := by
  entry_read
  rfl

/-- A row of a block of the first direction is the array's row at the place of the block. -/
theorem row0 (c : Dev nD) (t : Fin cfg0.N) (y : S256x2048.Idx) (q : Fin 2048) :
    iblk m c 0 t (ix2 (y 0) q) = m ((c : Thread nD τ).loc main_arg0) (ix2 ((((cfg0.win 6).blk t).view.emb y) 0) q) := by
  blk_point [iblk, V, idx t]

/-- A row of a block of the second direction is the array's row at the place of the block. -/
theorem row1 (c : Dev nD) (t : Fin cfg0.N) (y : S256x2048.Idx) (q : Fin 2048) :
    iblk m c 1 t (ix2 (y 0) q) = m ((c : Thread nD τ).loc main_arg1) (ix2 ((((cfg0.win 6).blk t).view.emb y) 0) q) := by
  blk_point [iblk, V, idx t]

/-- An element of a block of the bonus is the array's element at the place of the block. -/
theorem elem2 (c : Dev nD) (t : Fin cfg0.N) (y : S256x2048.Idx) :
    iblk m c 2 t (ix2 (y 0) (y 1)) = m ((c : Thread nD τ).loc main_arg2) (((cfg0.win 6).blk t).view.emb y) := by
  blk_point [iblk, V, idx t]

/-- An element of a block of the gate is the array's element at the place of the block. -/
theorem elem3 (c : Dev nD) (t : Fin cfg0.N) (y : S256x2048.Idx) :
    iblk m c 3 t (ix2 (y 0) (y 1)) = m ((c : Thread nD τ).loc main_arg3) (((cfg0.win 6).blk t).view.emb y) := by
  blk_point [iblk, V, idx t]

/-- A block's places are the array's. -/
theorem place_block (t : Fin cfg0.N) (y : S256x2048.Idx) : (((cfg0.win 6).blk t).view.emb y) 1 = y 1 := by
  apply Fin.ext
  blk_simp [idx t]

/-- The block of the weights. -/
theorem elem4 (c : Dev nD) (t : Fin cfg0.N) (p : Fin 2048) :
    iblk m c 4 t (ix2 0 p) = m ((c : Thread nD τ).loc main_arg4) (ix1 (weightOf p)) := by
  refine Eq.trans ?_ (weights_apply (m ((c : Thread nD τ).loc main_arg4)) 0 p)
  rw [← entry_scale m c]
  blk_point [iblk, idx t]

/-- The block of the shifts. -/
theorem elem5 (c : Dev nD) (t : Fin cfg0.N) (p : Fin 2048) :
    iblk m c 5 t (ix2 0 p) = m ((c : Thread nD τ).loc main_arg5) (ix1 (weightOf p)) := by
  refine Eq.trans ?_ (weights_apply (m ((c : Thread nD τ).loc main_arg5)) 0 p)
  rw [← entry_shift m c]
  blk_point [iblk, idx t]

/-- What the body stores at an index of its block is the result's element at the place of that index in the array. -/
theorem point (c : Dev nD) (t : Fin cfg0.N) (y) :
    k0_pay4 (F := Ideal) (k0_pay1 (F := Ideal) (iblk m c 0 t) (iblk m c 1 t)) (k0_pay2 (F := Ideal) (iblk m c 0 t) (iblk m c 1 t))
        (k0_pay3 (F := Ideal) (iblk m c 0 t) (iblk m c 1 t)) (iblk m c 4 t) (iblk m c 5 t) (iblk m c 2 t) (iblk m c 3 t) y
      = ended (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  have h := pay_apply (iblk m c 0 t) (iblk m c 1 t) (iblk m c 2 t) (iblk m c 3 t) (iblk m c 4 t) (iblk m c 5 t) (y 0) (y 1)
  rw [← Idealize.ShloMosaic.eq_ix2 y] at h
  refine h.trans ?_
  have e2 := elem2 m c t y
  have e3 := elem3 m c t y
  rw [← Idealize.ShloMosaic.eq_ix2 y] at e2 e3
  have e4 := (elem4 m c t (y 1)).trans (congrArg (fun p => m ((c : Thread nD τ).loc main_arg4) (ix1 (weightOf p))) (place_block t y).symm)
  have e5 := (elem5 m c t (y 1)).trans (congrArg (fun p => m ((c : Thread nD τ).loc main_arg5) (ix1 (weightOf p))) (place_block t y).symm)
  exact congrArg₂ (· * ·) (congrArg₂ (· + ·) (congrArg₂ (· + ·) (congrArg₂ (· * ·) (congrArg₂ normed
    (funext fun q => congrArg₂ (· + ·) (row0 m c t y q) (row1 m c t y q)) (place_block t y).symm) e4) e5) e2) e3

/-- After the call its result array holds the reference's rows. -/
theorem final (c : Dev nD) : (dats m 0 c).arrAt 6 cfg0.N
    = ended (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Kernel12Ideal.HeadNorm

namespace Cert.Proof

open Idealize.ShloMosaic Idealize.SL.Sem

/-- The reference of the recurrence's end leaves its arguments unchanged and has no counter. -/
theorem quiescent_reference12 : Cert.quiescent_Reference12Ideal := fun m ρ _ =>
  (θ_run _ _ _).mono (fun r h => ⟨fun c => (h c).2, sem_eq_zero_of_no_sems (by decide) r.2⟩) (Cert.Reference12Ideal.Value.run m ρ)

/-- The end of the recurrence: the kernel's result is the reference's. -/
theorem head_norm_algebraic : Cert.algebraic_Kernel12Ideal_Reference12Ideal := by
  pair_intro
  · run_from Cert.Kernel12Ideal.Value.run_blocks m g
  · run_from Cert.Reference12Ideal.Value.run m' g'
    rw [Cert.Kernel12Ideal.HeadNorm.final m c]
    obtain ⟨h0, h1, h2, h3, h4, h5⟩ := hagree c
    rw [← h0, ← h1, ← h2, ← h3, ← h4, ← h5]
    exact Cert.Reference12Ideal.HeadNorm.ref_eq _ _ _ _ _ _

end Cert.Proof

end
-- ==== Proof.ConfRun.lean ====
module

public import proofs.«01_k».proof.Proof.Gen.Kernel13Ideal.Launch
public import proofs.«01_k».proof.Proof.Gen.Kernel13Ideal.Loops
public import proofs.«01_k».proof.Proof.Gen.Kernel13Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel13Ideal.Conf

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The extended rows of one block: the block before, the block itself and the block after, cut into four stacked column
    slices, the blocks outside the sequence scaled by zero. -/
def extPieces (i : grid0.Coords) (x0 x1 x2 : Vec F S256x2048 .f32) : List (View.Piece (Elt F) S4x768x512 .f32) :=
  [ ⟨Rect.unit (s := S4x768x512) ![3, 512, 0] S1x256x512.size inb_S4x768x512_S1x256x512_3_512_0, k0_pay29 (k0_pay17 i) (View.ld x2 (Rect.unit (s := S256x2048) ![0, 1536] S256x512.size inb_S256x2048_S256x512_0_1536))⟩,
    ⟨Rect.unit (s := S4x768x512) ![3, 256, 0] S1x256x512.size inb_S4x768x512_S1x256x512_3_256_0, k0_pay28 (View.ld x1 (Rect.unit (s := S256x2048) ![0, 1536] S256x512.size inb_S256x2048_S256x512_0_1536))⟩,
    ⟨Rect.unit (s := S4x768x512) ![3, 0, 0] S1x256x512.size inb_S4x768x512_S1x256x512_3_0_0, k0_pay27 (k0_pay16 i) (View.ld x0 (Rect.unit (s := S256x2048) ![0, 1536] S256x512.size inb_S256x2048_S256x512_0_1536))⟩,
    ⟨Rect.unit (s := S4x768x512) ![2, 512, 0] S1x256x512.size inb_S4x768x512_S1x256x512_2_512_0, k0_pay26 (k0_pay17 i) (View.ld x2 (Rect.unit (s := S256x2048) ![0, 1024] S256x512.size inb_S256x2048_S256x512_0_1024))⟩,
    ⟨Rect.unit (s := S4x768x512) ![2, 256, 0] S1x256x512.size inb_S4x768x512_S1x256x512_2_256_0, k0_pay25 (View.ld x1 (Rect.unit (s := S256x2048) ![0, 1024] S256x512.size inb_S256x2048_S256x512_0_1024))⟩,
    ⟨Rect.unit (s := S4x768x512) ![2, 0, 0] S1x256x512.size inb_S4x768x512_S1x256x512_2_0_0, k0_pay24 (k0_pay16 i) (View.ld x0 (Rect.unit (s := S256x2048) ![0, 1024] S256x512.size inb_S256x2048_S256x512_0_1024))⟩,
    ⟨Rect.unit (s := S4x768x512) ![1, 512, 0] S1x256x512.size inb_S4x768x512_S1x256x512_1_512_0, k0_pay23 (k0_pay17 i) (View.ld x2 (Rect.unit (s := S256x2048) ![0, 512] S256x512.size inb_S256x2048_S256x512_0_512))⟩,
    ⟨Rect.unit (s := S4x768x512) ![1, 256, 0] S1x256x512.size inb_S4x768x512_S1x256x512_1_256_0, k0_pay22 (View.ld x1 (Rect.unit (s := S256x2048) ![0, 512] S256x512.size inb_S256x2048_S256x512_0_512))⟩,
    ⟨Rect.unit (s := S4x768x512) ![1, 0, 0] S1x256x512.size inb_S4x768x512_S1x256x512_1_0_0, k0_pay21 i (View.ld x0 (Rect.unit (s := S256x2048) ![0, 512] S256x512.size inb_S256x2048_S256x512_0_512))⟩,
    ⟨Rect.unit (s := S4x768x512) ![0, 512, 0] S1x256x512.size inb_S4x768x512_S1x256x512_0_512_0, k0_pay20 i (View.ld x2 (Rect.unit (s := S256x2048) ![0, 0] S256x512.size inb_S256x2048_S256x512_0_0))⟩,
    ⟨Rect.unit (s := S4x768x512) ![0, 256, 0] S1x256x512.size inb_S4x768x512_S1x256x512_0_256_0, k0_pay19 (View.ld x1 (Rect.unit (s := S256x2048) ![0, 0] S256x512.size inb_S256x2048_S256x512_0_0))⟩,
    ⟨Rect.unit (s := S4x768x512) ![0, 0, 0] S1x256x512.size inb_S4x768x512_S1x256x512_0_0_0, k0_pay18 i (View.ld x0 (Rect.unit (s := S256x2048) ![0, 0] S256x512.size inb_S256x2048_S256x512_0_0))⟩ ]

/-- The extended rows as an array. -/
def ext (i : grid0.Coords) (x0 x1 x2 : Vec F S256x2048 .f32) : Vec F S4x768x512 .f32 := View.canon (extPieces i x0 x1 x2)

/-- One trip's convolution: the thirty-one shifted products of column slice `k` added up, and the bias. -/
def conv (ext : Vec F S4x768x512 .f32) (w : Vec F S4x31x512 .f32) (b : Vec F S4x1x512 .f32) (k : Fin k0_t1_loop.trips) :
    FVec F S256x512 .f32 :=
  k0_pay13
      (k0_pay11
      (k0_pay10
      (k0_pay8
      (k0_pay5
      (k0_pay4
      (k0_pay2 (View.ld ext (Rect.unit (s := S4x768x512) (k0_off1 k) S1x256x512.size (k0_off1_inb k))) (View.ld w (Rect.unit (s := S4x31x512) (k0_off2 k) S1x1x512.size (k0_off2_inb k))) (View.ld ext (Rect.unit (s := S4x768x512) (k0_off3 k) S1x256x512.size (k0_off3_inb k))) (View.ld w (Rect.unit (s := S4x31x512) (k0_off4 k) S1x1x512.size (k0_off4_inb k))) (View.ld ext (Rect.unit (s := S4x768x512) (k0_off5 k) S1x256x512.size (k0_off5_inb k))) (View.ld w (Rect.unit (s := S4x31x512) (k0_off6 k) S1x1x512.size (k0_off6_inb k))) (View.ld ext (Rect.unit (s := S4x768x512) (k0_off7 k) S1x256x512.size (k0_off7_inb k))) (View.ld w (Rect.unit (s := S4x31x512) (k0_off8 k) S1x1x512.size (k0_off8_inb k))))
      (k0_pay3 (View.ld ext (Rect.unit (s := S4x768x512) (k0_off9 k) S1x256x512.size (k0_off9_inb k)))) (View.ld w (Rect.unit (s := S4x31x512) (k0_off10 k) S1x1x512.size (k0_off10_inb k))) (View.ld ext (Rect.unit (s := S4x768x512) (k0_off11 k) S1x256x512.size (k0_off11_inb k))) (View.ld w (Rect.unit (s := S4x31x512) (k0_off12 k) S1x1x512.size (k0_off12_inb k))) (View.ld ext (Rect.unit (s := S4x768x512) (k0_off13 k) S1x256x512.size (k0_off13_inb k))) (View.ld w (Rect.unit (s := S4x31x512) (k0_off14 k) S1x1x512.size (k0_off14_inb k))) (View.ld ext (Rect.unit (s := S4x768x512) (k0_off15 k) S1x256x512.size (k0_off15_inb k))) (View.ld w (Rect.unit (s := S4x31x512) (k0_off16 k) S1x1x512.size (k0_off16_inb k))) (View.ld ext (Rect.unit (s := S4x768x512) (k0_off17 k) S1x256x512.size (k0_off17_inb k))) (View.ld w (Rect.unit (s := S4x31x512) (k0_off18 k) S1x1x512.size (k0_off18_inb k)))) (View.ld ext (Rect.unit (s := S4x768x512) (k0_off19 k) S1x256x512.size (k0_off19_inb k))) (View.ld w (Rect.unit (s := S4x31x512) (k0_off20 k) S1x1x512.size (k0_off20_inb k))) (View.ld ext (Rect.unit (s := S4x768x512) (k0_off21 k) S1x256x512.size (k0_off21_inb k))) (View.ld w (Rect.unit (s := S4x31x512) (k0_off22 k) S1x1x512.size (k0_off22_inb k))) (View.ld ext (Rect.unit (s := S4x768x512) (k0_off23 k) S1x256x512.size (k0_off23_inb k))) (View.ld w (Rect.unit (s := S4x31x512) (k0_off24 k) S1x1x512.size (k0_off24_inb k))) (View.ld ext (Rect.unit (s := S4x768x512) (k0_off25 k) S1x256x512.size (k0_off25_inb k))) (View.ld w (Rect.unit (s := S4x31x512) (k0_off26 k) S1x1x512.size (k0_off26_inb k))))
      (k0_pay6 (View.ld ext (Rect.unit (s := S4x768x512) (k0_off27 k) S1x256x512.size (k0_off27_inb k))))
      (k0_pay7 (View.ld w (Rect.unit (s := S4x31x512) (k0_off28 k) S1x1x512.size (k0_off28_inb k)))) (View.ld ext (Rect.unit (s := S4x768x512) (k0_off29 k) S1x256x512.size (k0_off29_inb k))) (View.ld w (Rect.unit (s := S4x31x512) (k0_off30 k) S1x1x512.size (k0_off30_inb k))) (View.ld ext (Rect.unit (s := S4x768x512) (k0_off31 k) S1x256x512.size (k0_off31_inb k))) (View.ld w (Rect.unit (s := S4x31x512) (k0_off32 k) S1x1x512.size (k0_off32_inb k))) (View.ld ext (Rect.unit (s := S4x768x512) (k0_off33 k) S1x256x512.size (k0_off33_inb k))) (View.ld w (Rect.unit (s := S4x31x512) (k0_off34 k) S1x1x512.size (k0_off34_inb k))) (View.ld ext (Rect.unit (s := S4x768x512) (k0_off35 k) S1x256x512.size (k0_off35_inb k))) (View.ld w (Rect.unit (s := S4x31x512) (k0_off36 k) S1x1x512.size (k0_off36_inb k))))
      (k0_pay9 (View.ld ext (Rect.unit (s := S4x768x512) (k0_off37 k) S1x256x512.size (k0_off37_inb k)))) (View.ld w (Rect.unit (s := S4x31x512) (k0_off38 k) S1x1x512.size (k0_off38_inb k))) (View.ld ext (Rect.unit (s := S4x768x512) (k0_off39 k) S1x256x512.size (k0_off39_inb k))) (View.ld w (Rect.unit (s := S4x31x512) (k0_off40 k) S1x1x512.size (k0_off40_inb k))) (View.ld ext (Rect.unit (s := S4x768x512) (k0_off41 k) S1x256x512.size (k0_off41_inb k))) (View.ld w (Rect.unit (s := S4x31x512) (k0_off42 k) S1x1x512.size (k0_off42_inb k))) (View.ld ext (Rect.unit (s := S4x768x512) (k0_off43 k) S1x256x512.size (k0_off43_inb k))) (View.ld w (Rect.unit (s := S4x31x512) (k0_off44 k) S1x1x512.size (k0_off44_inb k))) (View.ld ext (Rect.unit (s := S4x768x512) (k0_off45 k) S1x256x512.size (k0_off45_inb k))) (View.ld w (Rect.unit (s := S4x31x512) (k0_off46 k) S1x1x512.size (k0_off46_inb k)))) (View.ld ext (Rect.unit (s := S4x768x512) (k0_off47 k) S1x256x512.size (k0_off47_inb k))) (View.ld w (Rect.unit (s := S4x31x512) (k0_off48 k) S1x1x512.size (k0_off48_inb k))) (View.ld ext (Rect.unit (s := S4x768x512) (k0_off49 k) S1x256x512.size (k0_off49_inb k))) (View.ld w (Rect.unit (s := S4x31x512) (k0_off50 k) S1x1x512.size (k0_off50_inb k))) (View.ld ext (Rect.unit (s := S4x768x512) (k0_off51 k) S1x256x512.size (k0_off51_inb k))) (View.ld w (Rect.unit (s := S4x31x512) (k0_off52 k) S1x1x512.size (k0_off52_inb k))) (View.ld ext (Rect.unit (s := S4x768x512) (k0_off53 k) S1x256x512.size (k0_off53_inb k))) (View.ld w (Rect.unit (s := S4x31x512) (k0_off54 k) S1x1x512.size (k0_off54_inb k))))
      (k0_pay12 (View.ld ext (Rect.unit (s := S4x768x512) (k0_off55 k) S1x256x512.size (k0_off55_inb k)))) (View.ld w (Rect.unit (s := S4x31x512) (k0_off56 k) S1x1x512.size (k0_off56_inb k))) (View.ld ext (Rect.unit (s := S4x768x512) (k0_off57 k) S1x256x512.size (k0_off57_inb k))) (View.ld w (Rect.unit (s := S4x31x512) (k0_off58 k) S1x1x512.size (k0_off58_inb k))) (View.ld ext (Rect.unit (s := S4x768x512) (k0_off59 k) S1x256x512.size (k0_off59_inb k))) (View.ld w (Rect.unit (s := S4x31x512) (k0_off60 k) S1x1x512.size (k0_off60_inb k))) (View.ld ext (Rect.unit (s := S4x768x512) (k0_off61 k) S1x256x512.size (k0_off61_inb k))) (View.ld w (Rect.unit (s := S4x31x512) (k0_off62 k) S1x1x512.size (k0_off62_inb k))) (View.ld b (Rect.unit (s := S4x1x512) (k0_off63 k) S1x1x512.size (k0_off63_inb k)))

/-- The piece that one trip stores. -/
def accPiece (ext : Vec F S4x768x512 .f32) (w : Vec F S4x31x512 .f32) (b : Vec F S4x1x512 .f32) (k : Fin k0_t1_loop.trips) :
    View.Piece (Elt F) S4x256x512 .f32 :=
  ⟨Rect.unit (s := S4x256x512) (k0_off64 k) S1x256x512.size (k0_off64_inb k),
    shapeCast S1x256x512 (conv ext w b k) shapeCasts_S256x512_S1x256x512⟩

/-- The sum of one trip's columns, added to the sum of the trips before. -/
def addCols (ext : Vec F S4x768x512 .f32) (w : Vec F S4x31x512 .f32) (b : Vec F S4x1x512 .f32) (k : Fin k0_t1_loop.trips)
    (s : FVec F S256x1 .f32) : FVec F S256x1 .f32 :=
  k0_pay31 s (shapeCast S256x1 (multiReduction .add [1] S256 (conv ext w b k) 0x00000000#32 reduces_S256x512_S256 (.inl rfl) rfl)
    shapeCasts_S256_S256x1)

/-- Trip number `n` of the four. -/
abbrev trip (n : ℕ) (h : n < 4) : Fin k0_t1_loop.trips := ⟨n, h⟩

/-- What the four trips leave: the four column slices of the convolution. -/
def accPieces (ext : Vec F S4x768x512 .f32) (w : Vec F S4x31x512 .f32) (b : Vec F S4x1x512 .f32) :
    List (View.Piece (Elt F) S4x256x512 .f32) :=
  [accPiece ext w b (trip 3 (by decide)), accPiece ext w b (trip 2 (by decide)), accPiece ext w b (trip 1 (by decide)),
    accPiece ext w b (trip 0 (by decide))]

/-- The convolution of the block as an array. -/
def acc (ext : Vec F S4x768x512 .f32) (w : Vec F S4x31x512 .f32) (b : Vec F S4x1x512 .f32) : Vec F S4x256x512 .f32 :=
  View.canon (accPieces ext w b)

/-- The sum of all the columns of the convolution. -/
def total (ext : Vec F S4x768x512 .f32) (w : Vec F S4x31x512 .f32) (b : Vec F S4x1x512 .f32) : FVec F S256x1 .f32 :=
  addCols ext w b (trip 3 (by decide)) (addCols ext w b (trip 2 (by decide)) (addCols ext w b (trip 1 (by decide))
    (addCols ext w b (trip 0 (by decide)) (k0_pay30 (F := F)))))

/-- The factor of the normalization, of the convolution `a` and the column sum `s`. -/
def scale (a : Vec F S4x256x512 .f32) (s : FVec F S256x1 .f32) : FVec F S256x1 .f32 :=
  k0_pay35 (k0_pay32 s) (k0_pay33 (F := F)) (k0_pay34 s (View.ld a (Rect.unit (s := S4x256x512) ![0, 0, 0] S1x256x512.size inb_S4x256x512_S1x256x512_0_0_0))) (View.ld a (Rect.unit (s := S4x256x512) ![1, 0, 0] S1x256x512.size inb_S4x256x512_S1x256x512_1_0_0)) (View.ld a (Rect.unit (s := S4x256x512) ![2, 0, 0] S1x256x512.size inb_S4x256x512_S1x256x512_2_0_0))
    (View.ld a (Rect.unit (s := S4x256x512) ![3, 0, 0] S1x256x512.size inb_S4x256x512_S1x256x512_3_0_0))

/-- The four pieces that the body stores into its result's buffer, of the convolution `a` and the column sum `s`. -/
def outPieces (a : Vec F S4x256x512 .f32) (s : FVec F S256x1 .f32) (x5 x6 : Vec F S4x1x512 .f32) :
    List (View.Piece (Elt F) S256x2048 .bf16) :=
  [ ⟨Rect.unit (s := S256x2048) ![0, 1536] S256x512.size inb_S256x2048_S256x512_0_1536, k0_pay1 (k0_pay41 (k0_pay32 s) (scale a s) (View.ld a (Rect.unit (s := S4x256x512) ![3, 0, 0] S1x256x512.size inb_S4x256x512_S1x256x512_3_0_0)) (View.ld x5 (Rect.unit (s := S4x1x512) ![3, 0, 0] S1x1x512.size inb_S4x1x512_S1x1x512_3_0_0))) (View.ld x6 (Rect.unit (s := S4x1x512) ![3, 0, 0] S1x1x512.size inb_S4x1x512_S1x1x512_3_0_0))⟩,
    ⟨Rect.unit (s := S256x2048) ![0, 1024] S256x512.size inb_S256x2048_S256x512_0_1024, k0_pay40 (k0_pay32 s) (scale a s) (View.ld a (Rect.unit (s := S4x256x512) ![2, 0, 0] S1x256x512.size inb_S4x256x512_S1x256x512_2_0_0)) (View.ld x5 (Rect.unit (s := S4x1x512) ![2, 0, 0] S1x1x512.size inb_S4x1x512_S1x1x512_2_0_0)) (View.ld x6 (Rect.unit (s := S4x1x512) ![2, 0, 0] S1x1x512.size inb_S4x1x512_S1x1x512_2_0_0))⟩,
    ⟨Rect.unit (s := S256x2048) ![0, 512] S256x512.size inb_S256x2048_S256x512_0_512, k0_pay39 (k0_pay32 s) (scale a s) (View.ld a (Rect.unit (s := S4x256x512) ![1, 0, 0] S1x256x512.size inb_S4x256x512_S1x256x512_1_0_0)) (View.ld x5 (Rect.unit (s := S4x1x512) ![1, 0, 0] S1x1x512.size inb_S4x1x512_S1x1x512_1_0_0)) (View.ld x6 (Rect.unit (s := S4x1x512) ![1, 0, 0] S1x1x512.size inb_S4x1x512_S1x1x512_1_0_0))⟩,
    ⟨Rect.unit (s := S256x2048) ![0, 0] S256x512.size inb_S256x2048_S256x512_0_0, k0_pay38 (k0_pay36 (k0_pay32 s) (k0_pay33 (F := F)) (k0_pay34 s (View.ld a (Rect.unit (s := S4x256x512) ![0, 0, 0] S1x256x512.size inb_S4x256x512_S1x256x512_0_0_0))) (View.ld a (Rect.unit (s := S4x256x512) ![1, 0, 0] S1x256x512.size inb_S4x256x512_S1x256x512_1_0_0)) (View.ld a (Rect.unit (s := S4x256x512) ![2, 0, 0] S1x256x512.size inb_S4x256x512_S1x256x512_2_0_0)) (View.ld a (Rect.unit (s := S4x256x512) ![3, 0, 0] S1x256x512.size inb_S4x256x512_S1x256x512_3_0_0)) (View.ld a (Rect.unit (s := S4x256x512) ![0, 0, 0] S1x256x512.size inb_S4x256x512_S1x256x512_0_0_0))) (k0_pay37 (View.ld x5 (Rect.unit (s := S4x1x512) ![0, 0, 0] S1x1x512.size inb_S4x1x512_S1x1x512_0_0_0))) (View.ld x6 (Rect.unit (s := S4x1x512) ![0, 0, 0] S1x1x512.size inb_S4x1x512_S1x1x512_0_0_0))⟩ ]

/-- The block that the body leaves. -/
def out (i : grid0.Coords) (x0 x1 x2 : Vec F S256x2048 .f32) (x3 : Vec F S4x31x512 .f32) (x4 x5 x6 : Vec F S4x1x512 .f32) :
    Vec F S256x2048 .bf16 :=
  View.canon (outPieces (acc (ext i x0 x1 x2) x3 x4) (total (ext i x0 x1 x2) x3 x4) x5 x6)

theorem cover_acc (e : Vec F S4x768x512 .f32) (w : Vec F S4x31x512 .f32) (b : Vec F S4x1x512 .f32) (y : S4x256x512.Idx) :
    ∃ pc ∈ accPieces e w b, y ∈ pc.1.set :=
  View.cover_of_tiledL (accPieces e w b) S1x256x512.size (by sl_kernel_rfl) y

theorem cover_ext (i : grid0.Coords) (x0 x1 x2 : Vec F S256x2048 .f32) (y : S4x768x512.Idx) :
    ∃ pc ∈ extPieces i x0 x1 x2, y ∈ pc.1.set :=
  View.cover_of_tiledL (extPieces i x0 x1 x2) S1x256x512.size (by sl_kernel_rfl) y

theorem cover_out (a : Vec F S4x256x512 .f32) (s : FVec F S256x1 .f32) (x5 x6 : Vec F S4x1x512 .f32) (y : S256x2048.Idx) :
    ∃ pc ∈ outPieces a s x5 x6, y ∈ pc.1.set :=
  View.cover_of_tiledL (outPieces a s x5 x6) S256x512.size (by sl_kernel_rfl) y

/-- What one trip stores and yields. -/
theorem trip_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S4x31x512 .f32) (harg4 : arg4.IsWhole) (arg5 : Memref sig .tc .vmem S4x1x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S256x2048 .bf16) (harg8 : arg8.IsWhole) (arg9 : Memref sig .tc .vmem S4x768x512 .f32) (harg9 : arg9.IsWhole) (arg10 : Memref sig .tc .vmem S4x256x512 .f32) (harg10 : arg10.IsWhole) (v2 v5 : F .f32) (X_arg4 : BufTy.Contents (Elt F) arg4.view.ty) (X_arg5 : BufTy.Contents (Elt F) arg5.view.ty) (X_arg9 : BufTy.Contents (Elt F) arg9.view.ty) (k : Fin k0_t1_loop.trips) (s : FVec F S256x1 .f32) :
    tripR_k0_t1 Variants.none c none i arg1 harg1 arg2 harg2 arg3 harg3 arg4 harg4 arg5 harg5 arg6 harg6 arg7 harg7 arg8 harg8 arg9 harg9 arg10 harg10 v2 v5 X_arg4 X_arg5 X_arg9 k s = addCols (arg9.view.read (Elt F) X_arg9) (arg4.view.read (Elt F) X_arg4) (arg5.view.read (Elt F) X_arg5) k s
      ∧ tripL_k0_t1 Variants.none c none i arg1 harg1 arg2 harg2 arg3 harg3 arg4 harg4 arg5 harg5 arg6 harg6 arg7 harg7 arg8 harg8 arg9 harg9 arg10 harg10 v2 v5 X_arg4 X_arg5 X_arg9 k s = [accPiece (arg9.view.read (Elt F) X_arg9) (arg4.view.read (Elt F) X_arg4) (arg5.view.read (Elt F) X_arg5) k] := by
  unfold tripR_k0_t1 tripL_k0_t1 trip_k0_t1
  exact ⟨rfl, rfl⟩

/-- What the four trips store and yield. -/
theorem loop_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S4x31x512 .f32) (harg4 : arg4.IsWhole) (arg5 : Memref sig .tc .vmem S4x1x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S256x2048 .bf16) (harg8 : arg8.IsWhole) (arg9 : Memref sig .tc .vmem S4x768x512 .f32) (harg9 : arg9.IsWhole) (arg10 : Memref sig .tc .vmem S4x256x512 .f32) (harg10 : arg10.IsWhole) (v2 v5 : F .f32) (X_arg4 : BufTy.Contents (Elt F) arg4.view.ty) (X_arg5 : BufTy.Contents (Elt F) arg5.view.ty) (X_arg9 : BufTy.Contents (Elt F) arg9.view.ty) :
    st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) (Scf.trips k0_t1_loop.lb k0_t1_loop.ub k0_t1_loop.st)
      = (total (arg9.view.read (Elt F) X_arg9) (arg4.view.read (Elt F) X_arg4) (arg5.view.read (Elt F) X_arg5), accPieces (arg9.view.read (Elt F) X_arg9) (arg4.view.read (Elt F) X_arg4) (arg5.view.read (Elt F) X_arg5)) := by
  have h : ∀ (n : ℕ) (hn : n < 4), st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) (n + 1)
      = (addCols (arg9.view.read (Elt F) X_arg9) (arg4.view.read (Elt F) X_arg4) (arg5.view.read (Elt F) X_arg5) (trip n hn) (st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) n).1,
          accPiece (arg9.view.read (Elt F) X_arg9) (arg4.view.read (Elt F) X_arg4) (arg5.view.read (Elt F) X_arg5) (trip n hn) :: (st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) n).2) := fun n hn => by
    rw [st_k0_t1_succ (k := trip n hn), (trip_eq c i arg1 harg1 arg2 harg2 arg3 harg3 arg4 harg4 arg5 harg5 arg6 harg6 arg7 harg7 arg8 harg8 arg9 harg9 arg10 harg10 v2 v5 X_arg4 X_arg5 X_arg9 _ _).1, (trip_eq c i arg1 harg1 arg2 harg2 arg3 harg3 arg4 harg4 arg5 harg5 arg6 harg6 arg7 harg7 arg8 harg8 arg9 harg9 arg10 harg10 v2 v5 X_arg4 X_arg5 X_arg9 _ _).2]
    rfl
  rw [show Scf.trips k0_t1_loop.lb k0_t1_loop.ub k0_t1_loop.st = 3 + 1 from by decide,
    h 3 (by decide), h 2 (by decide), h 1 (by decide), h 0 (by decide)]
  rfl

/-- What the body's stores leave in its result's buffer. -/
theorem out_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S4x31x512 .f32) (harg4 : arg4.IsWhole) (arg5 : Memref sig .tc .vmem S4x1x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S256x2048 .bf16) (harg8 : arg8.IsWhole) (arg9 : Memref sig .tc .vmem S4x768x512 .f32) (harg9 : arg9.IsWhole) (arg10 : Memref sig .tc .vmem S4x256x512 .f32) (harg10 : arg10.IsWhole) (v2 v5 : F .f32) (X_arg4 : BufTy.Contents (Elt F) arg4.view.ty) (X_arg5 : BufTy.Contents (Elt F) arg5.view.ty) (X_arg9 : BufTy.Contents (Elt F) arg9.view.ty) (X_arg6 : BufTy.Contents (Elt F) arg6.view.ty) (X_arg7 : BufTy.Contents (Elt F) arg7.view.ty)
    (X_arg8 : BufTy.Contents (Elt F) arg8.view.ty) (X_arg10 : BufTy.Contents (Elt F) arg10.view.ty)
    (x0 x1 x2 : Vec F S256x2048 .f32) (h9 : arg9.view.read (Elt F) X_arg9 = ext i x0 x1 x2) :
    arg8.view.read (Elt F) (arg8.view.writes (Elt F) X_arg8 (outPieces
        (arg10.view.read (Elt F) (arg10.view.writes (Elt F) X_arg10 (st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) (Scf.trips k0_t1_loop.lb k0_t1_loop.ub k0_t1_loop.st)).2)) (st_k0_t1 Variants.none c none i arg1 harg1 arg2 harg2 arg3 harg3 arg4 harg4 arg5 harg5 arg6 harg6 arg7 harg7 arg8 harg8 arg9 harg9 arg10 harg10 v2 v5 X_arg4 X_arg5 X_arg9 (k0_pay30 (F := F)) (Scf.trips k0_t1_loop.lb k0_t1_loop.ub k0_t1_loop.st)).1 (arg6.view.read (Elt F) X_arg6) (arg7.view.read (Elt F) X_arg7)))
      = out i x0 x1 x2 (arg4.view.read (Elt F) X_arg4) (arg5.view.read (Elt F) X_arg5) (arg6.view.read (Elt F) X_arg6) (arg7.view.read (Elt F) X_arg7) := by
  rw [loop_eq, h9, View.read_writes_eq_canon arg10.view _ _ (cover_acc _ _ _), View.read_writes_eq_canon arg8.view _ _ (cover_out _ _ _ _)]
  rfl

set_option maxHeartbeats 4000000 in
theorem sound_kernel (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S4x31x512 .f32) (harg4 : arg4.IsWhole) (arg5 : Memref sig .tc .vmem S4x1x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S256x2048 .bf16) (harg8 : arg8.IsWhole) (arg9 : Memref sig .tc .vmem S4x768x512 .f32) (harg9 : arg9.IsWhole) (arg10 : Memref sig .tc .vmem S4x256x512 .f32) (harg10 : arg10.IsWhole)
    (x0 x1 x2 : Vec F S256x2048 .f32) (x3 : Vec F S4x31x512 .f32) (x4 x5 x6 : Vec F S4x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out i x0 x1 x2 x3 x4 x5 x6) ∗ (∃ d, owns (c : Thread nD τ) arg9 fullShare d) ∗ (∃ d, owns (c : Thread nD τ) arg10 fullShare d)) -∗ K ⟨⟩))
      ⊢ wp frame (wpE (defs₀ (F := F)) Variants.none c none) E (cc0_conformer_conv i arg1 harg1 arg2 harg2 arg3 harg3 arg4 harg4 arg5 harg5 arg6 harg6 arg7 harg7 arg8 harg8 arg9 harg9 arg10 harg10) K := by
  simp only [cc0_conformer_conv_eq_skeleton]; unfold cc0_conformer_conv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact out_eq c i arg1 harg1 arg2 harg2 arg3 harg3 arg4 harg4 arg5 harg5 arg6 harg6 arg7 harg7 arg8 harg8 arg9 harg9 arg10 harg10 (k0_pay16 i) (k0_pay17 i) f3 f4 _ f5 f6 f7 f9 _ _ _
      (View.read_writes_eq_canon arg9.view _ _ (cover_ext i (arg1.view.read (Elt F) f0) (arg2.view.read (Elt F) f1) (arg3.view.read (Elt F) f2)))
  isplitl [H8]
  · iexists _; iexists _; isplitr
    swap; · iexact H8
    ipureintro; rfl
  iexists _; iexists _; isplitr
  swap; · iexact H9
  ipureintro; rfl

end Cert.Kernel13Ideal.Conf

end
-- ==== Proof.ConfFrame.lean ====
module

public import proofs.«01_k».proof.Proof.ConfRun
public import proofs.«01_k».proof.Proof.Gen.Kernel13Ideal.Launch
public import proofs.«01_k».proof.Proof.Gen.Kernel13Ideal.Loops
public import proofs.«01_k».proof.Proof.Gen.Kernel13Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel13Ideal.Conf

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations that prepare the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The results of the host operations, in order. -/
def written : List (Ref sig .tc) := [main_v0, main_v1, main_v2, main_v3, main_v4, main_v5, main_v6, main_v7, main_v8, main_v9, main_v10, main_v11, main_v12, main_v13, main_v14, main_v15, main_v16, main_v17, main_v18, main_v19]

/-- A buffer that no host operation writes is as launched when the region is entered. -/
theorem V_of (c : Dev nD) (r : Ref sig .tc) (hr : r ∉ written) : V m c r = m ((c : Thread nD τ).loc r) :=
  StableHlo.after_of_writes_sub (W := written) hostOps0 _ (StableHlo.forall_writes_sub_of_map rfl) hr

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the pipeline: each input's buffer keeps its block, the result's is left at `out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (grid0.coords t) (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t := by
  dsimp only [dats]; exact ⟨rfl, rfl, rfl, rfl, rfl, rfl, rfl⟩

theorem after_out (c : Dev nD) (t : Fin cfg0.N) :
    (dats m 0 c).after 7 t = out (grid0.coords t) (iblk m c 0 t) (iblk m c 1 t) (iblk m c 2 t) (iblk m c 3 t) (iblk m c 4 t) (iblk m c 5 t) (iblk m c 6 t) := by dsimp only [dats]

/-- Each input's buffer holds its block at every point, fetched there or not. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) := by
  refine ⟨?_, ?_, ?_, ?_, ?_, ?_, ?_⟩ <;>
    exact fun d => ((dats m 0 c).before_in_eq_fetched _ rfl (fun _ => rfl) (fun _ _ _ => rfl) (fun t => by
        obtain ⟨a0, a1, a2, a3, a4, a5, a6⟩ := after_in m c t
        first | rw [a0] | rw [a1] | rw [a2] | rw [a3] | rw [a4] | rw [a5] | rw [a6]
        unfold Dat.blockOf iblk; rw [A_eq]; try rfl) t d).trans
      (by unfold Dat.fetched Dat.blockOf iblk; rw [A_eq]; try rfl)

/-- The invariant: the two scratch buffers and the generator's register. -/
theorem ΦA_eq (c : Dev nD) :
    Pipeline.ΦA spec0 c
      = (iprop(iprop((∃ d, owns (c : Thread nD τ) (Memref.whole cc0_scratch0) fullShare d) ∗ (∃ d, owns (c : Thread nD τ) (Memref.whole cc0_scratch1) fullShare d)) ∗ (∃ r, prngReg c r)) : sProp 𝕄) := by
  unfold Pipeline.ΦA; rw [scopedRest0_eq]
  simp only [owns_whole]
  try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4, b5, b6⟩ := before_in m c t
  obtain ⟨a0, a1, a2, a3, a4, a5, a6⟩ := after_in m c t
  simp only [b0, b1, b2, b3, b4, b5, b6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, ΦA_eq,
    a0, a1, a2, a3, a4, a5, a6, after_out]
  iintro ⟨⟨⟨Hs, Hu⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (Memref.whole cc0_scratch0) (Memref.isWhole_whole _)
    (Memref.whole cc0_scratch1) (Memref.isWhole_whole _) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  isplitl [Hu]; · iexact Hu
  iintro ⟨H0, H1, H2, H3, H4, H5, H6, H7, Hs, Hu⟩
  isplitl [Hs Hu Hr]
  · isplitl [Hs Hu]
    · isplitl [Hs]; · iexact Hs
      iexact Hu
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends at what the proof data say, every other buffer as the region found it, and
    every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs, its argument arrays end unchanged, and every counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_of m c _ (by decide)), ((h.1 c).2 main_arg1 (Pipeline.mem_restRefs_of main_arg1 (by decide) (by decide))).trans (V_of m c _ (by decide)), ((h.1 c).2 main_arg2 (Pipeline.mem_restRefs_of main_arg2 (by decide) (by decide))).trans (V_of m c _ (by decide)), ((h.1 c).2 main_arg3 (Pipeline.mem_restRefs_of main_arg3 (by decide) (by decide))).trans (V_of m c _ (by decide)), ((h.1 c).2 main_arg4 (Pipeline.mem_restRefs_of main_arg4 (by decide) (by decide))).trans (V_of m c _ (by decide))⟩, h.2⟩) (run_main m ρ)

end Cert.Kernel13Ideal.Conf

end
-- ==== Proof.ConfBody.lean ====
/-
  The convolution block: what the body stores, read at one place.
-/
module

public import proofs.«01_k».proof.Proof.ConfRun
public import Idealize.ShloMosaic.Lib.Pipeline.ValueKit

@[expose] public section

set_option maxRecDepth 16384

noncomputable section

namespace Cert.Kernel13Ideal.Conf

open Cert.Kernel13Ideal Cert.Kernel13Ideal.Gen
open Idealize.ShloMosaic Idealize.ShloMosaic.TcCoe Idealize.SL.Sem

/-- The place in a row of column `q` of slice `k`. -/
def colOf (k : Fin 4) (q : Fin 512) : Fin 2048 := ⟨k.val * 512 + q.val, by omega⟩

/-- The mean of a row. -/
def rowMean (y : Fin 2048 → EReal) : EReal := Ideal.div (∑ p : Fin 2048, y p) (Ideal.ofBits .f32 0x45000000#32)

/-- A row less its mean. -/
def centred (y : Fin 2048 → EReal) (p : Fin 2048) : EReal := y p - rowMean y

/-- The factor of a row's norm. -/
def rowScale (y : Fin 2048 → EReal) : EReal :=
  Ideal.rsqrt (rowMean (fun p => centred y p * centred y p) + Ideal.ofBits .f32 0x3727C5AC#32)

/-- A number times its logistic. -/
def silu (z : EReal) : EReal := z * Ideal.div 1 (1 + Ideal.exp (-z))

/-- A row normed, weighted and passed through `silu`. -/
def finished (y g b : Fin 2048 → EReal) (p : Fin 2048) : EReal := silu (centred y p * rowScale y * g p + b p)

/-- Multiplying by a two thousand and forty-eighth is dividing by it. -/
theorem mul_part (x : EReal) : x * Ideal.ofBits .f32 0x3A000000#32 = Ideal.div x (Ideal.ofBits .f32 0x45000000#32) := by
  have h1 : Ideal.ofBits .f32 0x3A000000#32 = (((1 : ℝ) / 2048 : ℝ) : EReal) := by
    simp [Ideal.ofBits, Ideal.ieee, -EReal.coe_mul]; norm_num
  have h2 : Ideal.ofBits .f32 0x45000000#32 = ((2048 : ℝ) : EReal) := by
    simp [Ideal.ofBits, Ideal.ieee, -EReal.coe_mul]; norm_num
  rw [h1, h2]; unfold Ideal.div
  rw [if_neg (by norm_cast), ← EReal.coe_inv]; norm_num

/-- A row's sum in four sums of five hundred and twelve. -/
theorem sum_slices (f : Fin 2048 → EReal) : ∑ p : Fin 2048, f p = ∑ k : Fin 4, ∑ q : Fin 512, f (colOf k q) := by
  rw [← Fintype.sum_prod_type' (f := fun (k : Fin 4) (q : Fin 512) => f (colOf k q))]
  refine (Fintype.sum_equiv (finProdFinEquiv (m := 4) (n := 512)) _ _ fun x => ?_).symm
  congr 1
  apply Fin.ext
  show x.1.val * 512 + x.2.val = x.2.val + 512 * x.1.val
  omega

/-- The extended rows at an index. -/
theorem ext_apply (i : grid0.Coords) (x0 x1 x2 : FVec Ideal S256x2048 .f32) (k : Fin 4) (n : Fin 768) (q : Fin 512) :
    ext (F := Ideal) i x0 x1 x2 (ix3 k n q) =
      if h : n.val < 256 then x0 (ix2 ⟨n.val, h⟩ (colOf k q)) * k0_pay16 (F := Ideal) i
      else if h' : n.val < 512 then x1 (ix2 ⟨n.val - 256, by omega⟩ (colOf k q))
      else x2 (ix2 ⟨n.val - 512, by omega⟩ (colOf k q)) * k0_pay17 (F := Ideal) i := by
  unfold ext extPieces
  canon_tiles x h
  all_goals
    change k.val = _ at h0
    change n.val = _ at h1
    change q.val = _ at h2
  all_goals
    pointwise [k0_pay18, k0_pay19, k0_pay20, k0_pay21, k0_pay22, k0_pay23, k0_pay24, k0_pay25, k0_pay26, k0_pay27, k0_pay28, k0_pay29]
  all_goals first
    | rw [dif_pos (by omega)]
    | rw [dif_neg (by omega), dif_pos (by omega)]
    | rw [dif_neg (by omega), dif_neg (by omega)]
  all_goals first
    | refine congrArg (· * _) ?_
    | skip
  all_goals
    refine congrArg _ ?_
    refine congrArg₂ ix2 (Fin.ext ?_) (Fin.ext ?_)
    · simp; omega
    · simp [colOf]; omega

/-- One trip's convolution at an index. -/
theorem trip_apply (e : FVec Ideal S4x768x512 .f32) (w : FVec Ideal S4x31x512 .f32) (b : FVec Ideal S4x1x512 .f32) (t : Fin k0_t1_loop.trips) (k : Fin 4) (hk : t.val = k.val)
    (r : Fin 256) (q : Fin 512) : conv (F := Ideal) e w b t (ix2 r q)
      = ∑ j : Fin 31, e (ix3 k ⟨r.val + 16 * (j.val + 1), by omega⟩ q) * w (ix3 k j q) + b (ix3 k 0 q) := by
  unfold conv
  pointwise [k0_pay2, k0_pay3, k0_pay4, k0_pay5, k0_pay6, k0_pay7, k0_pay8, k0_pay9, k0_pay10, k0_pay11, k0_pay12, k0_pay13]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq]
  have he : ∀ (a a' : Fin 4) (n n' : Fin 768) (c c' : Fin 512), a.val = a'.val → n.val = n'.val → c.val = c'.val → e (ix3 a n c) = e (ix3 a' n' c') :=
    fun a a' n n' c c' h h' h'' => by rw [Fin.ext h, Fin.ext h', Fin.ext h'']
  have hw : ∀ (a a' : Fin 4) (n n' : Fin 31) (c c' : Fin 512), a.val = a'.val → n.val = n'.val → c.val = c'.val → w (ix3 a n c) = w (ix3 a' n' c') :=
    fun a a' n n' c c' h h' h'' => by rw [Fin.ext h, Fin.ext h', Fin.ext h'']
  have hb : ∀ (a a' : Fin 4) (n n' : Fin 1) (c c' : Fin 512), a.val = a'.val → n.val = n'.val → c.val = c'.val → b (ix3 a n c) = b (ix3 a' n' c') :=
    fun a a' n n' c c' h h' h'' => by rw [Fin.ext h, Fin.ext h', Fin.ext h'']
  simp only [Fin.sum_univ_castSucc, Fin.sum_univ_zero, zero_add]
  repeat' refine congrArg₂ (· + ·) ?_ ?_
  all_goals first
    | exact hb _ _ _ _ _ _ hk rfl (by simp)
    | refine congrArg₂ (· * ·) (he _ _ _ _ _ _ hk ?_ ?_) (hw _ _ _ _ _ _ hk rfl ?_)
  all_goals simp
  all_goals omega

/-- The convolution of a slice at an index. -/
theorem conv_apply (e : FVec Ideal S4x768x512 .f32) (w : FVec Ideal S4x31x512 .f32) (b : FVec Ideal S4x1x512 .f32) (k : Fin 4)
    (r : Fin 256) (q : Fin 512) : conv (F := Ideal) e w b k (ix2 r q)
      = ∑ j : Fin 31, e (ix3 k ⟨r.val + 16 * (j.val + 1), by omega⟩ q) * w (ix3 k j q) + b (ix3 k 0 q) :=
  trip_apply e w b k k rfl r q

/-- A slice stored as one layer, at an index. -/
theorem slice_apply (c : FVec Ideal S256x512 .f32) (x : S1x256x512.Idx) :
    shapeCast S1x256x512 c shapeCasts_S256x512_S1x256x512 x = c (ix2 (x 1) (x 2)) := by
  pointwise

/-- The convolution of the block at an index. -/
theorem acc_apply (e : FVec Ideal S4x768x512 .f32) (w : FVec Ideal S4x31x512 .f32) (b : FVec Ideal S4x1x512 .f32) (k : Fin 4)
    (r : Fin 256) (q : Fin 512) : acc (F := Ideal) e w b (ix3 k r q) = conv (F := Ideal) e w b k (ix2 r q) := by
  unfold acc accPieces accPiece
  simp only [k0_off64_eq]
  canon_tiles x h
  all_goals
    change k.val = _ at h0
    change r.val = _ at h1
    change q.val = _ at h2
  all_goals
    rw [slice_apply]
    refine congr (congrArg (conv (F := Ideal) e w b) (Fin.ext ?_)) (congrArg₂ ix2 (Fin.ext h1.symm) (Fin.ext h2.symm))
    simp
    omega

/-- A row of an array held in four column slices. -/
def rowOf (a : FVec Ideal S4x256x512 .f32) (r : Fin 256) (p : Fin 2048) : EReal :=
  a (ix3 ⟨p.val / 512, by omega⟩ r ⟨p.val % 512, by omega⟩)

/-- A row at a slice's column. -/
theorem rowOf_colOf (a : FVec Ideal S4x256x512 .f32) (r : Fin 256) (k : Fin 4) (q : Fin 512) : rowOf a r (colOf k q) = a (ix3 k r q) := by
  unfold rowOf colOf
  have h1 : (⟨(k.val * 512 + q.val) / 512, by omega⟩ : Fin 4) = k := Fin.ext (show (k.val * 512 + q.val) / 512 = k.val by omega)
  have h2 : (⟨(k.val * 512 + q.val) % 512, by omega⟩ : Fin 512) = q := Fin.ext (show (k.val * 512 + q.val) % 512 = q.val by omega)
  exact congrArg₂ (fun u v => a (ix3 u r v)) h1 h2

/-- The sum of the columns is the sum of the convolution's row. -/
theorem total_apply (e : FVec Ideal S4x768x512 .f32) (w : FVec Ideal S4x31x512 .f32) (b : FVec Ideal S4x1x512 .f32) (r : Fin 256) :
    total (F := Ideal) e w b (ix2 r 0) = ∑ p : Fin 2048, rowOf (acc (F := Ideal) e w b) r p := by
  rw [sum_slices]
  simp only [rowOf_colOf, acc_apply]
  unfold total addCols
  have h0 : (trip 0 (by decide) : Fin k0_t1_loop.trips) = (0 : Fin 4) := rfl
  have h1 : (trip 1 (by decide) : Fin k0_t1_loop.trips) = (1 : Fin 4) := rfl
  have h2 : (trip 2 (by decide) : Fin k0_t1_loop.trips) = (2 : Fin 4) := rfl
  have h3 : (trip 3 (by decide) : Fin k0_t1_loop.trips) = (3 : Fin 4) := rfl
  rw [h0, h1, h2, h3, Fin.sum_univ_four]
  generalize conv (F := Ideal) e w b (0 : Fin 4) = c0
  generalize conv (F := Ideal) e w b (1 : Fin 4) = c1
  generalize conv (F := Ideal) e w b (2 : Fin 4) = c2
  generalize conv (F := Ideal) e w b (3 : Fin 4) = c3
  pointwise [k0_pay31, k0_pay30]

/-- The factor at a row, of the column sum `s`. -/
theorem scale_apply (a : FVec Ideal S4x256x512 .f32) (s : FVec Ideal S256x1 .f32) (r : Fin 256)
    (hs : s (ix2 r 0) = ∑ p : Fin 2048, rowOf a r p) : scale (F := Ideal) a s (ix2 r 0) = rowScale (rowOf a r) := by
  have hm : s (ix2 r 0) * Ideal.ofBits .f32 0x3A000000#32 = rowMean (rowOf a r) := by rw [hs, mul_part]; rfl
  unfold scale rowScale
  rw [rowMean, sum_slices, ← mul_part, Fin.sum_univ_four]
  simp only [centred, rowOf_colOf, ← hm]
  pointwise [k0_pay35, k0_pay34, k0_pay33, k0_pay32]

/-- The first slice's columns, less the mean and times the factor. -/
theorem pay36_eq (m z : FVec Ideal S256x1 .f32) (v : FVec Ideal S256 .f32) (a1 a2 a3 a0 : FVec Ideal S1x256x512 .f32) :
    k0_pay36 (F := Ideal) m z v a1 a2 a3 a0 = mulf (subf (shapeCast S256x512 a0 shapeCasts_S1x256x512_S256x512)
      (broadcastTo S256x512 m broadcasts_S256x1_S256x512))
      (broadcastTo S256x512 (k0_pay35 (F := Ideal) m z v a1 a2 a3) broadcasts_S256x1_S256x512) := rfl

/-- What the body stores, at a row and a slice's column. -/
theorem pieces_apply (a : FVec Ideal S4x256x512 .f32) (s : FVec Ideal S256x1 .f32) (x5 x6 : FVec Ideal S4x1x512 .f32) (r : Fin 256)
    (p : Fin 2048) (hs : s (ix2 r 0) = ∑ p : Fin 2048, rowOf a r p) :
    (View.canon (outPieces (F := Ideal) a s x5 x6) : FVec Ideal S256x2048 .bf16) (ix2 r p)
      = finished (rowOf a r) (fun p => x5 (ix3 ⟨p.val / 512, by omega⟩ 0 ⟨p.val % 512, by omega⟩))
        (fun p => x6 (ix3 ⟨p.val / 512, by omega⟩ 0 ⟨p.val % 512, by omega⟩)) p := by
  have hm : s (ix2 r 0) * Ideal.ofBits .f32 0x3A000000#32 = rowMean (rowOf a r) := by rw [hs, mul_part]; rfl
  unfold finished centred silu
  rw [← hm, ← scale_apply a s r hs]
  unfold outPieces
  canon_tiles x h
  all_goals
    change r.val = _ at h0
    change p.val = _ at h1
  all_goals
    have er : r = x 0 := Fin.ext h0
    have eq : (⟨p.val % 512, by omega⟩ : Fin 512) = x 1 := Fin.ext (show p.val % 512 = (x 1).val by omega)
  all_goals try rw [pay36_eq]
  all_goals try change k0_pay38 (mulf _ (broadcastTo S256x512 (scale (F := Ideal) a s) _)) _ _ _ = _
  all_goals generalize scale (F := Ideal) a s = z
  all_goals first
    | have ep : (⟨p.val / 512, by omega⟩ : Fin 4) = 3 := Fin.ext (show p.val / 512 = 3 by omega)
    | have ep : (⟨p.val / 512, by omega⟩ : Fin 4) = 2 := Fin.ext (show p.val / 512 = 2 by omega)
    | have ep : (⟨p.val / 512, by omega⟩ : Fin 4) = 1 := Fin.ext (show p.val / 512 = 1 by omega)
    | have ep : (⟨p.val / 512, by omega⟩ : Fin 4) = 0 := Fin.ext (show p.val / 512 = 0 by omega)
  all_goals
    simp only [rowOf, ep, eq, er]
    rw [← zero_sub]
    pointwise [k0_pay1, k0_pay32, k0_pay37, k0_pay38, k0_pay39, k0_pay40, k0_pay41]

/-- The body's result at a row and a place in it. -/
theorem out_apply (i : grid0.Coords) (x0 x1 x2 : FVec Ideal S256x2048 .f32) (x3 : FVec Ideal S4x31x512 .f32)
    (x4 x5 x6 : FVec Ideal S4x1x512 .f32) (r : Fin 256) (p : Fin 2048) :
    out (F := Ideal) i x0 x1 x2 x3 x4 x5 x6 (ix2 r p)
      = finished (fun p => ∑ j : Fin 31, ext (F := Ideal) i x0 x1 x2 (ix3 ⟨p.val / 512, by omega⟩ ⟨r.val + 16 * (j.val + 1), by omega⟩ ⟨p.val % 512, by omega⟩)
            * x3 (ix3 ⟨p.val / 512, by omega⟩ j ⟨p.val % 512, by omega⟩) + x4 (ix3 ⟨p.val / 512, by omega⟩ 0 ⟨p.val % 512, by omega⟩))
        (fun p => x5 (ix3 ⟨p.val / 512, by omega⟩ 0 ⟨p.val % 512, by omega⟩))
        (fun p => x6 (ix3 ⟨p.val / 512, by omega⟩ 0 ⟨p.val % 512, by omega⟩)) p := by
  unfold out
  rw [pieces_apply _ _ _ _ _ _ (total_apply _ _ _ _)]
  refine congrArg (finished · _ _ p) (funext fun p => ?_)
  rw [rowOf, acc_apply, conv_apply]

end Cert.Kernel13Ideal.Conf

end
-- ==== Proof.ConfConv.lean ====
/-
  The convolution block of the prompts: the kernel's rows are the reference's.
-/
module

public import proofs.«01_k».proof.Defs
public import proofs.«01_k».proof.Proof.ConfFrame
public import proofs.«01_k».proof.Proof.ConfBody
public import proofs.«01_k».proof.Proof.Gen.Kernel13
public import proofs.«01_k».proof.Proof.Gen.Reference13Ideal.Run
public import Idealize.ShloMosaic.Lib.Pipeline.ValueKit
public import Idealize.ShloMosaic.Lib.Pipeline.Value
public import Idealize.ShloMosaic.Lib.Claim
public import Idealize.ShloMosaic.Lib.Quiescent

@[expose] public section

set_option maxRecDepth 16384

noncomputable section

namespace Cert.Kernel13Ideal.Conf

open Cert.Kernel13Ideal Cert.Kernel13Ideal.Gen
open Idealize.ShloMosaic Idealize.ShloMosaic.TcCoe Idealize.SL.Sem
open Idealize.ShloMosaic.Pipeline (Dat)

/-- The element of request `b` that lies `u - 15` tokens after its first; zero outside the request. -/
def tap (X : FVec Ideal S8192x2048 .f32) (b : Fin 16) (u : ℕ) (p : Fin 2048) : EReal :=
  if h : 15 ≤ u ∧ u < 271 then X (ix2 ⟨b.val * 256 + (u - 15), by omega⟩ p) else 0

/-- The convolution of request `b` at token `s`. -/
def convolved (X : FVec Ideal S8192x2048 .f32) (W : FVec Ideal S31x2048 .f32) (B : FVec Ideal S2048 .f32) (b : Fin 16) (s : Fin 256)
    (p : Fin 2048) : EReal :=
  ∑ j : Fin 31, tap X b (s.val + j.val) p * W (ix2 j p) + B (ix1 p)

/-- The rows of the result: token after token over the requests. -/
def spec (X : FVec Ideal S8192x2048 .f32) (W : FVec Ideal S31x2048 .f32) (B G C : FVec Ideal S2048 .f32) (R : Fin 4096) (p : Fin 2048) : EReal :=
  finished (convolved X W B ⟨R.val % 16, by omega⟩ ⟨R.val / 16, by omega⟩) (fun p => G (ix1 p)) (fun p => C (ix1 p)) p

variable (m : (ℓ : Loc nD τ sig) → Buf (Elt Ideal) ℓ) (ρ : Dev nD → PrngReg)

/-- The block indices of the windows in closed form, decided over the grid. -/
theorem idx : ∀ t : Fin cfg0.N, win0_0.index t = ![(grid0.coords t 0).val - 1, 0]
    ∧ win0_1.index t = ![(grid0.coords t 0).val, 0]
    ∧ win0_2.index t = ![min ((grid0.coords t 0).val + 1) 15, 0]
    ∧ win0_3.index t = ![0, 0, 0] ∧ win0_4.index t = ![0, 0, 0] ∧ win0_5.index t = ![0, 0, 0] ∧ win0_6.index t = ![0, 0, 0]
    ∧ win0_7.index t = ![(grid0.coords t 0).val, 0] :=
  (by decide +kernel : ∀ t : Fin grid0.N, _)

/-- The first run's tokens in time-major order. -/
def timeP (X : FVec Ideal S8192x2048 .f32) : FVec Ideal S4096x2048 .f32 :=
  shapeCast _ (transpose S256x16x2048 [1, 0, 2] (shapeCast _ (extractStridedSlice S4096x2048 ![0, 0] X
    slices_S8192x2048_S4096x2048_0_0) shapeCasts_S4096x2048_S16x256x2048) transposes_S16x256x2048_S256x16x2048_1_0_2) shapeCasts_S256x16x2048_S4096x2048

/-- The second run's tokens in time-major order. -/
def timeS (X : FVec Ideal S8192x2048 .f32) : FVec Ideal S4096x2048 .f32 :=
  shapeCast _ (transpose S1024x4x2048 [1, 0, 2] (shapeCast _ (extractStridedSlice S4096x2048 ![4096, 0] X
    slices_S8192x2048_S4096x2048_4096_0) shapeCasts_S4096x2048_S4x1024x2048) transposes_S4x1024x2048_S1024x4x2048_1_0_2) shapeCasts_S1024x4x2048_S4096x2048

/-- The first run's tokens in time-major order, at an index. -/
theorem timeP_apply (X : FVec Ideal S8192x2048 .f32) (i : Fin 4096) (k : Fin 2048) :
    timeP X (ix2 i k) = X (ix2 ⟨i.val % 16 * 256 + i.val / 16, by omega⟩ k) := by
  unfold timeP
  pointwise

/-- The call's rows: the tokens of the two runs, each in time-major order. -/
theorem entry_time (c : Dev nD) : V m c main_v8 = concatenate S8192x2048 0
    [⟨S4096x2048, timeP (m ((c : Thread nD τ).loc main_arg0))⟩,
     ⟨S4096x2048, timeS (m ((c : Thread nD τ).loc main_arg0))⟩] concatenates_S4096x2048_S4096x2048_S8192x2048_d0 := by
  entry_read
  rfl

/-- The call's rows at an index of the first run: the token of that row. -/
theorem entry_rows (c : Dev nD) (i : Fin 8192) (hi : i.val < 4096) (k : Fin 2048) :
    V m c main_v8 (ix2 i k) = m ((c : Thread nD τ).loc main_arg0) (ix2 ⟨i.val % 16 * 256 + i.val / 16, by omega⟩ k) := by
  rw [entry_time]
  have hP := timeP_apply (m ((c : Thread nD τ).loc main_arg0))
  generalize timeP _ = P at hP ⊢
  generalize timeS _ = S at ⊢
  pointwise
  rw [dif_pos hi]
  exact hP ⟨i.val, hi⟩ k

/-- A vector in four slices. -/
def sliced (W : FVec Ideal S2048 .f32) : FVec Ideal S4x1x512 .f32 :=
  transpose S4x1x512 [1, 0, 2] (shapeCast S1x4x512 (broadcastInDim S1x2048 ![1] bcast_S2048_S1x2048_1 W) shapeCasts_S1x2048_S1x4x512) transposes_S1x4x512_S4x1x512_1_0_2

/-- A vector in four slices, at a place. -/
theorem sliced_apply (W : FVec Ideal S2048 .f32) (p : Fin 2048) : sliced W (ix3 ⟨p.val / 512, by omega⟩ 0 ⟨p.val % 512, by omega⟩) = W (ix1 p) := by
  unfold sliced
  pointwise
  try (refine congrArg W (congrArg ix1 (Fin.ext ?_)); simp; omega)

/-- The weights in four slices. -/
def slicedW (W : FVec Ideal S31x2048 .f32) : FVec Ideal S4x31x512 .f32 :=
  transpose S4x31x512 [1, 0, 2] (shapeCast S31x4x512 W shapeCasts_S31x2048_S31x4x512) transposes_S31x4x512_S4x31x512_1_0_2

/-- The weights in four slices, at a place. -/
theorem slicedW_apply (W : FVec Ideal S31x2048 .f32) (j : Fin 31) (p : Fin 2048) :
    slicedW W (ix3 ⟨p.val / 512, by omega⟩ j ⟨p.val % 512, by omega⟩) = W (ix2 j p) := by
  unfold slicedW
  pointwise

/-- The call's convolution weights: the argument's, in four slices. -/
theorem entry_w (c : Dev nD) : V m c main_v10 = slicedW (m ((c : Thread nD τ).loc main_arg1)) := by
  entry_read
  rfl

/-- The call's convolution bias: the argument's, in four slices. -/
theorem entry_b (c : Dev nD) : V m c main_v13 = sliced (m ((c : Thread nD τ).loc main_arg2)) := by
  entry_read
  rfl

/-- The call's norm weights: the argument's, in four slices. -/
theorem entry_g (c : Dev nD) : V m c main_v16 = sliced (m ((c : Thread nD τ).loc main_arg3)) := by
  entry_read
  rfl

/-- The call's norm shifts: the argument's, in four slices. -/
theorem entry_c (c : Dev nD) : V m c main_v19 = sliced (m ((c : Thread nD τ).loc main_arg4)) := by
  entry_read
  rfl

/-- The block of rows before, at an index. -/
theorem blk0 (c : Dev nD) (t : Fin cfg0.N) (r : Fin 256) (p : Fin 2048) (i : Fin 8192) (hi : i.val = ((grid0.coords t 0).val - 1) * 256 + r.val) :
    iblk m c 0 t (ix2 r p) = V m c main_v8 (ix2 i p) := by
  blk_point [iblk, idx t]

/-- The block's own rows, at an index. -/
theorem blk1 (c : Dev nD) (t : Fin cfg0.N) (r : Fin 256) (p : Fin 2048) (i : Fin 8192) (hi : i.val = (grid0.coords t 0).val * 256 + r.val) :
    iblk m c 1 t (ix2 r p) = V m c main_v8 (ix2 i p) := by
  blk_point [iblk, idx t]

/-- The block of rows after, at an index. -/
theorem blk2 (c : Dev nD) (t : Fin cfg0.N) (r : Fin 256) (p : Fin 2048) (i : Fin 8192)
    (hi : i.val = min ((grid0.coords t 0).val + 1) 15 * 256 + r.val) :
    iblk m c 2 t (ix2 r p) = V m c main_v8 (ix2 i p) := by
  blk_point [iblk, idx t]

/-- The block of the convolution weights, at a place. -/
theorem blk3 (c : Dev nD) (t : Fin cfg0.N) (j : Fin 31) (p : Fin 2048) :
    iblk m c 3 t (ix3 ⟨p.val / 512, by omega⟩ j ⟨p.val % 512, by omega⟩) = m ((c : Thread nD τ).loc main_arg1) (ix2 j p) := by
  refine Eq.trans ?_ (slicedW_apply _ j p)
  rw [← entry_w m c]
  blk_point [iblk, idx t]

/-- The block of the convolution bias, at a place. -/
theorem blk4 (c : Dev nD) (t : Fin cfg0.N) (p : Fin 2048) :
    iblk m c 4 t (ix3 ⟨p.val / 512, by omega⟩ 0 ⟨p.val % 512, by omega⟩) = m ((c : Thread nD τ).loc main_arg2) (ix1 p) := by
  refine Eq.trans ?_ (sliced_apply _ p)
  rw [← entry_b m c]
  blk_point [iblk, idx t]

/-- The block of the norm weights, at a place. -/
theorem blk5 (c : Dev nD) (t : Fin cfg0.N) (p : Fin 2048) :
    iblk m c 5 t (ix3 ⟨p.val / 512, by omega⟩ 0 ⟨p.val % 512, by omega⟩) = m ((c : Thread nD τ).loc main_arg3) (ix1 p) := by
  refine Eq.trans ?_ (sliced_apply _ p)
  rw [← entry_g m c]
  blk_point [iblk, idx t]

/-- The block of the norm shifts, at a place. -/
theorem blk6 (c : Dev nD) (t : Fin cfg0.N) (p : Fin 2048) :
    iblk m c 6 t (ix3 ⟨p.val / 512, by omega⟩ 0 ⟨p.val % 512, by omega⟩) = m ((c : Thread nD τ).loc main_arg4) (ix1 p) := by
  refine Eq.trans ?_ (sliced_apply _ p)
  rw [← entry_c m c]
  blk_point [iblk, idx t]

/-- Whether there is a block before. -/
theorem before_eq (i : grid0.Coords) : k0_pay16 (F := Ideal) i = if (i 0).val = 0 then 0 else 1 := by
  unfold k0_pay16
  have h : ∀ a : Fin 16, (Scalar.extui (Scalar.cmpi .sgt (BitVec.ofNat 32 a.val) 0#32) : BitVec 32) = if a.val = 0 then 0#32 else 1#32 := by decide
  show Scalar.sitofp (F := Ideal) .f32 (Scalar.extui (Scalar.cmpi .sgt (BitVec.ofNat 32 (i 0).val) 0#32) : BitVec 32) = _
  rw [h (i 0)]
  split_ifs
  · show (((0#32 : BitVec 32).toInt : ℝ) : EReal) = 0
    simp
  · show (((1#32 : BitVec 32).toInt : ℝ) : EReal) = 1
    simp

/-- Whether there is a block after. -/
theorem after_eq (i : grid0.Coords) : k0_pay17 (F := Ideal) i = if (i 0).val = 15 then 0 else 1 := by
  unfold k0_pay17
  have h : ∀ a : Fin 16, (Scalar.extui (Scalar.cmpi .slt (BitVec.ofNat 32 a.val) 15#32) : BitVec 32) = if a.val = 15 then 0#32 else 1#32 := by decide
  show Scalar.sitofp (F := Ideal) .f32 (Scalar.extui (Scalar.cmpi .slt (BitVec.ofNat 32 (i 0).val) 15#32) : BitVec 32) = _
  rw [h (i 0)]
  split_ifs
  · show (((0#32 : BitVec 32).toInt : ℝ) : EReal) = 0
    simp
  · show (((1#32 : BitVec 32).toInt : ℝ) : EReal) = 1
    simp

/-- A place's slice and column give the place. -/
theorem colOf_place (p : Fin 2048) : colOf ⟨p.val / 512, by omega⟩ ⟨p.val % 512, by omega⟩ = p := by
  apply Fin.ext
  show p.val / 512 * 512 + p.val % 512 = p.val
  omega

/-- The extended rows of a block are the request's tokens, and zero outside the request. -/
theorem ext_tap (c : Dev nD) (t : Fin cfg0.N) (r : Fin 256) (j : Fin 31) (p : Fin 2048) (R : Fin 4096)
    (hR : R.val = (grid0.coords t 0).val * 256 + r.val) :
    ext (F := Ideal) (grid0.coords t) (iblk m c 0 t) (iblk m c 1 t) (iblk m c 2 t)
        (ix3 ⟨p.val / 512, by omega⟩ ⟨r.val + 16 * (j.val + 1), by omega⟩ ⟨p.val % 512, by omega⟩)
      = tap (m ((c : Thread nD τ).loc main_arg0)) ⟨R.val % 16, by omega⟩ (R.val / 16 + j.val) p := by
  rw [ext_apply, before_eq, after_eq, colOf_place]
  have hT : (grid0.coords t 0).val < 16 := (grid0.coords t 0).isLt
  have hX : ∀ (a b : Fin 8192), a.val = b.val → m ((c : Thread nD τ).loc main_arg0) (ix2 a p) = m ((c : Thread nD τ).loc main_arg0) (ix2 b p) :=
    fun a b h => by rw [Fin.ext h]
  unfold tap
  dsimp only
  by_cases h1 : r.val + 16 * (j.val + 1) < 256
  · rw [dif_pos h1]
    by_cases h0 : (grid0.coords t 0).val = 0
    · rw [if_pos h0, mul_zero, dif_neg (by omega)]
    · rw [if_neg h0, mul_one, dif_pos (by omega), blk0 m c t _ p ⟨((grid0.coords t 0).val - 1) * 256 + (r.val + 16 * (j.val + 1)), by omega⟩ rfl,
        entry_rows m c _ (by show _ < _; dsimp only; omega)]
      exact hX _ _ (by dsimp only; omega)
  · rw [dif_neg h1]
    by_cases h2 : r.val + 16 * (j.val + 1) < 512
    · rw [dif_pos h2, dif_pos (by omega), blk1 m c t _ p ⟨(grid0.coords t 0).val * 256 + (r.val + 16 * (j.val + 1) - 256), by omega⟩ rfl,
        entry_rows m c _ (by show _ < _; dsimp only; omega)]
      exact hX _ _ (by dsimp only; omega)
    · rw [dif_neg h2]
      by_cases h0 : (grid0.coords t 0).val = 15
      · rw [if_pos h0, mul_zero, dif_neg (by omega)]
      · rw [if_neg h0, mul_one, dif_pos (by omega), blk2 m c t _ p ⟨((grid0.coords t 0).val + 1) * 256 + (r.val + 16 * (j.val + 1) - 512), by omega⟩
            (by dsimp only; rw [Nat.min_eq_left (by omega)]),
          entry_rows m c _ (by show _ < _; dsimp only; omega)]
        exact hX _ _ (by dsimp only; omega)

/-- What the body stores at a row and a place of its block. -/
theorem point (c : Dev nD) (t : Fin cfg0.N) (r : Fin 256) (p : Fin 2048) (R : Fin 4096) (hR : R.val = (grid0.coords t 0).val * 256 + r.val) :
    out (F := Ideal) (grid0.coords t) (iblk m c 0 t) (iblk m c 1 t) (iblk m c 2 t) (iblk m c 3 t) (iblk m c 4 t) (iblk m c 5 t) (iblk m c 6 t) (ix2 r p)
      = spec (m ((c : Thread nD τ).loc main_arg0)) (m ((c : Thread nD τ).loc main_arg1)) (m ((c : Thread nD τ).loc main_arg2))
          (m ((c : Thread nD τ).loc main_arg3)) (m ((c : Thread nD τ).loc main_arg4)) R p := by
  rw [out_apply]
  unfold spec convolved
  simp only [ext_tap m c t r _ _ R hR, blk3, blk4, blk5, blk6]

/-- The row of an index of a block in the array. -/
theorem row_block (t : Fin cfg0.N) (y : S256x2048.Idx) : ((((cfg0.win 7).blk t).view.emb y) 0).val = (grid0.coords t 0).val * 256 + (y 0).val := by
  blk_simp [idx t]
  try omega

/-- The place of an index of a block in its row. -/
theorem place_block (t : Fin cfg0.N) (y : S256x2048.Idx) : (((cfg0.win 7).blk t).view.emb y) 1 = y 1 := by
  apply Fin.ext
  blk_simp [idx t]

/-- After the call its result array holds the rows. -/
theorem final (c : Dev nD) : (dats m 0 c).arrAt 7 cfg0.N
    = fun j : S4096x2048.Idx => spec (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) := by
  refine (dats m 0 c).arrAt_eq_of_covers 7 _ (by decide +kernel) fun t _ y => ?_
  blk_simp
  rw [after_out]
  have h := point m c t (y 0) (y 1) _ (row_block t y)
  rw [← Idealize.ShloMosaic.eq_ix2 y] at h
  exact h.trans (congrArg _ (place_block t y).symm)

/-- A run's result array and arguments. -/
theorem run_result : θ_run defs (onTc (τ := τ) (main (F := Ideal))) ⟨m, fun _ => 0, ρ⟩ fun r => ∀ c : Dev nD,
    r.2.mem ((c.tc : Thread nD τ).loc main_v20) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h => ?_) (run_main m ρ)
  exact fun c => ⟨(h.1 c).1 7, ((h.1 c).2 main_arg0 (Pipeline.mem_restRefs_of main_arg0 (by decide) (by decide))).trans (V_of m c _ (by decide)),
    ((h.1 c).2 main_arg1 (Pipeline.mem_restRefs_of main_arg1 (by decide) (by decide))).trans (V_of m c _ (by decide)),
    ((h.1 c).2 main_arg2 (Pipeline.mem_restRefs_of main_arg2 (by decide) (by decide))).trans (V_of m c _ (by decide)),
    ((h.1 c).2 main_arg3 (Pipeline.mem_restRefs_of main_arg3 (by decide) (by decide))).trans (V_of m c _ (by decide)),
    ((h.1 c).2 main_arg4 (Pipeline.mem_restRefs_of main_arg4 (by decide) (by decide))).trans (V_of m c _ (by decide))⟩

end Cert.Kernel13Ideal.Conf

namespace Cert.Reference13Ideal.Conf

open Cert.Reference13Ideal Cert.Reference13Ideal.Gen Cert.Reference13Ideal.Value
open Idealize.ShloMosaic Idealize.ShloMosaic.TcCoe Idealize.SL.Sem
open Cert.Kernel13Ideal.Conf (tap convolved finished silu centred rowMean rowScale spec)

variable (V : Valuation τ sig (Elt Ideal))

/-- The padded tokens at an index. -/
theorem padded_apply (b : Fin 16) (u : Fin 286) (p : Fin 2048) :
    (res_main_v2 V : FVec Ideal S16x286x2048 .f32) (ix3 b u p) = tap (V (Proc.devRef .tc main_arg0)) b u.val p := by
  unfold res_main_v2 tap
  have h0 : (FloatOps.sitofp FTy.f32 (0#32 : BitVec 32) : Ideal .f32) = 0 := by
    show (((0#32 : BitVec 32).toInt : ℝ) : EReal) = 0
    simp
  pointwise
  by_cases h : 15 ≤ u.val ∧ u.val < 271
  · rw [dif_pos h, dif_pos (by omega)]
  · rw [dif_neg h, dif_neg (by omega)]
    exact h0

/-- The reference's convolution at an index. -/
theorem conv_apply (b : Fin 16) (s : Fin 256) (p : Fin 2048) :
    (res_main_v221 V : FVec Ideal S16x256x2048 .f32) (ix3 b s p)
      = convolved (V (Proc.devRef .tc main_arg0)) (V (Proc.devRef .tc main_arg1)) (V (Proc.devRef .tc main_arg2)) b s p := by
  unfold convolved
  have hx : ∀ (j : Fin 31), tap (V (Proc.devRef .tc main_arg0)) b (s.val + j.val) p = (res_main_v2 V : FVec Ideal S16x286x2048 .f32) (ix3 b ⟨s.val + j.val, by omega⟩ p) :=
    fun j => (padded_apply V b ⟨s.val + j.val, by omega⟩ p).symm
  simp only [hx]
  unfold res_main_v221 res_main_v151 res_main_v74
  generalize (res_main_v2 V : FVec Ideal S16x286x2048 .f32) = P
  generalize V (Proc.devRef .tc main_arg1) = W
  generalize V (Proc.devRef .tc main_arg2) = B
  pointwise
  have hP : ∀ (n n' : Fin 286), n.val = n'.val → P (ix3 b n p) = P (ix3 b n' p) := fun n n' h => by rw [Fin.ext h]
  have hW : ∀ (n n' : Fin 31), n.val = n'.val → W (ix2 n p) = W (ix2 n' p) := fun n n' h => by rw [Fin.ext h]
  refine Eq.trans ?_ (add_comm (G := EReal) _ _)
  simp only [Fin.sum_univ_castSucc, Fin.sum_univ_zero, zero_add, ← add_assoc]
  repeat' refine congrArg₂ (· + ·) ?_ ?_
  all_goals first
    | rfl
    | refine congrArg₂ (· * ·) (hP _ _ ?_) (hW _ _ ?_)
  all_goals simp
  all_goals omega

/-- The reference's mean at an index. -/
theorem mean_apply (b : Fin 16) (s : Fin 256) (u : Fin 1) :
    (res_main_v225 V : FVec Ideal S16x256x1 .f32) (ix3 b s u)
      = rowMean (fun p => (res_main_v221 V : FVec Ideal S16x256x2048 .f32) (ix3 b s p)) := by
  unfold res_main_v225 rowMean
  generalize (res_main_v221 V : FVec Ideal S16x256x2048 .f32) = P
  pointwise

/-- The reference's centred rows at an index. -/
theorem centred_apply (b : Fin 16) (s : Fin 256) (p : Fin 2048) :
    (res_main_v227 V : FVec Ideal S16x256x2048 .f32) (ix3 b s p)
      = centred (fun p => (res_main_v221 V : FVec Ideal S16x256x2048 .f32) (ix3 b s p)) p := by
  unfold res_main_v227 centred
  rw [← mean_apply V b s 0]
  generalize (res_main_v221 V : FVec Ideal S16x256x2048 .f32) = P
  generalize (res_main_v225 V : FVec Ideal S16x256x1 .f32) = M
  pointwise

/-- The reference's normed rows at an index. -/
theorem normed_apply (b : Fin 16) (s : Fin 256) (p : Fin 2048) (y : Fin 2048 → EReal)
    (hy : ∀ p, (res_main_v221 V : FVec Ideal S16x256x2048 .f32) (ix3 b s p) = y p) :
    (res_main_v245 V : FVec Ideal S16x256x2048 .f32) (ix3 b s p)
      = centred y p * rowScale y * (V (Proc.devRef .tc main_arg3) : FVec Ideal S2048 .f32) (ix1 p)
        + (V (Proc.devRef .tc main_arg4) : FVec Ideal S2048 .f32) (ix1 p) := by
  have hc : ∀ p, centred y p = (res_main_v227 V : FVec Ideal S16x256x2048 .f32) (ix3 b s p) := fun p => by
    rw [centred_apply]
    simp only [hy]
  unfold rowScale rowMean
  simp only [hc]
  have h : (res_main_v227 V : FVec Ideal S16x256x2048 .f32) = subf (res_main_v221 V) (broadcastInDim S16x256x2048 ![0, 1, 2] bcast_S16x256x1_S16x256x2048_0_1_2 (res_main_v225 V)) := rfl
  unfold res_main_v245
  rw [← h]
  generalize (res_main_v227 V : FVec Ideal S16x256x2048 .f32) = P
  generalize V (Proc.devRef .tc main_arg3) = G
  generalize V (Proc.devRef .tc main_arg4) = C
  pointwise

/-- The reference's last steps. -/
def last (Y : FVec Ideal S16x256x2048 .f32) : FVec Ideal S4096x2048 .bf16 :=
  truncf .bf16 (shapeCast _ (transpose S256x16x2048 [1, 0, 2] (mulf Y (Host.divf (broadcastInDim S16x256x2048 ![] bcast_S_S16x256x2048 (constant S_ .f32 0x3F800000#32)) (addf (broadcastInDim S16x256x2048 ![] bcast_S_S16x256x2048 (constant S_ .f32 0x3F800000#32)) (Host.exp (Host.negf Y))))) transposes_S16x256x2048_S256x16x2048_1_0_2) shapeCasts_S256x16x2048_S4096x2048) bitsLt_bf16_f32

/-- The reference's last steps at an index. -/
theorem last_apply (Y : FVec Ideal S16x256x2048 .f32) (R : Fin 4096) (p : Fin 2048) :
    last Y (ix2 R p) = silu (Y (ix3 ⟨R.val % 16, by omega⟩ ⟨R.val / 16, by omega⟩ p)) := by
  unfold last silu
  pointwise

/-- The reference's result. -/
theorem result_eq : last (res_main_v245 V) = fun j : S4096x2048.Idx => spec (V (Proc.devRef .tc main_arg0)) (V (Proc.devRef .tc main_arg1))
    (V (Proc.devRef .tc main_arg2)) (V (Proc.devRef .tc main_arg3)) (V (Proc.devRef .tc main_arg4)) (j 0) (j 1) := by
  have key : ∀ (R : Fin 4096) (p : Fin 2048), last (res_main_v245 V) (ix2 R p) = spec (V (Proc.devRef .tc main_arg0)) (V (Proc.devRef .tc main_arg1))
    (V (Proc.devRef .tc main_arg2)) (V (Proc.devRef .tc main_arg3)) (V (Proc.devRef .tc main_arg4)) R p := fun R p => by
    rw [last_apply, normed_apply V _ _ _ _ (conv_apply V _ _)]
    rfl
  funext j
  rw [Idealize.ShloMosaic.eq_ix2 j]
  exact key _ _

end Cert.Reference13Ideal.Conf

namespace Cert.Proof

open Idealize.ShloMosaic Idealize.SL.Sem

/-- The convolution block leaves its arguments unchanged, and every counter ends at zero. -/
theorem frame_kernel13_ideal : Cert.quiescent_Kernel13Ideal := fun m ρ _ => Cert.Kernel13Ideal.Conf.frame m ρ

/-- The same of the program in floats. -/
theorem frame_kernel13 : Cert.quiescent_Kernel13 := by
  have e : (∀ (m : (ℓ : Loc Cert.Kernel13.nD Cert.Kernel13.τ Cert.Kernel13.sig) → Buf (Elt Bits) ℓ) (ρ : Dev Cert.Kernel13.nD → PrngReg),
      θ_run (Cert.Kernel13Ideal.defs (F := Bits)) (onTc (τ := Cert.Kernel13Ideal.τ) (Cert.Kernel13Ideal.main (F := Bits))) ⟨m, fun _ => 0, ρ⟩ (fun r => (∀ c : Dev Cert.Kernel13Ideal.nD,
    r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)) = (∀ (m : (ℓ : Loc Cert.Kernel13.nD Cert.Kernel13.τ Cert.Kernel13.sig) → Buf (Elt Bits) ℓ) (ρ : Dev Cert.Kernel13.nD → PrngReg),
      θ_run (Cert.Kernel13.defs (F := Bits)) (onTc (τ := Cert.Kernel13.τ) (Cert.Kernel13.main (F := Bits))) ⟨m, fun _ => 0, ρ⟩ (fun r => (∀ c : Dev Cert.Kernel13.nD,
    r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)) := by sl_kernel_rfl
  exact fun m ρ _ => e.mp (fun m ρ => Cert.Kernel13Ideal.Conf.frame (F := Bits) m ρ) m ρ

/-- The reference of the convolution block leaves its arguments unchanged and has no counter. -/
theorem quiescent_reference13 : Cert.quiescent_Reference13Ideal := fun m ρ _ =>
  (θ_run _ _ _).mono (fun r h => ⟨fun c => (h c).2, sem_eq_zero_of_no_sems (by decide) r.2⟩) (Cert.Reference13Ideal.Value.run m ρ)

/-- The convolution block: the kernel's result is the reference's. -/
theorem conf_conv_algebraic : Cert.algebraic_Kernel13Ideal_Reference13Ideal := by
  pair_intro
  · run_from Cert.Kernel13Ideal.Conf.run_result m g
  · run_from Cert.Reference13Ideal.Value.run m' g'
    · obtain ⟨h0, h1, h2, h3, h4⟩ := hagree c
      refine (Cert.Reference13Ideal.Conf.result_eq (StableHlo.launchContents m' c)).trans ?_
      rw [Cert.Kernel13Ideal.Conf.final m c, ← h0, ← h1, ← h2, ← h3, ← h4]

end Cert.Proof

end
-- ==== Proof.Host.lean ====
/-
  The host operations before the two calls: the router's affinities, the choices of every expert, the rows gathered for
  them and the gate of every row, each named and read off the operations.
-/
module

public import proofs.«01_k».proof.Proof.Gen.KernelIdeal.Frame
public import Idealize.ShloMosaic.Lib.Pipeline.ValueKit

@[expose] public section

set_option maxRecDepth 16384

noncomputable section

namespace Cert.KernelIdeal.Experts

open Cert.KernelIdeal
open Idealize.ShloMosaic Idealize.ShloMosaic.TcCoe Idealize.SL.Sem

/-- The exponentials of the router's logits less their row's maximum. -/
def expo (L : FVec Ideal S8192x16 .f32) : FVec Ideal S8192x16 .f32 :=
  Host.exp (subf L (broadcastInDim S8192x16 ![0, 1] Gen.bcast_S8192x1_S8192x16_0_1
    (broadcastInDim S8192x1 ![0] Gen.bcast_S8192_S8192x1_0
      (maximumf (broadcastInDim S8192 ![] Gen.bcast_S_S8192 (constant S_ .f32 0xFF800000#32))
        (Host.reduce FloatOps.maximumf L (constant S_ .f32 0xFF800000#32) Gen.reducesTo_S8192x16_S8192_d1 Gen.h_S_)))))

/-- The affinities of every token for every expert: the softmax of the logits over the experts. -/
def aff (L : FVec Ideal S8192x16 .f32) : FVec Ideal S8192x16 .f32 :=
  Host.divf (expo L) (broadcastInDim S8192x16 ![0, 1] Gen.bcast_S8192x1_S8192x16_0_1
    (broadcastInDim S8192x1 ![0] Gen.bcast_S8192_S8192x1_0
      (Host.reduceAdd (expo L) (constant S_ .f32 0x00000000#32) Gen.reducesTo_S8192x16_S8192_d1 Gen.h_S_)))

/-- The first run's affinities, per request, expert and token. -/
def affP (L : FVec Ideal S8192x16 .f32) : FVec Ideal S16x16x256 .f32 :=
  transpose S16x16x256 [0, 2, 1] (shapeCast _ (extractStridedSlice S4096x16 ![0, 0] (aff L) Gen.slices_S8192x16_S4096x16_0_0)
    Gen.shapeCasts_S4096x16_S16x256x16) Gen.transposes_S16x256x16_S16x16x256_0_2_1

/-- The second run's affinities, per request, expert and token. -/
def affS (L : FVec Ideal S8192x16 .f32) : FVec Ideal S4x16x1024 .f32 :=
  transpose S4x16x1024 [0, 2, 1] (shapeCast _ (extractStridedSlice S4096x16 ![4096, 0] (aff L) Gen.slices_S8192x16_S4096x16_4096_0)
    Gen.shapeCasts_S4096x16_S4x1024x16) Gen.transposes_S4x1024x16_S4x16x1024_0_2_1

/-- The gates and positions of the first run's choices. -/
def topP (L : FVec Ideal S8192x16 .f32) : (S16x16x32.Idx → Elt Ideal .f32) × IVec S16x16x32 32 :=
  Host.topK S16x16x32 2 (FloatOps.cmpfTotal (F := Ideal) (φ := .f32) .gt) (affP L) Gen.sliceFits_S16x16x256_S16x16x32

/-- The gates and positions of the second run's choices. -/
def topS (L : FVec Ideal S8192x16 .f32) : (S4x16x128.Idx → Elt Ideal .f32) × IVec S4x16x128 32 :=
  Host.topK S4x16x128 2 (FloatOps.cmpfTotal (F := Ideal) (φ := .f32) .gt) (affS L) Gen.sliceFits_S4x16x1024_S4x16x128

/-- The rows of the first run's choices among all tokens, expert by expert. -/
def rowP (L : FVec Ideal S8192x16 .f32) : IVec S16x512 32 :=
  shapeCast _ (transpose S16x16x32 [1, 0, 2]
    (addi (addi (broadcastInDim S16x16x32 ![] Gen.bcast_S_S16x16x32 (constantI S_ 32 0#32)) (topP L).2)
      (broadcastInDim S16x16x32 ![0, 1, 2] Gen.bcast_S16x1x1_S16x16x32_0_1_2
        (broadcastInDim S16x1x1 ![0] Gen.bcast_S16_S16x1x1_0
          (muli (iotaInDim S16 32 0) (broadcastInDim S16 ![] Gen.bcast_S_S16 (constantI S_ 32 256#32))))))
    Gen.transposes_S16x16x32_S16x16x32_1_0_2) Gen.shapeCasts_S16x16x32_S16x512

/-- The rows of the second run's choices among all tokens, expert by expert. -/
def rowS (L : FVec Ideal S8192x16 .f32) : IVec S16x512 32 :=
  shapeCast _ (transpose S16x4x128 [1, 0, 2]
    (addi (addi (broadcastInDim S4x16x128 ![] Gen.bcast_S_S4x16x128 (constantI S_ 32 4096#32)) (topS L).2)
      (broadcastInDim S4x16x128 ![0, 1, 2] Gen.bcast_S4x1x1_S4x16x128_0_1_2
        (broadcastInDim S4x1x1 ![0] Gen.bcast_S4_S4x1x1_0
          (muli (iotaInDim S4 32 0) (broadcastInDim S4 ![] Gen.bcast_S_S4 (constantI S_ 32 1024#32))))))
    Gen.transposes_S4x16x128_S16x4x128_1_0_2) Gen.shapeCasts_S16x4x128_S16x512

/-- The rows of all choices, the first run's before the second's. -/
def rows (L : FVec Ideal S8192x16 .f32) : IVec S16x1024 32 :=
  concatenate S16x1024 1 [⟨S16x512, rowP L⟩, ⟨S16x512, rowS L⟩] Gen.concatenates_S16x512_S16x512_S16x1024_d1

/-- The tokens gathered for every expert. -/
def xg (h : FVec Ideal S8192x4096 .f32) (L : FVec Ideal S8192x16 .f32) : FVec Ideal S16x1024x4096 .bf16 :=
  Host.gather gather_S8192x4096_S16x1024x1_S16x1024x4096_2_0_n_n_0_2_14096 (truncf .bf16 h Gen.bitsLt_bf16_f32)
    (broadcastInDim S16x1024x1 ![0, 1] Gen.bcast_S16x1024_S16x1024x1_0_1
      (select (cmpi .slt (rows L) (broadcastInDim S16x1024 ![] Gen.bcast_S_S16x1024 (constantI S_ 32 0#32)))
        (addi (rows L) (broadcastInDim S16x1024 ![] Gen.bcast_S_S16x1024 (constantI S_ 32 8192#32))) (rows L)))

/-- The gate of every gathered row. -/
def gate (L : FVec Ideal S8192x16 .f32) : FVec Ideal S16x1024x1 .f32 :=
  broadcastInDim S16x1024x1 ![0, 1] Gen.bcast_S16x1024_S16x1024x1_0_1
    (concatenate S16x1024 1
      [⟨S16x512, shapeCast S16x512 (transpose S16x16x32 [1, 0, 2] (topP L).1 Gen.transposes_S16x16x32_S16x16x32_1_0_2) Gen.shapeCasts_S16x16x32_S16x512⟩,
       ⟨S16x512, shapeCast S16x512 (transpose S16x4x128 [1, 0, 2] (topS L).1 Gen.transposes_S4x16x128_S16x4x128_1_0_2) Gen.shapeCasts_S16x4x128_S16x512⟩]
      Gen.concatenates_S16x512_S16x512_S16x1024_d1)

open Cert.KernelIdeal.Gen

variable (m : (ℓ : Loc nD τ sig) → Buf (Elt Ideal) ℓ) (ρ : Dev nD → PrngReg)

/-- Two arrays side by side are the same when each of them is. -/
theorem beside {α : Type} {a a' b b' : S16x512.Idx → α} (ha : a = a') (hb : b = b') :
    concatenate S16x1024 1 [⟨S16x512, a⟩, ⟨S16x512, b⟩] Gen.concatenates_S16x512_S16x512_S16x1024_d1
      = concatenate S16x1024 1 [⟨S16x512, a'⟩, ⟨S16x512, b'⟩] Gen.concatenates_S16x512_S16x512_S16x1024_d1 := by
  subst ha; subst hb; rfl

/-- The affinities at the first call's entry. -/
theorem V1_aff (c : Dev nD) : V1 m ρ c main_v11 = aff (m ((c : Thread nD τ).loc main_arg1)) := by
  show StableHlo.after hostOps0 (W0 m ρ c) (Proc.devRef .tc main_v11) = _
  simp only [hostOps0]
  after_results_simp
  rfl
/-- The first run's affinities from all affinities. -/
theorem V1_v14 (c : Dev nD) : V1 m ρ c main_v14 = transpose S16x16x256 [0, 2, 1] (shapeCast S16x256x16 (extractStridedSlice S4096x16 ![0, 0] (V1 m ρ c main_v11) Gen.slices_S8192x16_S4096x16_0_0) Gen.shapeCasts_S4096x16_S16x256x16) Gen.transposes_S16x256x16_S16x16x256_0_2_1 := by
  show StableHlo.after hostOps0 (W0 m ρ c) (Proc.devRef .tc main_v14) = transpose S16x16x256 [0, 2, 1] (shapeCast S16x256x16 (extractStridedSlice S4096x16 ![0, 0] (StableHlo.after hostOps0 (W0 m ρ c) (Proc.devRef .tc main_v11)) Gen.slices_S8192x16_S4096x16_0_0) Gen.shapeCasts_S4096x16_S16x256x16) Gen.transposes_S16x256x16_S16x16x256_0_2_1
  simp only [hostOps0]
  after_results_simp
  first | done | rfl
/-- The second run's affinities from all affinities. -/
theorem V1_v29 (c : Dev nD) : V1 m ρ c main_v29 = transpose S4x16x1024 [0, 2, 1] (shapeCast S4x1024x16 (extractStridedSlice S4096x16 ![4096, 0] (V1 m ρ c main_v11) Gen.slices_S8192x16_S4096x16_4096_0) Gen.shapeCasts_S4096x16_S4x1024x16) Gen.transposes_S4x1024x16_S4x16x1024_0_2_1 := by
  show StableHlo.after hostOps0 (W0 m ρ c) (Proc.devRef .tc main_v29) = transpose S4x16x1024 [0, 2, 1] (shapeCast S4x1024x16 (extractStridedSlice S4096x16 ![4096, 0] (StableHlo.after hostOps0 (W0 m ρ c) (Proc.devRef .tc main_v11)) Gen.slices_S8192x16_S4096x16_4096_0) Gen.shapeCasts_S4096x16_S4x1024x16) Gen.transposes_S4x1024x16_S4x16x1024_0_2_1
  simp only [hostOps0]
  after_results_simp
  first | done | rfl
/-- The first run's gates are the greatest affinities. -/
theorem V1_values (c : Dev nD) : V1 m ρ c main_values = (Host.topK S16x16x32 2 (FloatOps.cmpfTotal (F := Ideal) (φ := .f32) .gt) (V1 m ρ c main_v14) Gen.sliceFits_S16x16x256_S16x16x32).1 := by
  show StableHlo.after hostOps0 (W0 m ρ c) (Proc.devRef .tc main_values) = (Host.topK S16x16x32 2 (FloatOps.cmpfTotal (F := Ideal) (φ := .f32) .gt) (StableHlo.after hostOps0 (W0 m ρ c) (Proc.devRef .tc main_v14)) Gen.sliceFits_S16x16x256_S16x16x32).1
  simp only [hostOps0]
  after_results_simp
  first | done | rfl
/-- The first run's choices are the positions of the greatest affinities. -/
theorem V1_indices (c : Dev nD) : V1 m ρ c main_indices = (Host.topK S16x16x32 2 (FloatOps.cmpfTotal (F := Ideal) (φ := .f32) .gt) (V1 m ρ c main_v14) Gen.sliceFits_S16x16x256_S16x16x32).2 := by
  show StableHlo.after hostOps0 (W0 m ρ c) (Proc.devRef .tc main_indices) = (Host.topK S16x16x32 2 (FloatOps.cmpfTotal (F := Ideal) (φ := .f32) .gt) (StableHlo.after hostOps0 (W0 m ρ c) (Proc.devRef .tc main_v14)) Gen.sliceFits_S16x16x256_S16x16x32).2
  simp only [hostOps0]
  after_results_simp
  first | done | rfl
/-- The second run's gates are the greatest affinities. -/
theorem V1_values_3 (c : Dev nD) : V1 m ρ c main_values_3 = (Host.topK S4x16x128 2 (FloatOps.cmpfTotal (F := Ideal) (φ := .f32) .gt) (V1 m ρ c main_v29) Gen.sliceFits_S4x16x1024_S4x16x128).1 := by
  show StableHlo.after hostOps0 (W0 m ρ c) (Proc.devRef .tc main_values_3) = (Host.topK S4x16x128 2 (FloatOps.cmpfTotal (F := Ideal) (φ := .f32) .gt) (StableHlo.after hostOps0 (W0 m ρ c) (Proc.devRef .tc main_v29)) Gen.sliceFits_S4x16x1024_S4x16x128).1
  simp only [hostOps0]
  after_results_simp
  first | done | rfl
/-- The second run's choices are the positions of the greatest affinities. -/
theorem V1_indices_4 (c : Dev nD) : V1 m ρ c main_indices_4 = (Host.topK S4x16x128 2 (FloatOps.cmpfTotal (F := Ideal) (φ := .f32) .gt) (V1 m ρ c main_v29) Gen.sliceFits_S4x16x1024_S4x16x128).2 := by
  show StableHlo.after hostOps0 (W0 m ρ c) (Proc.devRef .tc main_indices_4) = (Host.topK S4x16x128 2 (FloatOps.cmpfTotal (F := Ideal) (φ := .f32) .gt) (StableHlo.after hostOps0 (W0 m ρ c) (Proc.devRef .tc main_v29)) Gen.sliceFits_S4x16x1024_S4x16x128).2
  simp only [hostOps0]
  after_results_simp
  first | done | rfl
/-- The first run's rows from its choices. -/
theorem V1_v24 (c : Dev nD) : V1 m ρ c main_v24 = shapeCast S16x512 (transpose S16x16x32 [1, 0, 2] (addi (addi (broadcastInDim S16x16x32 ![] Gen.bcast_S_S16x16x32 (constantI S_ 32 0#32)) (V1 m ρ c main_indices)) (broadcastInDim S16x16x32 ![0, 1, 2] Gen.bcast_S16x1x1_S16x16x32_0_1_2 (broadcastInDim S16x1x1 ![0] Gen.bcast_S16_S16x1x1_0 (muli (iotaInDim S16 32 0) (broadcastInDim S16 ![] Gen.bcast_S_S16 (constantI S_ 32 256#32)))))) Gen.transposes_S16x16x32_S16x16x32_1_0_2) Gen.shapeCasts_S16x16x32_S16x512 := by
  show StableHlo.after hostOps0 (W0 m ρ c) (Proc.devRef .tc main_v24) = shapeCast S16x512 (transpose S16x16x32 [1, 0, 2] (addi (addi (broadcastInDim S16x16x32 ![] Gen.bcast_S_S16x16x32 (constantI S_ 32 0#32)) (StableHlo.after hostOps0 (W0 m ρ c) (Proc.devRef .tc main_indices))) (broadcastInDim S16x16x32 ![0, 1, 2] Gen.bcast_S16x1x1_S16x16x32_0_1_2 (broadcastInDim S16x1x1 ![0] Gen.bcast_S16_S16x1x1_0 (muli (iotaInDim S16 32 0) (broadcastInDim S16 ![] Gen.bcast_S_S16 (constantI S_ 32 256#32)))))) Gen.transposes_S16x16x32_S16x16x32_1_0_2) Gen.shapeCasts_S16x16x32_S16x512
  simp only [hostOps0]
  after_results_simp
  first | done | rfl
/-- The second run's rows from its choices. -/
theorem V1_v39 (c : Dev nD) : V1 m ρ c main_v39 = shapeCast S16x512 (transpose S16x4x128 [1, 0, 2] (addi (addi (broadcastInDim S4x16x128 ![] Gen.bcast_S_S4x16x128 (constantI S_ 32 4096#32)) (V1 m ρ c main_indices_4)) (broadcastInDim S4x16x128 ![0, 1, 2] Gen.bcast_S4x1x1_S4x16x128_0_1_2 (broadcastInDim S4x1x1 ![0] Gen.bcast_S4_S4x1x1_0 (muli (iotaInDim S4 32 0) (broadcastInDim S4 ![] Gen.bcast_S_S4 (constantI S_ 32 1024#32)))))) Gen.transposes_S4x16x128_S16x4x128_1_0_2) Gen.shapeCasts_S16x4x128_S16x512 := by
  show StableHlo.after hostOps0 (W0 m ρ c) (Proc.devRef .tc main_v39) = shapeCast S16x512 (transpose S16x4x128 [1, 0, 2] (addi (addi (broadcastInDim S4x16x128 ![] Gen.bcast_S_S4x16x128 (constantI S_ 32 4096#32)) (StableHlo.after hostOps0 (W0 m ρ c) (Proc.devRef .tc main_indices_4))) (broadcastInDim S4x16x128 ![0, 1, 2] Gen.bcast_S4x1x1_S4x16x128_0_1_2 (broadcastInDim S4x1x1 ![0] Gen.bcast_S4_S4x1x1_0 (muli (iotaInDim S4 32 0) (broadcastInDim S4 ![] Gen.bcast_S_S4 (constantI S_ 32 1024#32)))))) Gen.transposes_S4x16x128_S16x4x128_1_0_2) Gen.shapeCasts_S16x4x128_S16x512
  simp only [hostOps0]
  after_results_simp
  first | done | rfl
/-- The first run's gates, expert by expert. -/
theorem V1_v26 (c : Dev nD) : V1 m ρ c main_v26 = shapeCast S16x512 (transpose S16x16x32 [1, 0, 2] (V1 m ρ c main_values) Gen.transposes_S16x16x32_S16x16x32_1_0_2) Gen.shapeCasts_S16x16x32_S16x512 := by
  show StableHlo.after hostOps0 (W0 m ρ c) (Proc.devRef .tc main_v26) = shapeCast S16x512 (transpose S16x16x32 [1, 0, 2] (StableHlo.after hostOps0 (W0 m ρ c) (Proc.devRef .tc main_values)) Gen.transposes_S16x16x32_S16x16x32_1_0_2) Gen.shapeCasts_S16x16x32_S16x512
  simp only [hostOps0]
  after_results_simp
  first | done | rfl
/-- The second run's gates, expert by expert. -/
theorem V1_v41 (c : Dev nD) : V1 m ρ c main_v41 = shapeCast S16x512 (transpose S16x4x128 [1, 0, 2] (V1 m ρ c main_values_3) Gen.transposes_S4x16x128_S16x4x128_1_0_2) Gen.shapeCasts_S16x4x128_S16x512 := by
  show StableHlo.after hostOps0 (W0 m ρ c) (Proc.devRef .tc main_v41) = shapeCast S16x512 (transpose S16x4x128 [1, 0, 2] (StableHlo.after hostOps0 (W0 m ρ c) (Proc.devRef .tc main_values_3)) Gen.transposes_S4x16x128_S16x4x128_1_0_2) Gen.shapeCasts_S16x4x128_S16x512
  simp only [hostOps0]
  after_results_simp
  first | done | rfl
/-- The first run's rows, in the order of the experts. -/
theorem V1_rowP (c : Dev nD) : V1 m ρ c main_v24 = rowP (m ((c : Thread nD τ).loc main_arg1)) := by
  rw [V1_v24, V1_indices, V1_v14, V1_aff]; rfl
/-- The second run's rows, in the order of the experts. -/
theorem V1_rowS (c : Dev nD) : V1 m ρ c main_v39 = rowS (m ((c : Thread nD τ).loc main_arg1)) := by
  rw [V1_v39, V1_indices_4, V1_v29, V1_aff]; rfl
/-- The first run's gates, in the order of the experts. -/
theorem V1_gateP (c : Dev nD) : V1 m ρ c main_v26 = shapeCast S16x512 (transpose S16x16x32 [1, 0, 2] (topP (m ((c : Thread nD τ).loc main_arg1))).1 Gen.transposes_S16x16x32_S16x16x32_1_0_2) Gen.shapeCasts_S16x16x32_S16x512 := by
  rw [V1_v26, V1_values, V1_v14, V1_aff]; rfl
/-- The second run's gates, in the order of the experts. -/
theorem V1_gateS (c : Dev nD) : V1 m ρ c main_v41 = shapeCast S16x512 (transpose S16x4x128 [1, 0, 2] (topS (m ((c : Thread nD τ).loc main_arg1))).1 Gen.transposes_S4x16x128_S16x4x128_1_0_2) Gen.shapeCasts_S16x4x128_S16x512 := by
  rw [V1_v41, V1_values_3, V1_v29, V1_aff]; rfl
/-- The rows of all choices at the first call's entry. -/
theorem V1_rows (c : Dev nD) : V1 m ρ c main_v42 = rows (m ((c : Thread nD τ).loc main_arg1)) := by
  have eP := V1_rowP m ρ c
  have eS := V1_rowS m ρ c
  change StableHlo.after hostOps0 (W0 m ρ c) (Proc.devRef .tc main_v24) = _ at eP
  change StableHlo.after hostOps0 (W0 m ρ c) (Proc.devRef .tc main_v39) = _ at eS
  show StableHlo.after hostOps0 (W0 m ρ c) (Proc.devRef .tc main_v42) = _
  simp only [hostOps0] at eP eS ⊢
  unfold rows
  rw [← eP, ← eS]
  after_results_simp
  refine beside ?_ ?_ <;> after_results_simp

/-- The gathered tokens from the rows. -/
theorem V1_v50 (c : Dev nD) : V1 m ρ c main_v50 = Host.gather gather_S8192x4096_S16x1024x1_S16x1024x4096_2_0_n_n_0_2_14096 (truncf (F := Ideal) .bf16 (φ := .f32) (s := S8192x4096) (m ((c : Thread nD τ).loc main_arg0)) Gen.bitsLt_bf16_f32)
    (broadcastInDim S16x1024x1 ![0, 1] Gen.bcast_S16x1024_S16x1024x1_0_1
      (select (cmpi .slt (V1 m ρ c main_v42) (broadcastInDim S16x1024 ![] Gen.bcast_S_S16x1024 (constantI S_ 32 0#32)))
        (addi (V1 m ρ c main_v42) (broadcastInDim S16x1024 ![] Gen.bcast_S_S16x1024 (constantI S_ 32 8192#32))) (V1 m ρ c main_v42))) := by
  show StableHlo.after hostOps0 (W0 m ρ c) (Proc.devRef .tc main_v50) = Host.gather gather_S8192x4096_S16x1024x1_S16x1024x4096_2_0_n_n_0_2_14096 (truncf (F := Ideal) .bf16 (φ := .f32) (s := S8192x4096) (m ((c : Thread nD τ).loc main_arg0)) Gen.bitsLt_bf16_f32)
    (broadcastInDim S16x1024x1 ![0, 1] Gen.bcast_S16x1024_S16x1024x1_0_1
      (select (cmpi .slt (StableHlo.after hostOps0 (W0 m ρ c) (Proc.devRef .tc main_v42)) (broadcastInDim S16x1024 ![] Gen.bcast_S_S16x1024 (constantI S_ 32 0#32)))
        (addi (StableHlo.after hostOps0 (W0 m ρ c) (Proc.devRef .tc main_v42)) (broadcastInDim S16x1024 ![] Gen.bcast_S_S16x1024 (constantI S_ 32 8192#32))) (StableHlo.after hostOps0 (W0 m ρ c) (Proc.devRef .tc main_v42))))
  simp only [hostOps0]
  after_results_simp
  first | done | rfl
/-- At the first call's entry its first operand is the gathered tokens. -/
theorem V1_xg (c : Dev nD) : V1 m ρ c main_v50 = xg (m ((c : Thread nD τ).loc main_arg0)) (m ((c : Thread nD τ).loc main_arg1)) := by
  rw [V1_v50, V1_rows]; rfl

/-- At the first call's entry the gates of the gathered rows are in place. -/
theorem V1_gate (c : Dev nD) : V1 m ρ c main_v51 = gate (m ((c : Thread nD τ).loc main_arg1)) := by
  have eP := V1_gateP m ρ c
  have eS := V1_gateS m ρ c
  change StableHlo.after hostOps0 (W0 m ρ c) (Proc.devRef .tc main_v26) = _ at eP
  change StableHlo.after hostOps0 (W0 m ρ c) (Proc.devRef .tc main_v41) = _ at eS
  show StableHlo.after hostOps0 (W0 m ρ c) (Proc.devRef .tc main_v51) = _
  simp only [hostOps0] at eP eS ⊢
  unfold gate
  rw [← eP, ← eS]
  after_results_simp
  refine congrArg (broadcastInDim S16x1024x1 ![0, 1] Gen.bcast_S16x1024_S16x1024x1_0_1) (beside ?_ ?_) <;> after_results_simp

end Cert.KernelIdeal.Experts

end
-- ==== Proof.Affinity.lean ====
/-
  The affinities: the kernel takes the softmax of all tokens' logits at once, the reference of each run's.
-/
module

public import proofs.«01_k».proof.Proof.Host
public import proofs.«01_k».proof.Proof.Gen.ReferenceIdeal
public import Idealize.ShloMosaic.Lib.Pipeline.ValueKit

@[expose] public section

set_option maxRecDepth 16384

noncomputable section

namespace Cert.ReferenceIdeal.Experts

open Cert.ReferenceIdeal
open Idealize.ShloMosaic Idealize.ShloMosaic.TcCoe Idealize.SL.Sem

/-- The first run's logits, per request, token and expert. -/
def logitP (L : FVec Ideal S8192x16 .f32) : FVec Ideal S16x256x16 .f32 :=
  shapeCast _ (extractStridedSlice S4096x16 ![0, 0] L Gen.slices_S8192x16_S4096x16_0_0) Gen.shapeCasts_S4096x16_S16x256x16

/-- The exponentials of the first run's logits less their maximum over the experts. -/
def expoP (L : FVec Ideal S8192x16 .f32) : FVec Ideal S16x256x16 .f32 :=
  Host.exp (subf (logitP L) (broadcastInDim S16x256x16 ![0, 1, 2] Gen.bcast_S16x256x1_S16x256x16_0_1_2
    (broadcastInDim S16x256x1 ![0, 1] Gen.bcast_S16x256_S16x256x1_0_1
      (maximumf (broadcastInDim S16x256 ![] Gen.bcast_S_S16x256 (constant S_ .f32 0xFF800000#32))
        (Host.reduce FloatOps.maximumf (logitP L) (constant S_ .f32 0xFF800000#32) Gen.reducesTo_S16x256x16_S16x256_d2 Gen.h_S_)))))

/-- The first run's affinities, per request, expert and token. -/
def affP (L : FVec Ideal S8192x16 .f32) : FVec Ideal S16x16x256 .f32 :=
  transpose S16x16x256 [0, 2, 1] (Host.divf (expoP L)
    (broadcastInDim S16x256x16 ![0, 1, 2] Gen.bcast_S16x256x1_S16x256x16_0_1_2
      (broadcastInDim S16x256x1 ![0, 1] Gen.bcast_S16x256_S16x256x1_0_1
        (Host.reduceAdd (expoP L) (constant S_ .f32 0x00000000#32) Gen.reducesTo_S16x256x16_S16x256_d2 Gen.h_S_))))
    Gen.transposes_S16x256x16_S16x16x256_0_2_1

/-- The first run's affinities on the two sides agree. -/
theorem affP_eq (L : FVec Ideal S8192x16 .f32) (j : S16x16x256.Idx) :
    affP L j = Cert.KernelIdeal.Experts.affP L j := by
  unfold affP expoP logitP Cert.KernelIdeal.Experts.affP Cert.KernelIdeal.Experts.aff Cert.KernelIdeal.Experts.expo
  pointwise

/-- The second run's logits, per request, token and expert. -/
def logitS (L : FVec Ideal S8192x16 .f32) : FVec Ideal S4x1024x16 .f32 :=
  shapeCast _ (extractStridedSlice S4096x16 ![4096, 0] L Gen.slices_S8192x16_S4096x16_4096_0) Gen.shapeCasts_S4096x16_S4x1024x16

/-- The exponentials of the second run's logits less their maximum over the experts. -/
def expoS (L : FVec Ideal S8192x16 .f32) : FVec Ideal S4x1024x16 .f32 :=
  Host.exp (subf (logitS L) (broadcastInDim S4x1024x16 ![0, 1, 2] Gen.bcast_S4x1024x1_S4x1024x16_0_1_2
    (broadcastInDim S4x1024x1 ![0, 1] Gen.bcast_S4x1024_S4x1024x1_0_1
      (maximumf (broadcastInDim S4x1024 ![] Gen.bcast_S_S4x1024 (constant S_ .f32 0xFF800000#32))
        (Host.reduce FloatOps.maximumf (logitS L) (constant S_ .f32 0xFF800000#32) Gen.reducesTo_S4x1024x16_S4x1024_d2 Gen.h_S_)))))

/-- The second run's affinities, per request, expert and token. -/
def affS (L : FVec Ideal S8192x16 .f32) : FVec Ideal S4x16x1024 .f32 :=
  transpose S4x16x1024 [0, 2, 1] (Host.divf (expoS L)
    (broadcastInDim S4x1024x16 ![0, 1, 2] Gen.bcast_S4x1024x1_S4x1024x16_0_1_2
      (broadcastInDim S4x1024x1 ![0, 1] Gen.bcast_S4x1024_S4x1024x1_0_1
        (Host.reduceAdd (expoS L) (constant S_ .f32 0x00000000#32) Gen.reducesTo_S4x1024x16_S4x1024_d2 Gen.h_S_))))
    Gen.transposes_S4x1024x16_S4x16x1024_0_2_1

/-- The second run's affinities on the two sides agree. -/
theorem affS_eq (L : FVec Ideal S8192x16 .f32) (j : S4x16x1024.Idx) :
    affS L j = Cert.KernelIdeal.Experts.affS L j := by
  unfold affS expoS logitS Cert.KernelIdeal.Experts.affS Cert.KernelIdeal.Experts.aff Cert.KernelIdeal.Experts.expo
  pointwise

/-- The gates and positions of the first run's choices: every expert takes its greatest affinities in every request. -/
def topP (L : FVec Ideal S8192x16 .f32) : (S16x16x32.Idx → Elt Ideal .f32) × IVec S16x16x32 32 :=
  Host.topK S16x16x32 2 (FloatOps.cmpfTotal (F := Ideal) (φ := .f32) .gt) (affP L) Gen.sliceFits_S16x16x256_S16x16x32

/-- The gates and positions of the second run's choices. -/
def topS (L : FVec Ideal S8192x16 .f32) : (S4x16x128.Idx → Elt Ideal .f32) × IVec S4x16x128 32 :=
  Host.topK S4x16x128 2 (FloatOps.cmpfTotal (F := Ideal) (φ := .f32) .gt) (affS L) Gen.sliceFits_S4x16x1024_S4x16x128

/-- The first run's choices on the two sides agree. -/
theorem topP_eq (L : FVec Ideal S8192x16 .f32) : topP L = Cert.KernelIdeal.Experts.topP L :=
  congrArg (fun A => Host.topK S16x16x32 2 (FloatOps.cmpfTotal (F := Ideal) (φ := .f32) .gt) A Gen.sliceFits_S16x16x256_S16x16x32)
    (funext fun j => affP_eq L j)

/-- The second run's choices on the two sides agree. -/
theorem topS_eq (L : FVec Ideal S8192x16 .f32) : topS L = Cert.KernelIdeal.Experts.topS L :=
  congrArg (fun A => Host.topK S4x16x128 2 (FloatOps.cmpfTotal (F := Ideal) (φ := .f32) .gt) A Gen.sliceFits_S4x16x1024_S4x16x128)
    (funext fun j => affS_eq L j)

/-- A position among the greatest is a coordinate of the sorted axis. -/
theorem topK_position {s t : Shape} {α : Type} (d : Nat) (hd : d < s.rank) (gt : α → α → BitVec 1) (x : s.Idx → α)
    (h : s.Slices (fun _ => 0) t) (j : t.Idx) :
    ∃ k, k < s.size ⟨d, hd⟩ ∧ (Host.topK t d gt x h).2 j = BitVec.ofNat 32 k := by
  unfold Host.topK Host.sort2
  simp only [dif_pos hd, extractStridedSlice, iotaInDim]
  exact ⟨_, Fin.isLt _, rfl⟩

/-- A position of the first run's choices is a token of its request. -/
theorem topP_position (L : FVec Ideal S8192x16 .f32) (j : S16x16x32.Idx) : ∃ k, k < 256 ∧ (topP L).2 j = BitVec.ofNat 32 k := by
  obtain ⟨k, hk, e⟩ := topK_position (s := S16x16x256) 2 (by decide) (FloatOps.cmpfTotal (F := Ideal) (φ := .f32) .gt) (affP L) Gen.sliceFits_S16x16x256_S16x16x32 j
  exact ⟨k, hk, e⟩

/-- A position of the second run's choices is a token of its request. -/
theorem topS_position (L : FVec Ideal S8192x16 .f32) (j : S4x16x128.Idx) : ∃ k, k < 1024 ∧ (topS L).2 j = BitVec.ofNat 32 k := by
  obtain ⟨k, hk, e⟩ := topK_position (s := S4x16x1024) 2 (by decide) (FloatOps.cmpfTotal (F := Ideal) (φ := .f32) .gt) (affS L) Gen.sliceFits_S4x16x1024_S4x16x128 j
  exact ⟨k, hk, e⟩

end Cert.ReferenceIdeal.Experts

end
-- ==== Proof.Gather.lean ====
/-
  The gathers of the two sides read at an index: the kernel's takes rows of all tokens, the reference's tokens of a request.
-/
module

public import proofs.«01_k».proof.Proof.Affinity
public import proofs.«01_k».proof.Proof.Gen.ReferenceIdeal
public import Idealize.ShloMosaic.Lib.Pipeline.ValueKit

@[expose] public section

set_option maxRecDepth 16384

noncomputable section

namespace Cert.ReferenceIdeal.Experts

open Cert.ReferenceIdeal
open Idealize.ShloMosaic Idealize.ShloMosaic.TcCoe Idealize.SL.Sem

/-- A small word read signed and clamped is itself. -/
theorem clamp_word (k n : Nat) (hk : k ≤ n) (hn : n < 2 ^ 31) : min (BitVec.ofNat 32 k).toInt.toNat n = k := by
  have h : (BitVec.ofNat 32 k).toInt = (k : Int) := by
    rw [BitVec.toInt_eq_toNat_cond, BitVec.toNat_ofNat, Nat.mod_eq_of_lt (by omega), if_pos (by omega)]
  rw [h]; omega

/-- A small word is not negative. -/
theorem word_not_neg (k : Nat) (hk : k < 2 ^ 31) : IntOp.cmpi .slt (BitVec.ofNat 32 k) 0#32 = 0#1 := by
  have h : (BitVec.ofNat 32 k).toInt = (k : Int) := by
    rw [BitVec.toInt_eq_toNat_cond, BitVec.toNat_ofNat, Nat.mod_eq_of_lt (by omega), if_pos (by omega)]
  have h0 : decide ((k : Int) < 0) = false := decide_eq_false (by omega)
  simp [IntOp.cmpi, BitVec.slt, h, h0]

/-- The first run's gather at an index reads the request's token at the index word, read signed and clamped to the tokens. -/
theorem gather_first {α : Type} (x : S16x256x4096.Idx → α) (idx : IVec S16x16x32x1 32) (j : S16x16x32x4096.Idx) :
    Host.gather gather_S16x256x4096_S16x16x32x1_S16x16x32x4096_3_1_0_0_1_3_114096 x idx j
      = x (ix3 (j 0) ⟨min (idx (ix4 (j 0) (j 1) (j 2) 0)).toInt.toNat (256 - 1), by omega⟩ (j 3)) := by
  unfold Host.gather
  congr 1
  funext a
  refine Fin.ext ?_
  show GatherDims.start _ j idx a + GatherDims.batchCoord _ j a + GatherDims.offCoord _ j a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16x256x4096_S16x16x32x1_S16x16x32x4096_3_1_0_0_1_3_114096.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x256x4096_S16x16x32x1_S16x16x32x4096_3_1_0_0_1_3_114096.startIndexMap from List.mem_singleton.mpr rfl)]
    refine congrArg (fun i => min (idx i).toInt.toNat (256 - 1)) ?_
    funext b; refine Fin.ext ?_
    match b with
    | ⟨0, _⟩ => rfl
    | ⟨1, _⟩ => rfl
    | ⟨2, _⟩ => rfl
    | ⟨3, _⟩ => rfl
  · rw [GatherDims.batchCoord_eq_zero _ _ _ (fun h => absurd (List.mem_singleton.mp h) (by decide))]
    unfold GatherDims.start
    rw [dif_neg (show ¬ (2 : Fin 3) ∈ gather_S16x256x4096_S16x16x32x1_S16x16x32x4096_3_1_0_0_1_3_114096.startIndexMap from fun h => absurd (List.mem_singleton.mp h) (by decide))]
    unfold GatherDims.offCoord
    rw [dif_pos ((GatherDims.mem_sKept gather_S16x256x4096_S16x16x32x1_S16x16x32x4096_3_1_0_0_1_3_114096 (2 : Fin 3)).mpr ⟨fun h => absurd (List.mem_singleton.mp h) (by decide), fun h => absurd (List.mem_singleton.mp h) (by decide)⟩)]
    simp only [Nat.zero_add]
    rfl

/-- The second run's gather at an index reads the request's token at the index word, read signed and clamped to the tokens. -/
theorem gather_second {α : Type} (x : S4x1024x4096.Idx → α) (idx : IVec S4x16x128x1 32) (j : S4x16x128x4096.Idx) :
    Host.gather gather_S4x1024x4096_S4x16x128x1_S4x16x128x4096_3_1_0_0_1_3_114096 x idx j
      = x (ix3 (j 0) ⟨min (idx (ix4 (j 0) (j 1) (j 2) 0)).toInt.toNat (1024 - 1), by omega⟩ (j 3)) := by
  unfold Host.gather
  congr 1
  funext a
  refine Fin.ext ?_
  show GatherDims.start _ j idx a + GatherDims.batchCoord _ j a + GatherDims.offCoord _ j a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x1024x4096_S4x16x128x1_S4x16x128x4096_3_1_0_0_1_3_114096.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x1024x4096_S4x16x128x1_S4x16x128x4096_3_1_0_0_1_3_114096.startIndexMap from List.mem_singleton.mpr rfl)]
    refine congrArg (fun i => min (idx i).toInt.toNat (1024 - 1)) ?_
    funext b; refine Fin.ext ?_
    match b with
    | ⟨0, _⟩ => rfl
    | ⟨1, _⟩ => rfl
    | ⟨2, _⟩ => rfl
    | ⟨3, _⟩ => rfl
  · rw [GatherDims.batchCoord_eq_zero _ _ _ (fun h => absurd (List.mem_singleton.mp h) (by decide))]
    unfold GatherDims.start
    rw [dif_neg (show ¬ (2 : Fin 3) ∈ gather_S4x1024x4096_S4x16x128x1_S4x16x128x4096_3_1_0_0_1_3_114096.startIndexMap from fun h => absurd (List.mem_singleton.mp h) (by decide))]
    unfold GatherDims.offCoord
    rw [dif_pos ((GatherDims.mem_sKept gather_S4x1024x4096_S4x16x128x1_S4x16x128x4096_3_1_0_0_1_3_114096 (2 : Fin 3)).mpr ⟨fun h => absurd (List.mem_singleton.mp h) (by decide), fun h => absurd (List.mem_singleton.mp h) (by decide)⟩)]
    simp only [Nat.zero_add]
    rfl

/-- The gather at an index whose word is a token's number. -/
theorem gather_first_at {α : Type} (x : S16x256x4096.Idx → α) (idx : IVec S16x16x32x1 32) (b : Fin 16) (e : Fin 16) (c : Fin 32) (d : Fin 4096)
    (k : Nat) (hk : k < 256) (h : idx (ix4 b e c 0) = BitVec.ofNat 32 k) :
    Host.gather gather_S16x256x4096_S16x16x32x1_S16x16x32x4096_3_1_0_0_1_3_114096 x idx (ix4 b e c d) = x (ix3 b ⟨k, hk⟩ d) := by
  rw [gather_first]
  refine congrArg x ?_
  funext a
  match a with
  | ⟨0, _⟩ => rfl
  | ⟨1, _⟩ => exact Fin.ext ((congrArg (fun w : BitVec 32 => min w.toInt.toNat (256 - 1)) h).trans (clamp_word k _ (by omega) (by decide)))
  | ⟨2, _⟩ => rfl

/-- The gather at an index whose word is a token's number. -/
theorem gather_second_at {α : Type} (x : S4x1024x4096.Idx → α) (idx : IVec S4x16x128x1 32) (b : Fin 4) (e : Fin 16) (c : Fin 128) (d : Fin 4096)
    (k : Nat) (hk : k < 1024) (h : idx (ix4 b e c 0) = BitVec.ofNat 32 k) :
    Host.gather gather_S4x1024x4096_S4x16x128x1_S4x16x128x4096_3_1_0_0_1_3_114096 x idx (ix4 b e c d) = x (ix3 b ⟨k, hk⟩ d) := by
  rw [gather_second]
  refine congrArg x ?_
  funext a
  match a with
  | ⟨0, _⟩ => rfl
  | ⟨1, _⟩ => exact Fin.ext ((congrArg (fun w : BitVec 32 => min w.toInt.toNat (1024 - 1)) h).trans (clamp_word k _ (by omega) (by decide)))
  | ⟨2, _⟩ => rfl

end Cert.ReferenceIdeal.Experts

namespace Cert.KernelIdeal.Experts

open Cert.KernelIdeal
open Idealize.ShloMosaic Idealize.ShloMosaic.TcCoe Idealize.SL.Sem

/-- The kernel's gather at an index reads the row at the index word, read signed and clamped to the rows. -/
theorem gather_rows {α : Type} (x : S8192x4096.Idx → α) (idx : IVec S16x1024x1 32) (j : S16x1024x4096.Idx) :
    Host.gather gather_S8192x4096_S16x1024x1_S16x1024x4096_2_0_n_n_0_2_14096 x idx j
      = x (ix2 ⟨min (idx (ix3 (j 0) (j 1) 0)).toInt.toNat (8192 - 1), by omega⟩ (j 2)) := by
  unfold Host.gather
  congr 1
  funext a
  refine Fin.ext ?_
  show GatherDims.start _ j idx a + GatherDims.batchCoord _ j a + GatherDims.offCoord _ j a = _
  have h : a = 0 ∨ a = 1 := by
    match a with
    | ⟨0, _⟩ => exact Or.inl rfl
    | ⟨1, _⟩ => exact Or.inr rfl
  rcases h with rfl | rfl
  · rw [GatherDims.batchCoord_eq_zero _ _ _ (fun h => absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x4096_S16x1024x1_S16x1024x4096_2_0_n_n_0_2_14096.startIndexMap from List.mem_singleton.mpr rfl)]
    refine congrArg (fun i => min (idx i).toInt.toNat (8192 - 1)) ?_
    funext b; refine Fin.ext ?_
    match b with
    | ⟨0, _⟩ => rfl
    | ⟨1, _⟩ => rfl
    | ⟨2, _⟩ => rfl
  · rw [GatherDims.batchCoord_eq_zero _ _ _ (fun h => absurd h List.not_mem_nil)]
    unfold GatherDims.start
    rw [dif_neg (show ¬ (1 : Fin 2) ∈ gather_S8192x4096_S16x1024x1_S16x1024x4096_2_0_n_n_0_2_14096.startIndexMap from fun h => absurd (List.mem_singleton.mp h) (by decide))]
    unfold GatherDims.offCoord
    rw [dif_pos ((GatherDims.mem_sKept gather_S8192x4096_S16x1024x1_S16x1024x4096_2_0_n_n_0_2_14096 (1 : Fin 2)).mpr ⟨fun h => absurd (List.mem_singleton.mp h) (by decide), List.not_mem_nil⟩)]
    simp only [Nat.zero_add]
    rfl

/-- The gather at an index whose word is a row's number. -/
theorem gather_rows_at {α : Type} (x : S8192x4096.Idx → α) (idx : IVec S16x1024x1 32) (e : Fin 16) (r : Fin 1024) (d : Fin 4096)
    (k : Nat) (hk : k < 8192) (h : idx (ix3 e r 0) = BitVec.ofNat 32 k) :
    Host.gather gather_S8192x4096_S16x1024x1_S16x1024x4096_2_0_n_n_0_2_14096 x idx (ix3 e r d) = x (ix2 ⟨k, hk⟩ d) := by
  rw [gather_rows]
  refine congrArg x ?_
  funext a
  match a with
  | ⟨0, _⟩ => exact Fin.ext ((congrArg (fun w : BitVec 32 => min w.toInt.toNat (8192 - 1)) h).trans (Cert.ReferenceIdeal.Experts.clamp_word k _ (by omega) (by decide)))
  | ⟨1, _⟩ => rfl

/-- The rows at a place of the first half are the first run's. -/
theorem rows_left (L : FVec Ideal S8192x16 .f32) (b : Fin 16) (e : Fin 16) (c : Fin 32) :
    rows L (ix2 e ⟨b.val * 32 + c.val, by omega⟩)
      = (0#32 + (topP L).2 (ix3 b e c)) + BitVec.ofNat 32 b.val * 256#32 := by
  unfold rows rowP
  pointwise
  first | rfl | (rw [dif_pos (by omega)]; rfl)

/-- The rows at a place of the second half are the second run's. -/
theorem rows_right (L : FVec Ideal S8192x16 .f32) (b : Fin 4) (e : Fin 16) (c : Fin 128) :
    rows L (ix2 e ⟨512 + (b.val * 128 + c.val), by omega⟩)
      = (4096#32 + (topS L).2 (ix3 b e c)) + BitVec.ofNat 32 b.val * 1024#32 := by
  unfold rows rowS
  pointwise
  first | rfl | (rw [dif_pos (by omega)]; rfl)

end Cert.KernelIdeal.Experts

end
-- ==== Proof.Route.lean ====
/-
  The gathered tokens and gates of the two sides agree: place `b * 32 + c` (or `512 + b * 128 + c`) of an expert's rows holds
  its `c`-th choice in request `b`.
-/
module

public import proofs.«01_k».proof.Proof.Gather
public import proofs.«01_k».proof.Proof.Gen.ReferenceIdeal
public import Idealize.ShloMosaic.Lib.Pipeline.ValueKit

@[expose] public section

set_option maxRecDepth 16384

noncomputable section

namespace Cert.ReferenceIdeal.Experts

open Cert.ReferenceIdeal
open Idealize.ShloMosaic Idealize.ShloMosaic.TcCoe Idealize.SL.Sem

/-- The first run's tokens as the reference gathers them. -/
def tokP (h : FVec Ideal S8192x4096 .f32) (L : FVec Ideal S8192x16 .f32) : FVec Ideal S16x16x32x4096 .f32 :=
  Host.gather gather_S16x256x4096_S16x16x32x1_S16x16x32x4096_3_1_0_0_1_3_114096
    (shapeCast _ (extractStridedSlice S4096x4096 ![0, 0] h Gen.slices_S8192x4096_S4096x4096_0_0) Gen.shapeCasts_S4096x4096_S16x256x4096)
    (broadcastInDim S16x16x32x1 ![0, 1, 2] Gen.bcast_S16x16x32_S16x16x32x1_0_1_2
      (select (cmpi .slt (topP L).2 (broadcastInDim S16x16x32 ![] Gen.bcast_S_S16x16x32 (constantI S_ 32 0#32)))
        (addi (topP L).2 (broadcastInDim S16x16x32 ![] Gen.bcast_S_S16x16x32 (constantI S_ 32 256#32))) (topP L).2))

/-- The reference's token of a choice of the first run is the kernel's at the choice's place. -/
theorem tokP_eq (h : FVec Ideal S8192x4096 .f32) (L : FVec Ideal S8192x16 .f32) (b : Fin 16) (e : Fin 16) (c : Fin 32) (d : Fin 4096) :
    tokP h L (ix4 b e c d) = Cert.KernelIdeal.Experts.xg h L (ix3 e ⟨b.val * 32 + c.val, by omega⟩ d) := by
  obtain ⟨k, hk, hw⟩ := topP_position L (ix3 b e c)
  have hr := Cert.KernelIdeal.Experts.rows_left L b e c
  rw [← topP_eq, show (topP L).2 (Idealize.ShloMosaic.ix3 b e c) = BitVec.ofNat 32 k from hw] at hr
  have hr' : Cert.KernelIdeal.Experts.rows L (ix2 e ⟨b.val * 32 + c.val, by omega⟩) = BitVec.ofNat 32 (b.val * 256 + k) := by
    rw [hr]
    apply BitVec.eq_of_toNat_eq
    have hb := b.isLt
    simp only [BitVec.toNat_add, BitVec.toNat_mul, BitVec.toNat_ofNat]
    omega
  have hb := b.isLt
  unfold tokP Cert.KernelIdeal.Experts.xg
  rw [gather_first_at (b := b) (e := e) (c := c) (d := d) (k := k) (hk := hk) (h := ?_),
    Cert.KernelIdeal.Experts.gather_rows_at (e := e) (r := ⟨b.val * 32 + c.val, by omega⟩) (d := d) (k := b.val * 256 + k) (hk := by omega) (h := ?_)]
  · pointwise
  · pointwise
    rw [hr', word_not_neg _ (by omega)]
    rfl
  · pointwise
    rw [show (topP L).2 (Idealize.ShloMosaic.ix3 b e c) = BitVec.ofNat 32 k from hw, word_not_neg _ (by omega)]
    rfl

/-- The gate of a choice of the first run is the kernel's at the choice's place. -/
theorem gateP_eq (L : FVec Ideal S8192x16 .f32) (b : Fin 16) (e : Fin 16) (c : Fin 32) :
    (topP L).1 (ix3 b e c) = Cert.KernelIdeal.Experts.gate L (ix3 e ⟨b.val * 32 + c.val, by omega⟩ 0) := by
  rw [topP_eq]
  unfold Cert.KernelIdeal.Experts.gate
  pointwise
  first | done | rfl | rw [dif_pos (by omega)]

/-- The second run's tokens as the reference gathers them. -/
def tokS (h : FVec Ideal S8192x4096 .f32) (L : FVec Ideal S8192x16 .f32) : FVec Ideal S4x16x128x4096 .f32 :=
  Host.gather gather_S4x1024x4096_S4x16x128x1_S4x16x128x4096_3_1_0_0_1_3_114096
    (shapeCast _ (extractStridedSlice S4096x4096 ![4096, 0] h Gen.slices_S8192x4096_S4096x4096_4096_0) Gen.shapeCasts_S4096x4096_S4x1024x4096)
    (broadcastInDim S4x16x128x1 ![0, 1, 2] Gen.bcast_S4x16x128_S4x16x128x1_0_1_2
      (select (cmpi .slt (topS L).2 (broadcastInDim S4x16x128 ![] Gen.bcast_S_S4x16x128 (constantI S_ 32 0#32)))
        (addi (topS L).2 (broadcastInDim S4x16x128 ![] Gen.bcast_S_S4x16x128 (constantI S_ 32 1024#32))) (topS L).2))

/-- The reference's token of a choice of the second run is the kernel's at the choice's place. -/
theorem tokS_eq (h : FVec Ideal S8192x4096 .f32) (L : FVec Ideal S8192x16 .f32) (b : Fin 4) (e : Fin 16) (c : Fin 128) (d : Fin 4096) :
    tokS h L (ix4 b e c d) = Cert.KernelIdeal.Experts.xg h L (ix3 e ⟨512 + (b.val * 128 + c.val), by omega⟩ d) := by
  obtain ⟨k, hk, hw⟩ := topS_position L (ix3 b e c)
  have hr := Cert.KernelIdeal.Experts.rows_right L b e c
  rw [← topS_eq, show (topS L).2 (Idealize.ShloMosaic.ix3 b e c) = BitVec.ofNat 32 k from hw] at hr
  have hr' : Cert.KernelIdeal.Experts.rows L (ix2 e ⟨512 + (b.val * 128 + c.val), by omega⟩) = BitVec.ofNat 32 (4096 + (b.val * 1024 + k)) := by
    rw [hr]
    apply BitVec.eq_of_toNat_eq
    have hb := b.isLt
    simp only [BitVec.toNat_add, BitVec.toNat_mul, BitVec.toNat_ofNat]
    omega
  have hb := b.isLt
  unfold tokS Cert.KernelIdeal.Experts.xg
  rw [gather_second_at (b := b) (e := e) (c := c) (d := d) (k := k) (hk := hk) (h := ?_),
    Cert.KernelIdeal.Experts.gather_rows_at (e := e) (r := ⟨512 + (b.val * 128 + c.val), by omega⟩) (d := d) (k := 4096 + (b.val * 1024 + k)) (hk := by omega) (h := ?_)]
  · pointwise
  · pointwise
    rw [hr', word_not_neg _ (by omega)]
    rfl
  · pointwise
    rw [show (topS L).2 (Idealize.ShloMosaic.ix3 b e c) = BitVec.ofNat 32 k from hw, word_not_neg _ (by omega)]
    rfl

/-- The gate of a choice of the second run is the kernel's at the choice's place. -/
theorem gateS_eq (L : FVec Ideal S8192x16 .f32) (b : Fin 4) (e : Fin 16) (c : Fin 128) :
    (topS L).1 (ix3 b e c) = Cert.KernelIdeal.Experts.gate L (ix3 e ⟨512 + (b.val * 128 + c.val), by omega⟩ 0) := by
  rw [topS_eq]
  unfold Cert.KernelIdeal.Experts.gate
  pointwise
  first | done | rfl | rw [dif_pos (by omega)]

end Cert.ReferenceIdeal.Experts

end
-- ==== Proof.Up.lean ====
/-
  The first call of the routed experts: the hidden activations of every expert on its rows.
-/
module

public import proofs.«01_k».proof.Proof.Gen.KernelIdeal.Frame
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the first call's windows in closed form, decided over the grid. -/
theorem idx0 : ∀ t : Fin cfg0.N, win0_0.index t = ![(grid0.coords t 0).val, 0, 0]
    ∧ win0_1.index t = ![1, (grid0.coords t 0).val, 0, (grid0.coords t 1).val]
    ∧ win0_2.index t = ![1, (grid0.coords t 0).val, 0, (grid0.coords t 1).val]
    ∧ win0_3.index t = ![(grid0.coords t 0).val, 0, (grid0.coords t 1).val] :=
  (by decide +kernel : ∀ t : Fin grid0.N, _)

/-- The hidden activations of the experts of the layer: for expert `j 0` and its row `j 1`, the gate product at its SiLU
    times the up product. -/
def hid (X : FVec Ideal S16x1024x4096 .bf16) (G U : FVec Ideal S4x16x4096x1536 .f32) : FVec Ideal S16x1024x1536 .bf16 :=
  fun j => (∑ k : Fin 4096, X (ix3 (j 0) (j 1) k) * G (ix4 1 (j 0) k (j 2)))
    * Ideal.div 1 (1 + Ideal.exp (0 - ∑ k : Fin 4096, X (ix3 (j 0) (j 1) k) * G (ix4 1 (j 0) k (j 2))))
    * ∑ k : Fin 4096, X (ix3 (j 0) (j 1) k) * U (ix4 1 (j 0) k (j 2))

/-- What the body stores at an index of its block is the hidden activation at the place of that index in the array. -/
theorem point0 (c : Dev nD) (t : Fin cfg0.N) (y) :
    k0_pay1 (F := Ideal) (iblk0 V c 0 t) (iblk0 V c 1 t) (iblk0 V c 2 t) y
      = hid (V c main_v50) (V c main_arg2) (V c main_arg3) (((cfg0.win 3).blk t).view.emb y) := by
  pointwise [k0_pay1]
  unfold hid
  blk_point [iblk0, idx0 t]

/-- After the first call its result array holds the hidden activations of its operands at entry. -/
theorem final0 (c : Dev nD) : (dat0 V c).arrAt 3 cfg0.N = hid (V c main_v50) (V c main_arg2) (V c main_arg3) := by
  refine (dat0 V c).arrAt_eq_of_covers 3 _ (by decide +kernel) fun t _ y => ?_
  blk_simp
  rw [after0_3]; frame_out
  exact point0 V c t y

end Cert.KernelIdeal.Experts

end
-- ==== Proof.Down.lean ====
/-
  The second call of the routed experts: the expert outputs of every row, scaled by the row's gate.
-/
module

public import proofs.«01_k».proof.Proof.Gen.KernelIdeal.Frame
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the second call's windows in closed form, decided over the grid. -/
theorem idx1 : ∀ t : Fin cfg1.N, win1_0.index t = ![(grid1.coords t 0).val, 0, 0]
    ∧ win1_1.index t = ![1, (grid1.coords t 0).val, 0, (grid1.coords t 1).val]
    ∧ win1_2.index t = ![(grid1.coords t 0).val, 0, 0]
    ∧ win1_3.index t = ![0, (grid1.coords t 0).val, 0, (grid1.coords t 1).val]
    ∧ win1_4.index t = ![0, (grid1.coords t 0).val, 0, (grid1.coords t 1).val] :=
  (by decide +kernel : ∀ t : Fin grid1.N, _)

/-- The expert outputs of the first run of requests: expert `j 1`, the `j 2`-th choice of request `j 0`, at its row of the
    activations, scaled by the row's gate. -/
def outP (A : FVec Ideal S16x1024x1536 .bf16) (D : FVec Ideal S4x16x1536x4096 .f32) (W : FVec Ideal S16x1024x1 .f32) :
    FVec Ideal S16x16x32x4096 .f32 :=
  fun j => (∑ k : Fin 1536, A (ix3 (j 1) ⟨(j 0).val * 32 + (j 2).val, by have := (j 0).isLt; have := (j 2).isLt; simp [S16x16x32x4096] at *; omega⟩ k) * D (ix4 1 (j 1) k (j 3)))
    * W (ix3 (j 1) ⟨(j 0).val * 32 + (j 2).val, by have := (j 0).isLt; have := (j 2).isLt; simp [S16x16x32x4096] at *; omega⟩ 0)

/-- What the body stores at an index of the first result's block is the scaled expert output at the place of that index. -/
theorem point1_3 (c : Dev nD) (t : Fin cfg1.N) (y) :
    k1_pay2 (F := Ideal) (iblk1 V c 0 t) (iblk1 V c 1 t) (iblk1 V c 2 t) y
      = outP (V c main_v52) (V c main_arg4) (V c main_v51) (((cfg1.win 3).blk t).view.emb y) := by
  pointwise [k1_pay2, k1_pay1]
  unfold outP
  blk_point [iblk1, idx1 t]

/-- The expert outputs of the second run of requests: expert `j 1`, the `j 2`-th choice of request `j 0`, at its row of the
    activations, scaled by the row's gate. -/
def outS (A : FVec Ideal S16x1024x1536 .bf16) (D : FVec Ideal S4x16x1536x4096 .f32) (W : FVec Ideal S16x1024x1 .f32) :
    FVec Ideal S4x16x128x4096 .f32 :=
  fun j => (∑ k : Fin 1536, A (ix3 (j 1) ⟨512 + ((j 0).val * 128 + (j 2).val), by have := (j 0).isLt; have := (j 2).isLt; simp [S4x16x128x4096] at *; omega⟩ k) * D (ix4 1 (j 1) k (j 3)))
    * W (ix3 (j 1) ⟨512 + ((j 0).val * 128 + (j 2).val), by have := (j 0).isLt; have := (j 2).isLt; simp [S4x16x128x4096] at *; omega⟩ 0)

/-- What the body stores at an index of the second result's block is the scaled expert output at the place of that index. -/
theorem point1_4 (c : Dev nD) (t : Fin cfg1.N) (y) :
    k1_pay3 (F := Ideal) (iblk1 V c 0 t) (iblk1 V c 1 t) (iblk1 V c 2 t) y
      = outS (V c main_v52) (V c main_arg4) (V c main_v51) (((cfg1.win 4).blk t).view.emb y) := by
  pointwise [k1_pay3, k1_pay1]
  unfold outS
  blk_point [iblk1, idx1 t]

/-- After the second call its first result array holds the first run's expert outputs. -/
theorem final1_3 (c : Dev nD) : (dat1 V c).arrAt 3 cfg1.N = outP (V c main_v52) (V c main_arg4) (V c main_v51) := by
  refine (dat1 V c).arrAt_eq_of_covers 3 _ (by decide +kernel) fun t _ y => ?_
  blk_simp
  rw [after1_3]; frame_out
  exact point1_3 V c t y

/-- After the second call its second result array holds the second run's expert outputs. -/
theorem final1_4 (c : Dev nD) : (dat1 V c).arrAt 4 cfg1.N = outS (V c main_v52) (V c main_arg4) (V c main_v51) := by
  refine (dat1 V c).arrAt_eq_of_covers 4 _ (by decide +kernel) fun t _ y => ?_
  blk_simp
  rw [after1_4]; frame_out
  exact point1_4 V c t y

end Cert.KernelIdeal.Experts

end
-- ==== Proof.Mix.lean ====
/-
  The reference's results as sums, and their agreement with the kernel's.
-/
module

public import proofs.«01_k».proof.Proof.Route
public import proofs.«01_k».proof.Proof.Gen.ReferenceIdeal.Run
public import proofs.«01_k».proof.Proof.Up
public import proofs.«01_k».proof.Proof.Down
public import Idealize.ShloMosaic.Lib.Pipeline.ValueKit

@[expose] public section

set_option maxRecDepth 16384

noncomputable section

namespace Cert.ReferenceIdeal.Experts

open Cert.ReferenceIdeal
open Idealize.ShloMosaic Idealize.ShloMosaic.TcCoe Idealize.SL.Sem

/-- The product of the first run's tokens with the layer's matrix of every expert. -/
def upP (X : FVec Ideal S16x16x32x4096 .f32) (G : FVec Ideal S4x16x4096x1536 .f32) : FVec Ideal S16x16x32x1536 .f32 :=
  transpose S16x16x32x1536 [2, 0, 3, 1] (Host.dotGeneral dot_S16x4096x1536_S16x16x32x4096_S16x1536x16x32_1_3_2_02_0_1 none
    (shapeCast _ (extractStridedSlice S1x16x4096x1536 ![1, 0, 0, 0] G Gen.slices_S4x16x4096x1536_S1x16x4096x1536_1_0_0_0) Gen.shapeCasts_S1x16x4096x1536_S16x4096x1536) X)
    Gen.transposes_S16x1536x16x32_S16x16x32x1536_2_0_3_1

/-- The reference's result for the first run, of its gathered tokens and gates. -/
def mixP (X : FVec Ideal S16x16x32x4096 .f32) (G U : FVec Ideal S4x16x4096x1536 .f32) (D : FVec Ideal S4x16x1536x4096 .f32)
    (W : FVec Ideal S16x16x32 .f32) : FVec Ideal S16x16x32x4096 .f32 :=
  mulf (transpose S16x16x32x4096 [2, 0, 3, 1] (Host.dotGeneral dot_S16x1536x4096_S16x16x32x1536_S16x4096x16x32_1_3_2_02_0_1 none
      (shapeCast _ (extractStridedSlice S1x16x1536x4096 ![1, 0, 0, 0] D Gen.slices_S4x16x1536x4096_S1x16x1536x4096_1_0_0_0) Gen.shapeCasts_S1x16x1536x4096_S16x1536x4096)
      (mulf (mulf (upP X G) (Host.divf (broadcastInDim S16x16x32x1536 ![] Gen.bcast_S_S16x16x32x1536 (constant S_ .f32 0x3F800000#32))
        (addf (broadcastInDim S16x16x32x1536 ![] Gen.bcast_S_S16x16x32x1536 (constant S_ .f32 0x3F800000#32)) (Host.exp (Host.negf (upP X G)))))) (upP X U)))
      Gen.transposes_S16x4096x16x32_S16x16x32x4096_2_0_3_1)
    (broadcastInDim S16x16x32x4096 ![0, 1, 2, 3] Gen.bcast_S16x16x32x1_S16x16x32x4096_0_1_2_3 (broadcastInDim S16x16x32x1 ![0, 1, 2] Gen.bcast_S16x16x32_S16x16x32x1_0_1_2 W))

/-- The reference's result for the first run. -/
theorem resP (m : (ℓ : Loc nD τ sig) → Buf (Elt Ideal) ℓ) (c : Dev nD) :
    Value.res_main_v39 m c = mixP (tokP (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4))
      (topP (m ((c.tc : Thread nD τ).loc main_arg1))).1 := by
  unfold Value.res_main_v39
  rfl

/-- The product of the first run's tokens with an expert's matrix, at an index. -/
theorem upP_apply (X : FVec Ideal S16x16x32x4096 .f32) (G : FVec Ideal S4x16x4096x1536 .f32) (b : Fin 16) (e : Fin 16) (c : Fin 32) (f : Fin 1536) :
    upP X G (ix4 b e c f) = ∑ k : Fin 4096, X (ix4 b e c k) * G (ix4 1 e k f) := by
  unfold upP
  pointwise
  exact Finset.sum_congr rfl fun k _ => mul_comm _ _

/-- The reference's result for the first run on the kernel's tokens and gates is the kernel's. -/
theorem mixP_eq (h : FVec Ideal S8192x4096 .f32) (L : FVec Ideal S8192x16 .f32) (G U : FVec Ideal S4x16x4096x1536 .f32) (D : FVec Ideal S4x16x1536x4096 .f32) :
    mixP (tokP h L) G U D (topP L).1
      = Cert.KernelIdeal.Experts.outP (Cert.KernelIdeal.Experts.hid (Cert.KernelIdeal.Experts.xg h L) G U) D (Cert.KernelIdeal.Experts.gate L) := by
  have key : ∀ (b : Fin 16) (e : Fin 16) (c : Fin 32) (d : Fin 4096), mixP (tokP h L) G U D (topP L).1 (ix4 b e c d)
      = Cert.KernelIdeal.Experts.outP (Cert.KernelIdeal.Experts.hid (Cert.KernelIdeal.Experts.xg h L) G U) D (Cert.KernelIdeal.Experts.gate L) (ix4 b e c d) := by
    intro b e c d
    unfold mixP Cert.KernelIdeal.Experts.outP Cert.KernelIdeal.Experts.hid
    pointwise
    rw [gateP_eq]
    refine congrArg (· * _) (Finset.sum_congr rfl fun k _ => ?_)
    rw [mul_comm, upP_apply, upP_apply]
    simp only [tokP_eq, zero_sub]
  funext j
  rw [Idealize.ShloMosaic.eq_ix4 j]
  exact key _ _ _ _

/-- The product of the second run's tokens with the layer's matrix of every expert. -/
def upS (X : FVec Ideal S4x16x128x4096 .f32) (G : FVec Ideal S4x16x4096x1536 .f32) : FVec Ideal S4x16x128x1536 .f32 :=
  transpose S4x16x128x1536 [2, 0, 3, 1] (Host.dotGeneral dot_S16x4096x1536_S4x16x128x4096_S16x1536x4x128_1_3_2_02_0_1 none
    (shapeCast _ (extractStridedSlice S1x16x4096x1536 ![1, 0, 0, 0] G Gen.slices_S4x16x4096x1536_S1x16x4096x1536_1_0_0_0) Gen.shapeCasts_S1x16x4096x1536_S16x4096x1536) X)
    Gen.transposes_S16x1536x4x128_S4x16x128x1536_2_0_3_1

/-- The reference's result for the second run, of its gathered tokens and gates. -/
def mixS (X : FVec Ideal S4x16x128x4096 .f32) (G U : FVec Ideal S4x16x4096x1536 .f32) (D : FVec Ideal S4x16x1536x4096 .f32)
    (W : FVec Ideal S4x16x128 .f32) : FVec Ideal S4x16x128x4096 .f32 :=
  mulf (transpose S4x16x128x4096 [2, 0, 3, 1] (Host.dotGeneral dot_S16x1536x4096_S4x16x128x1536_S16x4096x4x128_1_3_2_02_0_1 none
      (shapeCast _ (extractStridedSlice S1x16x1536x4096 ![1, 0, 0, 0] D Gen.slices_S4x16x1536x4096_S1x16x1536x4096_1_0_0_0) Gen.shapeCasts_S1x16x1536x4096_S16x1536x4096)
      (mulf (mulf (upS X G) (Host.divf (broadcastInDim S4x16x128x1536 ![] Gen.bcast_S_S4x16x128x1536 (constant S_ .f32 0x3F800000#32))
        (addf (broadcastInDim S4x16x128x1536 ![] Gen.bcast_S_S4x16x128x1536 (constant S_ .f32 0x3F800000#32)) (Host.exp (Host.negf (upS X G)))))) (upS X U)))
      Gen.transposes_S16x4096x4x128_S4x16x128x4096_2_0_3_1)
    (broadcastInDim S4x16x128x4096 ![0, 1, 2, 3] Gen.bcast_S4x16x128x1_S4x16x128x4096_0_1_2_3 (broadcastInDim S4x16x128x1 ![0, 1, 2] Gen.bcast_S4x16x128_S4x16x128x1_0_1_2 W))

/-- The reference's result for the second run. -/
theorem resS (m : (ℓ : Loc nD τ sig) → Buf (Elt Ideal) ℓ) (c : Dev nD) :
    Value.res_main_v79 m c = mixS (tokS (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4))
      (topS (m ((c.tc : Thread nD τ).loc main_arg1))).1 := by
  unfold Value.res_main_v79
  rfl

/-- The product of the second run's tokens with an expert's matrix, at an index. -/
theorem upS_apply (X : FVec Ideal S4x16x128x4096 .f32) (G : FVec Ideal S4x16x4096x1536 .f32) (b : Fin 4) (e : Fin 16) (c : Fin 128) (f : Fin 1536) :
    upS X G (ix4 b e c f) = ∑ k : Fin 4096, X (ix4 b e c k) * G (ix4 1 e k f) := by
  unfold upS
  pointwise
  exact Finset.sum_congr rfl fun k _ => mul_comm _ _

/-- The reference's result for the second run on the kernel's tokens and gates is the kernel's. -/
theorem mixS_eq (h : FVec Ideal S8192x4096 .f32) (L : FVec Ideal S8192x16 .f32) (G U : FVec Ideal S4x16x4096x1536 .f32) (D : FVec Ideal S4x16x1536x4096 .f32) :
    mixS (tokS h L) G U D (topS L).1
      = Cert.KernelIdeal.Experts.outS (Cert.KernelIdeal.Experts.hid (Cert.KernelIdeal.Experts.xg h L) G U) D (Cert.KernelIdeal.Experts.gate L) := by
  have key : ∀ (b : Fin 4) (e : Fin 16) (c : Fin 128) (d : Fin 4096), mixS (tokS h L) G U D (topS L).1 (ix4 b e c d)
      = Cert.KernelIdeal.Experts.outS (Cert.KernelIdeal.Experts.hid (Cert.KernelIdeal.Experts.xg h L) G U) D (Cert.KernelIdeal.Experts.gate L) (ix4 b e c d) := by
    intro b e c d
    unfold mixS Cert.KernelIdeal.Experts.outS Cert.KernelIdeal.Experts.hid
    pointwise
    rw [gateS_eq]
    refine congrArg (· * _) (Finset.sum_congr rfl fun k _ => ?_)
    rw [mul_comm, upS_apply, upS_apply]
    simp only [tokS_eq, zero_sub]
  funext j
  rw [Idealize.ShloMosaic.eq_ix4 j]
  exact key _ _ _ _

end Cert.ReferenceIdeal.Experts

end
-- ==== Proof.KernelRun.lean ====
/-
  The run of the routed expert kernel: every weakly fair execution of its main function ends with the two result arrays
  at the contents that the second region leaves and with the five arguments as launched.
-/
module

public import proofs.«01_k».proof.Proof.Gen.KernelIdeal.Frame

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with every buffer that outlives the calls at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The run with the two results read as the arrays that the second region's two output windows leave. -/
theorem run : θ_run defs (onTc (τ := τ) (main (F := F))) ⟨m, fun _ => 0, ρ⟩ (fun r => ∀ c : Dev nD,
      r.2.mem ((c.tc : Thread nD τ).loc main_v53_0) = (dat1 (V2 m ρ) c).arrAt 3 cfg1.N
      ∧ r.2.mem ((c.tc : Thread nD τ).loc main_v53_1) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v53_0 (by decide))).trans (W3_arr m ρ c 3),
     (h c _ (mem_uc main_v53_1 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Experts

end
-- ==== Proof.Agree.lean ====
/-
  The routed experts: the kernel and the reference end with equal results.
-/
module

public import proofs.«01_k».proof.Defs
public import proofs.«01_k».proof.Proof.Mix
public import proofs.«01_k».proof.Proof.KernelRun
public import Idealize.ShloMosaic.Lib.Claim
public import Idealize.ShloMosaic.Lib.Quiescent

@[expose] public section

set_option maxRecDepth 16384

noncomputable section

namespace Cert.KernelIdeal.Experts

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the second call's entry its first operand is the hidden activations of the gathered tokens. -/
theorem V2_hid (c : Dev nD) : V2 m ρ c main_v52
    = hid (xg (m ((c : Thread nD τ).loc main_arg0)) (m ((c : Thread nD τ).loc main_arg1)))
        (m ((c : Thread nD τ).loc main_arg2)) (m ((c : Thread nD τ).loc main_arg3)) := by
  refine (W2_arr m ρ c 3).trans ((final0 (V1 m ρ) c).trans ?_)
  rw [V1_xg, show V1 m ρ c main_arg2 = m ((c : Thread nD τ).loc main_arg2) from W1_args m ρ c main_arg2 (by decide),
    show V1 m ρ c main_arg3 = m ((c : Thread nD τ).loc main_arg3) from W1_args m ρ c main_arg3 (by decide)]

/-- At the second call's entry the gates are those of the first call's entry. -/
theorem V2_gate (c : Dev nD) : V2 m ρ c main_v51 = gate (m ((c : Thread nD τ).loc main_arg1)) :=
  (W2_of m ρ c main_v51 (by decide)).trans (V1_gate m ρ c)

/-- At the second call's entry the down projections are the argument. -/
theorem V2_down (c : Dev nD) : V2 m ρ c main_arg4 = m ((c : Thread nD τ).loc main_arg4) :=
  W2_args m ρ c main_arg4 (by decide)

/-- The kernel's first result. -/
theorem resP (c : Dev nD) : (dat1 (V2 m ρ) c).arrAt 3 cfg1.N
    = outP (hid (xg (m ((c : Thread nD τ).loc main_arg0)) (m ((c : Thread nD τ).loc main_arg1)))
        (m ((c : Thread nD τ).loc main_arg2)) (m ((c : Thread nD τ).loc main_arg3)))
        (m ((c : Thread nD τ).loc main_arg4)) (gate (m ((c : Thread nD τ).loc main_arg1))) := by
  rw [final1_3, V2_hid, V2_gate, V2_down]

/-- The kernel's second result. -/
theorem resS (c : Dev nD) : (dat1 (V2 m ρ) c).arrAt 4 cfg1.N
    = outS (hid (xg (m ((c : Thread nD τ).loc main_arg0)) (m ((c : Thread nD τ).loc main_arg1)))
        (m ((c : Thread nD τ).loc main_arg2)) (m ((c : Thread nD τ).loc main_arg3)))
        (m ((c : Thread nD τ).loc main_arg4)) (gate (m ((c : Thread nD τ).loc main_arg1))) := by
  rw [final1_4, V2_hid, V2_gate, V2_down]

end Cert.KernelIdeal.Experts

namespace Cert.Proof

open Idealize.ShloMosaic Idealize.SL.Sem

/-- The reference leaves its arguments unchanged and has no counter. -/
theorem quiescent_reference : Cert.quiescent_ReferenceIdeal := fun m ρ _ =>
  (θ_run _ _ _).mono (fun r h => ⟨fun c => (h c).2.2, sem_eq_zero_of_no_sems (by decide) r.2⟩) (Cert.ReferenceIdeal.Value.run m ρ)

/-- The kernel's two results are the reference's. -/
theorem experts_algebraic : Cert.algebraic_KernelIdeal_ReferenceIdeal := by
  pair_intro
  · run_from Cert.KernelIdeal.Experts.run m g
  · run_from Cert.ReferenceIdeal.Value.run m' g'
    · rw [Cert.ReferenceIdeal.Experts.resP m' c, Cert.KernelIdeal.Experts.resP m g c, Cert.ReferenceIdeal.Experts.mixP_eq,
        (hagree c).1, (hagree c).2.1, (hagree c).2.2.1, (hagree c).2.2.2.1, (hagree c).2.2.2.2]
    · rw [Cert.ReferenceIdeal.Experts.resS m' c, Cert.KernelIdeal.Experts.resS m g c, Cert.ReferenceIdeal.Experts.mixS_eq,
        (hagree c).1, (hagree c).2.1, (hagree c).2.2.1, (hagree c).2.2.2.1, (hagree c).2.2.2.2]

end Cert.Proof

end
-- ==== Proof.lean ====
/-
  The certificate's claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Loops
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Loops
public import proofs.«01_k».proof.Proof.Gen.Reference13Ideal
public import proofs.«01_k».proof.Proof.Gen.Reference13Ideal.Run
public import proofs.«01_k».proof.Proof.RwkvIn
public import proofs.«01_k».proof.Proof.GluIn
public import proofs.«01_k».proof.Proof.HyenaIn
public import proofs.«01_k».proof.Proof.OutProj
public import proofs.«01_k».proof.Proof.LastNorm
public import proofs.«01_k».proof.Proof.RouterNorm
public import proofs.«01_k».proof.Proof.Modulation
public import proofs.«01_k».proof.Proof.Combine
public import proofs.«01_k».proof.Proof.MixerNorm
public import proofs.«01_k».proof.Proof.HyenaConv
public import proofs.«01_k».proof.Proof.HeadNorm
public import proofs.«01_k».proof.Proof.ConfConv
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The frames of the kernels and the references, the idealizations, and the agreement of the results. -/
theorem claim : Cert.Claim :=
  ⟨Cert.Kernel.Gen.facts, Cert.KernelIdeal.Gen.facts, Cert.ReferenceIdeal.Gen.facts, Cert.Kernel2.Gen.facts,
   Cert.Kernel2Ideal.Gen.facts, Cert.Reference2Ideal.Gen.facts, Cert.Kernel3.Gen.facts, Cert.Kernel3Ideal.Gen.facts,
   Cert.Reference3Ideal.Gen.facts, Cert.Kernel4.Gen.facts, Cert.Kernel4Ideal.Gen.facts,
   Cert.Reference4Ideal.Gen.facts, Cert.Kernel5.Gen.facts, Cert.Kernel5Ideal.Gen.facts,
   Cert.Reference5Ideal.Gen.facts, Cert.Kernel6.Gen.facts, Cert.Kernel6Ideal.Gen.facts,
   Cert.Reference6Ideal.Gen.facts, Cert.Kernel7.Gen.facts, Cert.Kernel7Ideal.Gen.facts,
   Cert.Reference7Ideal.Gen.facts, Cert.Kernel8.Gen.facts, Cert.Kernel8Ideal.Gen.facts,
   Cert.Reference8Ideal.Gen.facts, Cert.Kernel9.Gen.facts, Cert.Kernel9Ideal.Gen.facts,
   Cert.Reference9Ideal.Gen.facts, Cert.Kernel10.Gen.facts, Cert.Kernel10Ideal.Gen.facts,
   Cert.Reference10Ideal.Gen.facts, Cert.Kernel11.Gen.facts, Cert.Kernel11Ideal.Gen.facts,
   Cert.Reference11Ideal.Gen.facts, Cert.Kernel12.Gen.facts, Cert.Kernel12Ideal.Gen.facts,
   Cert.Reference12Ideal.Gen.facts, Cert.Kernel13.Gen.facts, Cert.Kernel13Ideal.Gen.facts,
   Cert.Reference13Ideal.Gen.facts, Cert.Pre_slots_named_rows_finite.Combine.facts,
   fun m ρ _ => Cert.Kernel.Gen.frame m ρ, fun m ρ _ => Cert.KernelIdeal.Gen.frame m ρ, quiescent_reference,
   fun m ρ _ => Cert.Kernel2.Gen.frame m ρ, fun m ρ _ => Cert.Kernel2Ideal.Gen.frame m ρ, quiescent_reference2,
   fun m ρ _ => Cert.Kernel3.Gen.frame m ρ, fun m ρ _ => Cert.Kernel3Ideal.Gen.frame m ρ, quiescent_reference3,
   fun m ρ _ => Cert.Kernel4.Gen.frame m ρ, fun m ρ _ => Cert.Kernel4Ideal.Gen.frame m ρ, quiescent_reference4,
   fun m ρ _ => Cert.Kernel5.Gen.frame m ρ, fun m ρ _ => Cert.Kernel5Ideal.Gen.frame m ρ, quiescent_reference5,
   fun m ρ _ => Cert.Kernel6.Gen.frame m ρ, fun m ρ _ => Cert.Kernel6Ideal.Gen.frame m ρ, quiescent_reference6,
   fun m ρ _ => Cert.Kernel7.Gen.frame m ρ, fun m ρ _ => Cert.Kernel7Ideal.Gen.frame m ρ, quiescent_reference7,
   fun m ρ _ => Cert.Kernel8.Gen.frame m ρ, fun m ρ _ => Cert.Kernel8Ideal.Gen.frame m ρ, quiescent_reference8,
   fun m ρ _ => Cert.Kernel9.Gen.frame m ρ, fun m ρ _ => Cert.Kernel9Ideal.Gen.frame m ρ,
   fun m ρ _ => Cert.Kernel9Ideal.Gen.frame m ρ, quiescent_reference9,
   fun m ρ _ => quiescent_reference9 m ρ trivial, fun m ρ _ => Cert.Kernel10.Gen.frame m ρ,
   fun m ρ _ => Cert.Kernel10Ideal.Gen.frame m ρ, quiescent_reference10, fun m ρ _ => Cert.Kernel11.Gen.frame m ρ,
   fun m ρ _ => Cert.Kernel11Ideal.Gen.frame m ρ, quiescent_reference11, fun m ρ _ => Cert.Kernel12.Gen.frame m ρ,
   fun m ρ _ => Cert.Kernel12Ideal.Gen.frame m ρ, quiescent_reference12, frame_kernel13, frame_kernel13_ideal,
   quiescent_reference13, trivial, experts_algebraic, trivial, rwkv_in_algebraic, trivial, glu_in_algebraic,
   trivial, hyena_in_algebraic, trivial, out_algebraic, trivial, last_norm_algebraic, trivial,
   router_norm_algebraic, trivial, modulation_algebraic, trivial,
   combine_algebraic (hf := Cert.Pre_slots_named_rows_finite.Combine.facts), trivial, mixer_norm_algebraic, trivial,
   hyena_conv_algebraic, trivial, head_norm_algebraic, trivial, conf_conv_algebraic⟩

end Cert.Proof

end
